-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_positive [hPre_scales_positive : Cert.Pre_scales_positive.Facts] (m : (ℓ : Loc Cert.KernelIdeal.nD Cert.KernelIdeal.τ Cert.KernelIdeal.sig) → Buf (Elt Ideal) ℓ) : Prop :=
  ∀ c : Dev Cert.KernelIdeal.nD,
    (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_positive [hPre_scales_positive : Cert.Pre_scales_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scales_positive [hKernelIdeal : Cert.KernelIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scales_positive [hReferenceIdeal : Cert.ReferenceIdeal.Facts] [hPre_scales_positive : Cert.Pre_scales_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "sm_log2e" .f32 0x3E0293EE#32 (((11863283 / 134217728) * (Real.log 2)⁻¹ : ℝ) : EReal)

def algebraic_KernelIdeal_ReferenceIdeal_pre_scales_positive [hKernelIdeal : Cert.KernelIdeal.Facts] [hReferenceIdeal : Cert.ReferenceIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_scales_positive : Cert.Pre_scales_positive.Facts),
    quiescent_Kernel (hKernel := hKernel)
    ∧ quiescent_KernelIdeal (hKernelIdeal := hKernelIdeal)
    ∧ quiescent_KernelIdeal_pre_scales_positive (hKernelIdeal := hKernelIdeal) (hPre_scales_positive := hPre_scales_positive)
    ∧ quiescent_ReferenceIdeal (hReferenceIdeal := hReferenceIdeal)
    ∧ quiescent_ReferenceIdeal_pre_scales_positive (hReferenceIdeal := hReferenceIdeal) (hPre_scales_positive := hPre_scales_positive)
    ∧ preserves_Kernel_KernelIdeal
    ∧ algebraic_KernelIdeal_ReferenceIdeal_pre_scales_positive (hKernelIdeal := hKernelIdeal) (hReferenceIdeal := hReferenceIdeal) (hPre_scales_positive := hPre_scales_positive)
-- ==== Pre_scales_positive.lean ====
abbrev S3x2x5x1280x28x128 : Shape := ⟨6, ![3, 2, 5, 1280, 28, 128]⟩
abbrev S3x2x5x28 : Shape := ⟨4, ![3, 2, 5, 28]⟩
abbrev S3x2x5x1280x4x128 : Shape := ⟨6, ![3, 2, 5, 1280, 4, 128]⟩
abbrev S3x2x5x4 : Shape := ⟨4, ![3, 2, 5, 4]⟩
abbrev S5 : Shape := ⟨1, ![5]⟩
abbrev S3x2x5x28x1280 : Shape := ⟨5, ![3, 2, 5, 28, 1280]⟩
abbrev S_ : Shape := ⟨0, ![]⟩
abbrev S1x1x5x1 : Shape := ⟨4, ![1, 1, 5, 1]⟩

class Facts : Prop where
  bcast_S_S3x2x5x4 : S_.BroadcastsInDim S3x2x5x4 (![] : Fin 0 → Fin S3x2x5x4.rank)
  bcast_S5_S1x1x5x1_2 : S5.BroadcastsInDim S1x1x5x1 (![2] : Fin 1 → Fin S1x1x5x1.rank)
  bcast_S_S1x1x5x1 : S_.BroadcastsInDim S1x1x5x1 (![] : Fin 0 → Fin S1x1x5x1.rank)
  bcast_S1x1x5x1_S3x2x5x4_0_1_2_3 : S1x1x5x1.BroadcastsInDim S3x2x5x4 (![0, 1, 2, 3] : Fin 4 → Fin S3x2x5x4.rank)

variable [Facts]

def fn {F : FTy → Type} [FloatOps F] (main_arg0 : FVec F S3x2x5x1280x28x128 .fp8e4m3) (main_arg1 : FVec F S3x2x5x28 .f32) (main_arg2 : FVec F S3x2x5x1280x4x128 .fp8e4m3) (main_arg3 : FVec F S3x2x5x4 .f32) (main_arg4 : FVec F S3x2x5x1280x4x128 .fp8e4m3) (main_arg5 : FVec F S3x2x5x4 .f32) (main_arg6 : IVec S5 32) (main_arg7 : FVec F S3x2x5x1280x28x128 .bf16) (main_arg8 : FVec F S3x2x5x28x1280 .f32) (main_arg9 : FVec F S3x2x5x28x1280 .f32) : IVec S3x2x5x4 1 :=
  let main_cst : FVec F S_ .f32 := constant S_ .f32 0x00000000#32
  let main_v0 : FVec F S3x2x5x4 .f32 := broadcastInDim S3x2x5x4 ![] bcast_S_S3x2x5x4 main_cst
  let main_v1 : IVec S3x2x5x4 1 := cmpf .ogt main_arg3 main_v0
  let main_cst_0 : FVec F S_ .f32 := constant S_ .f32 0x7F800000#32
  let main_v2 : FVec F S3x2x5x4 .f32 := broadcastInDim S3x2x5x4 ![] bcast_S_S3x2x5x4 main_cst_0
  let main_v3 : IVec S3x2x5x4 1 := cmpf .olt main_arg3 main_v2
  let main_v4 : IVec S3x2x5x4 1 := andi main_v1 main_v3
  let main_cst_1 : FVec F S_ .f32 := constant S_ .f32 0x00000000#32
  let main_v5 : FVec F S3x2x5x4 .f32 := broadcastInDim S3x2x5x4 ![] bcast_S_S3x2x5x4 main_cst_1
  let main_v6 : IVec S3x2x5x4 1 := cmpf .ogt main_arg5 main_v5
  let main_v7 : IVec S3x2x5x4 1 := andi main_v4 main_v6
  let main_cst_2 : FVec F S_ .f32 := constant S_ .f32 0x7F800000#32
  let main_v8 : FVec F S3x2x5x4 .f32 := broadcastInDim S3x2x5x4 ![] bcast_S_S3x2x5x4 main_cst_2
  let main_v9 : IVec S3x2x5x4 1 := cmpf .olt main_arg5 main_v8
  let main_v10 : IVec S3x2x5x4 1 := andi main_v7 main_v9
  let main_v11 : IVec S1x1x5x1 32 := broadcastInDim S1x1x5x1 ![2] bcast_S5_S1x1x5x1_2 main_arg6
  let main_c : IVec S_ 32 := constantI S_ 32 2147483651#32
  let main_v12 : IVec S1x1x5x1 32 := broadcastInDim S1x1x5x1 ![] bcast_S_S1x1x5x1 main_c
  let main_v13 : IVec S1x1x5x1 1 := cmpi .sge main_v11 main_v12
  let main_v14 : IVec S3x2x5x4 1 := broadcastInDim S3x2x5x4 ![0, 1, 2, 3] bcast_S1x1x5x1_S3x2x5x4_0_1_2_3 main_v13
  let main_v15 : IVec S3x2x5x4 1 := andi main_v10 main_v14
  main_v15
-- ==== Kernel.lean ====
abbrev S3x2x5x1280x28x128 : Shape := ⟨6, ![3, 2, 5, 1280, 28, 128]⟩
abbrev S3x2x5x28 : Shape := ⟨4, ![3, 2, 5, 28]⟩
abbrev S3x2x5x1280x4x128 : Shape := ⟨6, ![3, 2, 5, 1280, 4, 128]⟩
abbrev S3x2x5x4 : Shape := ⟨4, ![3, 2, 5, 4]⟩
abbrev S5 : Shape := ⟨1, ![5]⟩
abbrev S3x2x5x28x1280 : Shape := ⟨5, ![3, 2, 5, 28, 1280]⟩
abbrev S840 : Shape := ⟨1, ![840]⟩
abbrev S120 : Shape := ⟨1, ![120]⟩
abbrev S_ : Shape := ⟨0, ![]⟩
abbrev S3x2x5x28x1280x128 : Shape := ⟨6, ![3, 2, 5, 28, 1280, 128]⟩
abbrev S3x2x5x4x1280x128 : Shape := ⟨6, ![3, 2, 5, 4, 1280, 128]⟩
abbrev S1x1x1x28x256x128 : Shape := ⟨6, ![1, 1, 1, 28, 256, 128]⟩
abbrev S1x1x1x28x256 : Shape := ⟨5, ![1, 1, 1, 28, 256]⟩
abbrev S1x2x1x4x1280x128 : Shape := ⟨6, ![1, 2, 1, 4, 1280, 128]⟩
abbrev S2x4x1280x128 : Shape := ⟨4, ![2, 4, 1280, 128]⟩
abbrev S2x4x128x1280 : Shape := ⟨4, ![2, 4, 128, 1280]⟩
abbrev S1 : Shape := ⟨1, ![1]⟩
abbrev S1x1x1x1x1280x128 : Shape := ⟨6, ![1, 1, 1, 1, 1280, 128]⟩
abbrev S1280x128 : Shape := ⟨2, ![1280, 128]⟩
abbrev S1x1x1280x128 : Shape := ⟨4, ![1, 1, 1280, 128]⟩
abbrev S128x1280 : Shape := ⟨2, ![128, 1280]⟩
abbrev S1x1x128x1280 : Shape := ⟨4, ![1, 1, 128, 1280]⟩
abbrev S1x1x1x1x256x128 : Shape := ⟨6, ![1, 1, 1, 1, 256, 128]⟩
abbrev S256x128 : Shape := ⟨2, ![256, 128]⟩
abbrev S1x1x1x1x256 : Shape := ⟨5, ![1, 1, 1, 1, 256]⟩
abbrev S1x256 : Shape := ⟨2, ![1, 256]⟩
abbrev S128x256 : Shape := ⟨2, ![128, 256]⟩
abbrev S256x256 : Shape := ⟨2, ![256, 256]⟩
abbrev S1x1x256x128 : Shape := ⟨4, ![1, 1, 256, 128]⟩
abbrev S1x1x128x256 : Shape := ⟨4, ![1, 1, 128, 256]⟩

abbrev nBuf : Space → Nat
  | .hbm => 38
  | .vmem => 22
  | .smem => 5
  | _ => 0

abbrev bufTy : (tb : Table) → Fin (tcTables nBuf tb) → BufTy
  | .hbm, ⟨0, _⟩ => ⟨S3x2x5x1280x28x128, .fp8e4m3⟩
  | .hbm, ⟨1, _⟩ => ⟨S3x2x5x28, .f32⟩
  | .hbm, ⟨2, _⟩ => ⟨S3x2x5x1280x4x128, .fp8e4m3⟩
  | .hbm, ⟨3, _⟩ => ⟨S3x2x5x4, .f32⟩
  | .hbm, ⟨4, _⟩ => ⟨S3x2x5x1280x4x128, .fp8e4m3⟩
  | .hbm, ⟨5, _⟩ => ⟨S3x2x5x4, .f32⟩
  | .hbm, ⟨6, _⟩ => ⟨S5, .i32⟩
  | .hbm, ⟨7, _⟩ => ⟨S3x2x5x1280x28x128, .bf16⟩
  | .hbm, ⟨8, _⟩ => ⟨S3x2x5x28x1280, .f32⟩
  | .hbm, ⟨9, _⟩ => ⟨S3x2x5x28x1280, .f32⟩
  | .hbm, ⟨10, _⟩ => ⟨S840, .f32⟩
  | .hbm, ⟨11, _⟩ => ⟨S120, .f32⟩
  | .hbm, ⟨12, _⟩ => ⟨S120, .f32⟩
  | .hbm, ⟨13, _⟩ => ⟨S3x2x5x4, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S3x2x5x4, .f32⟩
  | .hbm, ⟨18, _⟩ => ⟨S3x2x5x4, .f32⟩
  | .hbm, ⟨19, _⟩ => ⟨S120, .f32⟩
  | .hbm, ⟨20, _⟩ => ⟨S3x2x5x4, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S3x2x5x4, .f32⟩
  | .hbm, ⟨25, _⟩ => ⟨S3x2x5x4, .f32⟩
  | .hbm, ⟨26, _⟩ => ⟨S120, .f32⟩
  | .hbm, ⟨27, _⟩ => ⟨S120, .f32⟩
  | .hbm, ⟨28, _⟩ => ⟨S3x2x5x28x1280x128, .fp8e4m3⟩
  | .hbm, ⟨29, _⟩ => ⟨S3x2x5x28x1280x128, .bf16⟩
  | .hbm, ⟨30, _⟩ => ⟨S3x2x5x4x1280x128, .fp8e4m3⟩
  | .hbm, ⟨31, _⟩ => ⟨S3x2x5x4x1280x128, .fp8e4m3⟩
  | .hbm, ⟨32, _⟩ => ⟨S3x2x5x28x1280x128, .f32⟩
  | .hbm, ⟨33, _⟩ => ⟨S3x2x5x4x1280x128, .f32⟩
  | .hbm, ⟨34, _⟩ => ⟨S3x2x5x4x1280x128, .f32⟩
  | .hbm, ⟨35, _⟩ => ⟨S3x2x5x1280x28x128, .f32⟩
  | .hbm, ⟨36, _⟩ => ⟨S3x2x5x1280x4x128, .f32⟩
  | .hbm, ⟨37, _⟩ => ⟨S3x2x5x1280x4x128, .f32⟩
  | .local _ .vmem, ⟨0, _⟩ => ⟨S1x1x1x28x256x128, .fp8e4m3⟩
  | .local _ .vmem, ⟨1, _⟩ => ⟨S1x1x1x28x256x128, .fp8e4m3⟩
  | .local _ .vmem, ⟨2, _⟩ => ⟨S1x1x1x28x256x128, .bf16⟩
  | .local _ .vmem, ⟨3, _⟩ => ⟨S1x1x1x28x256x128, .bf16⟩
  | .local _ .vmem, ⟨4, _⟩ => ⟨S1x1x1x28x256, .f32⟩
  | .local _ .vmem, ⟨5, _⟩ => ⟨S1x1x1x28x256, .f32⟩
  | .local _ .vmem, ⟨6, _⟩ => ⟨S1x1x1x28x256, .f32⟩
  | .local _ .vmem, ⟨7, _⟩ => ⟨S1x1x1x28x256, .f32⟩
  | .local _ .vmem, ⟨8, _⟩ => ⟨S1x2x1x4x1280x128, .fp8e4m3⟩
  | .local _ .vmem, ⟨9, _⟩ => ⟨S1x2x1x4x1280x128, .fp8e4m3⟩
  | .local _ .vmem, ⟨10, _⟩ => ⟨S1x2x1x4x1280x128, .fp8e4m3⟩
  | .local _ .vmem, ⟨11, _⟩ => ⟨S1x2x1x4x1280x128, .fp8e4m3⟩
  | .local _ .vmem, ⟨12, _⟩ => ⟨S1x1x1x28x256x128, .f32⟩
  | .local _ .vmem, ⟨13, _⟩ => ⟨S1x1x1x28x256x128, .f32⟩
  | .local _ .vmem, ⟨14, _⟩ => ⟨S1x2x1x4x1280x128, .f32⟩
  | .local _ .vmem, ⟨15, _⟩ => ⟨S1x2x1x4x1280x128, .f32⟩
  | .local _ .vmem, ⟨16, _⟩ => ⟨S1x2x1x4x1280x128, .f32⟩
  | .local _ .vmem, ⟨17, _⟩ => ⟨S1x2x1x4x1280x128, .f32⟩
  | .local _ .vmem, ⟨18, _⟩ => ⟨S2x4x1280x128, .bf16⟩
  | .local _ .vmem, ⟨19, _⟩ => ⟨S2x4x128x1280, .bf16⟩
  | .local _ .vmem, ⟨20, _⟩ => ⟨S2x4x128x1280, .f32⟩
  | .local _ .vmem, ⟨21, _⟩ => ⟨S2x4x128x1280, .f32⟩
  | .local _ .smem, ⟨0, _⟩ => ⟨S5, .i32⟩
  | .local _ .smem, ⟨1, _⟩ => ⟨S840, .f32⟩
  | .local _ .smem, ⟨2, _⟩ => ⟨S120, .f32⟩
  | .local _ .smem, ⟨3, _⟩ => ⟨S120, .f32⟩
  | .local _ .smem, ⟨4, _⟩ => ⟨S120, .f32⟩
  | _, _ => ⟨S3x2x5x1280x28x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg6_1 : Ref sig .tc := ⟨.vmem, 3, rfl⟩
abbrev cc0_stg7_0 : Ref sig .tc := ⟨.vmem, 4, rfl⟩
abbrev cc0_stg7_1 : Ref sig .tc := ⟨.vmem, 5, rfl⟩
abbrev cc0_stg8_0 : Ref sig .tc := ⟨.vmem, 6, rfl⟩
abbrev cc0_stg8_1 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨4, ![3, 5, 2, 5], ![false, false, false, false]⟩

def k0_off1 (i : grid0.Coords) : Fin 1 → Nat :=
  let arg1 : BitVec 32 := BitVec.ofNat 32 (i 1).val
  let v0 : Index := Scalar.indexCast arg1
  ![v0.toNat]
@[reducible] def k0_t1_loop : Scf.Loop 32 :=
  let c0_i32_32 : BitVec 32 := 0#32
  let c28_i32 : BitVec 32 := 28#32
  let v78 : BitVec 32 := Scalar.addi c0_i32_32 c28_i32
  let c1_i32_33 : BitVec 32 := 1#32
  ⟨c0_i32_32, v78, c1_i32_33⟩
def k0_off2 (k0_t1 : Fin k0_t1_loop.trips) : Fin 6 → Nat :=
  let c0_41 : Index := 0#32
  let c0_42 : Index := 0#32
  let c0_43 : Index := 0#32
  let c0_i32_32 : BitVec 32 := 0#32
  let c1_i32_33 : BitVec 32 := 1#32
  let arg22 : BitVec 32 := Scf.iv c0_i32_32 c1_i32_33 k0_t1
  let v96 : Index := Scalar.indexCast arg22
  let c0_44 : Index := 0#32
  let c0_45 : Index := 0#32
  ![0, 0, 0, v96.toNat, 0, 0]
def k0_off3 (i : grid0.Coords) (k0_t1 : Fin k0_t1_loop.trips) : Fin 1 → Nat :=
  let arg0 : BitVec 32 := BitVec.ofNat 32 (i 0).val
  let c2_i32_55 : BitVec 32 := 2#32
  let v108 : BitVec 32 := Scalar.muli arg0 c2_i32_55
  let arg2 : BitVec 32 := BitVec.ofNat 32 (i 2).val
  let v109 : BitVec 32 := Scalar.addi v108 arg2
  let c5_i32_56 : BitVec 32 := 5#32
  let v110 : BitVec 32 := Scalar.muli v109 c5_i32_56
  let arg1 : BitVec 32 := BitVec.ofNat 32 (i 1).val
  let v111 : BitVec 32 := Scalar.addi v110 arg1
  let c28_i32_57 : BitVec 32 := 28#32
  let v112 : BitVec 32 := Scalar.muli v111 c28_i32_57
  let c0_i32_32 : BitVec 32 := 0#32
  let c1_i32_33 : BitVec 32 := 1#32
  let arg22 : BitVec 32 := Scf.iv c0_i32_32 c1_i32_33 k0_t1
  let v113 : BitVec 32 := Scalar.addi v112 arg22
  let v114 : Index := Scalar.indexCast v113
  ![v114.toNat]
def k0_off4 (k0_t1 : Fin k0_t1_loop.trips) : Fin 5 → Nat :=
  let c0_58 : Index := 0#32
  let c0_59 : Index := 0#32
  let c0_60 : Index := 0#32
  let c0_i32_32 : BitVec 32 := 0#32
  let c1_i32_33 : BitVec 32 := 1#32
  let arg22 : BitVec 32 := Scf.iv c0_i32_32 c1_i32_33 k0_t1
  let v116 : Index := Scalar.indexCast arg22
  let c0_61 : Index := 0#32
  ![0, 0, 0, v116.toNat, 0]
def k0_off5 (i : grid0.Coords) (k0_t1 : Fin k0_t1_loop.trips) : Fin 1 → Nat :=
  let arg0 : BitVec 32 := BitVec.ofNat 32 (i 0).val
  let c2_i32_51 : BitVec 32 := 2#32
  let v102 : BitVec 32 := Scalar.muli arg0 c2_i32_51
  let c0_i32_52 : BitVec 32 := 0#32
  let v103 : BitVec 32 := Scalar.addi v102 c0_i32_52
  let c5_i32_53 : BitVec 32 := 5#32
  let v104 : BitVec 32 := Scalar.muli v103 c5_i32_53
  let arg1 : BitVec 32 := BitVec.ofNat 32 (i 1).val
  let v105 : BitVec 32 := Scalar.addi v104 arg1
  let c4_i32_54 : BitVec 32 := 4#32
  let v106 : BitVec 32 := Scalar.muli v105 c4_i32_54
  let c0_i32_32 : BitVec 32 := 0#32
  let c1_i32_33 : BitVec 32 := 1#32
  let arg22 : BitVec 32 := Scf.iv c0_i32_32 c1_i32_33 k0_t1
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v107 : BitVec 32 := Scalar.addi v106 v95
  let v121 : Index := Scalar.indexCast v107
  ![v121.toNat]
def k0_off6 (k0_t1 : Fin k0_t1_loop.trips) : Fin 6 → Nat :=
  let c0_69 : Index := 0#32
  let c0_70 : Index := 0#32
  let c0_71 : Index := 0#32
  let c0_i32_32 : BitVec 32 := 0#32
  let c1_i32_33 : BitVec 32 := 1#32
  let arg22 : BitVec 32 := Scf.iv c0_i32_32 c1_i32_33 k0_t1
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v151 : Index := Scalar.indexCast v95
  let c0_72 : Index := 0#32
  let c0_73 : Index := 0#32
  ![0, 0, 0, v151.toNat, 0, 0]
def k0_off7 (k0_t1 : Fin k0_t1_loop.trips) : Fin 4 → Nat :=
  let c0_75 : Index := 0#32
  let c0_i32_32 : BitVec 32 := 0#32
  let c1_i32_33 : BitVec 32 := 1#32
  let arg22 : BitVec 32 := Scf.iv c0_i32_32 c1_i32_33 k0_t1
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v155 : Index := Scalar.indexCast v95
  let c0_76 : Index := 0#32
  let c0_77 : Index := 0#32
  ![0, v155.toNat, 0, 0]
def k0_off8 (k0_t1 : Fin k0_t1_loop.trips) : Fin 4 → Nat :=
  let c0_79 : Index := 0#32
  let c0_i32_32 : BitVec 32 := 0#32
  let c1_i32_33 : BitVec 32 := 1#32
  let arg22 : BitVec 32 := Scf.iv c0_i32_32 c1_i32_33 k0_t1
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v166 : Index := Scalar.indexCast v95
  let c0_80 : Index := 0#32
  let c0_81 : Index := 0#32
  ![0, v166.toNat, 0, 0]
def k0_off9 (k0_t1 : Fin k0_t1_loop.trips) : Fin 6 → Nat :=
  let c0_97 : Index := 0#32
  let c0_98 : Index := 0#32
  let c0_99 : Index := 0#32
  let c0_i32_32 : BitVec 32 := 0#32
  let c1_i32_33 : BitVec 32 := 1#32
  let arg22 : BitVec 32 := Scf.iv c0_i32_32 c1_i32_33 k0_t1
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v189 : Index := Scalar.indexCast v95
  let c256 : Index := 256#32
  let c0_100 : Index := 0#32
  ![0, 0, 0, v189.toNat, 256, 0]
def k0_off10 (k0_t1 : Fin k0_t1_loop.trips) : Fin 4 → Nat :=
  let c0_102 : Index := 0#32
  let c0_i32_32 : BitVec 32 := 0#32
  let c1_i32_33 : BitVec 32 := 1#32
  let arg22 : BitVec 32 := Scf.iv c0_i32_32 c1_i32_33 k0_t1
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v193 : Index := Scalar.indexCast v95
  let c256_103 : Index := 256#32
  let c0_104 : Index := 0#32
  ![0, v193.toNat, 256, 0]
def k0_off11 (k0_t1 : Fin k0_t1_loop.trips) : Fin 4 → Nat :=
  let c0_106 : Index := 0#32
  let c0_i32_32 : BitVec 32 := 0#32
  let c1_i32_33 : BitVec 32 := 1#32
  let arg22 : BitVec 32 := Scf.iv c0_i32_32 c1_i32_33 k0_t1
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v204 : Index := Scalar.indexCast v95
  let c0_107 : Index := 0#32
  let c256_108 : Index := 256#32
  ![0, v204.toNat, 0, 256]
def k0_off12 (k0_t1 : Fin k0_t1_loop.trips) : Fin 6 → Nat :=
  let c0_124 : Index := 0#32
  let c0_125 : Index := 0#32
  let c0_126 : Index := 0#32
  let c0_i32_32 : BitVec 32 := 0#32
  let c1_i32_33 : BitVec 32 := 1#32
  let arg22 : BitVec 32 := Scf.iv c0_i32_32 c1_i32_33 k0_t1
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v228 : Index := Scalar.indexCast v95
  let c512 : Index := 512#32
  let c0_127 : Index := 0#32
  ![0, 0, 0, v228.toNat, 512, 0]
def k0_off13 (k0_t1 : Fin k0_t1_loop.trips) : Fin 4 → Nat :=
  let c0_129 : Index := 0#32
  let c0_i32_32 : BitVec 32 := 0#32
  let c1_i32_33 : BitVec 32 := 1#32
  let arg22 : BitVec 32 := Scf.iv c0_i32_32 c1_i32_33 k0_t1
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v232 : Index := Scalar.indexCast v95
  let c512_130 : Index := 512#32
  let c0_131 : Index := 0#32
  ![0, v232.toNat, 512, 0]
def k0_off14 (k0_t1 : Fin k0_t1_loop.trips) : Fin 4 → Nat :=
  let c0_133 : Index := 0#32
  let c0_i32_32 : BitVec 32 := 0#32
  let c1_i32_33 : BitVec 32 := 1#32
  let arg22 : BitVec 32 := Scf.iv c0_i32_32 c1_i32_33 k0_t1
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v243 : Index := Scalar.indexCast v95
  let c0_134 : Index := 0#32
  let c512_135 : Index := 512#32
  ![0, v243.toNat, 0, 512]
def k0_off15 (k0_t1 : Fin k0_t1_loop.trips) : Fin 6 → Nat :=
  let c0_151 : Index := 0#32
  let c0_152 : Index := 0#32
  let c0_153 : Index := 0#32
  let c0_i32_32 : BitVec 32 := 0#32
  let c1_i32_33 : BitVec 32 := 1#32
  let arg22 : BitVec 32 := Scf.iv c0_i32_32 c1_i32_33 k0_t1
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v267 : Index := Scalar.indexCast v95
  let c768 : Index := 768#32
  let c0_154 : Index := 0#32
  ![0, 0, 0, v267.toNat, 768, 0]
def k0_off16 (k0_t1 : Fin k0_t1_loop.trips) : Fin 4 → Nat :=
  let c0_156 : Index := 0#32
  let c0_i32_32 : BitVec 32 := 0#32
  let c1_i32_33 : BitVec 32 := 1#32
  let arg22 : BitVec 32 := Scf.iv c0_i32_32 c1_i32_33 k0_t1
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v271 : Index := Scalar.indexCast v95
  let c768_157 : Index := 768#32
  let c0_158 : Index := 0#32
  ![0, v271.toNat, 768, 0]
def k0_off17 (k0_t1 : Fin k0_t1_loop.trips) : Fin 4 → Nat :=
  let c0_160 : Index := 0#32
  let c0_i32_32 : BitVec 32 := 0#32
  let c1_i32_33 : BitVec 32 := 1#32
  let arg22 : BitVec 32 := Scf.iv c0_i32_32 c1_i32_33 k0_t1
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v282 : Index := Scalar.indexCast v95
  let c0_161 : Index := 0#32
  let c768_162 : Index := 768#32
  ![0, v282.toNat, 0, 768]
def k0_off18 (k0_t1 : Fin k0_t1_loop.trips) : Fin 6 → Nat :=
  let c0_178 : Index := 0#32
  let c0_179 : Index := 0#32
  let c0_180 : Index := 0#32
  let c0_i32_32 : BitVec 32 := 0#32
  let c1_i32_33 : BitVec 32 := 1#32
  let arg22 : BitVec 32 := Scf.iv c0_i32_32 c1_i32_33 k0_t1
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v306 : Index := Scalar.indexCast v95
  let c1024 : Index := 1024#32
  let c0_181 : Index := 0#32
  ![0, 0, 0, v306.toNat, 1024, 0]
def k0_off19 (k0_t1 : Fin k0_t1_loop.trips) : Fin 4 → Nat :=
  let c0_183 : Index := 0#32
  let c0_i32_32 : BitVec 32 := 0#32
  let c1_i32_33 : BitVec 32 := 1#32
  let arg22 : BitVec 32 := Scf.iv c0_i32_32 c1_i32_33 k0_t1
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v310 : Index := Scalar.indexCast v95
  let c1024_184 : Index := 1024#32
  let c0_185 : Index := 0#32
  ![0, v310.toNat, 1024, 0]
def k0_off20 (k0_t1 : Fin k0_t1_loop.trips) : Fin 4 → Nat :=
  let c0_187 : Index := 0#32
  let c0_i32_32 : BitVec 32 := 0#32
  let c1_i32_33 : BitVec 32 := 1#32
  let arg22 : BitVec 32 := Scf.iv c0_i32_32 c1_i32_33 k0_t1
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v321 : Index := Scalar.indexCast v95
  let c0_188 : Index := 0#32
  let c1024_189 : Index := 1024#32
  ![0, v321.toNat, 0, 1024]
@[reducible] def k0_t2_loop : Scf.Loop 32 :=
  let c0_i32_32 : BitVec 32 := 0#32
  let c28_i32 : BitVec 32 := 28#32
  let v78 : BitVec 32 := Scalar.addi c0_i32_32 c28_i32
  let c1_i32_33 : BitVec 32 := 1#32
  ⟨c0_i32_32, v78, c1_i32_33⟩
def k0_off21 (k0_t2 : Fin k0_t2_loop.trips) : Fin 6 → Nat :=
  let c0_41 : Index := 0#32
  let c0_42 : Index := 0#32
  let c0_43 : Index := 0#32
  let c0_i32_32 : BitVec 32 := 0#32
  let c1_i32_33 : BitVec 32 := 1#32
  let arg22 : BitVec 32 := Scf.iv c0_i32_32 c1_i32_33 k0_t2
  let v96 : Index := Scalar.indexCast arg22
  let c0_44 : Index := 0#32
  let c0_45 : Index := 0#32
  ![0, 0, 0, v96.toNat, 0, 0]
def k0_off22 (i : grid0.Coords) (k0_t2 : Fin k0_t2_loop.trips) : Fin 1 → Nat :=
  let arg0 : BitVec 32 := BitVec.ofNat 32 (i 0).val
  let c2_i32_55 : BitVec 32 := 2#32
  let v108 : BitVec 32 := Scalar.muli arg0 c2_i32_55
  let arg2 : BitVec 32 := BitVec.ofNat 32 (i 2).val
  let v109 : BitVec 32 := Scalar.addi v108 arg2
  let c5_i32_56 : BitVec 32 := 5#32
  let v110 : BitVec 32 := Scalar.muli v109 c5_i32_56
  let arg1 : BitVec 32 := BitVec.ofNat 32 (i 1).val
  let v111 : BitVec 32 := Scalar.addi v110 arg1
  let c28_i32_57 : BitVec 32 := 28#32
  let v112 : BitVec 32 := Scalar.muli v111 c28_i32_57
  let c0_i32_32 : BitVec 32 := 0#32
  let c1_i32_33 : BitVec 32 := 1#32
  let arg22 : BitVec 32 := Scf.iv c0_i32_32 c1_i32_33 k0_t2
  let v113 : BitVec 32 := Scalar.addi v112 arg22
  let v114 : Index := Scalar.indexCast v113
  ![v114.toNat]
def k0_off23 (k0_t2 : Fin k0_t2_loop.trips) : Fin 5 → Nat :=
  let c0_58 : Index := 0#32
  let c0_59 : Index := 0#32
  let c0_60 : Index := 0#32
  let c0_i32_32 : BitVec 32 := 0#32
  let c1_i32_33 : BitVec 32 := 1#32
  let arg22 : BitVec 32 := Scf.iv c0_i32_32 c1_i32_33 k0_t2
  let v116 : Index := Scalar.indexCast arg22
  let c0_61 : Index := 0#32
  ![0, 0, 0, v116.toNat, 0]
def k0_off24 (i : grid0.Coords) (k0_t2 : Fin k0_t2_loop.trips) : Fin 1 → Nat :=
  let arg0 : BitVec 32 := BitVec.ofNat 32 (i 0).val
  let c2_i32_51 : BitVec 32 := 2#32
  let v102 : BitVec 32 := Scalar.muli arg0 c2_i32_51
  let c0_i32_52 : BitVec 32 := 0#32
  let v103 : BitVec 32 := Scalar.addi v102 c0_i32_52
  let c5_i32_53 : BitVec 32 := 5#32
  let v104 : BitVec 32 := Scalar.muli v103 c5_i32_53
  let arg1 : BitVec 32 := BitVec.ofNat 32 (i 1).val
  let v105 : BitVec 32 := Scalar.addi v104 arg1
  let c4_i32_54 : BitVec 32 := 4#32
  let v106 : BitVec 32 := Scalar.muli v105 c4_i32_54
  let c0_i32_32 : BitVec 32 := 0#32
  let c1_i32_33 : BitVec 32 := 1#32
  let arg22 : BitVec 32 := Scf.iv c0_i32_32 c1_i32_33 k0_t2
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v107 : BitVec 32 := Scalar.addi v106 v95
  let v121 : Index := Scalar.indexCast v107
  ![v121.toNat]
def k0_off25 (k0_t2 : Fin k0_t2_loop.trips) : Fin 6 → Nat :=
  let c0_69 : Index := 0#32
  let c0_70 : Index := 0#32
  let c0_71 : Index := 0#32
  let c0_i32_32 : BitVec 32 := 0#32
  let c1_i32_33 : BitVec 32 := 1#32
  let arg22 : BitVec 32 := Scf.iv c0_i32_32 c1_i32_33 k0_t2
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v151 : Index := Scalar.indexCast v95
  let c0_72 : Index := 0#32
  let c0_73 : Index := 0#32
  ![0, 0, 0, v151.toNat, 0, 0]
def k0_off26 (k0_t2 : Fin k0_t2_loop.trips) : Fin 4 → Nat :=
  let c0_75 : Index := 0#32
  let c0_i32_32 : BitVec 32 := 0#32
  let c1_i32_33 : BitVec 32 := 1#32
  let arg22 : BitVec 32 := Scf.iv c0_i32_32 c1_i32_33 k0_t2
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v155 : Index := Scalar.indexCast v95
  let c0_76 : Index := 0#32
  let c0_77 : Index := 0#32
  ![0, v155.toNat, 0, 0]
def k0_off27 (k0_t2 : Fin k0_t2_loop.trips) : Fin 4 → Nat :=
  let c0_80 : Index := 0#32
  let c0_i32_32 : BitVec 32 := 0#32
  let c1_i32_33 : BitVec 32 := 1#32
  let arg22 : BitVec 32 := Scf.iv c0_i32_32 c1_i32_33 k0_t2
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v171 : Index := Scalar.indexCast v95
  let c0_81 : Index := 0#32
  let c0_82 : Index := 0#32
  ![0, v171.toNat, 0, 0]
@[reducible] def k0_t3_loop : Scf.Loop 32 :=
  let c0_i32_32 : BitVec 32 := 0#32
  let c28_i32 : BitVec 32 := 28#32
  let v78 : BitVec 32 := Scalar.addi c0_i32_32 c28_i32
  let c1_i32_33 : BitVec 32 := 1#32
  ⟨c0_i32_32, v78, c1_i32_33⟩
def k0_off28 (k0_t3 : Fin k0_t3_loop.trips) : Fin 6 → Nat :=
  let c0_41 : Index := 0#32
  let c0_42 : Index := 0#32
  let c0_43 : Index := 0#32
  let c0_i32_32 : BitVec 32 := 0#32
  let c1_i32_33 : BitVec 32 := 1#32
  let arg22 : BitVec 32 := Scf.iv c0_i32_32 c1_i32_33 k0_t3
  let v96 : Index := Scalar.indexCast arg22
  let c0_44 : Index := 0#32
  let c0_45 : Index := 0#32
  ![0, 0, 0, v96.toNat, 0, 0]
def k0_off29 (i : grid0.Coords) (k0_t3 : Fin k0_t3_loop.trips) : Fin 1 → Nat :=
  let arg0 : BitVec 32 := BitVec.ofNat 32 (i 0).val
  let c2_i32_55 : BitVec 32 := 2#32
  let v108 : BitVec 32 := Scalar.muli arg0 c2_i32_55
  let arg2 : BitVec 32 := BitVec.ofNat 32 (i 2).val
  let v109 : BitVec 32 := Scalar.addi v108 arg2
  let c5_i32_56 : BitVec 32 := 5#32
  let v110 : BitVec 32 := Scalar.muli v109 c5_i32_56
  let arg1 : BitVec 32 := BitVec.ofNat 32 (i 1).val
  let v111 : BitVec 32 := Scalar.addi v110 arg1
  let c28_i32_57 : BitVec 32 := 28#32
  let v112 : BitVec 32 := Scalar.muli v111 c28_i32_57
  let c0_i32_32 : BitVec 32 := 0#32
  let c1_i32_33 : BitVec 32 := 1#32
  let arg22 : BitVec 32 := Scf.iv c0_i32_32 c1_i32_33 k0_t3
  let v113 : BitVec 32 := Scalar.addi v112 arg22
  let v114 : Index := Scalar.indexCast v113
  ![v114.toNat]
def k0_off30 (k0_t3 : Fin k0_t3_loop.trips) : Fin 5 → Nat :=
  let c0_58 : Index := 0#32
  let c0_59 : Index := 0#32
  let c0_60 : Index := 0#32
  let c0_i32_32 : BitVec 32 := 0#32
  let c1_i32_33 : BitVec 32 := 1#32
  let arg22 : BitVec 32 := Scf.iv c0_i32_32 c1_i32_33 k0_t3
  let v116 : Index := Scalar.indexCast arg22
  let c0_61 : Index := 0#32
  ![0, 0, 0, v116.toNat, 0]
def k0_off31 (i : grid0.Coords) (k0_t3 : Fin k0_t3_loop.trips) : Fin 1 → Nat :=
  let arg0 : BitVec 32 := BitVec.ofNat 32 (i 0).val
  let c2_i32_51 : BitVec 32 := 2#32
  let v102 : BitVec 32 := Scalar.muli arg0 c2_i32_51
  let c0_i32_52 : BitVec 32 := 0#32
  let v103 : BitVec 32 := Scalar.addi v102 c0_i32_52
  let c5_i32_53 : BitVec 32 := 5#32
  let v104 : BitVec 32 := Scalar.muli v103 c5_i32_53
  let arg1 : BitVec 32 := BitVec.ofNat 32 (i 1).val
  let v105 : BitVec 32 := Scalar.addi v104 arg1
  let c4_i32_54 : BitVec 32 := 4#32
  let v106 : BitVec 32 := Scalar.muli v105 c4_i32_54
  let c0_i32_32 : BitVec 32 := 0#32
  let c1_i32_33 : BitVec 32 := 1#32
  let arg22 : BitVec 32 := Scf.iv c0_i32_32 c1_i32_33 k0_t3
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v107 : BitVec 32 := Scalar.addi v106 v95
  let v121 : Index := Scalar.indexCast v107
  ![v121.toNat]
def k0_off32 (k0_t3 : Fin k0_t3_loop.trips) : Fin 6 → Nat :=
  let c0_69 : Index := 0#32
  let c0_70 : Index := 0#32
  let c0_71 : Index := 0#32
  let c0_i32_32 : BitVec 32 := 0#32
  let c1_i32_33 : BitVec 32 := 1#32
  let arg22 : BitVec 32 := Scf.iv c0_i32_32 c1_i32_33 k0_t3
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v151 : Index := Scalar.indexCast v95
  let c0_72 : Index := 0#32
  let c0_73 : Index := 0#32
  ![0, 0, 0, v151.toNat, 0, 0]
def k0_off33 (k0_t3 : Fin k0_t3_loop.trips) : Fin 4 → Nat :=
  let c0_75 : Index := 0#32
  let c0_i32_32 : BitVec 32 := 0#32
  let c1_i32_33 : BitVec 32 := 1#32
  let arg22 : BitVec 32 := Scf.iv c0_i32_32 c1_i32_33 k0_t3
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v155 : Index := Scalar.indexCast v95
  let c0_76 : Index := 0#32
  let c0_77 : Index := 0#32
  ![0, v155.toNat, 0, 0]
def k0_off34 (k0_t3 : Fin k0_t3_loop.trips) : Fin 4 → Nat :=
  let c0_79 : Index := 0#32
  let c0_i32_32 : BitVec 32 := 0#32
  let c1_i32_33 : BitVec 32 := 1#32
  let arg22 : BitVec 32 := Scf.iv c0_i32_32 c1_i32_33 k0_t3
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v166 : Index := Scalar.indexCast v95
  let c0_80 : Index := 0#32
  let c0_81 : Index := 0#32
  ![0, v166.toNat, 0, 0]
def k0_off35 (k0_t3 : Fin k0_t3_loop.trips) : Fin 6 → Nat :=
  let c0_97 : Index := 0#32
  let c0_98 : Index := 0#32
  let c0_99 : Index := 0#32
  let c0_i32_32 : BitVec 32 := 0#32
  let c1_i32_33 : BitVec 32 := 1#32
  let arg22 : BitVec 32 := Scf.iv c0_i32_32 c1_i32_33 k0_t3
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v189 : Index := Scalar.indexCast v95
  let c256 : Index := 256#32
  let c0_100 : Index := 0#32
  ![0, 0, 0, v189.toNat, 256, 0]
def k0_off36 (k0_t3 : Fin k0_t3_loop.trips) : Fin 4 → Nat :=
  let c0_102 : Index := 0#32
  let c0_i32_32 : BitVec 32 := 0#32
  let c1_i32_33 : BitVec 32 := 1#32
  let arg22 : BitVec 32 := Scf.iv c0_i32_32 c1_i32_33 k0_t3
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v193 : Index := Scalar.indexCast v95
  let c256_103 : Index := 256#32
  let c0_104 : Index := 0#32
  ![0, v193.toNat, 256, 0]
def k0_off37 (k0_t3 : Fin k0_t3_loop.trips) : Fin 4 → Nat :=
  let c0_107 : Index := 0#32
  let c0_i32_32 : BitVec 32 := 0#32
  let c1_i32_33 : BitVec 32 := 1#32
  let arg22 : BitVec 32 := Scf.iv c0_i32_32 c1_i32_33 k0_t3
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v209 : Index := Scalar.indexCast v95
  let c0_108 : Index := 0#32
  let c256_109 : Index := 256#32
  ![0, v209.toNat, 0, 256]
@[reducible] def k0_t4_loop : Scf.Loop 32 :=
  let c0_i32_32 : BitVec 32 := 0#32
  let c28_i32 : BitVec 32 := 28#32
  let v78 : BitVec 32 := Scalar.addi c0_i32_32 c28_i32
  let c1_i32_33 : BitVec 32 := 1#32
  ⟨c0_i32_32, v78, c1_i32_33⟩
def k0_off38 (k0_t4 : Fin k0_t4_loop.trips) : Fin 6 → Nat :=
  let c0_41 : Index := 0#32
  let c0_42 : Index := 0#32
  let c0_43 : Index := 0#32
  let c0_i32_32 : BitVec 32 := 0#32
  let c1_i32_33 : BitVec 32 := 1#32
  let arg22 : BitVec 32 := Scf.iv c0_i32_32 c1_i32_33 k0_t4
  let v96 : Index := Scalar.indexCast arg22
  let c0_44 : Index := 0#32
  let c0_45 : Index := 0#32
  ![0, 0, 0, v96.toNat, 0, 0]
def k0_off39 (i : grid0.Coords) (k0_t4 : Fin k0_t4_loop.trips) : Fin 1 → Nat :=
  let arg0 : BitVec 32 := BitVec.ofNat 32 (i 0).val
  let c2_i32_55 : BitVec 32 := 2#32
  let v108 : BitVec 32 := Scalar.muli arg0 c2_i32_55
  let arg2 : BitVec 32 := BitVec.ofNat 32 (i 2).val
  let v109 : BitVec 32 := Scalar.addi v108 arg2
  let c5_i32_56 : BitVec 32 := 5#32
  let v110 : BitVec 32 := Scalar.muli v109 c5_i32_56
  let arg1 : BitVec 32 := BitVec.ofNat 32 (i 1).val
  let v111 : BitVec 32 := Scalar.addi v110 arg1
  let c28_i32_57 : BitVec 32 := 28#32
  let v112 : BitVec 32 := Scalar.muli v111 c28_i32_57
  let c0_i32_32 : BitVec 32 := 0#32
  let c1_i32_33 : BitVec 32 := 1#32
  let arg22 : BitVec 32 := Scf.iv c0_i32_32 c1_i32_33 k0_t4
  let v113 : BitVec 32 := Scalar.addi v112 arg22
  let v114 : Index := Scalar.indexCast v113
  ![v114.toNat]
def k0_off40 (k0_t4 : Fin k0_t4_loop.trips) : Fin 5 → Nat :=
  let c0_58 : Index := 0#32
  let c0_59 : Index := 0#32
  let c0_60 : Index := 0#32
  let c0_i32_32 : BitVec 32 := 0#32
  let c1_i32_33 : BitVec 32 := 1#32
  let arg22 : BitVec 32 := Scf.iv c0_i32_32 c1_i32_33 k0_t4
  let v116 : Index := Scalar.indexCast arg22
  let c0_61 : Index := 0#32
  ![0, 0, 0, v116.toNat, 0]
def k0_off41 (i : grid0.Coords) (k0_t4 : Fin k0_t4_loop.trips) : Fin 1 → Nat :=
  let arg0 : BitVec 32 := BitVec.ofNat 32 (i 0).val
  let c2_i32_51 : BitVec 32 := 2#32
  let v102 : BitVec 32 := Scalar.muli arg0 c2_i32_51
  let c0_i32_52 : BitVec 32 := 0#32
  let v103 : BitVec 32 := Scalar.addi v102 c0_i32_52
  let c5_i32_53 : BitVec 32 := 5#32
  let v104 : BitVec 32 := Scalar.muli v103 c5_i32_53
  let arg1 : BitVec 32 := BitVec.ofNat 32 (i 1).val
  let v105 : BitVec 32 := Scalar.addi v104 arg1
  let c4_i32_54 : BitVec 32 := 4#32
  let v106 : BitVec 32 := Scalar.muli v105 c4_i32_54
  let c0_i32_32 : BitVec 32 := 0#32
  let c1_i32_33 : BitVec 32 := 1#32
  let arg22 : BitVec 32 := Scf.iv c0_i32_32 c1_i32_33 k0_t4
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v107 : BitVec 32 := Scalar.addi v106 v95
  let v121 : Index := Scalar.indexCast v107
  ![v121.toNat]
def k0_off42 (k0_t4 : Fin k0_t4_loop.trips) : Fin 6 → Nat :=
  let c0_69 : Index := 0#32
  let c0_70 : Index := 0#32
  let c0_71 : Index := 0#32
  let c0_i32_32 : BitVec 32 := 0#32
  let c1_i32_33 : BitVec 32 := 1#32
  let arg22 : BitVec 32 := Scf.iv c0_i32_32 c1_i32_33 k0_t4
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v151 : Index := Scalar.indexCast v95
  let c0_72 : Index := 0#32
  let c0_73 : Index := 0#32
  ![0, 0, 0, v151.toNat, 0, 0]
def k0_off43 (k0_t4 : Fin k0_t4_loop.trips) : Fin 4 → Nat :=
  let c0_75 : Index := 0#32
  let c0_i32_32 : BitVec 32 := 0#32
  let c1_i32_33 : BitVec 32 := 1#32
  let arg22 : BitVec 32 := Scf.iv c0_i32_32 c1_i32_33 k0_t4
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v155 : Index := Scalar.indexCast v95
  let c0_76 : Index := 0#32
  let c0_77 : Index := 0#32
  ![0, v155.toNat, 0, 0]
def k0_off44 (k0_t4 : Fin k0_t4_loop.trips) : Fin 4 → Nat :=
  let c0_79 : Index := 0#32
  let c0_i32_32 : BitVec 32 := 0#32
  let c1_i32_33 : BitVec 32 := 1#32
  let arg22 : BitVec 32 := Scf.iv c0_i32_32 c1_i32_33 k0_t4
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v166 : Index := Scalar.indexCast v95
  let c0_80 : Index := 0#32
  let c0_81 : Index := 0#32
  ![0, v166.toNat, 0, 0]
def k0_off45 (k0_t4 : Fin k0_t4_loop.trips) : Fin 6 → Nat :=
  let c0_97 : Index := 0#32
  let c0_98 : Index := 0#32
  let c0_99 : Index := 0#32
  let c0_i32_32 : BitVec 32 := 0#32
  let c1_i32_33 : BitVec 32 := 1#32
  let arg22 : BitVec 32 := Scf.iv c0_i32_32 c1_i32_33 k0_t4
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v189 : Index := Scalar.indexCast v95
  let c256 : Index := 256#32
  let c0_100 : Index := 0#32
  ![0, 0, 0, v189.toNat, 256, 0]
def k0_off46 (k0_t4 : Fin k0_t4_loop.trips) : Fin 4 → Nat :=
  let c0_102 : Index := 0#32
  let c0_i32_32 : BitVec 32 := 0#32
  let c1_i32_33 : BitVec 32 := 1#32
  let arg22 : BitVec 32 := Scf.iv c0_i32_32 c1_i32_33 k0_t4
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v193 : Index := Scalar.indexCast v95
  let c256_103 : Index := 256#32
  let c0_104 : Index := 0#32
  ![0, v193.toNat, 256, 0]
def k0_off47 (k0_t4 : Fin k0_t4_loop.trips) : Fin 4 → Nat :=
  let c0_106 : Index := 0#32
  let c0_i32_32 : BitVec 32 := 0#32
  let c1_i32_33 : BitVec 32 := 1#32
  let arg22 : BitVec 32 := Scf.iv c0_i32_32 c1_i32_33 k0_t4
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v204 : Index := Scalar.indexCast v95
  let c0_107 : Index := 0#32
  let c256_108 : Index := 256#32
  ![0, v204.toNat, 0, 256]
def k0_off48 (k0_t4 : Fin k0_t4_loop.trips) : Fin 6 → Nat :=
  let c0_124 : Index := 0#32
  let c0_125 : Index := 0#32
  let c0_126 : Index := 0#32
  let c0_i32_32 : BitVec 32 := 0#32
  let c1_i32_33 : BitVec 32 := 1#32
  let arg22 : BitVec 32 := Scf.iv c0_i32_32 c1_i32_33 k0_t4
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v228 : Index := Scalar.indexCast v95
  let c512 : Index := 512#32
  let c0_127 : Index := 0#32
  ![0, 0, 0, v228.toNat, 512, 0]
def k0_off49 (k0_t4 : Fin k0_t4_loop.trips) : Fin 4 → Nat :=
  let c0_129 : Index := 0#32
  let c0_i32_32 : BitVec 32 := 0#32
  let c1_i32_33 : BitVec 32 := 1#32
  let arg22 : BitVec 32 := Scf.iv c0_i32_32 c1_i32_33 k0_t4
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v232 : Index := Scalar.indexCast v95
  let c512_130 : Index := 512#32
  let c0_131 : Index := 0#32
  ![0, v232.toNat, 512, 0]
def k0_off50 (k0_t4 : Fin k0_t4_loop.trips) : Fin 4 → Nat :=
  let c0_134 : Index := 0#32
  let c0_i32_32 : BitVec 32 := 0#32
  let c1_i32_33 : BitVec 32 := 1#32
  let arg22 : BitVec 32 := Scf.iv c0_i32_32 c1_i32_33 k0_t4
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v248 : Index := Scalar.indexCast v95
  let c0_135 : Index := 0#32
  let c512_136 : Index := 512#32
  ![0, v248.toNat, 0, 512]
@[reducible] def k0_t5_loop : Scf.Loop 32 :=
  let c0_i32_32 : BitVec 32 := 0#32
  let c28_i32 : BitVec 32 := 28#32
  let v78 : BitVec 32 := Scalar.addi c0_i32_32 c28_i32
  let c1_i32_33 : BitVec 32 := 1#32
  ⟨c0_i32_32, v78, c1_i32_33⟩
def k0_off51 (k0_t5 : Fin k0_t5_loop.trips) : Fin 6 → Nat :=
  let c0_41 : Index := 0#32
  let c0_42 : Index := 0#32
  let c0_43 : Index := 0#32
  let c0_i32_32 : BitVec 32 := 0#32
  let c1_i32_33 : BitVec 32 := 1#32
  let arg22 : BitVec 32 := Scf.iv c0_i32_32 c1_i32_33 k0_t5
  let v96 : Index := Scalar.indexCast arg22
  let c0_44 : Index := 0#32
  let c0_45 : Index := 0#32
  ![0, 0, 0, v96.toNat, 0, 0]
def k0_off52 (i : grid0.Coords) (k0_t5 : Fin k0_t5_loop.trips) : Fin 1 → Nat :=
  let arg0 : BitVec 32 := BitVec.ofNat 32 (i 0).val
  let c2_i32_55 : BitVec 32 := 2#32
  let v108 : BitVec 32 := Scalar.muli arg0 c2_i32_55
  let arg2 : BitVec 32 := BitVec.ofNat 32 (i 2).val
  let v109 : BitVec 32 := Scalar.addi v108 arg2
  let c5_i32_56 : BitVec 32 := 5#32
  let v110 : BitVec 32 := Scalar.muli v109 c5_i32_56
  let arg1 : BitVec 32 := BitVec.ofNat 32 (i 1).val
  let v111 : BitVec 32 := Scalar.addi v110 arg1
  let c28_i32_57 : BitVec 32 := 28#32
  let v112 : BitVec 32 := Scalar.muli v111 c28_i32_57
  let c0_i32_32 : BitVec 32 := 0#32
  let c1_i32_33 : BitVec 32 := 1#32
  let arg22 : BitVec 32 := Scf.iv c0_i32_32 c1_i32_33 k0_t5
  let v113 : BitVec 32 := Scalar.addi v112 arg22
  let v114 : Index := Scalar.indexCast v113
  ![v114.toNat]
def k0_off53 (k0_t5 : Fin k0_t5_loop.trips) : Fin 5 → Nat :=
  let c0_58 : Index := 0#32
  let c0_59 : Index := 0#32
  let c0_60 : Index := 0#32
  let c0_i32_32 : BitVec 32 := 0#32
  let c1_i32_33 : BitVec 32 := 1#32
  let arg22 : BitVec 32 := Scf.iv c0_i32_32 c1_i32_33 k0_t5
  let v116 : Index := Scalar.indexCast arg22
  let c0_61 : Index := 0#32
  ![0, 0, 0, v116.toNat, 0]
def k0_off54 (i : grid0.Coords) (k0_t5 : Fin k0_t5_loop.trips) : Fin 1 → Nat :=
  let arg0 : BitVec 32 := BitVec.ofNat 32 (i 0).val
  let c2_i32_51 : BitVec 32 := 2#32
  let v102 : BitVec 32 := Scalar.muli arg0 c2_i32_51
  let c0_i32_52 : BitVec 32 := 0#32
  let v103 : BitVec 32 := Scalar.addi v102 c0_i32_52
  let c5_i32_53 : BitVec 32 := 5#32
  let v104 : BitVec 32 := Scalar.muli v103 c5_i32_53
  let arg1 : BitVec 32 := BitVec.ofNat 32 (i 1).val
  let v105 : BitVec 32 := Scalar.addi v104 arg1
  let c4_i32_54 : BitVec 32 := 4#32
  let v106 : BitVec 32 := Scalar.muli v105 c4_i32_54
  let c0_i32_32 : BitVec 32 := 0#32
  let c1_i32_33 : BitVec 32 := 1#32
  let arg22 : BitVec 32 := Scf.iv c0_i32_32 c1_i32_33 k0_t5
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v107 : BitVec 32 := Scalar.addi v106 v95
  let v121 : Index := Scalar.indexCast v107
  ![v121.toNat]
def k0_off55 (k0_t5 : Fin k0_t5_loop.trips) : Fin 6 → Nat :=
  let c0_69 : Index := 0#32
  let c0_70 : Index := 0#32
  let c0_71 : Index := 0#32
  let c0_i32_32 : BitVec 32 := 0#32
  let c1_i32_33 : BitVec 32 := 1#32
  let arg22 : BitVec 32 := Scf.iv c0_i32_32 c1_i32_33 k0_t5
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v151 : Index := Scalar.indexCast v95
  let c0_72 : Index := 0#32
  let c0_73 : Index := 0#32
  ![0, 0, 0, v151.toNat, 0, 0]
def k0_off56 (k0_t5 : Fin k0_t5_loop.trips) : Fin 4 → Nat :=
  let c0_75 : Index := 0#32
  let c0_i32_32 : BitVec 32 := 0#32
  let c1_i32_33 : BitVec 32 := 1#32
  let arg22 : BitVec 32 := Scf.iv c0_i32_32 c1_i32_33 k0_t5
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v155 : Index := Scalar.indexCast v95
  let c0_76 : Index := 0#32
  let c0_77 : Index := 0#32
  ![0, v155.toNat, 0, 0]
def k0_off57 (k0_t5 : Fin k0_t5_loop.trips) : Fin 4 → Nat :=
  let c0_79 : Index := 0#32
  let c0_i32_32 : BitVec 32 := 0#32
  let c1_i32_33 : BitVec 32 := 1#32
  let arg22 : BitVec 32 := Scf.iv c0_i32_32 c1_i32_33 k0_t5
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v166 : Index := Scalar.indexCast v95
  let c0_80 : Index := 0#32
  let c0_81 : Index := 0#32
  ![0, v166.toNat, 0, 0]
def k0_off58 (k0_t5 : Fin k0_t5_loop.trips) : Fin 6 → Nat :=
  let c0_97 : Index := 0#32
  let c0_98 : Index := 0#32
  let c0_99 : Index := 0#32
  let c0_i32_32 : BitVec 32 := 0#32
  let c1_i32_33 : BitVec 32 := 1#32
  let arg22 : BitVec 32 := Scf.iv c0_i32_32 c1_i32_33 k0_t5
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v189 : Index := Scalar.indexCast v95
  let c256 : Index := 256#32
  let c0_100 : Index := 0#32
  ![0, 0, 0, v189.toNat, 256, 0]
def k0_off59 (k0_t5 : Fin k0_t5_loop.trips) : Fin 4 → Nat :=
  let c0_102 : Index := 0#32
  let c0_i32_32 : BitVec 32 := 0#32
  let c1_i32_33 : BitVec 32 := 1#32
  let arg22 : BitVec 32 := Scf.iv c0_i32_32 c1_i32_33 k0_t5
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v193 : Index := Scalar.indexCast v95
  let c256_103 : Index := 256#32
  let c0_104 : Index := 0#32
  ![0, v193.toNat, 256, 0]
def k0_off60 (k0_t5 : Fin k0_t5_loop.trips) : Fin 4 → Nat :=
  let c0_106 : Index := 0#32
  let c0_i32_32 : BitVec 32 := 0#32
  let c1_i32_33 : BitVec 32 := 1#32
  let arg22 : BitVec 32 := Scf.iv c0_i32_32 c1_i32_33 k0_t5
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v204 : Index := Scalar.indexCast v95
  let c0_107 : Index := 0#32
  let c256_108 : Index := 256#32
  ![0, v204.toNat, 0, 256]
def k0_off61 (k0_t5 : Fin k0_t5_loop.trips) : Fin 6 → Nat :=
  let c0_124 : Index := 0#32
  let c0_125 : Index := 0#32
  let c0_126 : Index := 0#32
  let c0_i32_32 : BitVec 32 := 0#32
  let c1_i32_33 : BitVec 32 := 1#32
  let arg22 : BitVec 32 := Scf.iv c0_i32_32 c1_i32_33 k0_t5
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v228 : Index := Scalar.indexCast v95
  let c512 : Index := 512#32
  let c0_127 : Index := 0#32
  ![0, 0, 0, v228.toNat, 512, 0]
def k0_off62 (k0_t5 : Fin k0_t5_loop.trips) : Fin 4 → Nat :=
  let c0_129 : Index := 0#32
  let c0_i32_32 : BitVec 32 := 0#32
  let c1_i32_33 : BitVec 32 := 1#32
  let arg22 : BitVec 32 := Scf.iv c0_i32_32 c1_i32_33 k0_t5
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v232 : Index := Scalar.indexCast v95
  let c512_130 : Index := 512#32
  let c0_131 : Index := 0#32
  ![0, v232.toNat, 512, 0]
def k0_off63 (k0_t5 : Fin k0_t5_loop.trips) : Fin 4 → Nat :=
  let c0_133 : Index := 0#32
  let c0_i32_32 : BitVec 32 := 0#32
  let c1_i32_33 : BitVec 32 := 1#32
  let arg22 : BitVec 32 := Scf.iv c0_i32_32 c1_i32_33 k0_t5
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v243 : Index := Scalar.indexCast v95
  let c0_134 : Index := 0#32
  let c512_135 : Index := 512#32
  ![0, v243.toNat, 0, 512]
def k0_off64 (k0_t5 : Fin k0_t5_loop.trips) : Fin 6 → Nat :=
  let c0_151 : Index := 0#32
  let c0_152 : Index := 0#32
  let c0_153 : Index := 0#32
  let c0_i32_32 : BitVec 32 := 0#32
  let c1_i32_33 : BitVec 32 := 1#32
  let arg22 : BitVec 32 := Scf.iv c0_i32_32 c1_i32_33 k0_t5
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v267 : Index := Scalar.indexCast v95
  let c768 : Index := 768#32
  let c0_154 : Index := 0#32
  ![0, 0, 0, v267.toNat, 768, 0]
def k0_off65 (k0_t5 : Fin k0_t5_loop.trips) : Fin 4 → Nat :=
  let c0_156 : Index := 0#32
  let c0_i32_32 : BitVec 32 := 0#32
  let c1_i32_33 : BitVec 32 := 1#32
  let arg22 : BitVec 32 := Scf.iv c0_i32_32 c1_i32_33 k0_t5
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v271 : Index := Scalar.indexCast v95
  let c768_157 : Index := 768#32
  let c0_158 : Index := 0#32
  ![0, v271.toNat, 768, 0]
def k0_off66 (k0_t5 : Fin k0_t5_loop.trips) : Fin 4 → Nat :=
  let c0_161 : Index := 0#32
  let c0_i32_32 : BitVec 32 := 0#32
  let c1_i32_33 : BitVec 32 := 1#32
  let arg22 : BitVec 32 := Scf.iv c0_i32_32 c1_i32_33 k0_t5
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v287 : Index := Scalar.indexCast v95
  let c0_162 : Index := 0#32
  let c768_163 : Index := 768#32
  ![0, v287.toNat, 0, 768]
@[reducible] def k0_t6_loop : Scf.Loop 32 :=
  let c0_i32_32 : BitVec 32 := 0#32
  let c28_i32 : BitVec 32 := 28#32
  let v78 : BitVec 32 := Scalar.addi c0_i32_32 c28_i32
  let c1_i32_33 : BitVec 32 := 1#32
  ⟨c0_i32_32, v78, c1_i32_33⟩
def k0_off67 (k0_t6 : Fin k0_t6_loop.trips) : Fin 6 → Nat :=
  let c0_41 : Index := 0#32
  let c0_42 : Index := 0#32
  let c0_43 : Index := 0#32
  let c0_i32_32 : BitVec 32 := 0#32
  let c1_i32_33 : BitVec 32 := 1#32
  let arg22 : BitVec 32 := Scf.iv c0_i32_32 c1_i32_33 k0_t6
  let v96 : Index := Scalar.indexCast arg22
  let c0_44 : Index := 0#32
  let c0_45 : Index := 0#32
  ![0, 0, 0, v96.toNat, 0, 0]
def k0_off68 (i : grid0.Coords) (k0_t6 : Fin k0_t6_loop.trips) : Fin 1 → Nat :=
  let arg0 : BitVec 32 := BitVec.ofNat 32 (i 0).val
  let c2_i32_55 : BitVec 32 := 2#32
  let v108 : BitVec 32 := Scalar.muli arg0 c2_i32_55
  let arg2 : BitVec 32 := BitVec.ofNat 32 (i 2).val
  let v109 : BitVec 32 := Scalar.addi v108 arg2
  let c5_i32_56 : BitVec 32 := 5#32
  let v110 : BitVec 32 := Scalar.muli v109 c5_i32_56
  let arg1 : BitVec 32 := BitVec.ofNat 32 (i 1).val
  let v111 : BitVec 32 := Scalar.addi v110 arg1
  let c28_i32_57 : BitVec 32 := 28#32
  let v112 : BitVec 32 := Scalar.muli v111 c28_i32_57
  let c0_i32_32 : BitVec 32 := 0#32
  let c1_i32_33 : BitVec 32 := 1#32
  let arg22 : BitVec 32 := Scf.iv c0_i32_32 c1_i32_33 k0_t6
  let v113 : BitVec 32 := Scalar.addi v112 arg22
  let v114 : Index := Scalar.indexCast v113
  ![v114.toNat]
def k0_off69 (k0_t6 : Fin k0_t6_loop.trips) : Fin 5 → Nat :=
  let c0_58 : Index := 0#32
  let c0_59 : Index := 0#32
  let c0_60 : Index := 0#32
  let c0_i32_32 : BitVec 32 := 0#32
  let c1_i32_33 : BitVec 32 := 1#32
  let arg22 : BitVec 32 := Scf.iv c0_i32_32 c1_i32_33 k0_t6
  let v116 : Index := Scalar.indexCast arg22
  let c0_61 : Index := 0#32
  ![0, 0, 0, v116.toNat, 0]
def k0_off70 (i : grid0.Coords) (k0_t6 : Fin k0_t6_loop.trips) : Fin 1 → Nat :=
  let arg0 : BitVec 32 := BitVec.ofNat 32 (i 0).val
  let c2_i32_51 : BitVec 32 := 2#32
  let v102 : BitVec 32 := Scalar.muli arg0 c2_i32_51
  let c0_i32_52 : BitVec 32 := 0#32
  let v103 : BitVec 32 := Scalar.addi v102 c0_i32_52
  let c5_i32_53 : BitVec 32 := 5#32
  let v104 : BitVec 32 := Scalar.muli v103 c5_i32_53
  let arg1 : BitVec 32 := BitVec.ofNat 32 (i 1).val
  let v105 : BitVec 32 := Scalar.addi v104 arg1
  let c4_i32_54 : BitVec 32 := 4#32
  let v106 : BitVec 32 := Scalar.muli v105 c4_i32_54
  let c0_i32_32 : BitVec 32 := 0#32
  let c1_i32_33 : BitVec 32 := 1#32
  let arg22 : BitVec 32 := Scf.iv c0_i32_32 c1_i32_33 k0_t6
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v107 : BitVec 32 := Scalar.addi v106 v95
  let v121 : Index := Scalar.indexCast v107
  ![v121.toNat]
def k0_off71 (k0_t6 : Fin k0_t6_loop.trips) : Fin 6 → Nat :=
  let c0_69 : Index := 0#32
  let c0_70 : Index := 0#32
  let c0_71 : Index := 0#32
  let c0_i32_32 : BitVec 32 := 0#32
  let c1_i32_33 : BitVec 32 := 1#32
  let arg22 : BitVec 32 := Scf.iv c0_i32_32 c1_i32_33 k0_t6
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v151 : Index := Scalar.indexCast v95
  let c0_72 : Index := 0#32
  let c0_73 : Index := 0#32
  ![0, 0, 0, v151.toNat, 0, 0]
def k0_off72 (k0_t6 : Fin k0_t6_loop.trips) : Fin 4 → Nat :=
  let c0_75 : Index := 0#32
  let c0_i32_32 : BitVec 32 := 0#32
  let c1_i32_33 : BitVec 32 := 1#32
  let arg22 : BitVec 32 := Scf.iv c0_i32_32 c1_i32_33 k0_t6
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v155 : Index := Scalar.indexCast v95
  let c0_76 : Index := 0#32
  let c0_77 : Index := 0#32
  ![0, v155.toNat, 0, 0]
def k0_off73 (k0_t6 : Fin k0_t6_loop.trips) : Fin 4 → Nat :=
  let c0_79 : Index := 0#32
  let c0_i32_32 : BitVec 32 := 0#32
  let c1_i32_33 : BitVec 32 := 1#32
  let arg22 : BitVec 32 := Scf.iv c0_i32_32 c1_i32_33 k0_t6
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v166 : Index := Scalar.indexCast v95
  let c0_80 : Index := 0#32
  let c0_81 : Index := 0#32
  ![0, v166.toNat, 0, 0]
def k0_off74 (k0_t6 : Fin k0_t6_loop.trips) : Fin 6 → Nat :=
  let c0_97 : Index := 0#32
  let c0_98 : Index := 0#32
  let c0_99 : Index := 0#32
  let c0_i32_32 : BitVec 32 := 0#32
  let c1_i32_33 : BitVec 32 := 1#32
  let arg22 : BitVec 32 := Scf.iv c0_i32_32 c1_i32_33 k0_t6
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v189 : Index := Scalar.indexCast v95
  let c256 : Index := 256#32
  let c0_100 : Index := 0#32
  ![0, 0, 0, v189.toNat, 256, 0]
def k0_off75 (k0_t6 : Fin k0_t6_loop.trips) : Fin 4 → Nat :=
  let c0_102 : Index := 0#32
  let c0_i32_32 : BitVec 32 := 0#32
  let c1_i32_33 : BitVec 32 := 1#32
  let arg22 : BitVec 32 := Scf.iv c0_i32_32 c1_i32_33 k0_t6
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v193 : Index := Scalar.indexCast v95
  let c256_103 : Index := 256#32
  let c0_104 : Index := 0#32
  ![0, v193.toNat, 256, 0]
def k0_off76 (k0_t6 : Fin k0_t6_loop.trips) : Fin 4 → Nat :=
  let c0_106 : Index := 0#32
  let c0_i32_32 : BitVec 32 := 0#32
  let c1_i32_33 : BitVec 32 := 1#32
  let arg22 : BitVec 32 := Scf.iv c0_i32_32 c1_i32_33 k0_t6
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v204 : Index := Scalar.indexCast v95
  let c0_107 : Index := 0#32
  let c256_108 : Index := 256#32
  ![0, v204.toNat, 0, 256]
def k0_off77 (k0_t6 : Fin k0_t6_loop.trips) : Fin 6 → Nat :=
  let c0_124 : Index := 0#32
  let c0_125 : Index := 0#32
  let c0_126 : Index := 0#32
  let c0_i32_32 : BitVec 32 := 0#32
  let c1_i32_33 : BitVec 32 := 1#32
  let arg22 : BitVec 32 := Scf.iv c0_i32_32 c1_i32_33 k0_t6
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v228 : Index := Scalar.indexCast v95
  let c512 : Index := 512#32
  let c0_127 : Index := 0#32
  ![0, 0, 0, v228.toNat, 512, 0]
def k0_off78 (k0_t6 : Fin k0_t6_loop.trips) : Fin 4 → Nat :=
  let c0_129 : Index := 0#32
  let c0_i32_32 : BitVec 32 := 0#32
  let c1_i32_33 : BitVec 32 := 1#32
  let arg22 : BitVec 32 := Scf.iv c0_i32_32 c1_i32_33 k0_t6
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v232 : Index := Scalar.indexCast v95
  let c512_130 : Index := 512#32
  let c0_131 : Index := 0#32
  ![0, v232.toNat, 512, 0]
def k0_off79 (k0_t6 : Fin k0_t6_loop.trips) : Fin 4 → Nat :=
  let c0_133 : Index := 0#32
  let c0_i32_32 : BitVec 32 := 0#32
  let c1_i32_33 : BitVec 32 := 1#32
  let arg22 : BitVec 32 := Scf.iv c0_i32_32 c1_i32_33 k0_t6
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v243 : Index := Scalar.indexCast v95
  let c0_134 : Index := 0#32
  let c512_135 : Index := 512#32
  ![0, v243.toNat, 0, 512]
def k0_off80 (k0_t6 : Fin k0_t6_loop.trips) : Fin 6 → Nat :=
  let c0_151 : Index := 0#32
  let c0_152 : Index := 0#32
  let c0_153 : Index := 0#32
  let c0_i32_32 : BitVec 32 := 0#32
  let c1_i32_33 : BitVec 32 := 1#32
  let arg22 : BitVec 32 := Scf.iv c0_i32_32 c1_i32_33 k0_t6
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v267 : Index := Scalar.indexCast v95
  let c768 : Index := 768#32
  let c0_154 : Index := 0#32
  ![0, 0, 0, v267.toNat, 768, 0]
def k0_off81 (k0_t6 : Fin k0_t6_loop.trips) : Fin 4 → Nat :=
  let c0_156 : Index := 0#32
  let c0_i32_32 : BitVec 32 := 0#32
  let c1_i32_33 : BitVec 32 := 1#32
  let arg22 : BitVec 32 := Scf.iv c0_i32_32 c1_i32_33 k0_t6
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v271 : Index := Scalar.indexCast v95
  let c768_157 : Index := 768#32
  let c0_158 : Index := 0#32
  ![0, v271.toNat, 768, 0]
def k0_off82 (k0_t6 : Fin k0_t6_loop.trips) : Fin 4 → Nat :=
  let c0_160 : Index := 0#32
  let c0_i32_32 : BitVec 32 := 0#32
  let c1_i32_33 : BitVec 32 := 1#32
  let arg22 : BitVec 32 := Scf.iv c0_i32_32 c1_i32_33 k0_t6
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v282 : Index := Scalar.indexCast v95
  let c0_161 : Index := 0#32
  let c768_162 : Index := 768#32
  ![0, v282.toNat, 0, 768]
def k0_off83 (k0_t6 : Fin k0_t6_loop.trips) : Fin 6 → Nat :=
  let c0_178 : Index := 0#32
  let c0_179 : Index := 0#32
  let c0_180 : Index := 0#32
  let c0_i32_32 : BitVec 32 := 0#32
  let c1_i32_33 : BitVec 32 := 1#32
  let arg22 : BitVec 32 := Scf.iv c0_i32_32 c1_i32_33 k0_t6
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v306 : Index := Scalar.indexCast v95
  let c1024 : Index := 1024#32
  let c0_181 : Index := 0#32
  ![0, 0, 0, v306.toNat, 1024, 0]
def k0_off84 (k0_t6 : Fin k0_t6_loop.trips) : Fin 4 → Nat :=
  let c0_183 : Index := 0#32
  let c0_i32_32 : BitVec 32 := 0#32
  let c1_i32_33 : BitVec 32 := 1#32
  let arg22 : BitVec 32 := Scf.iv c0_i32_32 c1_i32_33 k0_t6
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v310 : Index := Scalar.indexCast v95
  let c1024_184 : Index := 1024#32
  let c0_185 : Index := 0#32
  ![0, v310.toNat, 1024, 0]
def k0_off85 (k0_t6 : Fin k0_t6_loop.trips) : Fin 4 → Nat :=
  let c0_188 : Index := 0#32
  let c0_i32_32 : BitVec 32 := 0#32
  let c1_i32_33 : BitVec 32 := 1#32
  let arg22 : BitVec 32 := Scf.iv c0_i32_32 c1_i32_33 k0_t6
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v326 : Index := Scalar.indexCast v95
  let c0_189 : Index := 0#32
  let c1024_190 : Index := 1024#32
  ![0, v326.toNat, 0, 1024]
@[reducible] def k0_t7_loop : Scf.Loop 32 :=
  let c0_i32_32 : BitVec 32 := 0#32
  let c28_i32 : BitVec 32 := 28#32
  let v78 : BitVec 32 := Scalar.addi c0_i32_32 c28_i32
  let c1_i32_33 : BitVec 32 := 1#32
  ⟨c0_i32_32, v78, c1_i32_33⟩
def k0_off86 (k0_t7 : Fin k0_t7_loop.trips) : Fin 6 → Nat :=
  let c0_41 : Index := 0#32
  let c0_42 : Index := 0#32
  let c0_43 : Index := 0#32
  let c0_i32_32 : BitVec 32 := 0#32
  let c1_i32_33 : BitVec 32 := 1#32
  let arg22 : BitVec 32 := Scf.iv c0_i32_32 c1_i32_33 k0_t7
  let v96 : Index := Scalar.indexCast arg22
  let c0_44 : Index := 0#32
  let c0_45 : Index := 0#32
  ![0, 0, 0, v96.toNat, 0, 0]
def k0_off87 (i : grid0.Coords) (k0_t7 : Fin k0_t7_loop.trips) : Fin 1 → Nat :=
  let arg0 : BitVec 32 := BitVec.ofNat 32 (i 0).val
  let c2_i32_55 : BitVec 32 := 2#32
  let v108 : BitVec 32 := Scalar.muli arg0 c2_i32_55
  let arg2 : BitVec 32 := BitVec.ofNat 32 (i 2).val
  let v109 : BitVec 32 := Scalar.addi v108 arg2
  let c5_i32_56 : BitVec 32 := 5#32
  let v110 : BitVec 32 := Scalar.muli v109 c5_i32_56
  let arg1 : BitVec 32 := BitVec.ofNat 32 (i 1).val
  let v111 : BitVec 32 := Scalar.addi v110 arg1
  let c28_i32_57 : BitVec 32 := 28#32
  let v112 : BitVec 32 := Scalar.muli v111 c28_i32_57
  let c0_i32_32 : BitVec 32 := 0#32
  let c1_i32_33 : BitVec 32 := 1#32
  let arg22 : BitVec 32 := Scf.iv c0_i32_32 c1_i32_33 k0_t7
  let v113 : BitVec 32 := Scalar.addi v112 arg22
  let v114 : Index := Scalar.indexCast v113
  ![v114.toNat]
def k0_off88 (k0_t7 : Fin k0_t7_loop.trips) : Fin 5 → Nat :=
  let c0_58 : Index := 0#32
  let c0_59 : Index := 0#32
  let c0_60 : Index := 0#32
  let c0_i32_32 : BitVec 32 := 0#32
  let c1_i32_33 : BitVec 32 := 1#32
  let arg22 : BitVec 32 := Scf.iv c0_i32_32 c1_i32_33 k0_t7
  let v116 : Index := Scalar.indexCast arg22
  let c0_61 : Index := 0#32
  ![0, 0, 0, v116.toNat, 0]
def k0_off89 (i : grid0.Coords) (k0_t7 : Fin k0_t7_loop.trips) : Fin 1 → Nat :=
  let arg0 : BitVec 32 := BitVec.ofNat 32 (i 0).val
  let c2_i32_51 : BitVec 32 := 2#32
  let v102 : BitVec 32 := Scalar.muli arg0 c2_i32_51
  let c1_i32_52 : BitVec 32 := 1#32
  let v103 : BitVec 32 := Scalar.addi v102 c1_i32_52
  let c5_i32_53 : BitVec 32 := 5#32
  let v104 : BitVec 32 := Scalar.muli v103 c5_i32_53
  let arg1 : BitVec 32 := BitVec.ofNat 32 (i 1).val
  let v105 : BitVec 32 := Scalar.addi v104 arg1
  let c4_i32_54 : BitVec 32 := 4#32
  let v106 : BitVec 32 := Scalar.muli v105 c4_i32_54
  let c0_i32_32 : BitVec 32 := 0#32
  let c1_i32_33 : BitVec 32 := 1#32
  let arg22 : BitVec 32 := Scf.iv c0_i32_32 c1_i32_33 k0_t7
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v107 : BitVec 32 := Scalar.addi v106 v95
  let v121 : Index := Scalar.indexCast v107
  ![v121.toNat]
def k0_off90 (k0_t7 : Fin k0_t7_loop.trips) : Fin 6 → Nat :=
  let c0_69 : Index := 0#32
  let c1 : Index := 1#32
  let c0_70 : Index := 0#32
  let c0_i32_32 : BitVec 32 := 0#32
  let c1_i32_33 : BitVec 32 := 1#32
  let arg22 : BitVec 32 := Scf.iv c0_i32_32 c1_i32_33 k0_t7
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v151 : Index := Scalar.indexCast v95
  let c0_71 : Index := 0#32
  let c0_72 : Index := 0#32
  ![0, 1, 0, v151.toNat, 0, 0]
def k0_off91 (k0_t7 : Fin k0_t7_loop.trips) : Fin 4 → Nat :=
  let c1_74 : Index := 1#32
  let c0_i32_32 : BitVec 32 := 0#32
  let c1_i32_33 : BitVec 32 := 1#32
  let arg22 : BitVec 32 := Scf.iv c0_i32_32 c1_i32_33 k0_t7
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v155 : Index := Scalar.indexCast v95
  let c0_75 : Index := 0#32
  let c0_76 : Index := 0#32
  ![1, v155.toNat, 0, 0]
def k0_off92 (k0_t7 : Fin k0_t7_loop.trips) : Fin 4 → Nat :=
  let c1_78 : Index := 1#32
  let c0_i32_32 : BitVec 32 := 0#32
  let c1_i32_33 : BitVec 32 := 1#32
  let arg22 : BitVec 32 := Scf.iv c0_i32_32 c1_i32_33 k0_t7
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v166 : Index := Scalar.indexCast v95
  let c0_79 : Index := 0#32
  let c0_80 : Index := 0#32
  ![1, v166.toNat, 0, 0]
def k0_off93 (k0_t7 : Fin k0_t7_loop.trips) : Fin 6 → Nat :=
  let c0_96 : Index := 0#32
  let c1_97 : Index := 1#32
  let c0_98 : Index := 0#32
  let c0_i32_32 : BitVec 32 := 0#32
  let c1_i32_33 : BitVec 32 := 1#32
  let arg22 : BitVec 32 := Scf.iv c0_i32_32 c1_i32_33 k0_t7
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v189 : Index := Scalar.indexCast v95
  let c256 : Index := 256#32
  let c0_99 : Index := 0#32
  ![0, 1, 0, v189.toNat, 256, 0]
def k0_off94 (k0_t7 : Fin k0_t7_loop.trips) : Fin 4 → Nat :=
  let c1_101 : Index := 1#32
  let c0_i32_32 : BitVec 32 := 0#32
  let c1_i32_33 : BitVec 32 := 1#32
  let arg22 : BitVec 32 := Scf.iv c0_i32_32 c1_i32_33 k0_t7
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v193 : Index := Scalar.indexCast v95
  let c256_102 : Index := 256#32
  let c0_103 : Index := 0#32
  ![1, v193.toNat, 256, 0]
def k0_off95 (k0_t7 : Fin k0_t7_loop.trips) : Fin 4 → Nat :=
  let c1_105 : Index := 1#32
  let c0_i32_32 : BitVec 32 := 0#32
  let c1_i32_33 : BitVec 32 := 1#32
  let arg22 : BitVec 32 := Scf.iv c0_i32_32 c1_i32_33 k0_t7
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v204 : Index := Scalar.indexCast v95
  let c0_106 : Index := 0#32
  let c256_107 : Index := 256#32
  ![1, v204.toNat, 0, 256]
def k0_off96 (k0_t7 : Fin k0_t7_loop.trips) : Fin 6 → Nat :=
  let c0_123 : Index := 0#32
  let c1_124 : Index := 1#32
  let c0_125 : Index := 0#32
  let c0_i32_32 : BitVec 32 := 0#32
  let c1_i32_33 : BitVec 32 := 1#32
  let arg22 : BitVec 32 := Scf.iv c0_i32_32 c1_i32_33 k0_t7
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v228 : Index := Scalar.indexCast v95
  let c512 : Index := 512#32
  let c0_126 : Index := 0#32
  ![0, 1, 0, v228.toNat, 512, 0]
def k0_off97 (k0_t7 : Fin k0_t7_loop.trips) : Fin 4 → Nat :=
  let c1_128 : Index := 1#32
  let c0_i32_32 : BitVec 32 := 0#32
  let c1_i32_33 : BitVec 32 := 1#32
  let arg22 : BitVec 32 := Scf.iv c0_i32_32 c1_i32_33 k0_t7
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v232 : Index := Scalar.indexCast v95
  let c512_129 : Index := 512#32
  let c0_130 : Index := 0#32
  ![1, v232.toNat, 512, 0]
def k0_off98 (k0_t7 : Fin k0_t7_loop.trips) : Fin 4 → Nat :=
  let c1_132 : Index := 1#32
  let c0_i32_32 : BitVec 32 := 0#32
  let c1_i32_33 : BitVec 32 := 1#32
  let arg22 : BitVec 32 := Scf.iv c0_i32_32 c1_i32_33 k0_t7
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v243 : Index := Scalar.indexCast v95
  let c0_133 : Index := 0#32
  let c512_134 : Index := 512#32
  ![1, v243.toNat, 0, 512]
def k0_off99 (k0_t7 : Fin k0_t7_loop.trips) : Fin 6 → Nat :=
  let c0_150 : Index := 0#32
  let c1_151 : Index := 1#32
  let c0_152 : Index := 0#32
  let c0_i32_32 : BitVec 32 := 0#32
  let c1_i32_33 : BitVec 32 := 1#32
  let arg22 : BitVec 32 := Scf.iv c0_i32_32 c1_i32_33 k0_t7
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v267 : Index := Scalar.indexCast v95
  let c768 : Index := 768#32
  let c0_153 : Index := 0#32
  ![0, 1, 0, v267.toNat, 768, 0]
def k0_off100 (k0_t7 : Fin k0_t7_loop.trips) : Fin 4 → Nat :=
  let c1_155 : Index := 1#32
  let c0_i32_32 : BitVec 32 := 0#32
  let c1_i32_33 : BitVec 32 := 1#32
  let arg22 : BitVec 32 := Scf.iv c0_i32_32 c1_i32_33 k0_t7
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v271 : Index := Scalar.indexCast v95
  let c768_156 : Index := 768#32
  let c0_157 : Index := 0#32
  ![1, v271.toNat, 768, 0]
def k0_off101 (k0_t7 : Fin k0_t7_loop.trips) : Fin 4 → Nat :=
  let c1_159 : Index := 1#32
  let c0_i32_32 : BitVec 32 := 0#32
  let c1_i32_33 : BitVec 32 := 1#32
  let arg22 : BitVec 32 := Scf.iv c0_i32_32 c1_i32_33 k0_t7
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v282 : Index := Scalar.indexCast v95
  let c0_160 : Index := 0#32
  let c768_161 : Index := 768#32
  ![1, v282.toNat, 0, 768]
def k0_off102 (k0_t7 : Fin k0_t7_loop.trips) : Fin 6 → Nat :=
  let c0_177 : Index := 0#32
  let c1_178 : Index := 1#32
  let c0_179 : Index := 0#32
  let c0_i32_32 : BitVec 32 := 0#32
  let c1_i32_33 : BitVec 32 := 1#32
  let arg22 : BitVec 32 := Scf.iv c0_i32_32 c1_i32_33 k0_t7
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v306 : Index := Scalar.indexCast v95
  let c1024 : Index := 1024#32
  let c0_180 : Index := 0#32
  ![0, 1, 0, v306.toNat, 1024, 0]
def k0_off103 (k0_t7 : Fin k0_t7_loop.trips) : Fin 4 → Nat :=
  let c1_182 : Index := 1#32
  let c0_i32_32 : BitVec 32 := 0#32
  let c1_i32_33 : BitVec 32 := 1#32
  let arg22 : BitVec 32 := Scf.iv c0_i32_32 c1_i32_33 k0_t7
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v310 : Index := Scalar.indexCast v95
  let c1024_183 : Index := 1024#32
  let c0_184 : Index := 0#32
  ![1, v310.toNat, 1024, 0]
def k0_off104 (k0_t7 : Fin k0_t7_loop.trips) : Fin 4 → Nat :=
  let c1_186 : Index := 1#32
  let c0_i32_32 : BitVec 32 := 0#32
  let c1_i32_33 : BitVec 32 := 1#32
  let arg22 : BitVec 32 := Scf.iv c0_i32_32 c1_i32_33 k0_t7
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v321 : Index := Scalar.indexCast v95
  let c0_187 : Index := 0#32
  let c1024_188 : Index := 1024#32
  ![1, v321.toNat, 0, 1024]
@[reducible] def k0_t8_loop : Scf.Loop 32 :=
  let c0_i32_32 : BitVec 32 := 0#32
  let c28_i32 : BitVec 32 := 28#32
  let v78 : BitVec 32 := Scalar.addi c0_i32_32 c28_i32
  let c1_i32_33 : BitVec 32 := 1#32
  ⟨c0_i32_32, v78, c1_i32_33⟩
def k0_off105 (k0_t8 : Fin k0_t8_loop.trips) : Fin 6 → Nat :=
  let c0_41 : Index := 0#32
  let c0_42 : Index := 0#32
  let c0_43 : Index := 0#32
  let c0_i32_32 : BitVec 32 := 0#32
  let c1_i32_33 : BitVec 32 := 1#32
  let arg22 : BitVec 32 := Scf.iv c0_i32_32 c1_i32_33 k0_t8
  let v96 : Index := Scalar.indexCast arg22
  let c0_44 : Index := 0#32
  let c0_45 : Index := 0#32
  ![0, 0, 0, v96.toNat, 0, 0]
def k0_off106 (i : grid0.Coords) (k0_t8 : Fin k0_t8_loop.trips) : Fin 1 → Nat :=
  let arg0 : BitVec 32 := BitVec.ofNat 32 (i 0).val
  let c2_i32_55 : BitVec 32 := 2#32
  let v108 : BitVec 32 := Scalar.muli arg0 c2_i32_55
  let arg2 : BitVec 32 := BitVec.ofNat 32 (i 2).val
  let v109 : BitVec 32 := Scalar.addi v108 arg2
  let c5_i32_56 : BitVec 32 := 5#32
  let v110 : BitVec 32 := Scalar.muli v109 c5_i32_56
  let arg1 : BitVec 32 := BitVec.ofNat 32 (i 1).val
  let v111 : BitVec 32 := Scalar.addi v110 arg1
  let c28_i32_57 : BitVec 32 := 28#32
  let v112 : BitVec 32 := Scalar.muli v111 c28_i32_57
  let c0_i32_32 : BitVec 32 := 0#32
  let c1_i32_33 : BitVec 32 := 1#32
  let arg22 : BitVec 32 := Scf.iv c0_i32_32 c1_i32_33 k0_t8
  let v113 : BitVec 32 := Scalar.addi v112 arg22
  let v114 : Index := Scalar.indexCast v113
  ![v114.toNat]
def k0_off107 (k0_t8 : Fin k0_t8_loop.trips) : Fin 5 → Nat :=
  let c0_58 : Index := 0#32
  let c0_59 : Index := 0#32
  let c0_60 : Index := 0#32
  let c0_i32_32 : BitVec 32 := 0#32
  let c1_i32_33 : BitVec 32 := 1#32
  let arg22 : BitVec 32 := Scf.iv c0_i32_32 c1_i32_33 k0_t8
  let v116 : Index := Scalar.indexCast arg22
  let c0_61 : Index := 0#32
  ![0, 0, 0, v116.toNat, 0]
def k0_off108 (i : grid0.Coords) (k0_t8 : Fin k0_t8_loop.trips) : Fin 1 → Nat :=
  let arg0 : BitVec 32 := BitVec.ofNat 32 (i 0).val
  let c2_i32_51 : BitVec 32 := 2#32
  let v102 : BitVec 32 := Scalar.muli arg0 c2_i32_51
  let c1_i32_52 : BitVec 32 := 1#32
  let v103 : BitVec 32 := Scalar.addi v102 c1_i32_52
  let c5_i32_53 : BitVec 32 := 5#32
  let v104 : BitVec 32 := Scalar.muli v103 c5_i32_53
  let arg1 : BitVec 32 := BitVec.ofNat 32 (i 1).val
  let v105 : BitVec 32 := Scalar.addi v104 arg1
  let c4_i32_54 : BitVec 32 := 4#32
  let v106 : BitVec 32 := Scalar.muli v105 c4_i32_54
  let c0_i32_32 : BitVec 32 := 0#32
  let c1_i32_33 : BitVec 32 := 1#32
  let arg22 : BitVec 32 := Scf.iv c0_i32_32 c1_i32_33 k0_t8
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v107 : BitVec 32 := Scalar.addi v106 v95
  let v121 : Index := Scalar.indexCast v107
  ![v121.toNat]
def k0_off109 (k0_t8 : Fin k0_t8_loop.trips) : Fin 6 → Nat :=
  let c0_69 : Index := 0#32
  let c1 : Index := 1#32
  let c0_70 : Index := 0#32
  let c0_i32_32 : BitVec 32 := 0#32
  let c1_i32_33 : BitVec 32 := 1#32
  let arg22 : BitVec 32 := Scf.iv c0_i32_32 c1_i32_33 k0_t8
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v151 : Index := Scalar.indexCast v95
  let c0_71 : Index := 0#32
  let c0_72 : Index := 0#32
  ![0, 1, 0, v151.toNat, 0, 0]
def k0_off110 (k0_t8 : Fin k0_t8_loop.trips) : Fin 4 → Nat :=
  let c1_74 : Index := 1#32
  let c0_i32_32 : BitVec 32 := 0#32
  let c1_i32_33 : BitVec 32 := 1#32
  let arg22 : BitVec 32 := Scf.iv c0_i32_32 c1_i32_33 k0_t8
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v155 : Index := Scalar.indexCast v95
  let c0_75 : Index := 0#32
  let c0_76 : Index := 0#32
  ![1, v155.toNat, 0, 0]
def k0_off111 (k0_t8 : Fin k0_t8_loop.trips) : Fin 4 → Nat :=
  let c1_79 : Index := 1#32
  let c0_i32_32 : BitVec 32 := 0#32
  let c1_i32_33 : BitVec 32 := 1#32
  let arg22 : BitVec 32 := Scf.iv c0_i32_32 c1_i32_33 k0_t8
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v171 : Index := Scalar.indexCast v95
  let c0_80 : Index := 0#32
  let c0_81 : Index := 0#32
  ![1, v171.toNat, 0, 0]
@[reducible] def k0_t9_loop : Scf.Loop 32 :=
  let c0_i32_32 : BitVec 32 := 0#32
  let c28_i32 : BitVec 32 := 28#32
  let v78 : BitVec 32 := Scalar.addi c0_i32_32 c28_i32
  let c1_i32_33 : BitVec 32 := 1#32
  ⟨c0_i32_32, v78, c1_i32_33⟩
def k0_off112 (k0_t9 : Fin k0_t9_loop.trips) : Fin 6 → Nat :=
  let c0_41 : Index := 0#32
  let c0_42 : Index := 0#32
  let c0_43 : Index := 0#32
  let c0_i32_32 : BitVec 32 := 0#32
  let c1_i32_33 : BitVec 32 := 1#32
  let arg22 : BitVec 32 := Scf.iv c0_i32_32 c1_i32_33 k0_t9
  let v96 : Index := Scalar.indexCast arg22
  let c0_44 : Index := 0#32
  let c0_45 : Index := 0#32
  ![0, 0, 0, v96.toNat, 0, 0]
def k0_off113 (i : grid0.Coords) (k0_t9 : Fin k0_t9_loop.trips) : Fin 1 → Nat :=
  let arg0 : BitVec 32 := BitVec.ofNat 32 (i 0).val
  let c2_i32_55 : BitVec 32 := 2#32
  let v108 : BitVec 32 := Scalar.muli arg0 c2_i32_55
  let arg2 : BitVec 32 := BitVec.ofNat 32 (i 2).val
  let v109 : BitVec 32 := Scalar.addi v108 arg2
  let c5_i32_56 : BitVec 32 := 5#32
  let v110 : BitVec 32 := Scalar.muli v109 c5_i32_56
  let arg1 : BitVec 32 := BitVec.ofNat 32 (i 1).val
  let v111 : BitVec 32 := Scalar.addi v110 arg1
  let c28_i32_57 : BitVec 32 := 28#32
  let v112 : BitVec 32 := Scalar.muli v111 c28_i32_57
  let c0_i32_32 : BitVec 32 := 0#32
  let c1_i32_33 : BitVec 32 := 1#32
  let arg22 : BitVec 32 := Scf.iv c0_i32_32 c1_i32_33 k0_t9
  let v113 : BitVec 32 := Scalar.addi v112 arg22
  let v114 : Index := Scalar.indexCast v113
  ![v114.toNat]
def k0_off114 (k0_t9 : Fin k0_t9_loop.trips) : Fin 5 → Nat :=
  let c0_58 : Index := 0#32
  let c0_59 : Index := 0#32
  let c0_60 : Index := 0#32
  let c0_i32_32 : BitVec 32 := 0#32
  let c1_i32_33 : BitVec 32 := 1#32
  let arg22 : BitVec 32 := Scf.iv c0_i32_32 c1_i32_33 k0_t9
  let v116 : Index := Scalar.indexCast arg22
  let c0_61 : Index := 0#32
  ![0, 0, 0, v116.toNat, 0]
def k0_off115 (i : grid0.Coords) (k0_t9 : Fin k0_t9_loop.trips) : Fin 1 → Nat :=
  let arg0 : BitVec 32 := BitVec.ofNat 32 (i 0).val
  let c2_i32_51 : BitVec 32 := 2#32
  let v102 : BitVec 32 := Scalar.muli arg0 c2_i32_51
  let c1_i32_52 : BitVec 32 := 1#32
  let v103 : BitVec 32 := Scalar.addi v102 c1_i32_52
  let c5_i32_53 : BitVec 32 := 5#32
  let v104 : BitVec 32 := Scalar.muli v103 c5_i32_53
  let arg1 : BitVec 32 := BitVec.ofNat 32 (i 1).val
  let v105 : BitVec 32 := Scalar.addi v104 arg1
  let c4_i32_54 : BitVec 32 := 4#32
  let v106 : BitVec 32 := Scalar.muli v105 c4_i32_54
  let c0_i32_32 : BitVec 32 := 0#32
  let c1_i32_33 : BitVec 32 := 1#32
  let arg22 : BitVec 32 := Scf.iv c0_i32_32 c1_i32_33 k0_t9
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v107 : BitVec 32 := Scalar.addi v106 v95
  let v121 : Index := Scalar.indexCast v107
  ![v121.toNat]
def k0_off116 (k0_t9 : Fin k0_t9_loop.trips) : Fin 6 → Nat :=
  let c0_69 : Index := 0#32
  let c1 : Index := 1#32
  let c0_70 : Index := 0#32
  let c0_i32_32 : BitVec 32 := 0#32
  let c1_i32_33 : BitVec 32 := 1#32
  let arg22 : BitVec 32 := Scf.iv c0_i32_32 c1_i32_33 k0_t9
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v151 : Index := Scalar.indexCast v95
  let c0_71 : Index := 0#32
  let c0_72 : Index := 0#32
  ![0, 1, 0, v151.toNat, 0, 0]
def k0_off117 (k0_t9 : Fin k0_t9_loop.trips) : Fin 4 → Nat :=
  let c1_74 : Index := 1#32
  let c0_i32_32 : BitVec 32 := 0#32
  let c1_i32_33 : BitVec 32 := 1#32
  let arg22 : BitVec 32 := Scf.iv c0_i32_32 c1_i32_33 k0_t9
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v155 : Index := Scalar.indexCast v95
  let c0_75 : Index := 0#32
  let c0_76 : Index := 0#32
  ![1, v155.toNat, 0, 0]
def k0_off118 (k0_t9 : Fin k0_t9_loop.trips) : Fin 4 → Nat :=
  let c1_78 : Index := 1#32
  let c0_i32_32 : BitVec 32 := 0#32
  let c1_i32_33 : BitVec 32 := 1#32
  let arg22 : BitVec 32 := Scf.iv c0_i32_32 c1_i32_33 k0_t9
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v166 : Index := Scalar.indexCast v95
  let c0_79 : Index := 0#32
  let c0_80 : Index := 0#32
  ![1, v166.toNat, 0, 0]
def k0_off119 (k0_t9 : Fin k0_t9_loop.trips) : Fin 6 → Nat :=
  let c0_96 : Index := 0#32
  let c1_97 : Index := 1#32
  let c0_98 : Index := 0#32
  let c0_i32_32 : BitVec 32 := 0#32
  let c1_i32_33 : BitVec 32 := 1#32
  let arg22 : BitVec 32 := Scf.iv c0_i32_32 c1_i32_33 k0_t9
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v189 : Index := Scalar.indexCast v95
  let c256 : Index := 256#32
  let c0_99 : Index := 0#32
  ![0, 1, 0, v189.toNat, 256, 0]
def k0_off120 (k0_t9 : Fin k0_t9_loop.trips) : Fin 4 → Nat :=
  let c1_101 : Index := 1#32
  let c0_i32_32 : BitVec 32 := 0#32
  let c1_i32_33 : BitVec 32 := 1#32
  let arg22 : BitVec 32 := Scf.iv c0_i32_32 c1_i32_33 k0_t9
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v193 : Index := Scalar.indexCast v95
  let c256_102 : Index := 256#32
  let c0_103 : Index := 0#32
  ![1, v193.toNat, 256, 0]
def k0_off121 (k0_t9 : Fin k0_t9_loop.trips) : Fin 4 → Nat :=
  let c1_106 : Index := 1#32
  let c0_i32_32 : BitVec 32 := 0#32
  let c1_i32_33 : BitVec 32 := 1#32
  let arg22 : BitVec 32 := Scf.iv c0_i32_32 c1_i32_33 k0_t9
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v209 : Index := Scalar.indexCast v95
  let c0_107 : Index := 0#32
  let c256_108 : Index := 256#32
  ![1, v209.toNat, 0, 256]
@[reducible] def k0_t10_loop : Scf.Loop 32 :=
  let c0_i32_32 : BitVec 32 := 0#32
  let c28_i32 : BitVec 32 := 28#32
  let v78 : BitVec 32 := Scalar.addi c0_i32_32 c28_i32
  let c1_i32_33 : BitVec 32 := 1#32
  ⟨c0_i32_32, v78, c1_i32_33⟩
def k0_off122 (k0_t10 : Fin k0_t10_loop.trips) : Fin 6 → Nat :=
  let c0_41 : Index := 0#32
  let c0_42 : Index := 0#32
  let c0_43 : Index := 0#32
  let c0_i32_32 : BitVec 32 := 0#32
  let c1_i32_33 : BitVec 32 := 1#32
  let arg22 : BitVec 32 := Scf.iv c0_i32_32 c1_i32_33 k0_t10
  let v96 : Index := Scalar.indexCast arg22
  let c0_44 : Index := 0#32
  let c0_45 : Index := 0#32
  ![0, 0, 0, v96.toNat, 0, 0]
def k0_off123 (i : grid0.Coords) (k0_t10 : Fin k0_t10_loop.trips) : Fin 1 → Nat :=
  let arg0 : BitVec 32 := BitVec.ofNat 32 (i 0).val
  let c2_i32_55 : BitVec 32 := 2#32
  let v108 : BitVec 32 := Scalar.muli arg0 c2_i32_55
  let arg2 : BitVec 32 := BitVec.ofNat 32 (i 2).val
  let v109 : BitVec 32 := Scalar.addi v108 arg2
  let c5_i32_56 : BitVec 32 := 5#32
  let v110 : BitVec 32 := Scalar.muli v109 c5_i32_56
  let arg1 : BitVec 32 := BitVec.ofNat 32 (i 1).val
  let v111 : BitVec 32 := Scalar.addi v110 arg1
  let c28_i32_57 : BitVec 32 := 28#32
  let v112 : BitVec 32 := Scalar.muli v111 c28_i32_57
  let c0_i32_32 : BitVec 32 := 0#32
  let c1_i32_33 : BitVec 32 := 1#32
  let arg22 : BitVec 32 := Scf.iv c0_i32_32 c1_i32_33 k0_t10
  let v113 : BitVec 32 := Scalar.addi v112 arg22
  let v114 : Index := Scalar.indexCast v113
  ![v114.toNat]
def k0_off124 (k0_t10 : Fin k0_t10_loop.trips) : Fin 5 → Nat :=
  let c0_58 : Index := 0#32
  let c0_59 : Index := 0#32
  let c0_60 : Index := 0#32
  let c0_i32_32 : BitVec 32 := 0#32
  let c1_i32_33 : BitVec 32 := 1#32
  let arg22 : BitVec 32 := Scf.iv c0_i32_32 c1_i32_33 k0_t10
  let v116 : Index := Scalar.indexCast arg22
  let c0_61 : Index := 0#32
  ![0, 0, 0, v116.toNat, 0]
def k0_off125 (i : grid0.Coords) (k0_t10 : Fin k0_t10_loop.trips) : Fin 1 → Nat :=
  let arg0 : BitVec 32 := BitVec.ofNat 32 (i 0).val
  let c2_i32_51 : BitVec 32 := 2#32
  let v102 : BitVec 32 := Scalar.muli arg0 c2_i32_51
  let c1_i32_52 : BitVec 32 := 1#32
  let v103 : BitVec 32 := Scalar.addi v102 c1_i32_52
  let c5_i32_53 : BitVec 32 := 5#32
  let v104 : BitVec 32 := Scalar.muli v103 c5_i32_53
  let arg1 : BitVec 32 := BitVec.ofNat 32 (i 1).val
  let v105 : BitVec 32 := Scalar.addi v104 arg1
  let c4_i32_54 : BitVec 32 := 4#32
  let v106 : BitVec 32 := Scalar.muli v105 c4_i32_54
  let c0_i32_32 : BitVec 32 := 0#32
  let c1_i32_33 : BitVec 32 := 1#32
  let arg22 : BitVec 32 := Scf.iv c0_i32_32 c1_i32_33 k0_t10
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v107 : BitVec 32 := Scalar.addi v106 v95
  let v121 : Index := Scalar.indexCast v107
  ![v121.toNat]
def k0_off126 (k0_t10 : Fin k0_t10_loop.trips) : Fin 6 → Nat :=
  let c0_69 : Index := 0#32
  let c1 : Index := 1#32
  let c0_70 : Index := 0#32
  let c0_i32_32 : BitVec 32 := 0#32
  let c1_i32_33 : BitVec 32 := 1#32
  let arg22 : BitVec 32 := Scf.iv c0_i32_32 c1_i32_33 k0_t10
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v151 : Index := Scalar.indexCast v95
  let c0_71 : Index := 0#32
  let c0_72 : Index := 0#32
  ![0, 1, 0, v151.toNat, 0, 0]
def k0_off127 (k0_t10 : Fin k0_t10_loop.trips) : Fin 4 → Nat :=
  let c1_74 : Index := 1#32
  let c0_i32_32 : BitVec 32 := 0#32
  let c1_i32_33 : BitVec 32 := 1#32
  let arg22 : BitVec 32 := Scf.iv c0_i32_32 c1_i32_33 k0_t10
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v155 : Index := Scalar.indexCast v95
  let c0_75 : Index := 0#32
  let c0_76 : Index := 0#32
  ![1, v155.toNat, 0, 0]
def k0_off128 (k0_t10 : Fin k0_t10_loop.trips) : Fin 4 → Nat :=
  let c1_78 : Index := 1#32
  let c0_i32_32 : BitVec 32 := 0#32
  let c1_i32_33 : BitVec 32 := 1#32
  let arg22 : BitVec 32 := Scf.iv c0_i32_32 c1_i32_33 k0_t10
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v166 : Index := Scalar.indexCast v95
  let c0_79 : Index := 0#32
  let c0_80 : Index := 0#32
  ![1, v166.toNat, 0, 0]
def k0_off129 (k0_t10 : Fin k0_t10_loop.trips) : Fin 6 → Nat :=
  let c0_96 : Index := 0#32
  let c1_97 : Index := 1#32
  let c0_98 : Index := 0#32
  let c0_i32_32 : BitVec 32 := 0#32
  let c1_i32_33 : BitVec 32 := 1#32
  let arg22 : BitVec 32 := Scf.iv c0_i32_32 c1_i32_33 k0_t10
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v189 : Index := Scalar.indexCast v95
  let c256 : Index := 256#32
  let c0_99 : Index := 0#32
  ![0, 1, 0, v189.toNat, 256, 0]
def k0_off130 (k0_t10 : Fin k0_t10_loop.trips) : Fin 4 → Nat :=
  let c1_101 : Index := 1#32
  let c0_i32_32 : BitVec 32 := 0#32
  let c1_i32_33 : BitVec 32 := 1#32
  let arg22 : BitVec 32 := Scf.iv c0_i32_32 c1_i32_33 k0_t10
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v193 : Index := Scalar.indexCast v95
  let c256_102 : Index := 256#32
  let c0_103 : Index := 0#32
  ![1, v193.toNat, 256, 0]
def k0_off131 (k0_t10 : Fin k0_t10_loop.trips) : Fin 4 → Nat :=
  let c1_105 : Index := 1#32
  let c0_i32_32 : BitVec 32 := 0#32
  let c1_i32_33 : BitVec 32 := 1#32
  let arg22 : BitVec 32 := Scf.iv c0_i32_32 c1_i32_33 k0_t10
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v204 : Index := Scalar.indexCast v95
  let c0_106 : Index := 0#32
  let c256_107 : Index := 256#32
  ![1, v204.toNat, 0, 256]
def k0_off132 (k0_t10 : Fin k0_t10_loop.trips) : Fin 6 → Nat :=
  let c0_123 : Index := 0#32
  let c1_124 : Index := 1#32
  let c0_125 : Index := 0#32
  let c0_i32_32 : BitVec 32 := 0#32
  let c1_i32_33 : BitVec 32 := 1#32
  let arg22 : BitVec 32 := Scf.iv c0_i32_32 c1_i32_33 k0_t10
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v228 : Index := Scalar.indexCast v95
  let c512 : Index := 512#32
  let c0_126 : Index := 0#32
  ![0, 1, 0, v228.toNat, 512, 0]
def k0_off133 (k0_t10 : Fin k0_t10_loop.trips) : Fin 4 → Nat :=
  let c1_128 : Index := 1#32
  let c0_i32_32 : BitVec 32 := 0#32
  let c1_i32_33 : BitVec 32 := 1#32
  let arg22 : BitVec 32 := Scf.iv c0_i32_32 c1_i32_33 k0_t10
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v232 : Index := Scalar.indexCast v95
  let c512_129 : Index := 512#32
  let c0_130 : Index := 0#32
  ![1, v232.toNat, 512, 0]
def k0_off134 (k0_t10 : Fin k0_t10_loop.trips) : Fin 4 → Nat :=
  let c1_133 : Index := 1#32
  let c0_i32_32 : BitVec 32 := 0#32
  let c1_i32_33 : BitVec 32 := 1#32
  let arg22 : BitVec 32 := Scf.iv c0_i32_32 c1_i32_33 k0_t10
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v248 : Index := Scalar.indexCast v95
  let c0_134 : Index := 0#32
  let c512_135 : Index := 512#32
  ![1, v248.toNat, 0, 512]
@[reducible] def k0_t11_loop : Scf.Loop 32 :=
  let c0_i32_32 : BitVec 32 := 0#32
  let c28_i32 : BitVec 32 := 28#32
  let v78 : BitVec 32 := Scalar.addi c0_i32_32 c28_i32
  let c1_i32_33 : BitVec 32 := 1#32
  ⟨c0_i32_32, v78, c1_i32_33⟩
def k0_off135 (k0_t11 : Fin k0_t11_loop.trips) : Fin 6 → Nat :=
  let c0_41 : Index := 0#32
  let c0_42 : Index := 0#32
  let c0_43 : Index := 0#32
  let c0_i32_32 : BitVec 32 := 0#32
  let c1_i32_33 : BitVec 32 := 1#32
  let arg22 : BitVec 32 := Scf.iv c0_i32_32 c1_i32_33 k0_t11
  let v96 : Index := Scalar.indexCast arg22
  let c0_44 : Index := 0#32
  let c0_45 : Index := 0#32
  ![0, 0, 0, v96.toNat, 0, 0]
def k0_off136 (i : grid0.Coords) (k0_t11 : Fin k0_t11_loop.trips) : Fin 1 → Nat :=
  let arg0 : BitVec 32 := BitVec.ofNat 32 (i 0).val
  let c2_i32_55 : BitVec 32 := 2#32
  let v108 : BitVec 32 := Scalar.muli arg0 c2_i32_55
  let arg2 : BitVec 32 := BitVec.ofNat 32 (i 2).val
  let v109 : BitVec 32 := Scalar.addi v108 arg2
  let c5_i32_56 : BitVec 32 := 5#32
  let v110 : BitVec 32 := Scalar.muli v109 c5_i32_56
  let arg1 : BitVec 32 := BitVec.ofNat 32 (i 1).val
  let v111 : BitVec 32 := Scalar.addi v110 arg1
  let c28_i32_57 : BitVec 32 := 28#32
  let v112 : BitVec 32 := Scalar.muli v111 c28_i32_57
  let c0_i32_32 : BitVec 32 := 0#32
  let c1_i32_33 : BitVec 32 := 1#32
  let arg22 : BitVec 32 := Scf.iv c0_i32_32 c1_i32_33 k0_t11
  let v113 : BitVec 32 := Scalar.addi v112 arg22
  let v114 : Index := Scalar.indexCast v113
  ![v114.toNat]
def k0_off137 (k0_t11 : Fin k0_t11_loop.trips) : Fin 5 → Nat :=
  let c0_58 : Index := 0#32
  let c0_59 : Index := 0#32
  let c0_60 : Index := 0#32
  let c0_i32_32 : BitVec 32 := 0#32
  let c1_i32_33 : BitVec 32 := 1#32
  let arg22 : BitVec 32 := Scf.iv c0_i32_32 c1_i32_33 k0_t11
  let v116 : Index := Scalar.indexCast arg22
  let c0_61 : Index := 0#32
  ![0, 0, 0, v116.toNat, 0]
def k0_off138 (i : grid0.Coords) (k0_t11 : Fin k0_t11_loop.trips) : Fin 1 → Nat :=
  let arg0 : BitVec 32 := BitVec.ofNat 32 (i 0).val
  let c2_i32_51 : BitVec 32 := 2#32
  let v102 : BitVec 32 := Scalar.muli arg0 c2_i32_51
  let c1_i32_52 : BitVec 32 := 1#32
  let v103 : BitVec 32 := Scalar.addi v102 c1_i32_52
  let c5_i32_53 : BitVec 32 := 5#32
  let v104 : BitVec 32 := Scalar.muli v103 c5_i32_53
  let arg1 : BitVec 32 := BitVec.ofNat 32 (i 1).val
  let v105 : BitVec 32 := Scalar.addi v104 arg1
  let c4_i32_54 : BitVec 32 := 4#32
  let v106 : BitVec 32 := Scalar.muli v105 c4_i32_54
  let c0_i32_32 : BitVec 32 := 0#32
  let c1_i32_33 : BitVec 32 := 1#32
  let arg22 : BitVec 32 := Scf.iv c0_i32_32 c1_i32_33 k0_t11
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v107 : BitVec 32 := Scalar.addi v106 v95
  let v121 : Index := Scalar.indexCast v107
  ![v121.toNat]
def k0_off139 (k0_t11 : Fin k0_t11_loop.trips) : Fin 6 → Nat :=
  let c0_69 : Index := 0#32
  let c1 : Index := 1#32
  let c0_70 : Index := 0#32
  let c0_i32_32 : BitVec 32 := 0#32
  let c1_i32_33 : BitVec 32 := 1#32
  let arg22 : BitVec 32 := Scf.iv c0_i32_32 c1_i32_33 k0_t11
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v151 : Index := Scalar.indexCast v95
  let c0_71 : Index := 0#32
  let c0_72 : Index := 0#32
  ![0, 1, 0, v151.toNat, 0, 0]
def k0_off140 (k0_t11 : Fin k0_t11_loop.trips) : Fin 4 → Nat :=
  let c1_74 : Index := 1#32
  let c0_i32_32 : BitVec 32 := 0#32
  let c1_i32_33 : BitVec 32 := 1#32
  let arg22 : BitVec 32 := Scf.iv c0_i32_32 c1_i32_33 k0_t11
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v155 : Index := Scalar.indexCast v95
  let c0_75 : Index := 0#32
  let c0_76 : Index := 0#32
  ![1, v155.toNat, 0, 0]
def k0_off141 (k0_t11 : Fin k0_t11_loop.trips) : Fin 4 → Nat :=
  let c1_78 : Index := 1#32
  let c0_i32_32 : BitVec 32 := 0#32
  let c1_i32_33 : BitVec 32 := 1#32
  let arg22 : BitVec 32 := Scf.iv c0_i32_32 c1_i32_33 k0_t11
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v166 : Index := Scalar.indexCast v95
  let c0_79 : Index := 0#32
  let c0_80 : Index := 0#32
  ![1, v166.toNat, 0, 0]
def k0_off142 (k0_t11 : Fin k0_t11_loop.trips) : Fin 6 → Nat :=
  let c0_96 : Index := 0#32
  let c1_97 : Index := 1#32
  let c0_98 : Index := 0#32
  let c0_i32_32 : BitVec 32 := 0#32
  let c1_i32_33 : BitVec 32 := 1#32
  let arg22 : BitVec 32 := Scf.iv c0_i32_32 c1_i32_33 k0_t11
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v189 : Index := Scalar.indexCast v95
  let c256 : Index := 256#32
  let c0_99 : Index := 0#32
  ![0, 1, 0, v189.toNat, 256, 0]
def k0_off143 (k0_t11 : Fin k0_t11_loop.trips) : Fin 4 → Nat :=
  let c1_101 : Index := 1#32
  let c0_i32_32 : BitVec 32 := 0#32
  let c1_i32_33 : BitVec 32 := 1#32
  let arg22 : BitVec 32 := Scf.iv c0_i32_32 c1_i32_33 k0_t11
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v193 : Index := Scalar.indexCast v95
  let c256_102 : Index := 256#32
  let c0_103 : Index := 0#32
  ![1, v193.toNat, 256, 0]
def k0_off144 (k0_t11 : Fin k0_t11_loop.trips) : Fin 4 → Nat :=
  let c1_105 : Index := 1#32
  let c0_i32_32 : BitVec 32 := 0#32
  let c1_i32_33 : BitVec 32 := 1#32
  let arg22 : BitVec 32 := Scf.iv c0_i32_32 c1_i32_33 k0_t11
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v204 : Index := Scalar.indexCast v95
  let c0_106 : Index := 0#32
  let c256_107 : Index := 256#32
  ![1, v204.toNat, 0, 256]
def k0_off145 (k0_t11 : Fin k0_t11_loop.trips) : Fin 6 → Nat :=
  let c0_123 : Index := 0#32
  let c1_124 : Index := 1#32
  let c0_125 : Index := 0#32
  let c0_i32_32 : BitVec 32 := 0#32
  let c1_i32_33 : BitVec 32 := 1#32
  let arg22 : BitVec 32 := Scf.iv c0_i32_32 c1_i32_33 k0_t11
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v228 : Index := Scalar.indexCast v95
  let c512 : Index := 512#32
  let c0_126 : Index := 0#32
  ![0, 1, 0, v228.toNat, 512, 0]
def k0_off146 (k0_t11 : Fin k0_t11_loop.trips) : Fin 4 → Nat :=
  let c1_128 : Index := 1#32
  let c0_i32_32 : BitVec 32 := 0#32
  let c1_i32_33 : BitVec 32 := 1#32
  let arg22 : BitVec 32 := Scf.iv c0_i32_32 c1_i32_33 k0_t11
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v232 : Index := Scalar.indexCast v95
  let c512_129 : Index := 512#32
  let c0_130 : Index := 0#32
  ![1, v232.toNat, 512, 0]
def k0_off147 (k0_t11 : Fin k0_t11_loop.trips) : Fin 4 → Nat :=
  let c1_132 : Index := 1#32
  let c0_i32_32 : BitVec 32 := 0#32
  let c1_i32_33 : BitVec 32 := 1#32
  let arg22 : BitVec 32 := Scf.iv c0_i32_32 c1_i32_33 k0_t11
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v243 : Index := Scalar.indexCast v95
  let c0_133 : Index := 0#32
  let c512_134 : Index := 512#32
  ![1, v243.toNat, 0, 512]
def k0_off148 (k0_t11 : Fin k0_t11_loop.trips) : Fin 6 → Nat :=
  let c0_150 : Index := 0#32
  let c1_151 : Index := 1#32
  let c0_152 : Index := 0#32
  let c0_i32_32 : BitVec 32 := 0#32
  let c1_i32_33 : BitVec 32 := 1#32
  let arg22 : BitVec 32 := Scf.iv c0_i32_32 c1_i32_33 k0_t11
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v267 : Index := Scalar.indexCast v95
  let c768 : Index := 768#32
  let c0_153 : Index := 0#32
  ![0, 1, 0, v267.toNat, 768, 0]
def k0_off149 (k0_t11 : Fin k0_t11_loop.trips) : Fin 4 → Nat :=
  let c1_155 : Index := 1#32
  let c0_i32_32 : BitVec 32 := 0#32
  let c1_i32_33 : BitVec 32 := 1#32
  let arg22 : BitVec 32 := Scf.iv c0_i32_32 c1_i32_33 k0_t11
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v271 : Index := Scalar.indexCast v95
  let c768_156 : Index := 768#32
  let c0_157 : Index := 0#32
  ![1, v271.toNat, 768, 0]
def k0_off150 (k0_t11 : Fin k0_t11_loop.trips) : Fin 4 → Nat :=
  let c1_160 : Index := 1#32
  let c0_i32_32 : BitVec 32 := 0#32
  let c1_i32_33 : BitVec 32 := 1#32
  let arg22 : BitVec 32 := Scf.iv c0_i32_32 c1_i32_33 k0_t11
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v287 : Index := Scalar.indexCast v95
  let c0_161 : Index := 0#32
  let c768_162 : Index := 768#32
  ![1, v287.toNat, 0, 768]
@[reducible] def k0_t12_loop : Scf.Loop 32 :=
  let c0_i32_32 : BitVec 32 := 0#32
  let c28_i32 : BitVec 32 := 28#32
  let v78 : BitVec 32 := Scalar.addi c0_i32_32 c28_i32
  let c1_i32_33 : BitVec 32 := 1#32
  ⟨c0_i32_32, v78, c1_i32_33⟩
def k0_off151 (k0_t12 : Fin k0_t12_loop.trips) : Fin 6 → Nat :=
  let c0_41 : Index := 0#32
  let c0_42 : Index := 0#32
  let c0_43 : Index := 0#32
  let c0_i32_32 : BitVec 32 := 0#32
  let c1_i32_33 : BitVec 32 := 1#32
  let arg22 : BitVec 32 := Scf.iv c0_i32_32 c1_i32_33 k0_t12
  let v96 : Index := Scalar.indexCast arg22
  let c0_44 : Index := 0#32
  let c0_45 : Index := 0#32
  ![0, 0, 0, v96.toNat, 0, 0]
def k0_off152 (i : grid0.Coords) (k0_t12 : Fin k0_t12_loop.trips) : Fin 1 → Nat :=
  let arg0 : BitVec 32 := BitVec.ofNat 32 (i 0).val
  let c2_i32_55 : BitVec 32 := 2#32
  let v108 : BitVec 32 := Scalar.muli arg0 c2_i32_55
  let arg2 : BitVec 32 := BitVec.ofNat 32 (i 2).val
  let v109 : BitVec 32 := Scalar.addi v108 arg2
  let c5_i32_56 : BitVec 32 := 5#32
  let v110 : BitVec 32 := Scalar.muli v109 c5_i32_56
  let arg1 : BitVec 32 := BitVec.ofNat 32 (i 1).val
  let v111 : BitVec 32 := Scalar.addi v110 arg1
  let c28_i32_57 : BitVec 32 := 28#32
  let v112 : BitVec 32 := Scalar.muli v111 c28_i32_57
  let c0_i32_32 : BitVec 32 := 0#32
  let c1_i32_33 : BitVec 32 := 1#32
  let arg22 : BitVec 32 := Scf.iv c0_i32_32 c1_i32_33 k0_t12
  let v113 : BitVec 32 := Scalar.addi v112 arg22
  let v114 : Index := Scalar.indexCast v113
  ![v114.toNat]
def k0_off153 (k0_t12 : Fin k0_t12_loop.trips) : Fin 5 → Nat :=
  let c0_58 : Index := 0#32
  let c0_59 : Index := 0#32
  let c0_60 : Index := 0#32
  let c0_i32_32 : BitVec 32 := 0#32
  let c1_i32_33 : BitVec 32 := 1#32
  let arg22 : BitVec 32 := Scf.iv c0_i32_32 c1_i32_33 k0_t12
  let v116 : Index := Scalar.indexCast arg22
  let c0_61 : Index := 0#32
  ![0, 0, 0, v116.toNat, 0]
def k0_off154 (i : grid0.Coords) (k0_t12 : Fin k0_t12_loop.trips) : Fin 1 → Nat :=
  let arg0 : BitVec 32 := BitVec.ofNat 32 (i 0).val
  let c2_i32_51 : BitVec 32 := 2#32
  let v102 : BitVec 32 := Scalar.muli arg0 c2_i32_51
  let c1_i32_52 : BitVec 32 := 1#32
  let v103 : BitVec 32 := Scalar.addi v102 c1_i32_52
  let c5_i32_53 : BitVec 32 := 5#32
  let v104 : BitVec 32 := Scalar.muli v103 c5_i32_53
  let arg1 : BitVec 32 := BitVec.ofNat 32 (i 1).val
  let v105 : BitVec 32 := Scalar.addi v104 arg1
  let c4_i32_54 : BitVec 32 := 4#32
  let v106 : BitVec 32 := Scalar.muli v105 c4_i32_54
  let c0_i32_32 : BitVec 32 := 0#32
  let c1_i32_33 : BitVec 32 := 1#32
  let arg22 : BitVec 32 := Scf.iv c0_i32_32 c1_i32_33 k0_t12
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v107 : BitVec 32 := Scalar.addi v106 v95
  let v121 : Index := Scalar.indexCast v107
  ![v121.toNat]
def k0_off155 (k0_t12 : Fin k0_t12_loop.trips) : Fin 6 → Nat :=
  let c0_69 : Index := 0#32
  let c1 : Index := 1#32
  let c0_70 : Index := 0#32
  let c0_i32_32 : BitVec 32 := 0#32
  let c1_i32_33 : BitVec 32 := 1#32
  let arg22 : BitVec 32 := Scf.iv c0_i32_32 c1_i32_33 k0_t12
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v151 : Index := Scalar.indexCast v95
  let c0_71 : Index := 0#32
  let c0_72 : Index := 0#32
  ![0, 1, 0, v151.toNat, 0, 0]
def k0_off156 (k0_t12 : Fin k0_t12_loop.trips) : Fin 4 → Nat :=
  let c1_74 : Index := 1#32
  let c0_i32_32 : BitVec 32 := 0#32
  let c1_i32_33 : BitVec 32 := 1#32
  let arg22 : BitVec 32 := Scf.iv c0_i32_32 c1_i32_33 k0_t12
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v155 : Index := Scalar.indexCast v95
  let c0_75 : Index := 0#32
  let c0_76 : Index := 0#32
  ![1, v155.toNat, 0, 0]
def k0_off157 (k0_t12 : Fin k0_t12_loop.trips) : Fin 4 → Nat :=
  let c1_78 : Index := 1#32
  let c0_i32_32 : BitVec 32 := 0#32
  let c1_i32_33 : BitVec 32 := 1#32
  let arg22 : BitVec 32 := Scf.iv c0_i32_32 c1_i32_33 k0_t12
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v166 : Index := Scalar.indexCast v95
  let c0_79 : Index := 0#32
  let c0_80 : Index := 0#32
  ![1, v166.toNat, 0, 0]
def k0_off158 (k0_t12 : Fin k0_t12_loop.trips) : Fin 6 → Nat :=
  let c0_96 : Index := 0#32
  let c1_97 : Index := 1#32
  let c0_98 : Index := 0#32
  let c0_i32_32 : BitVec 32 := 0#32
  let c1_i32_33 : BitVec 32 := 1#32
  let arg22 : BitVec 32 := Scf.iv c0_i32_32 c1_i32_33 k0_t12
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v189 : Index := Scalar.indexCast v95
  let c256 : Index := 256#32
  let c0_99 : Index := 0#32
  ![0, 1, 0, v189.toNat, 256, 0]
def k0_off159 (k0_t12 : Fin k0_t12_loop.trips) : Fin 4 → Nat :=
  let c1_101 : Index := 1#32
  let c0_i32_32 : BitVec 32 := 0#32
  let c1_i32_33 : BitVec 32 := 1#32
  let arg22 : BitVec 32 := Scf.iv c0_i32_32 c1_i32_33 k0_t12
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v193 : Index := Scalar.indexCast v95
  let c256_102 : Index := 256#32
  let c0_103 : Index := 0#32
  ![1, v193.toNat, 256, 0]
def k0_off160 (k0_t12 : Fin k0_t12_loop.trips) : Fin 4 → Nat :=
  let c1_105 : Index := 1#32
  let c0_i32_32 : BitVec 32 := 0#32
  let c1_i32_33 : BitVec 32 := 1#32
  let arg22 : BitVec 32 := Scf.iv c0_i32_32 c1_i32_33 k0_t12
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v204 : Index := Scalar.indexCast v95
  let c0_106 : Index := 0#32
  let c256_107 : Index := 256#32
  ![1, v204.toNat, 0, 256]
def k0_off161 (k0_t12 : Fin k0_t12_loop.trips) : Fin 6 → Nat :=
  let c0_123 : Index := 0#32
  let c1_124 : Index := 1#32
  let c0_125 : Index := 0#32
  let c0_i32_32 : BitVec 32 := 0#32
  let c1_i32_33 : BitVec 32 := 1#32
  let arg22 : BitVec 32 := Scf.iv c0_i32_32 c1_i32_33 k0_t12
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v228 : Index := Scalar.indexCast v95
  let c512 : Index := 512#32
  let c0_126 : Index := 0#32
  ![0, 1, 0, v228.toNat, 512, 0]
def k0_off162 (k0_t12 : Fin k0_t12_loop.trips) : Fin 4 → Nat :=
  let c1_128 : Index := 1#32
  let c0_i32_32 : BitVec 32 := 0#32
  let c1_i32_33 : BitVec 32 := 1#32
  let arg22 : BitVec 32 := Scf.iv c0_i32_32 c1_i32_33 k0_t12
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v232 : Index := Scalar.indexCast v95
  let c512_129 : Index := 512#32
  let c0_130 : Index := 0#32
  ![1, v232.toNat, 512, 0]
def k0_off163 (k0_t12 : Fin k0_t12_loop.trips) : Fin 4 → Nat :=
  let c1_132 : Index := 1#32
  let c0_i32_32 : BitVec 32 := 0#32
  let c1_i32_33 : BitVec 32 := 1#32
  let arg22 : BitVec 32 := Scf.iv c0_i32_32 c1_i32_33 k0_t12
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v243 : Index := Scalar.indexCast v95
  let c0_133 : Index := 0#32
  let c512_134 : Index := 512#32
  ![1, v243.toNat, 0, 512]
def k0_off164 (k0_t12 : Fin k0_t12_loop.trips) : Fin 6 → Nat :=
  let c0_150 : Index := 0#32
  let c1_151 : Index := 1#32
  let c0_152 : Index := 0#32
  let c0_i32_32 : BitVec 32 := 0#32
  let c1_i32_33 : BitVec 32 := 1#32
  let arg22 : BitVec 32 := Scf.iv c0_i32_32 c1_i32_33 k0_t12
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v267 : Index := Scalar.indexCast v95
  let c768 : Index := 768#32
  let c0_153 : Index := 0#32
  ![0, 1, 0, v267.toNat, 768, 0]
def k0_off165 (k0_t12 : Fin k0_t12_loop.trips) : Fin 4 → Nat :=
  let c1_155 : Index := 1#32
  let c0_i32_32 : BitVec 32 := 0#32
  let c1_i32_33 : BitVec 32 := 1#32
  let arg22 : BitVec 32 := Scf.iv c0_i32_32 c1_i32_33 k0_t12
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v271 : Index := Scalar.indexCast v95
  let c768_156 : Index := 768#32
  let c0_157 : Index := 0#32
  ![1, v271.toNat, 768, 0]
def k0_off166 (k0_t12 : Fin k0_t12_loop.trips) : Fin 4 → Nat :=
  let c1_159 : Index := 1#32
  let c0_i32_32 : BitVec 32 := 0#32
  let c1_i32_33 : BitVec 32 := 1#32
  let arg22 : BitVec 32 := Scf.iv c0_i32_32 c1_i32_33 k0_t12
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v282 : Index := Scalar.indexCast v95
  let c0_160 : Index := 0#32
  let c768_161 : Index := 768#32
  ![1, v282.toNat, 0, 768]
def k0_off167 (k0_t12 : Fin k0_t12_loop.trips) : Fin 6 → Nat :=
  let c0_177 : Index := 0#32
  let c1_178 : Index := 1#32
  let c0_179 : Index := 0#32
  let c0_i32_32 : BitVec 32 := 0#32
  let c1_i32_33 : BitVec 32 := 1#32
  let arg22 : BitVec 32 := Scf.iv c0_i32_32 c1_i32_33 k0_t12
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v306 : Index := Scalar.indexCast v95
  let c1024 : Index := 1024#32
  let c0_180 : Index := 0#32
  ![0, 1, 0, v306.toNat, 1024, 0]
def k0_off168 (k0_t12 : Fin k0_t12_loop.trips) : Fin 4 → Nat :=
  let c1_182 : Index := 1#32
  let c0_i32_32 : BitVec 32 := 0#32
  let c1_i32_33 : BitVec 32 := 1#32
  let arg22 : BitVec 32 := Scf.iv c0_i32_32 c1_i32_33 k0_t12
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v310 : Index := Scalar.indexCast v95
  let c1024_183 : Index := 1024#32
  let c0_184 : Index := 0#32
  ![1, v310.toNat, 1024, 0]
def k0_off169 (k0_t12 : Fin k0_t12_loop.trips) : Fin 4 → Nat :=
  let c1_187 : Index := 1#32
  let c0_i32_32 : BitVec 32 := 0#32
  let c1_i32_33 : BitVec 32 := 1#32
  let arg22 : BitVec 32 := Scf.iv c0_i32_32 c1_i32_33 k0_t12
  let c0_i32_35 : BitVec 32 := 0#32
  let v80 : BitVec 1 := Scalar.cmpi .sgt arg22 c0_i32_35
  let v81 : BitVec 32 := Scalar.extui v80
  let c0_i32_36 : BitVec 32 := 0#32
  let v82 : BitVec 1 := Scalar.cmpi .slt arg22 c0_i32_36
  let v83 : BitVec 32 := Scalar.extui v82
  let v84 : BitVec 32 := Scalar.subi v81 v83
  let c7_i32 : BitVec 32 := 7#32
  let c0_i32_37 : BitVec 32 := 0#32
  let v85 : BitVec 1 := Scalar.cmpi .sgt c7_i32 c0_i32_37
  let v86 : BitVec 32 := Scalar.extui v85
  let c0_i32_38 : BitVec 32 := 0#32
  let v87 : BitVec 1 := Scalar.cmpi .slt c7_i32 c0_i32_38
  let v88 : BitVec 32 := Scalar.extui v87
  let v89 : BitVec 32 := Scalar.subi v86 v88
  let v90 : BitVec 1 := Scalar.cmpi .ne v84 v89
  let v91 : BitVec 32 := Scalar.remsi arg22 c7_i32
  let c0_i32_39 : BitVec 32 := 0#32
  let v92 : BitVec 1 := Scalar.cmpi .ne v91 c0_i32_39
  let v93 : BitVec 1 := Scalar.andi v90 v92
  let v79 : BitVec 32 := Scalar.divsi arg22 c7_i32
  let c1_i32_40 : BitVec 32 := 1#32
  let v94 : BitVec 32 := Scalar.subi v79 c1_i32_40
  let v95 : BitVec 32 := Scalar.select v93 v94 v79
  let v326 : Index := Scalar.indexCast v95
  let c0_188 : Index := 0#32
  let c1024_189 : Index := 1024#32
  ![1, v326.toNat, 0, 1024]
def k0_cond14 (i : grid0.Coords) : BitVec 1 :=
  let arg2 : BitVec 32 := BitVec.ofNat 32 (i 2).val
  let c1_i32_29 : BitVec 32 := 1#32
  let v73 : BitVec 1 := Scalar.cmpi .eq arg2 c1_i32_29
  let arg3 : BitVec 32 := BitVec.ofNat 32 (i 3).val
  let c4_i32_30 : BitVec 32 := 4#32
  let v74 : BitVec 1 := Scalar.cmpi .eq arg3 c4_i32_30
  let v75 : BitVec 1 := Scalar.andi v73 v74
  let v76 : BitVec 32 := Scalar.extui v75
  let c0_i32_31 : BitVec 32 := 0#32
  let v77 : BitVec 1 := Scalar.cmpi .ne v76 c0_i32_31
  v77

def k0_off170 (i : grid0.Coords) (c0_i32_33 : BitVec 32) (c0_i32_36 : BitVec 32) : Fin 1 → Nat :=
  let arg0 : BitVec 32 := BitVec.ofNat 32 (i 0).val
  let c2_i32_32 : BitVec 32 := 2#32
  let v78 : BitVec 32 := Scalar.muli arg0 c2_i32_32
  let v79 : BitVec 32 := Scalar.addi v78 c0_i32_33
  let c5_i32_34 : BitVec 32 := 5#32
  let v80 : BitVec 32 := Scalar.muli v79 c5_i32_34
  let arg1 : BitVec 32 := BitVec.ofNat 32 (i 1).val
  let v81 : BitVec 32 := Scalar.addi v80 arg1
  let c4_i32_35 : BitVec 32 := 4#32
  let v82 : BitVec 32 := Scalar.muli v81 c4_i32_35
  let v83 : BitVec 32 := Scalar.addi v82 c0_i32_36
  let v84 : Index := Scalar.indexCast v83
  ![v84.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_5 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg2.toNat, arg1.toNat, c0_i32.toNat, arg3.toNat, c0_i32_0.toNat]

def cc0_transform_6 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg2.toNat, arg1.toNat, c0_i32.toNat, arg3.toNat, c0_i32_0.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg2.toNat, arg1.toNat, c0_i32.toNat, arg3.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg2.toNat, arg1.toNat, c0_i32.toNat, arg3.toNat]

def cc0_transform_9 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc0_transform_10 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc0_transform_11 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg2.toNat, arg1.toNat, c0_i32.toNat, arg3.toNat, c0_i32_0.toNat]

def cc0_transform_12 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

def cc0_transform_13 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, arg1.toNat, c0_i32_0.toNat, c0_i32_1.toNat, c0_i32_2.toNat]

abbrev stage0_0 : Fin 1 → Memref sig .tc .smem S5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 1 → Memref sig .tc .smem S840 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, false]

abbrev stage0_2 : Fin 1 → Memref sig .tc .smem S120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false, false]

abbrev stage0_3 : Fin 1 → Memref sig .tc .smem S120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 1 → Memref sig .tc .smem S120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 2 → Memref sig .tc .vmem S1x1x1x28x256x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]

abbrev stage0_6 : Fin 2 → Memref sig .tc .vmem S1x1x1x28x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]

abbrev stage0_7 : Fin 2 → Memref sig .tc .vmem S1x1x1x28x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, true]

abbrev stage0_8 : Fin 2 → Memref sig .tc .vmem S1x1x1x28x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true, true]

abbrev stage0_9 : Fin 2 → Memref sig .tc .vmem S1x2x1x4x1280x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false, false]

abbrev stage0_10 : Fin 2 → Memref sig .tc .vmem S1x2x1x4x1280x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false, false]

abbrev stage0_11 : Fin 2 → Memref sig .tc .vmem S1x1x1x28x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true, true]

abbrev stage0_12 : Fin 2 → Memref sig .tc .vmem S1x2x1x4x1280x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false, false]

abbrev stage0_13 : Fin 2 → Memref sig .tc .vmem S1x2x1x4x1280x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false, false]
-- ==== KernelIdeal.lean ====
variable {F : FTy → Type} [FloatOps F] [Named F]
def κ : String → Option EReal := fun
  | "log2e" => some (((Real.log 2)⁻¹ : ℝ) : EReal)
  | "sm_log2e" => some (((11863283 / 134217728) * (Real.log 2)⁻¹ : ℝ) : EReal)
  | _ => none
-- ==== ReferenceIdeal.lean ====
abbrev S3x2x5x1280x28x128 : Shape := ⟨6, ![3, 2, 5, 1280, 28, 128]⟩
abbrev S3x2x5x28 : Shape := ⟨4, ![3, 2, 5, 28]⟩
abbrev S3x2x5x1280x4x128 : Shape := ⟨6, ![3, 2, 5, 1280, 4, 128]⟩
abbrev S3x2x5x4 : Shape := ⟨4, ![3, 2, 5, 4]⟩
abbrev S5 : Shape := ⟨1, ![5]⟩
abbrev S3x2x5x28x1280 : Shape := ⟨5, ![3, 2, 5, 28, 1280]⟩
abbrev S3 : Shape := ⟨1, ![3]⟩
abbrev S_ : Shape := ⟨0, ![]⟩
abbrev S3x1 : Shape := ⟨2, ![3, 1]⟩
abbrev S3x2 : Shape := ⟨2, ![3, 2]⟩
abbrev S1x5 : Shape := ⟨2, ![1, 5]⟩
abbrev S3x5 : Shape := ⟨2, ![3, 5]⟩
abbrev S3x5x1 : Shape := ⟨3, ![3, 5, 1]⟩
abbrev S3x5x2 : Shape := ⟨3, ![3, 5, 2]⟩
abbrev S3x2x1 : Shape := ⟨3, ![3, 2, 1]⟩
abbrev S1280 : Shape := ⟨1, ![1280]⟩
abbrev S1x1x1280 : Shape := ⟨3, ![1, 1, 1280]⟩
abbrev S3x2x1280 : Shape := ⟨3, ![3, 2, 1280]⟩
abbrev S3x2560 : Shape := ⟨2, ![3, 2560]⟩
abbrev S3x5x2x1 : Shape := ⟨4, ![3, 5, 2, 1]⟩
abbrev S1x1x1x1280 : Shape := ⟨4, ![1, 1, 1, 1280]⟩
abbrev S3x5x2x1280 : Shape := ⟨4, ![3, 5, 2, 1280]⟩
abbrev S3x5x2560 : Shape := ⟨3, ![3, 5, 2560]⟩
abbrev S3x5x28x2x1280x128 : Shape := ⟨6, ![3, 5, 28, 2, 1280, 128]⟩
abbrev S3x5x28x2560x128 : Shape := ⟨5, ![3, 5, 28, 2560, 128]⟩
abbrev S3x5x4x7x2560x128 : Shape := ⟨6, ![3, 5, 4, 7, 2560, 128]⟩
abbrev S3x5x4x2x1280x128 : Shape := ⟨6, ![3, 5, 4, 2, 1280, 128]⟩
abbrev S3x5x4x2560x128 : Shape := ⟨5, ![3, 5, 4, 2560, 128]⟩
abbrev S3x5x28x2x1280 : Shape := ⟨5, ![3, 5, 28, 2, 1280]⟩
abbrev S3x5x28x2560 : Shape := ⟨4, ![3, 5, 28, 2560]⟩
abbrev S3x5x4x7x2560 : Shape := ⟨5, ![3, 5, 4, 7, 2560]⟩
abbrev S3x5x28x2 : Shape := ⟨4, ![3, 5, 28, 2]⟩
abbrev S3x5x4x7x2560x1 : Shape := ⟨6, ![3, 5, 4, 7, 2560, 1]⟩
abbrev S3x5x4x2 : Shape := ⟨4, ![3, 5, 4, 2]⟩
abbrev S3x5x4x2x1280 : Shape := ⟨5, ![3, 5, 4, 2, 1280]⟩
abbrev S3x5x4x2560 : Shape := ⟨4, ![3, 5, 4, 2560]⟩
abbrev S3x5x4x1x1x2560 : Shape := ⟨6, ![3, 5, 4, 1, 1, 2560]⟩
abbrev S3x5x4x7x2560x2560 : Shape := ⟨6, ![3, 5, 4, 7, 2560, 2560]⟩
abbrev S3x5x1x1x1x2560 : Shape := ⟨6, ![3, 5, 1, 1, 1, 2560]⟩
abbrev S3x1x1x1x2560x1 : Shape := ⟨6, ![3, 1, 1, 1, 2560, 1]⟩
abbrev S3x5x1x1x2560x2560 : Shape := ⟨6, ![3, 5, 1, 1, 2560, 2560]⟩

abbrev nBuf : Space → Nat
  | .hbm => 157
  | .vmem => 6
  | .smem => 0
  | _ => 0

abbrev hbmTy0_0 (i : Nat) : BufTy := match i % 128 with
  | 0 => ⟨S3x2x5x1280x28x128, .fp8e4m3⟩
  | 1 => ⟨S3x2x5x28, .f32⟩
  | 2 => ⟨S3x2x5x1280x4x128, .fp8e4m3⟩
  | 3 => ⟨S3x2x5x4, .f32⟩
  | 4 => ⟨S3x2x5x1280x4x128, .fp8e4m3⟩
  | 5 => ⟨S3x2x5x4, .f32⟩
  | 6 => ⟨S5, .i32⟩
  | 7 => ⟨S3x2x5x1280x28x128, .bf16⟩
  | 8 => ⟨S3x2x5x28x1280, .f32⟩
  | 9 => ⟨S3x2x5x28x1280, .f32⟩
  | 10 => ⟨S3x2x5x1280x28x128, .f32⟩
  | 11 => ⟨S3x2x5x1280x4x128, .f32⟩
  | 12 => ⟨S3x2x5x1280x4x128, .f32⟩
  | 13 => ⟨S3, .i32⟩
  | 14 => ⟨S_, .i32⟩
  | 15 => ⟨S3, .i32⟩
  | 16 => ⟨S3, .i32⟩
  | 17 => ⟨S3x1, .i32⟩
  | 18 => ⟨S3x1, .i32⟩
  | 19 => ⟨S3x2, .i32⟩
  | 20 => ⟨S3x1, .i32⟩
  | 21 => ⟨S1x5, .i32⟩
  | 22 => ⟨S3x5, .i32⟩
  | 23 => ⟨S3x5, .i32⟩
  | 24 => ⟨S3x5, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S3x5, .i32⟩
  | 32 => ⟨S3x5, .i32⟩
  | 33 => ⟨S_, .i32⟩
  | 34 => ⟨S3x5, .i32⟩
  | 35 => ⟨S3x5, .i1⟩
  | 36 => ⟨S_, .i32⟩
  | 37 => ⟨S3x5, .i32⟩
  | 38 => ⟨S3x5, .i1⟩
  | 39 => ⟨S_, .i32⟩
  | 40 => ⟨S_, .i1⟩
  | 41 => ⟨S3x5, .i1⟩
  | 42 => ⟨S3x5, .i1⟩
  | 43 => ⟨S3x5, .i1⟩
  | 44 => ⟨S3x5, .i32⟩
  | 45 => ⟨S3x5, .i32⟩
  | 46 => ⟨S3x5, .i32⟩
  | 47 => ⟨S_, .i32⟩
  | 48 => ⟨S3x5, .i32⟩
  | 49 => ⟨S3x5, .i32⟩
  | 50 => ⟨S3x5x1, .i32⟩
  | 51 => ⟨S3x5x1, .i32⟩
  | 52 => ⟨S3x5x2, .i32⟩
  | 53 => ⟨S3x2x1, .i32⟩
  | 54 => ⟨S_, .i32⟩
  | 55 => ⟨S3x2x1, .i32⟩
  | 56 => ⟨S3x2x1, .i32⟩
  | 57 => ⟨S1280, .i32⟩
  | 58 => ⟨S1x1x1280, .i32⟩
  | 59 => ⟨S3x2x1280, .i32⟩
  | 60 => ⟨S3x2x1280, .i32⟩
  | 61 => ⟨S3x2x1280, .i32⟩
  | 62 => ⟨S3x2560, .i32⟩
  | 63 => ⟨S3x5x2x1, .i32⟩
  | 64 => ⟨S_, .i32⟩
  | 65 => ⟨S3x5x2x1, .i32⟩
  | 66 => ⟨S3x5x2x1, .i32⟩
  | 67 => ⟨S1280, .i32⟩
  | 68 => ⟨S1x1x1x1280, .i32⟩
  | 69 => ⟨S3x5x2x1280, .i32⟩
  | 70 => ⟨S3x5x2x1280, .i32⟩
  | 71 => ⟨S3x5x2x1280, .i32⟩
  | 72 => ⟨S3x5x2560, .i32⟩
  | 73 => ⟨S3x5x28x2x1280x128, .f32⟩
  | 74 => ⟨S3x5x28x2560x128, .f32⟩
  | 75 => ⟨S3x5x4x7x2560x128, .f32⟩
  | 76 => ⟨S3x5x28x2x1280x128, .bf16⟩
  | 77 => ⟨S3x5x28x2560x128, .bf16⟩
  | 78 => ⟨S3x5x4x7x2560x128, .bf16⟩
  | 79 => ⟨S3x5x4x2x1280x128, .f32⟩
  | 80 => ⟨S3x5x4x2560x128, .f32⟩
  | 81 => ⟨S3x5x4x2x1280x128, .f32⟩
  | 82 => ⟨S3x5x4x2560x128, .f32⟩
  | 83 => ⟨S3x5x28x2x1280, .f32⟩
  | 84 => ⟨S3x5x28x2560, .f32⟩
  | 85 => ⟨S3x5x4x7x2560, .f32⟩
  | 86 => ⟨S3x5x28x2x1280, .f32⟩
  | 87 => ⟨S3x5x28x2560, .f32⟩
  | 88 => ⟨S3x5x4x7x2560, .f32⟩
  | 89 => ⟨S3x5x28x2, .f32⟩
  | 90 => ⟨S3x5x28x2x1280, .f32⟩
  | 91 => ⟨S3x5x28x2560, .f32⟩
  | 92 => ⟨S3x5x4x7x2560, .f32⟩
  | 93 => ⟨S3x5x4x7x2560x1, .f32⟩
  | 94 => ⟨S3x5x4x2, .f32⟩
  | 95 => ⟨S3x5x4x2x1280, .f32⟩
  | 96 => ⟨S3x5x4x2560, .f32⟩
  | 97 => ⟨S3x5x4x1x1x2560, .f32⟩
  | 98 => ⟨S3x5x4x2, .f32⟩
  | 99 => ⟨S3x5x4x2x1280, .f32⟩
  | 100 => ⟨S3x5x4x2560, .f32⟩
  | 101 => ⟨S3x5x4x1x1x2560, .f32⟩
  | 102 => ⟨S3x5x4x7x2560x2560, .f32⟩
  | 103 => ⟨S3x5x4x7x2560x2560, .f32⟩
  | 104 => ⟨S3x5x4x7x2560x2560, .f32⟩
  | 105 => ⟨S3x5x4x7x2560x2560, .f32⟩
  | 106 => ⟨S_, .f32⟩
  | 107 => ⟨S3x5x4x7x2560x2560, .f32⟩
  | 108 => ⟨S3x5x4x7x2560x2560, .f32⟩
  | 109 => ⟨S3x5x4x7x2560x2560, .f32⟩
  | 110 => ⟨S3x5x1x1x1x2560, .i32⟩
  | 111 => ⟨S3x1x1x1x2560x1, .i32⟩
  | 112 => ⟨S3x5x1x1x2560x2560, .i32⟩
  | 113 => ⟨S3x5x1x1x2560x2560, .i32⟩
  | 114 => ⟨S3x5x1x1x2560x2560, .i1⟩
  | 115 => ⟨S3x5x4x7x2560x1, .f32⟩
  | 116 => ⟨S3x5x4x7x2560x2560, .f32⟩
  | 117 => ⟨S3x5x4x7x2560x2560, .f32⟩
  | 118 => ⟨S3x5x4x7x2560x2560, .f32⟩
  | 119 => ⟨S_, .f32⟩
  | 120 => ⟨S_, .f32⟩
  | 121 => ⟨S3x5x4x7x2560x2560, .i1⟩
  | 122 => ⟨S3x5x4x7x2560x2560, .f32⟩
  | 123 => ⟨S3x5x4x7x2560x2560, .f32⟩
  | 124 => ⟨S3x5x4x2560x128, .bf16⟩
  | 125 => ⟨S3x5x4x7x2560x2560, .f32⟩
  | 126 => ⟨S3x5x4x7x2560x2560, .f32⟩
  | 127 => ⟨S3x5x4x7x2560x2560, .f32⟩
  | _ => ⟨S3x2x5x1280x28x128, .fp8e4m3⟩

abbrev hbmTy0_1 (i : Nat) : BufTy := match i % 128 with
  | 0 => ⟨S3x5x4x7x2560x1, .f32⟩
  | 1 => ⟨S3x5x4x7x2560x2560, .f32⟩
  | 2 => ⟨S3x5x4x7x2560x2560, .f32⟩
  | 3 => ⟨S3x5x4x7x2560x2560, .f32⟩
  | 4 => ⟨S3x5x4x7x2560x2560, .f32⟩
  | 5 => ⟨S3x5x4x7x2560x2560, .f32⟩
  | 6 => ⟨S3x5x4x7x2560x2560, .bf16⟩
  | 7 => ⟨S3x5x4x2560x128, .bf16⟩
  | 8 => ⟨S3x5x4x7x2560x128, .f32⟩
  | 9 => ⟨S_, .f32⟩
  | 10 => ⟨S3x5x4x7x2560x128, .f32⟩
  | 11 => ⟨S3x5x4x7x2560x128, .f32⟩
  | 12 => ⟨S3x5x4x7x2560x2560, .f32⟩
  | 13 => ⟨S3x5x4x7x2560x2560, .f32⟩
  | 14 => ⟨S3x5x4x7x2560x2560, .bf16⟩
  | 15 => ⟨S3x5x4x7x2560x128, .bf16⟩
  | 16 => ⟨S3x5x4x2560x128, .f32⟩
  | 17 => ⟨S_, .f32⟩
  | 18 => ⟨S3x5x4x2560x128, .f32⟩
  | 19 => ⟨S3x5x4x2560x128, .f32⟩
  | 20 => ⟨S3x5x4x7x2560x2560, .bf16⟩
  | 21 => ⟨S3x5x4x2560x128, .f32⟩
  | 22 => ⟨S3x5x28x2560x128, .f32⟩
  | 23 => ⟨S3x5x28x2x1280x128, .f32⟩
  | 24 => ⟨S3x2x5x1280x28x128, .f32⟩
  | 25 => ⟨S3x5x4x2x1280x128, .f32⟩
  | 26 => ⟨S3x2x5x1280x4x128, .f32⟩
  | 27 => ⟨S3x5x4x2x1280x128, .f32⟩
  | 28 => ⟨S3x2x5x1280x4x128, .f32⟩
  | _ => ⟨S3x2x5x1280x28x128, .fp8e4m3⟩

abbrev hbmTy (i : Nat) : BufTy := match i / 128 with
  | 0 => hbmTy0_0 i
  | 1 => hbmTy0_1 i
  | _ => ⟨S3x2x5x1280x28x128, .fp8e4m3⟩

abbrev bufTy : (tb : Table) → Fin (tcTables nBuf tb) → BufTy
  | .hbm, ⟨i, _⟩ => hbmTy i
  | .local _ .vmem, ⟨0, _⟩ => ⟨S3x2x5x1280x28x128, .fp8e4m3⟩
  | .local _ .vmem, ⟨1, _⟩ => ⟨S3x2x5x1280x4x128, .fp8e4m3⟩
  | .local _ .vmem, ⟨2, _⟩ => ⟨S3x2x5x1280x4x128, .fp8e4m3⟩
  | .local _ .vmem, ⟨3, _⟩ => ⟨S3x2x5x1280x28x128, .f32⟩
  | .local _ .vmem, ⟨4, _⟩ => ⟨S3x2x5x1280x4x128, .f32⟩
  | .local _ .vmem, ⟨5, _⟩ => ⟨S3x2x5x1280x4x128, .f32⟩
  | _, _ => ⟨S3x2x5x1280x28x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_1 : Ref sig .tc := ⟨.hbm, 33, rfl⟩
abbrev main_call0_v5 : Ref sig .tc := ⟨.hbm, 34, rfl⟩
abbrev main_call0_v6 : Ref sig .tc := ⟨.hbm, 35, rfl⟩
abbrev main_call0_c_2 : Ref sig .tc := ⟨.hbm, 36, rfl⟩
abbrev main_call0_v7 : Ref sig .tc := ⟨.hbm, 37, rfl⟩
abbrev main_call0_v8 : Ref sig .tc := ⟨.hbm, 38, rfl⟩
abbrev main_call0_c_3 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_v12 : Ref sig .tc := ⟨.hbm, 46, rfl⟩
abbrev main_c_1 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_c_2 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_c_3 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_4 : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_5 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_6 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x2x5x1280x28x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x2x5x1280x4x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x2x5x1280x4x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x2x5x1280x28x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x2x5x1280x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x2x5x1280x4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KWord.lean ====
/- The chunk of the keys: the remainder of the rank less the step. -/
module

public import Idealize.ShloMosaic.Lib.Pointwise

@[expose] public section

set_option maxRecDepth 65536

noncomputable section

namespace Cert.Ring

open Idealize.ShloMosaic Idealize.ShloMosaic.TcCoe Idealize.ShloMosaic.Tactic
open Idealize.ShloMosaic

/-- The remainder as a word operation with its sign corrected. -/
def remH (r : Fin 3) (s : BitVec 32) : BitVec 32 :=
  let m := IntOp.remsi ArithUnit.host (IntOp.subi (BitVec.ofNat 32 r.val) s) 3#32
  Scalar.select (IntOp.andi (IntOp.cmpi .ne (IntOp.cmpi .slt m 0#32) (IntOp.cmpi .slt 3#32 0#32)) (IntOp.cmpi .ne m 0#32)) (IntOp.addi m 3#32) m
/-- The remainder made positive before it is taken. -/
def remK (r : Fin 3) (s : BitVec 32) : BitVec 32 :=
  Scalar.remsi (Scalar.addi (Scalar.subi (BitVec.ofNat 32 r.val) (Scalar.remsi s 3#32)) 6#32) 3#32

theorem remsi3 (u : ArithUnit) (x : BitVec 32) : IntOp.remsi u x 3#32 = x.srem 3#32 := by
  unfold IntOp.remsi
  rw [if_neg]
  intro h
  rcases h with h | h
  · exact absurd h (by decide)
  · exact absurd h.2 (by decide)

theorem word_of_int (x : BitVec 32) : x = BitVec.ofInt 32 x.toInt := (BitVec.ofInt_toInt).symm

theorem tmod3 (t : Int) : ∃ a : Fin 5, t.tmod 3 = (a.val : Int) - 2 ∧ (t - ((a.val : Int) - 2)) % 3 = 0 := by
  rw [Int.tmod_eq_emod]
  split
  · exact ⟨⟨(t % 3).toNat + 2, by omega⟩, by show t % 3 - _ = (((t % 3).toNat + 2 : ℕ) : Int) - 2; omega, by show (t - ((((t % 3).toNat + 2 : ℕ) : Int) - 2)) % 3 = 0; omega⟩
  · exact ⟨⟨(t % 3 - 1).toNat, by omega⟩, by show t % 3 - (3 : Int).natAbs = (((t % 3 - 1).toNat : ℕ) : Int) - 2; omega, by show (t - ((((t % 3 - 1).toNat : ℕ) : Int) - 2)) % 3 = 0; omega⟩

theorem words : ∀ (r : Fin 3) (x y : Fin 5), ((r.val : Int) - ((x.val : Int) - 2) - ((y.val : Int) - 2)) % 3 = 0 →
    (let m := BitVec.ofInt 32 ((y.val : Int) - 2)
     Scalar.select (IntOp.andi (IntOp.cmpi .ne (IntOp.cmpi .slt m 0#32) (IntOp.cmpi .slt 3#32 0#32)) (IntOp.cmpi .ne m 0#32)) (IntOp.addi m 3#32) m)
      = (Scalar.addi (Scalar.subi (BitVec.ofNat 32 r.val) (BitVec.ofInt 32 ((x.val : Int) - 2))) 6#32).srem 3#32
    ∧ ((Scalar.addi (Scalar.subi (BitVec.ofNat 32 r.val) (BitVec.ofInt 32 ((x.val : Int) - 2))) 6#32).srem 3#32 = 0#32
      ∨ (Scalar.addi (Scalar.subi (BitVec.ofNat 32 r.val) (BitVec.ofInt 32 ((x.val : Int) - 2))) 6#32).srem 3#32 = 1#32
      ∨ (Scalar.addi (Scalar.subi (BitVec.ofNat 32 r.val) (BitVec.ofInt 32 ((x.val : Int) - 2))) 6#32).srem 3#32 = 2#32) := by
  decide

theorem rem_eq (r : Fin 3) (s : BitVec 32) (hs : 3 - 2 ^ 31 ≤ s.toInt) : remH r s = remK r s ∧ (remK r s = 0#32 ∨ remK r s = 1#32 ∨ remK r s = 2#32) := by
  unfold remH remK Scalar.remsi
  have h3 : (3#32).toInt = 3 := by decide
  have hi := BitVec.toInt_lt (x := s)
  have hr : (BitVec.ofNat 32 r.val).toInt = (r.val : Int) := by
    have : ∀ r : Fin 3, (BitVec.ofNat 32 r.val).toInt = (r.val : Int) := by decide
    exact this r
  have e1 : (s.srem 3#32) = BitVec.ofInt 32 (s.toInt.tmod 3) := by
    rw [word_of_int (s.srem 3#32), BitVec.toInt_srem, h3]
  have e2 : ((IntOp.subi (BitVec.ofNat 32 r.val) s).srem 3#32) = BitVec.ofInt 32 (((r.val : Int) - s.toInt).tmod 3) := by
    rw [word_of_int ((IntOp.subi (BitVec.ofNat 32 r.val) s).srem 3#32), BitVec.toInt_srem, h3]
    have : (IntOp.subi (BitVec.ofNat 32 r.val) s).toInt = (r.val : Int) - s.toInt := by
      show ((BitVec.ofNat 32 r.val) - s).toInt = _
      rw [BitVec.toInt_sub, hr]
      have := r.isLt
      rw [Int.bmod_eq_of_le] <;> omega
    rw [this]
  rw [remsi3, remsi3, remsi3, e1, e2]
  obtain ⟨x, hx, hx'⟩ := tmod3 s.toInt
  obtain ⟨y, hy, hy'⟩ := tmod3 ((r.val : Int) - s.toInt)
  rw [hx, hy]
  have rel : ((r.val : Int) - ((x.val : Int) - 2) - ((y.val : Int) - 2)) % 3 = 0 := by omega
  exact words r x y rel

end Cert.Ring

end
-- ==== Proof.KMath.lean ====
/- The gradients of one ring step as formulas over the extended reals. -/
module

public import Idealize.ShloMosaic.Lib.Pointwise

@[expose] public section

set_option maxRecDepth 65536

noncomputable section

namespace Cert.Ring

open Idealize.ShloMosaic Idealize.ShloMosaic.TcCoe Idealize.ShloMosaic.Tactic
open Idealize.ShloMosaic

/-- The operands of a step: codes, scales, gradients, normalisers, and the chunks that the query rows and the keys come from. -/
structure RIn where
  q : Fin 3 → Fin 2 → Fin 5 → Fin 1280 → Fin 28 → Fin 128 → EReal
  k : Fin 3 → Fin 2 → Fin 5 → Fin 1280 → Fin 4 → Fin 128 → EReal
  v : Fin 3 → Fin 2 → Fin 5 → Fin 1280 → Fin 4 → Fin 128 → EReal
  d : Fin 3 → Fin 2 → Fin 5 → Fin 1280 → Fin 28 → Fin 128 → EReal
  qs : Fin 3 → Fin 2 → Fin 5 → Fin 28 → EReal
  ks : Fin 3 → Fin 2 → Fin 5 → Fin 4 → EReal
  vs : Fin 3 → Fin 2 → Fin 5 → Fin 4 → EReal
  lse : Fin 3 → Fin 2 → Fin 5 → Fin 28 → Fin 1280 → EReal
  dl : Fin 3 → Fin 2 → Fin 5 → Fin 28 → Fin 1280 → EReal
  qc : Fin 3 → Fin 2 → BitVec 32
  kc : Fin 3 → Fin 5 → Fin 2 → BitVec 32

/-- The scale of the scores. -/
def smR : EReal := Ideal.ofBits .f32 0x3DB504F3#32

section
variable (I : RIn) (r : Fin 3) (b : Fin 5) (n : Fin 4) (h : Fin 28)

/-- The weight of a key of chunk `jk` at a query row of chunk `jq`. -/
def refP (jq : Fin 2) (pq : Fin 1280) (jk : Fin 2) (pk : Fin 1280) : EReal :=
  Scalar.select (IntOp.cmpi .sle (IntOp.addi (IntOp.muli (I.kc r b jk) 1280#32) (BitVec.ofNat 32 pk.val))
      (IntOp.addi (IntOp.muli (I.qc r jq) 1280#32) (BitVec.ofNat 32 pq.val)))
    (Ideal.exp ((∑ d : Fin 128, I.q r jq b pq h d * I.k r jk b pk n d) * (I.qs r jq b h * I.ks r jk b n * smR) - I.lse r jq b h pq)) 0
/-- The gradient of its score. -/
def refDS (jq : Fin 2) (pq : Fin 1280) (jk : Fin 2) (pk : Fin 1280) : EReal :=
  refP I r b n h jq pq jk pk * ((∑ d : Fin 128, I.d r jq b pq h d * I.v r jk b pk n d) * I.vs r jk b n - I.dl r jq b h pq)
end

def jOf (x : Fin 2560) : Fin 2 := ⟨x.val / 1280, by omega⟩
def pOf (x : Fin 2560) : Fin 1280 := ⟨x.val % 1280, by omega⟩
def hOf (n : Fin 4) (g : Fin 7) : Fin 28 := ⟨n.val * 7 + g.val, by omega⟩
def nOf (h : Fin 28) : Fin 4 := ⟨h.val / 7, by omega⟩

/-- The three gradients. -/
def refDQ (I : RIn) (r : Fin 3) (j : Fin 2) (b : Fin 5) (p : Fin 1280) (h : Fin 28) (d : Fin 128) : EReal :=
  smR * ∑ x : Fin 2560, refDS I r b (nOf h) h j p (jOf x) (pOf x) * I.ks r (jOf x) b (nOf h) * I.k r (jOf x) b (pOf x) (nOf h) d
def refDK (I : RIn) (r : Fin 3) (j : Fin 2) (b : Fin 5) (p : Fin 1280) (n : Fin 4) (d : Fin 128) : EReal :=
  smR * ∑ g : Fin 7, ∑ x : Fin 2560, refDS I r b n (hOf n g) (jOf x) (pOf x) j p * I.qs r (jOf x) b (hOf n g) * I.q r (jOf x) b (pOf x) (hOf n g) d
def refDV (I : RIn) (r : Fin 3) (j : Fin 2) (b : Fin 5) (p : Fin 1280) (n : Fin 4) (d : Fin 128) : EReal :=
  ∑ g : Fin 7, ∑ x : Fin 2560, refP I r b n (hOf n g) (jOf x) (pOf x) j p * I.d r (jOf x) b (pOf x) (hOf n g) d

end Cert.Ring

end
-- ==== Proof.KEq.lean ====
/- The kernel's scaled gradients are the formulas, for positive scales. -/
module

public import proofs.«01_k».proof.Proof.KMath
public import proofs.«01_k».proof.Proof.KWord
public import Idealize.ShloMosaic.PureOps.Ideal

@[expose] public section

set_option maxRecDepth 65536

noncomputable section

namespace Cert.Ring

open Idealize.ShloMosaic Idealize.ShloMosaic.TcCoe Idealize.ShloMosaic.Tactic

/-! ## Positive factors -/

theorem pos_add (a : ℝ) (ha : 0 < a) (x y : EReal) : (a : EReal) * (x + y) = a * x + a * y :=
  EReal.left_distrib_of_nonneg_of_ne_top (by exact_mod_cast ha.le) (EReal.coe_ne_top a) x y
theorem pos_sub (a : ℝ) (ha : 0 < a) (x y : EReal) : (a : EReal) * (x - y) = a * x - a * y := by
  rw [sub_eq_add_neg, pos_add a ha, mul_neg, ← sub_eq_add_neg]
theorem pos_sum {ι : Type} (s : Finset ι) (a : ℝ) (ha : 0 < a) (f : ι → EReal) : ∑ x ∈ s, (a : EReal) * f x = a * ∑ x ∈ s, f x := by
  classical
  induction s using Finset.induction_on with
  | empty => rw [Finset.sum_empty, Finset.sum_empty, mul_zero]
  | insert x s hx ih => rw [Finset.sum_insert hx, Finset.sum_insert hx, pos_add a ha, ih]
theorem pos_inv (a : ℝ) (ha : 0 < a) : (a : EReal) * Ideal.div 1 (a : EReal) = 1 := by
  rw [Ideal.div_coe ha.ne', one_mul, ← EReal.coe_mul, mul_one_div_cancel ha.ne']; rfl

theorem smR_coe : smR = ((11863283 / 134217728 : ℝ) : EReal) := by
  unfold smR
  simp [Ideal.ofBits, Ideal.ieee, -EReal.coe_mul]
  norm_num
theorem two_coe : Ideal.ofBits .f32 0x40000000#32 = ((2 : ℝ) : EReal) := by
  simp [Ideal.ofBits, Ideal.ieee, -EReal.coe_mul]
  norm_num

/-- The logarithms the kernel folds into the exponent. -/
def L2 : EReal := ((Real.log 2)⁻¹ : ℝ)
def SML : EReal := ((11863283 / 134217728) * (Real.log 2)⁻¹ : ℝ)
def shiftR (k v : EReal) : EReal :=
  Ideal.div (Ideal.log k) (Ideal.log (Ideal.ofBits .f32 0x40000000#32)) + Ideal.div (Ideal.log v) (Ideal.log (Ideal.ofBits .f32 0x40000000#32))

theorem log2_pos : 0 < Real.log 2 := Real.log_pos one_lt_two
theorem shift_coe (k v : ℝ) (hk : 0 < k) (hv : 0 < v) : shiftR k v = ((Real.log k * (1 / Real.log 2) + Real.log v * (1 / Real.log 2) : ℝ) : EReal) := by
  unfold shiftR
  rw [two_coe, Ideal.log_coe, Ideal.log_coe, Ideal.log_coe, if_neg (not_le.mpr hk), if_neg (not_le.mpr hv), if_neg (not_le.mpr two_pos),
    Ideal.div_coe log2_pos.ne', Ideal.div_coe log2_pos.ne', ← EReal.coe_mul, ← EReal.coe_mul, ← EReal.coe_add]

theorem exp2_shift (x : EReal) (k v : ℝ) (hk : 0 < k) (hv : 0 < v) :
    Ideal.exp2 (x * L2 + shiftR k v) = Ideal.exp x * ((k : EReal) * (v : EReal)) := by
  rw [shift_coe k v hk hv, ← EReal.coe_mul]
  have hkv : 0 < k * v := mul_pos hk hv
  have hl : 0 < (Real.log 2)⁻¹ := inv_pos.mpr log2_pos
  unfold L2
  induction x using EReal.rec with
  | bot =>
    rw [EReal.bot_mul_coe_of_pos hl, EReal.bot_add, Ideal.exp_bot, Ideal.exp2_bot, zero_mul]
  | top =>
    rw [EReal.top_mul_coe_of_pos hl, EReal.top_add_coe, Ideal.exp_top, Ideal.exp2_top, EReal.top_mul_coe_of_pos hkv]
  | coe x =>
    rw [← EReal.coe_mul, ← EReal.coe_add, Ideal.exp_coe, Ideal.exp2_coe, ← EReal.coe_mul]
    refine congrArg _ ?_
    rw [Real.rpow_eq_pow, Real.rpow_def_of_pos two_pos]
    have e : Real.log 2 * (x * (Real.log 2)⁻¹ + (Real.log k * (1 / Real.log 2) + Real.log v * (1 / Real.log 2))) = x + (Real.log k + Real.log v) := by
      have := log2_pos.ne'
      field_simp
    rw [e, Real.exp_add, Real.exp_add, Real.exp_log hk, Real.exp_log hv]

theorem wt_eq (s qs lse : EReal) (k v : ℝ) (hk : 0 < k) (hv : 0 < v) :
    Ideal.exp2 (s * (qs * (k : EReal) * SML) - (lse * L2 - shiftR k v)) = Ideal.exp (s * (qs * (k : EReal) * smR) - lse) * ((k : EReal) * (v : EReal)) := by
  rw [← exp2_shift _ k v hk hv]
  refine congrArg _ ?_
  have hl : 0 < (Real.log 2)⁻¹ := inv_pos.mpr log2_pos
  have e : SML = smR * L2 := by rw [smR_coe, L2, SML, ← EReal.coe_mul]
  have hs : shiftR k v ≠ ⊥ ∧ shiftR k v ≠ ⊤ := by rw [shift_coe k v hk hv]; exact ⟨EReal.coe_ne_bot _, EReal.coe_ne_top _⟩
  have h2 : (s * (qs * (k : EReal) * smR) - lse) * L2 = L2 * (s * (qs * (k : EReal) * smR)) + -(L2 * lse) := by
    rw [mul_comm, L2, pos_sub _ hl, sub_eq_add_neg]
  rw [h2, sub_eq_add_neg, EReal.neg_sub (Or.inr hs.1) (Or.inr hs.2), ← add_assoc, e, mul_comm L2 lse]
  refine congrArg (· + _ + _) ?_
  ac_rfl

theorem gd_eq (p dv dl k : EReal) (v : ℝ) (hv : 0 < v) :
    p * (k * (v : EReal)) * (dv - dl * Ideal.div 1 (v : EReal)) = k * (p * (dv * (v : EReal) - dl)) := by
  have e : (v : EReal) * (dv - dl * Ideal.div 1 (v : EReal)) = dv * v - dl := by
    rw [pos_sub v hv, mul_comm dl, ← mul_assoc, pos_inv v hv, one_mul, mul_comm]
  rw [← e]
  ac_rfl

/-! ## Sums by blocks -/

/-- The position, in its chunk, of a row of a block of queries. -/
def posR (tt : Fin 5) (row : Fin 256) : Fin 1280 := ⟨256 * tt.val + row.val, by omega⟩

theorem sum_rows (f : Fin 1280 → EReal) : ∑ p, f p = ∑ tt : Fin 5, ∑ row : Fin 256, f (posR tt row) := by
  rw [← Equiv.sum_comp (finProdFinEquiv (m := 5) (n := 256)) f, Fintype.sum_prod_type]
  refine Finset.sum_congr rfl fun a _ => Finset.sum_congr rfl fun b _ => congrArg f (Fin.ext ?_)
  show b.val + 256 * a.val = 256 * a.val + b.val
  omega
theorem sum_chunks (f : Fin 2 → Fin 1280 → EReal) : ∑ x : Fin 2560, f (jOf x) (pOf x) = ∑ j, ∑ p, f j p := by
  rw [← Equiv.sum_comp (finProdFinEquiv (m := 2) (n := 1280)) (fun x : Fin 2560 => f (jOf x) (pOf x)), Fintype.sum_prod_type]
  refine Finset.sum_congr rfl fun a _ => Finset.sum_congr rfl fun b _ => ?_
  have e1 : jOf (finProdFinEquiv (m := 2) (n := 1280) (a, b)) = a := Fin.ext (by show (b.val + 1280 * a.val) / 1280 = a.val; omega)
  have e2 : pOf (finProdFinEquiv (m := 2) (n := 1280) (a, b)) = b := Fin.ext (by show (b.val + 1280 * a.val) % 1280 = b.val; omega)
  show f (jOf (finProdFinEquiv (m := 2) (n := 1280) (a, b))) (pOf (finProdFinEquiv (m := 2) (n := 1280) (a, b))) = _
  rw [e1, e2]
theorem sum_heads (f : Fin 28 → EReal) (n : Fin 4) : (∑ h : Fin 28, if nOf h = n then f h else 0) = ∑ g : Fin 7, f (hOf n g) := by
  rw [← Equiv.sum_comp (finProdFinEquiv (m := 4) (n := 7)) (fun h : Fin 28 => if nOf h = n then f h else 0), Fintype.sum_prod_type, Finset.sum_eq_single n]
  · refine Finset.sum_congr rfl fun g _ => ?_
    have e : finProdFinEquiv (m := 4) (n := 7) (n, g) = hOf n g := Fin.ext (by show g.val + 7 * n.val = n.val * 7 + g.val; omega)
    show (if nOf (finProdFinEquiv (m := 4) (n := 7) (n, g)) = n then f (finProdFinEquiv (m := 4) (n := 7) (n, g)) else 0) = _
    rw [e, if_pos (Fin.ext (by show (n.val * 7 + g.val) / 7 = n.val; omega))]
  · intro b _ hb
    refine Finset.sum_eq_zero fun g _ => if_neg fun e => hb ?_
    have e' : (g.val + 7 * b.val) / 7 = n.val := congrArg Fin.val e
    exact Fin.ext (by omega)
  · intro h; exact absurd (Finset.mem_univ _) h

/-! ## The kernel's formulas -/

section
variable (I : RIn) (r : Fin 3) (b : Fin 5) (n : Fin 4) (h : Fin 28)

/-- The keys a row sees: all of an earlier chunk, those up to its own position in its own. -/
def kVis (jq : Fin 2) (pq : Fin 1280) (jk : Fin 2) (pk : Fin 1280) : Bool :=
  decide ((I.kc r b jk).slt (I.qc r jq) = true ∨ (I.kc r b jk = I.qc r jq ∧ pk.val ≤ pq.val))
/-- The weight, with the two scales of the key folded in. -/
def kP (jq : Fin 2) (pq : Fin 1280) (jk : Fin 2) (pk : Fin 1280) : EReal :=
  Ideal.exp2 ((∑ d : Fin 128, I.q r jq b pq h d * I.k r jk b pk n d) * (I.qs r jq b h * I.ks r jk b n * SML)
    - (I.lse r jq b h pq * L2 - shiftR (I.ks r jk b n) (I.vs r jk b n)))
def kDS (jq : Fin 2) (pq : Fin 1280) (jk : Fin 2) (pk : Fin 1280) : EReal :=
  kP I r b n h jq pq jk pk * ((∑ d : Fin 128, I.d r jq b pq h d * I.v r jk b pk n d) - I.dl r jq b h pq * Ideal.div 1 (I.vs r jk b n))
end

def kDQ (I : RIn) (r : Fin 3) (j : Fin 2) (b : Fin 5) (p : Fin 1280) (h : Fin 28) (d : Fin 128) : EReal :=
  ∑ jk : Fin 2, (∑ κ : Fin 1280, I.k r jk b κ (nOf h) d * (if kVis I r b j p jk κ then kDS I r b (nOf h) h j p jk κ else 0)) * smR
def kDK (I : RIn) (r : Fin 3) (j : Fin 2) (b : Fin 5) (p : Fin 1280) (n : Fin 4) (d : Fin 128) : EReal :=
  (∑ jq : Fin 2, ∑ tt : Fin 5, ∑ h : Fin 28, if nOf h = n then ∑ row : Fin 256, (I.q r jq b (posR tt row) h d * I.qs r jq b h)
    * (if kVis I r b jq (posR tt row) j p then kDS I r b n h jq (posR tt row) j p else 0) else 0) * (smR * Ideal.div 1 (I.ks r j b n))
def kDV (I : RIn) (r : Fin 3) (j : Fin 2) (b : Fin 5) (p : Fin 1280) (n : Fin 4) (d : Fin 128) : EReal :=
  (∑ jq : Fin 2, ∑ tt : Fin 5, ∑ h : Fin 28, if nOf h = n then ∑ row : Fin 256, I.d r jq b (posR tt row) h d
    * (if kVis I r b jq (posR tt row) j p then kP I r b n h jq (posR tt row) j p else 0) else 0) * Ideal.div 1 (I.ks r j b n) * Ideal.div 1 (I.vs r j b n)

/-- What the formulas need: positive scales, and chunks that are small words. -/
structure Good (I : RIn) : Prop where
  ks : ∀ r j b n, ∃ a : ℝ, 0 < a ∧ I.ks r j b n = (a : EReal)
  vs : ∀ r j b n, ∃ a : ℝ, 0 < a ∧ I.vs r j b n = (a : EReal)
  kc : ∀ r b j, ∃ a : Fin 6, I.kc r b j = BitVec.ofNat 32 a.val
  qc : ∀ r j, ∃ a : Fin 6, I.qc r j = BitVec.ofNat 32 a.val

theorem word_toInt (a : ℕ) (ha : a < 2 ^ 31) : (BitVec.ofNat 32 a).toInt = (a : Int) := by
  rw [BitVec.toInt_eq_toNat_of_lt (by rw [BitVec.toNat_ofNat]; omega), BitVec.toNat_ofNat]; norm_cast; omega
theorem word_pos (a : Fin 6) (p : Fin 1280) :
    IntOp.addi (IntOp.muli (BitVec.ofNat 32 a.val) 1280#32) (BitVec.ofNat 32 p.val) = BitVec.ofNat 32 (a.val * 1280 + p.val) := by
  show BitVec.ofNat 32 a.val * 1280#32 + BitVec.ofNat 32 p.val = _
  rw [show (1280#32) = BitVec.ofNat 32 1280 from rfl, ← BitVec.ofNat_mul, ← BitVec.ofNat_add]
theorem sle_eq (a c : Fin 6) (pk pq : Fin 1280) (x : EReal) :
    Scalar.select (IntOp.cmpi .sle (IntOp.addi (IntOp.muli (BitVec.ofNat 32 a.val) 1280#32) (BitVec.ofNat 32 pk.val))
      (IntOp.addi (IntOp.muli (BitVec.ofNat 32 c.val) 1280#32) (BitVec.ofNat 32 pq.val))) x 0
    = if decide ((BitVec.ofNat 32 a.val).slt (BitVec.ofNat 32 c.val) = true ∨ (BitVec.ofNat 32 a.val = BitVec.ofNat 32 c.val ∧ pk.val ≤ pq.val)) = true then x else 0 := by
  have ha := a.isLt
  have hc := c.isLt
  have hk := pk.isLt
  have hq := pq.isLt
  rw [word_pos, word_pos]
  have h : (BitVec.ofNat 32 (a.val * 1280 + pk.val)).sle (BitVec.ofNat 32 (c.val * 1280 + pq.val))
      = decide ((BitVec.ofNat 32 a.val).slt (BitVec.ofNat 32 c.val) = true ∨ (BitVec.ofNat 32 a.val = BitVec.ofNat 32 c.val ∧ pk.val ≤ pq.val)) := by
    have e1 : (BitVec.ofNat 32 a.val).slt (BitVec.ofNat 32 c.val) = true ↔ a.val < c.val := by
      rw [BitVec.slt, decide_eq_true_iff, word_toInt _ (by omega), word_toInt _ (by omega)]; omega
    have e2 : BitVec.ofNat 32 a.val = BitVec.ofNat 32 c.val ↔ a.val = c.val :=
      ⟨fun e => by have := congrArg BitVec.toInt e; rw [word_toInt _ (by omega), word_toInt _ (by omega)] at this; omega, fun e => by rw [e]⟩
    rw [BitVec.sle, word_toInt _ (by omega), word_toInt _ (by omega)]
    refine decide_eq_decide.mpr ?_
    rw [e1, e2]; omega
  show (if BitVec.ofBool ((BitVec.ofNat 32 (a.val * 1280 + pk.val)).sle (BitVec.ofNat 32 (c.val * 1280 + pq.val))) = 1#1 then x else 0) = _
  rw [h]
  generalize decide ((BitVec.ofNat 32 a.val).slt (BitVec.ofNat 32 c.val) = true ∨ (BitVec.ofNat 32 a.val = BitVec.ofNat 32 c.val ∧ pk.val ≤ pq.val)) = e
  cases e <;> rfl

section
variable (I : RIn) (G : Good I) (r : Fin 3) (b : Fin 5) (n : Fin 4) (h : Fin 28)
include G

theorem p_masked (jq : Fin 2) (pq : Fin 1280) (jk : Fin 2) (pk : Fin 1280) :
    (if kVis I r b jq pq jk pk then kP I r b n h jq pq jk pk else 0) = refP I r b n h jq pq jk pk * (I.ks r jk b n * I.vs r jk b n) := by
  obtain ⟨k, hk, ek⟩ := G.ks r jk b n
  obtain ⟨v, hv, ev⟩ := G.vs r jk b n
  obtain ⟨a, ea⟩ := G.kc r b jk
  obtain ⟨c, ec⟩ := G.qc r jq
  unfold kVis refP kP
  rw [ea, ec, sle_eq, ek, ev, wt_eq _ _ _ k v hk hv]
  generalize decide ((BitVec.ofNat 32 a.val).slt (BitVec.ofNat 32 c.val) = true ∨ (BitVec.ofNat 32 a.val = BitVec.ofNat 32 c.val ∧ pk.val ≤ pq.val)) = e
  cases e
  · exact (zero_mul _).symm
  · rfl
theorem ds_masked (jq : Fin 2) (pq : Fin 1280) (jk : Fin 2) (pk : Fin 1280) :
    (if kVis I r b jq pq jk pk then kDS I r b n h jq pq jk pk else 0) = I.ks r jk b n * refDS I r b n h jq pq jk pk := by
  obtain ⟨v, hv, ev⟩ := G.vs r jk b n
  have e := p_masked I G r b n h jq pq jk pk
  unfold refDS kDS
  rw [ev] at e ⊢
  rw [← gd_eq _ _ _ _ v hv, ← e]
  split
  · rfl
  · exact (zero_mul _).symm

theorem kDQ_eq (j : Fin 2) (p : Fin 1280) (d : Fin 128) : kDQ I r j b p h d = refDQ I r j b p h d := by
  unfold kDQ refDQ
  rw [sum_chunks (fun jk κ => refDS I r b (nOf h) h j p jk κ * I.ks r jk b (nOf h) * I.k r jk b κ (nOf h) d), smR_coe, ← pos_sum _ _ (by norm_num)]
  refine Finset.sum_congr rfl fun jk _ => ?_
  rw [mul_comm]
  refine congrArg _ (Finset.sum_congr rfl fun κ _ => ?_)
  rw [ds_masked I G]
  ac_rfl

theorem sum_swap (F : Fin 2 → Fin 1280 → Fin 28 → EReal) :
    (∑ jq : Fin 2, ∑ tt : Fin 5, ∑ h : Fin 28, if nOf h = n then ∑ row : Fin 256, F jq (posR tt row) h else 0)
      = ∑ g : Fin 7, ∑ x : Fin 2560, F (jOf x) (pOf x) (hOf n g) := by
  have e : ∀ g : Fin 7, ∑ x : Fin 2560, F (jOf x) (pOf x) (hOf n g) = ∑ jq : Fin 2, ∑ tt : Fin 5, ∑ row : Fin 256, F jq (posR tt row) (hOf n g) := fun g => by
    rw [sum_chunks (fun j p => F j p (hOf n g))]
    exact Finset.sum_congr rfl fun j _ => sum_rows _
  refine Eq.trans ?_ (Finset.sum_congr rfl fun g _ => (e g).symm)
  refine Eq.trans ?_ Finset.sum_comm
  refine Finset.sum_congr rfl fun jq _ => ?_
  refine Eq.trans ?_ Finset.sum_comm
  exact Finset.sum_congr rfl fun tt _ => sum_heads (fun h => ∑ row : Fin 256, F jq (posR tt row) h) n

theorem kDK_eq (j : Fin 2) (p : Fin 1280) (d : Fin 128) : kDK I r j b p n d = refDK I r j b p n d := by
  obtain ⟨k, hk, ek⟩ := G.ks r j b n
  unfold kDK refDK
  rw [sum_swap I G n (fun jq pq h => (I.q r jq b pq h d * I.qs r jq b h) * (if kVis I r b jq pq j p then kDS I r b n h jq pq j p else 0))]
  have e : (∑ g : Fin 7, ∑ x : Fin 2560, (I.q r (jOf x) b (pOf x) (hOf n g) d * I.qs r (jOf x) b (hOf n g))
        * (if kVis I r b (jOf x) (pOf x) j p then kDS I r b n (hOf n g) (jOf x) (pOf x) j p else 0))
      = (k : EReal) * ∑ g : Fin 7, ∑ x : Fin 2560, refDS I r b n (hOf n g) (jOf x) (pOf x) j p * I.qs r (jOf x) b (hOf n g) * I.q r (jOf x) b (pOf x) (hOf n g) d := by
    rw [← pos_sum _ k hk]
    refine Finset.sum_congr rfl fun g _ => ?_
    rw [← pos_sum _ k hk]
    refine Finset.sum_congr rfl fun x _ => ?_
    rw [ds_masked I G, ek]
    ac_rfl
  rw [e, ek]
  generalize (∑ g : Fin 7, ∑ x : Fin 2560, refDS I r b n (hOf n g) (jOf x) (pOf x) j p * I.qs r (jOf x) b (hOf n g) * I.q r (jOf x) b (pOf x) (hOf n g) d) = T
  have := pos_inv k hk
  calc (k : EReal) * T * (smR * Ideal.div 1 (k : EReal)) = ((k : EReal) * Ideal.div 1 (k : EReal)) * (smR * T) := by ac_rfl
    _ = _ := by rw [this, one_mul]

theorem kDV_eq (j : Fin 2) (p : Fin 1280) (d : Fin 128) : kDV I r j b p n d = refDV I r j b p n d := by
  obtain ⟨k, hk, ek⟩ := G.ks r j b n
  obtain ⟨v, hv, ev⟩ := G.vs r j b n
  unfold kDV refDV
  rw [sum_swap I G n (fun jq pq h => I.d r jq b pq h d * (if kVis I r b jq pq j p then kP I r b n h jq pq j p else 0))]
  have e : (∑ g : Fin 7, ∑ x : Fin 2560, I.d r (jOf x) b (pOf x) (hOf n g) d
        * (if kVis I r b (jOf x) (pOf x) j p then kP I r b n (hOf n g) (jOf x) (pOf x) j p else 0))
      = (k : EReal) * ((v : EReal) * ∑ g : Fin 7, ∑ x : Fin 2560, refP I r b n (hOf n g) (jOf x) (pOf x) j p * I.d r (jOf x) b (pOf x) (hOf n g) d) := by
    rw [← pos_sum _ v hv, ← pos_sum _ k hk]
    refine Finset.sum_congr rfl fun g _ => ?_
    rw [← pos_sum _ v hv, ← pos_sum _ k hk]
    refine Finset.sum_congr rfl fun x _ => ?_
    rw [p_masked I G, ek, ev]
    ac_rfl
  rw [e, ek, ev]
  generalize (∑ g : Fin 7, ∑ x : Fin 2560, refP I r b n (hOf n g) (jOf x) (pOf x) j p * I.d r (jOf x) b (pOf x) (hOf n g) d) = T
  have h1 := pos_inv k hk
  have h2 := pos_inv v hv
  calc (k : EReal) * ((v : EReal) * T) * Ideal.div 1 (k : EReal) * Ideal.div 1 (v : EReal)
      = ((k : EReal) * Ideal.div 1 (k : EReal)) * (((v : EReal) * Ideal.div 1 (v : EReal)) * T) := by ac_rfl
    _ = _ := by rw [h1, h2, one_mul, one_mul]

end

end Cert.Ring

end
-- ==== Proof.KvGood.lean ====
/- What the precondition says: the scales of the keys and of the values are positive reals, and the ranks' chunks are in range. -/
module

public import proofs.«01_k».proof.Defs
public import proofs.«01_k».proof.Proof.KWord
public import proofs.«01_k».proof.Proof.KEq
public import Idealize.ShloMosaic.Lib.Pointwise

@[expose] public section

set_option maxRecDepth 65536

noncomputable section

namespace Cert.Ring

open Idealize.ShloMosaic Idealize.ShloMosaic.TcCoe Idealize.ShloMosaic.Tactic
open Cert.Pre_scales_positive (S3x2x5x1280x28x128 S3x2x5x28 S3x2x5x1280x4x128 S3x2x5x4 S5 S3x2x5x28x1280)

instance preFacts : Cert.Pre_scales_positive.Facts := ⟨by decide, by decide, by decide, by decide⟩

theorem and_one : ∀ x y : BitVec 1, IntOp.andi x y = 1#1 → x = 1#1 ∧ y = 1#1 := by decide

theorem top_bits : Ideal.ofBits .f32 2139095040#32 = ⊤ := by simp [Ideal.ofBits, Ideal.ieee]
theorem nought_bits : Ideal.ofBits .f32 0#32 = 0 := by simp [Ideal.ofBits, Ideal.ieee]

theorem of_bit {p : Prop} [Decidable p] (h : BitVec.ofBool (decide p) = 1#1) : p := by
  by_cases hp : p
  · exact hp
  · simp [hp] at h

theorem real_of {x : EReal} (h0 : 0 < x) (h1 : x < ⊤) : ∃ a : ℝ, 0 < a ∧ x = (a : EReal) := by
  have hb : x ≠ ⊥ := fun e => by simp [e] at h0
  refine ⟨x.toReal, EReal.toReal_pos h0 h1.ne, (EReal.coe_toReal h1.ne hb).symm⟩

theorem sge_bit (s : BitVec 32) (h : IntOp.cmpi CmpIPredicate.sge s 2147483651#32 = 1#1) : 3 - 2 ^ 31 ≤ s.toInt := by
  have hb : (2147483651#32).sle s = true := by
    cases hc : (2147483651#32).sle s
    · simp [IntOp.cmpi, hc] at h
    · rfl
  have hl : (2147483651#32).toInt ≤ s.toInt := by simpa [BitVec.sle] using hb
  have hk : (2147483651#32).toInt = 3 - 2 ^ 31 := by decide
  omega

variable [Cert.Pre_scales_positive.Facts]

theorem pre_at (a0 : FVec Ideal S3x2x5x1280x28x128 .fp8e4m3) (a1 : FVec Ideal S3x2x5x28 .f32) (a2 : FVec Ideal S3x2x5x1280x4x128 .fp8e4m3) (a3 : FVec Ideal S3x2x5x4 .f32) (a4 : FVec Ideal S3x2x5x1280x4x128 .fp8e4m3) (a5 : FVec Ideal S3x2x5x4 .f32) (a6 : IVec S5 32) (a7 : FVec Ideal S3x2x5x1280x28x128 .bf16) (a8 a9 : FVec Ideal S3x2x5x28x1280 .f32)
    (h : Cert.Pre_scales_positive.fn (F := Ideal) a0 a1 a2 a3 a4 a5 a6 a7 a8 a9 = fun _ => 1#1) (r : Fin 3) (j : Fin 2) (b : Fin 5) (n : Fin 4) :
    ((∃ x : ℝ, 0 < x ∧ (a3 (ix4 r j b n) : EReal) = (x : EReal)) ∧ (∃ x : ℝ, 0 < x ∧ (a5 (ix4 r j b n) : EReal) = (x : EReal))) ∧ 3 - 2 ^ 31 ≤ (a6 (ix1 b)).toInt := by
  have e := congrFun h (ix4 r j b n)
  have e' : Cert.Pre_scales_positive.fn (F := Ideal) a0 a1 a2 a3 a4 a5 a6 a7 a8 a9 (ix4 r j b n) = IntOp.andi (IntOp.andi (IntOp.andi (IntOp.andi (BitVec.ofBool (decide ((0 : EReal) < a3 (ix4 r j b n)))) (BitVec.ofBool (decide ((a3 (ix4 r j b n) : EReal) < Ideal.ofBits FTy.f32 2139095040#32)))) (BitVec.ofBool (decide ((0 : EReal) < a5 (ix4 r j b n))))) (BitVec.ofBool (decide ((a5 (ix4 r j b n) : EReal) < Ideal.ofBits FTy.f32 2139095040#32)))) (IntOp.cmpi CmpIPredicate.sge (a6 (ix1 b)) 2147483651#32) := by
    unfold Cert.Pre_scales_positive.fn
    pointwise
  have w := e'.symm.trans e
  obtain ⟨w, w5⟩ := and_one _ _ w
  obtain ⟨w, w4⟩ := and_one _ _ w
  obtain ⟨w, w3⟩ := and_one _ _ w
  obtain ⟨w1, w2⟩ := and_one _ _ w
  rw [top_bits] at w2 w4
  exact ⟨⟨real_of (of_bit w1) (of_bit w2), real_of (of_bit w3) (of_bit w4)⟩, sge_bit _ w5⟩

end Cert.Ring

end
-- ==== Proof.KiCore.lean ====
/- The kernel's body as a program over one head and one block of keys: the twelve printed loops are
   instances of the one chunk program below, and its effect on the buffers is stated by pure
   functions of the buffers' contents. -/
module

public import proofs.«01_k».proof.Proof.Gen.KernelIdeal.Frame
public import proofs.«01_k».proof.Proof.Gen.KernelIdeal.Skeleton

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-! ## Loads and stores at contents -/

/-- The contents with a rectangle's elements replaced. -/
def upd {s : Shape} {α : Type} (X : s.Idx → α) (r : Rect s) (w : r.shape.Idx → α) : s.Idx → α :=
  Function.extend r.emb w X

theorem upd_emb {s : Shape} {α : Type} (X : s.Idx → α) (r : Rect s) (w : r.shape.Idx → α) (x : r.shape.Idx) :
    upd X r w (r.emb x) = w x := r.emb.injective.extend_apply w X x

theorem upd_of_not {s : Shape} {α : Type} (X : s.Idx → α) (r : Rect s) (w : r.shape.Idx → α) (y : s.Idx)
    (h : ¬ ∃ x, r.emb x = y) : upd X r w y = X y := Function.extend_apply' w X y h

theorem read_store {κ : Kind} {sp : Space} {s : Shape} {e : EltTy} (v : View sig κ sp s e) (f : v.ty.Contents (Elt F))
    (r : Rect s) (w : r.shape.Idx → Elt F e) :
    v.read (Elt F) ((v.slice r).write (Elt F) f w Finset.univ) = upd (v.read (Elt F) f) r w := by
  funext y
  by_cases h : ∃ x, r.emb x = y
  · obtain ⟨x, rfl⟩ := h
    rw [upd_emb]
    exact View.read_writes_cons_emb v f r w [] x
  · rw [upd_of_not _ _ _ _ h]
    refine View.read_writes_apply_of_forall_not_mem v f y [⟨r, w⟩] fun p hp => ?_
    rw [List.mem_singleton.mp hp]
    exact fun hy => h (r.exists_idx_of_mem hy)

theorem wp_load_owns {c : Thread nD τ} {cs : CoreSpace} {s : Shape} {e : EltTy} {α : Type} {m : Memref sig c.2.kind cs s e} {r : LoadRect s}
    {hl : m.view.LoadsAt r} {k : (r.shape.Idx → Elt F e) → Prog (TpuEff nD τ sig (Elt F) Λ₀ c.2) α}
    {q : PosShare TreeShare} (X : s.Idx → Elt F e) (Q : α → sProp 𝕄) :
    (owns c m q X : sProp 𝕄)
      ⊢ iprop((owns c m q X -∗ wp frame (wpE (defs₀ (F := F)) Variants.none c none) Set.univ (k (fun j => X (r.idx j))) Q)
        -∗ wp frame (wpE (defs₀ (F := F)) Variants.none c none) Set.univ (.op (.load m r hl) k) Q) := by
  unfold owns
  iintro ⟨%f, %hf, H⟩ HK
  iapply (wp_load (defs := defs₀ (F := F)) Variants.none c none Set.univ (hl := hl) (k := k) (Q := Q) (q := q) (S := m.view.set) (f := f) (View.setOn_subset_set m.view r.set)) $$ H
  iintro H
  rw [show (m.view.readAt (Elt F) r f) = fun j => X (r.idx j) from by subst hf; rfl]
  iapply HK
  iexists f
  isplitr
  · ipureintro; exact hf
  · iexact H

theorem wp_store_owns {c : Thread nD τ} {cs : CoreSpace} {s : Shape} {e : EltTy} {α : Type} {m : Memref sig c.2.kind cs s e} {r : Rect s}
    {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ c.2) α}
    (X : s.Idx → Elt F e) (Q : α → sProp 𝕄) :
    (owns c m fullShare X : sProp 𝕄)
      ⊢ iprop((owns c m fullShare (upd X r w) -∗ wp frame (wpE (defs₀ (F := F)) Variants.none c none) Set.univ (k ⟨⟩) Q)
        -∗ wp frame (wpE (defs₀ (F := F)) Variants.none c none) Set.univ (.op (.store m r w Finset.univ hx hm) k) Q) := by
  unfold owns
  iintro ⟨%f, %hf, H⟩ HK
  iapply (wp_store (defs := defs₀ (F := F)) Variants.none c none Set.univ (m := m) (r := r) (w := w) (hx := hx) (hm := hm) (k := k) (Q := Q) (Mk := Finset.univ) (S := m.view.set) (f := f) (m.view.set_slice_subset r)) $$ H
  iintro H
  iapply HK
  iexists ((m.access r).write (Elt F) f w Finset.univ)
  isplitr
  · ipureintro; rw [← hf]; exact read_store m.view f r w
  · iexact H

end Cert.KernelIdeal.Hand
end
-- ==== Proof.KiProg.lean ====
/- One trip of a loop over the query heads, against one chunk of keys, as a program and as a function of the buffers' contents: the twelve printed loops are instances of it. -/
module

public import proofs.«01_k».proof.Proof.KiCore

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- The memrefs the kernel is called on, each a whole buffer. -/
structure Args where
  a4 : Memref sig .tc .smem S5 .i32
  h4 : a4.IsWhole
  a5 : Memref sig .tc .smem S840 .f32
  h5 : a5.IsWhole
  a6 : Memref sig .tc .smem S120 .f32
  h6 : a6.IsWhole
  a7 : Memref sig .tc .smem S120 .f32
  h7 : a7.IsWhole
  a8 : Memref sig .tc .smem S120 .f32
  h8 : a8.IsWhole
  a9 : Memref sig .tc .vmem S1x1x1x28x256x128 .fp8e4m3
  h9 : a9.IsWhole
  a10 : Memref sig .tc .vmem S1x1x1x28x256x128 .bf16
  h10 : a10.IsWhole
  a11 : Memref sig .tc .vmem S1x1x1x28x256 .f32
  h11 : a11.IsWhole
  a12 : Memref sig .tc .vmem S1x1x1x28x256 .f32
  h12 : a12.IsWhole
  a13 : Memref sig .tc .vmem S1x2x1x4x1280x128 .fp8e4m3
  h13 : a13.IsWhole
  a14 : Memref sig .tc .vmem S1x2x1x4x1280x128 .fp8e4m3
  h14 : a14.IsWhole
  a15 : Memref sig .tc .vmem S1x1x1x28x256x128 .f32
  h15 : a15.IsWhole
  a16 : Memref sig .tc .vmem S1x2x1x4x1280x128 .f32
  h16 : a16.IsWhole
  a17 : Memref sig .tc .vmem S1x2x1x4x1280x128 .f32
  h17 : a17.IsWhole
  a18 : Memref sig .tc .vmem S2x4x1280x128 .bf16
  h18 : a18.IsWhole
  a19 : Memref sig .tc .vmem S2x4x128x1280 .bf16
  h19 : a19.IsWhole
  a20 : Memref sig .tc .vmem S2x4x128x1280 .f32
  h20 : a20.IsWhole
  a21 : Memref sig .tc .vmem S2x4x128x1280 .f32
  h21 : a21.IsWhole

/-- What the input buffers hold. -/
structure Ins (F : FTy → Type) where
  x4 : S5.Idx → Elt F .i32
  x5 : S840.Idx → Elt F .f32
  x6 : S120.Idx → Elt F .f32
  x7 : S120.Idx → Elt F .f32
  x8 : S120.Idx → Elt F .f32
  x9 : S1x1x1x28x256x128.Idx → Elt F .fp8e4m3
  x10 : S1x1x1x28x256x128.Idx → Elt F .bf16
  x11 : S1x1x1x28x256.Idx → Elt F .f32
  x12 : S1x1x1x28x256.Idx → Elt F .f32
  x13 : S1x2x1x4x1280x128.Idx → Elt F .fp8e4m3
  x14 : S1x2x1x4x1280x128.Idx → Elt F .fp8e4m3

/-- What the output and scratch buffers hold. -/
structure St (F : FTy → Type) where
  x15 : S1x1x1x28x256x128.Idx → Elt F .f32
  x16 : S1x2x1x4x1280x128.Idx → Elt F .f32
  x17 : S1x2x1x4x1280x128.Idx → Elt F .f32
  x18 : S2x4x1280x128.Idx → Elt F .bf16
  x19 : S2x4x128x1280.Idx → Elt F .bf16
  x20 : S2x4x128x1280.Idx → Elt F .f32
  x21 : S2x4x128x1280.Idx → Elt F .f32

/-- Every buffer, owned at its contents. -/
def Own (c : Dev nD) (A : Args) (I : Ins F) (S : St F) : sProp 𝕄 :=
  iprop(owns (c : Thread nD τ) A.a4 fullShare I.x4 ∗ owns (c : Thread nD τ) A.a5 fullShare I.x5 ∗ owns (c : Thread nD τ) A.a6 fullShare I.x6 ∗ owns (c : Thread nD τ) A.a7 fullShare I.x7 ∗ owns (c : Thread nD τ) A.a8 fullShare I.x8 ∗ owns (c : Thread nD τ) A.a9 fullShare I.x9 ∗ owns (c : Thread nD τ) A.a10 fullShare I.x10 ∗ owns (c : Thread nD τ) A.a11 fullShare I.x11 ∗ owns (c : Thread nD τ) A.a12 fullShare I.x12 ∗ owns (c : Thread nD τ) A.a13 fullShare I.x13 ∗ owns (c : Thread nD τ) A.a14 fullShare I.x14 ∗ owns (c : Thread nD τ) A.a15 fullShare S.x15 ∗ owns (c : Thread nD τ) A.a16 fullShare S.x16 ∗ owns (c : Thread nD τ) A.a17 fullShare S.x17 ∗ owns (c : Thread nD τ) A.a18 fullShare S.x18 ∗ owns (c : Thread nD τ) A.a19 fullShare S.x19 ∗ owns (c : Thread nD τ) A.a20 fullShare S.x20 ∗ owns (c : Thread nD τ) A.a21 fullShare S.x21)

/-! ## Rectangles -/

theorem inbQ (h : ℕ) (hh : h < 28) : ∀ a, (![0, 0, 0, h, 0, 0] : Fin 6 → ℕ) a + S1x1x1x1x256x128.size a ≤ S1x1x1x28x256x128.size a := by
  intro a; fin_cases a <;> simp [Shape.size] <;> omega
theorem inbL (h : ℕ) (hh : h < 28) : ∀ a, (![0, 0, 0, h, 0] : Fin 5 → ℕ) a + S1x1x1x1x256.size a ≤ S1x1x1x28x256.size a := by
  intro a; fin_cases a <;> simp [Shape.size] <;> omega
theorem inbK (jk n kb : ℕ) (hj : jk < 2) (hn : n < 4) (hk : kb < 5) :
    ∀ a, (![0, jk, 0, n, 256 * kb, 0] : Fin 6 → ℕ) a + S1x1x1x1x256x128.size a ≤ S1x2x1x4x1280x128.size a := by
  intro a; fin_cases a <;> simp [Shape.size] <;> omega
theorem inbV (jk n kb : ℕ) (hj : jk < 2) (hn : n < 4) (hk : kb < 5) :
    ∀ a, (![jk, n, 256 * kb, 0] : Fin 4 → ℕ) a + S1x1x256x128.size a ≤ S2x4x1280x128.size a := by
  intro a; fin_cases a <;> simp [Shape.size] <;> omega
theorem inbT (jk n kb : ℕ) (hj : jk < 2) (hn : n < 4) (hk : kb < 5) :
    ∀ a, (![jk, n, 0, 256 * kb] : Fin 4 → ℕ) a + S1x1x128x256.size a ≤ S2x4x128x1280.size a := by
  intro a; fin_cases a <;> simp [Shape.size] <;> omega

/-- One query head's rows. -/
abbrev rQ (h : ℕ) (hh : h < 28) : Rect S1x1x1x28x256x128 := Rect.unit (s := S1x1x1x28x256x128) ![0, 0, 0, h, 0, 0] S1x1x1x1x256x128.size (inbQ h hh)
abbrev rL (h : ℕ) (hh : h < 28) : Rect S1x1x1x28x256 := Rect.unit (s := S1x1x1x28x256) ![0, 0, 0, h, 0] S1x1x1x1x256.size (inbL h hh)
/-- One block of 256 keys of one key head: in the keys, the values, and their transposes. -/
abbrev rK (jk n kb : ℕ) (hj : jk < 2) (hn : n < 4) (hk : kb < 5) : Rect S1x2x1x4x1280x128 :=
  Rect.unit (s := S1x2x1x4x1280x128) ![0, jk, 0, n, 256 * kb, 0] S1x1x1x1x256x128.size (inbK jk n kb hj hn hk)
abbrev rV (jk n kb : ℕ) (hj : jk < 2) (hn : n < 4) (hk : kb < 5) : Rect S2x4x1280x128 :=
  Rect.unit (s := S2x4x1280x128) ![jk, n, 256 * kb, 0] S1x1x256x128.size (inbV jk n kb hj hn hk)
abbrev rT (jk n kb : ℕ) (hj : jk < 2) (hn : n < 4) (hk : kb < 5) : Rect S2x4x128x1280 :=
  Rect.unit (s := S2x4x128x1280) ![jk, n, 0, 256 * kb] S1x1x128x256.size (inbT jk n kb hj hn hk)

/-- What a load through a rectangle reads. -/
abbrev ld {s : Shape} {α : Type} (X : s.Idx → α) (r : Rect s) : r.shape.Idx → α := fun j => X (r.toLoadRect.idx j)
/-- What a load of one word reads. -/
abbrev ld1 {s : Shape} {α : Type} (X : s.Idx → α) (r : Rect s) (h1 : r.shape.numel = 1) : α :=
  X (r.toLoadRect.idx (Shape.Idx.first (h1.symm ▸ Nat.one_pos)))

/-! ## What one head and one block compute -/

/-- What one trip computes once, before its blocks. -/
structure Head (F : FTy → Type) where
  q : FVec F S256x128 .fp8e4m3
  d : FVec F S256x128 .bf16
  lse : FVec F S256x256 .f32
  dlt : FVec F S256x256 .f32
  c1 : F .f32
  qt : FVec F S128x256 .bf16
  dt : FVec F S128x256 .bf16

/-- One block's weights: below the diagonal all of them, on it those at or left of the row. -/
def bP (m : Bool) (H : Head F) (k : Vec F S1x1x1x1x256x128 .fp8e4m3) : FVec F S256x256 .f32 :=
  match m with
  | true => k0_pay67 H.lse H.c1 (k0_pay66 H.q k)
  | false => k0_pay80 H.lse H.c1 (k0_pay66 H.q k)
/-- One block's gradient of the scores. -/
def bDS (m : Bool) (H : Head F) (k : Vec F S1x1x1x1x256x128 .fp8e4m3) (v : Vec F S1x1x256x128 .bf16) : FVec F S256x256 .bf16 :=
  truncf .bf16 (mulf (bP m H k) (subf (matmul dot_S256x128_S256x128_S256x256_1_1_0_0_n_n none H.d (shapeCast S256x128 v shapeCasts_S1x1x256x128_S256x128) (constant S256x256 .f32 0x00000000#32)) H.dlt)) bitsLt_bf16_f32
/-- The two accumulators' new blocks. -/
def bDV (m : Bool) (H : Head F) (k : Vec F S1x1x1x1x256x128 .fp8e4m3) (old : Vec F S1x1x128x256 .f32) : FVec F S1x1x128x256 .f32 :=
  shapeCast S1x1x128x256 (addf (shapeCast S128x256 old shapeCasts_S1x1x128x256_S128x256) (matmul dot_S128x256_S256x256_S128x256_1_0_0_1_n_n none H.dt (truncf .bf16 (bP m H k) bitsLt_bf16_f32) (constant S128x256 .f32 0x00000000#32))) shapeCasts_S128x256_S1x1x128x256
def bDK (m : Bool) (H : Head F) (k : Vec F S1x1x1x1x256x128 .fp8e4m3) (v : Vec F S1x1x256x128 .bf16) (old : Vec F S1x1x128x256 .f32) : FVec F S1x1x128x256 .f32 :=
  shapeCast S1x1x128x256 (addf (shapeCast S128x256 old shapeCasts_S1x1x128x256_S128x256) (matmul dot_S128x256_S256x256_S128x256_1_0_0_1_n_n none H.qt (bDS m H k v) (constant S128x256 .f32 0x00000000#32))) shapeCasts_S128x256_S1x1x128x256
/-- The block's share of the queries' gradient. -/
def bDQ (m : Bool) (H : Head F) (k : Vec F S1x1x1x1x256x128 .fp8e4m3) (v : Vec F S1x1x256x128 .bf16) (kt : Vec F S1x1x128x256 .bf16) : FVec F S128x256 .f32 :=
  matmul dot_S128x256_S256x256_S128x256_1_1_0_0_n_n none (shapeCast S128x256 kt shapeCasts_S1x1x128x256_S128x256) (bDS m H k v) (constant S128x256 .f32 0x00000000#32)
/-- The queries' gradient with a trip's sum added. -/
def tDQ (acc : FVec F S128x256 .f32) (old : Vec F S1x1x1x1x256x128 .f32) : FVec F S1x1x1x1x256x128 .f32 :=
  shapeCast S1x1x1x1x256x128 (addf (shapeCast S256x128 old shapeCasts_S1x1x1x1x256x128_S256x128) (transpose S256x128 [1, 0] (mulf acc (broadcast S128x256 (Scalar.ofBits .f32 0x3DB504F3#32 : F .f32))) transposes_S128x256_p1_0_S256x128)) shapeCasts_S256x128_S1x1x1x1x256x128

/-! ## The state after a block, a chunk -/

def blkDQ (I : Ins F) (S : St F) (H : Head F) (jk n kb : ℕ) (hj : jk < 2) (hn : n < 4) (hk : kb < 5) (m : Bool) : FVec F S128x256 .f32 :=
  bDQ m H (ld I.x13 (rK jk n kb hj hn hk)) (ld S.x18 (rV jk n kb hj hn hk)) (ld S.x19 (rT jk n kb hj hn hk))
def blkSt (I : Ins F) (S : St F) (H : Head F) (jk n kb : ℕ) (hj : jk < 2) (hn : n < 4) (hk : kb < 5) (m : Bool) : St F :=
  { S with
    x21 := upd S.x21 (rT jk n kb hj hn hk) (bDV m H (ld I.x13 (rK jk n kb hj hn hk)) (ld S.x21 (rT jk n kb hj hn hk)))
    x20 := upd S.x20 (rT jk n kb hj hn hk) (bDK m H (ld I.x13 (rK jk n kb hj hn hk)) (ld S.x18 (rV jk n kb hj hn hk)) (ld S.x20 (rT jk n kb hj hn hk))) }

/-- The later blocks of a chunk: each block's number, and whether it is on the diagonal. -/
def moreDQ (I : Ins F) (H : Head F) (jk n : ℕ) (hj : jk < 2) (hn : n < 4) : List (Fin 5 × Bool) → St F → FVec F S128x256 .f32 → FVec F S128x256 .f32
  | [], _, acc => acc
  | b :: L, S, acc => moreDQ I H jk n hj hn L (blkSt I S H jk n b.1.val hj hn b.1.isLt b.2) (addf acc (blkDQ I S H jk n b.1.val hj hn b.1.isLt b.2))
def moreSt (I : Ins F) (H : Head F) (jk n : ℕ) (hj : jk < 2) (hn : n < 4) : List (Fin 5 × Bool) → St F → St F
  | [], S => S
  | b :: L, S => moreSt I H jk n hj hn L (blkSt I S H jk n b.1.val hj hn b.1.isLt b.2)

/-- The first part of a trip: the head's rows and scales. -/
def headOf (I : Ins F) (h : ℕ) (hh : h < 28) (oQ oKV : Fin 1 → ℕ) (hQ : ∀ a, oQ a + S1.size a ≤ S840.size a) (hKV : ∀ a, oKV a + S1.size a ≤ S120.size a) : Head F :=
  let q := k0_pay59 (ld I.x9 (rQ h hh))
  let d := k0_pay60 (ld I.x10 (rQ h hh))
  let s := ld1 I.x5 (Rect.unit (s := S840) oQ S1.size hQ) numel1_S1
  { q := q, d := d
    lse := k0_pay61 (ld I.x11 (rL h hh)) (ld1 I.x8 (Rect.unit (s := S120) oKV S1.size hKV) numel1_S1)
    dlt := k0_pay62 (ld I.x12 (rL h hh)) (ld1 I.x7 (Rect.unit (s := S120) oKV S1.size hKV) numel1_S1)
    c1 := k0_pay63 s (ld1 I.x6 (Rect.unit (s := S120) oKV S1.size hKV) numel1_S1)
    qt := k0_pay64 q s
    dt := k0_pay65 d }

/-- A whole trip. -/
def tripSt (I : Ins F) (S : St F) (h n : ℕ) (hh : h < 28) (hn : n < 4) (oQ oKV : Fin 1 → ℕ) (hQ : ∀ a, oQ a + S1.size a ≤ S840.size a)
    (hKV : ∀ a, oKV a + S1.size a ≤ S120.size a) (jk : ℕ) (hj : jk < 2) (b : Fin 5 × Bool) (L : List (Fin 5 × Bool)) : St F :=
  let H := headOf I h hh oQ oKV hQ hKV
  let S1 := blkSt I S H jk n b.1.val hj hn b.1.isLt b.2
  let S2 := moreSt I H jk n hj hn L S1
  { S2 with x15 := upd S2.x15 (rQ h hh) (tDQ (moreDQ I H jk n hj hn L S1 (blkDQ I S H jk n b.1.val hj hn b.1.isLt b.2)) (ld S2.x15 (rQ h hh))) }

/-! ## The programs -/

/-- A program of the kernel's body. -/
abbrev Pg (F : FTy → Type) (α : Type) := Prog (TpuEff nD τ sig (Elt F) Λ₀ .tc) α

def blk (A : Args) (H : Head F) (jk n kb : ℕ) (hj : jk < 2) (hn : n < 4) (hk : kb < 5) (m : Bool) : Pg F (FVec F S128x256 .f32) := do
  let k : Vec F S1x1x1x1x256x128 .fp8e4m3 ← Prog.lift (.load A.a13 (rK jk n kb hj hn hk).toLoadRect (View.loadsAt_vmem h_S1x1x1x1x256x128))
  let v : Vec F S1x1x256x128 .bf16 ← Prog.lift (.load A.a18 (rV jk n kb hj hn hk).toLoadRect (View.loadsAt_vmem h_S1x1x256x128))
  let u : Vec F S1x1x128x256 .f32 ← Prog.lift (.load A.a21 (rT jk n kb hj hn hk).toLoadRect (View.loadsAt_vmem h_S1x1x128x256))
  let _u' : Vec F S1x1x128x256 .f32 ← Prog.lift (.load A.a21 (rT jk n kb hj hn hk).toLoadRect (View.loadsAt_vmem h_S1x1x128x256))
  Prog.lift (.store A.a21 (rT jk n kb hj hn hk) (bDV m H k u) Finset.univ (View.stores_vmem_bits_univ h_S1x1x128x256 rfl) (.inl rfl))
  let w : Vec F S1x1x128x256 .f32 ← Prog.lift (.load A.a20 (rT jk n kb hj hn hk).toLoadRect (View.loadsAt_vmem h_S1x1x128x256))
  let _w' : Vec F S1x1x128x256 .f32 ← Prog.lift (.load A.a20 (rT jk n kb hj hn hk).toLoadRect (View.loadsAt_vmem h_S1x1x128x256))
  Prog.lift (.store A.a20 (rT jk n kb hj hn hk) (bDK m H k v w) Finset.univ (View.stores_vmem_bits_univ h_S1x1x128x256 rfl) (.inl rfl))
  let kt : Vec F S1x1x128x256 .bf16 ← Prog.lift (.load A.a19 (rT jk n kb hj hn hk).toLoadRect (View.loadsAt_vmem h_S1x1x128x256))
  pure (bDQ m H k v kt)

def more (A : Args) (H : Head F) (jk n : ℕ) (hj : jk < 2) (hn : n < 4) : List (Fin 5 × Bool) → FVec F S128x256 .f32 → Pg F (FVec F S128x256 .f32)
  | [], acc => pure acc
  | b :: L, acc => do
    let d ← blk A H jk n b.1.val hj hn b.1.isLt b.2
    more A H jk n hj hn L (addf acc d)

def trip (A : Args) (h n : ℕ) (hh : h < 28) (hn : n < 4) (oQ oKV : Fin 1 → ℕ) (hQ : ∀ a, oQ a + S1.size a ≤ S840.size a)
    (hKV : ∀ a, oKV a + S1.size a ≤ S120.size a) (jk : ℕ) (hj : jk < 2) (b : Fin 5 × Bool) (L : List (Fin 5 × Bool)) : Pg F Unit := do
  let v97 : Vec F S1x1x1x1x256x128 .fp8e4m3 ← Prog.lift (.load A.a9 (rQ h hh).toLoadRect (View.loadsAt_vmem h_S1x1x1x1x256x128))
  let v100 : Vec F S1x1x1x1x256x128 .bf16 ← Prog.lift (.load A.a10 (rQ h hh).toLoadRect (View.loadsAt_vmem h_S1x1x1x1x256x128))
  let v115 : Elt F .f32 ← smemLoad A.a5 (Rect.unit (s := S840) oQ S1.size hQ) numel1_S1 rfl
  let v117 : Vec F S1x1x1x1x256 .f32 ← Prog.lift (.load A.a11 (rL h hh).toLoadRect (View.loadsAt_vmem h_S1x1x1x1x256))
  let v122 : Elt F .f32 ← smemLoad A.a8 (Rect.unit (s := S120) oKV S1.size hKV) numel1_S1 rfl
  let v126 : Vec F S1x1x1x1x256 .f32 ← Prog.lift (.load A.a12 (rL h hh).toLoadRect (View.loadsAt_vmem h_S1x1x1x1x256))
  let v129 : Elt F .f32 ← smemLoad A.a7 (Rect.unit (s := S120) oKV S1.size hKV) numel1_S1 rfl
  let v142 : Elt F .f32 ← smemLoad A.a6 (Rect.unit (s := S120) oKV S1.size hKV) numel1_S1 rfl
  let H : Head F := { q := k0_pay59 v97, d := k0_pay60 v100, lse := k0_pay61 v117 v122, dlt := k0_pay62 v126 v129, c1 := k0_pay63 v115 v142,
                      qt := k0_pay64 (k0_pay59 v97) v115, dt := k0_pay65 (k0_pay60 v100) }
  let d ← blk A H jk n b.1.val hj hn b.1.isLt b.2
  let acc ← more A H jk n hj hn L d
  let o : Vec F S1x1x1x1x256x128 .f32 ← Prog.lift (.load A.a15 (rQ h hh).toLoadRect (View.loadsAt_vmem h_S1x1x1x1x256x128))
  let _o' : Vec F S1x1x1x1x256x128 .f32 ← Prog.lift (.load A.a15 (rQ h hh).toLoadRect (View.loadsAt_vmem h_S1x1x1x1x256x128))
  Prog.lift (.store A.a15 (rQ h hh) (tDQ acc o) Finset.univ (View.stores_vmem_bits_univ h_S1x1x1x1x256x128 rfl) (.inl rfl))
  pure ⟨⟩

/-! ## Their effect -/

variable (c : Dev nD)

theorem wp_pure' {α : Type} (a : α) (Q : α → sProp 𝕄) : Q a ⊢ (wp frame (wpE (defs₀ (F := F)) Variants.none (c : Thread nD τ) none) Set.univ) (pure a : Pg F α) Q := by
  rw [show (pure a : Pg F α) = .ret a from rfl, wp_ret]
  iintro H
  imodintro
  iexact H

theorem wp_blk (A : Args) (I : Ins F) (S : St F) (H : Head F) (jk n kb : ℕ) (hj : jk < 2) (hn : n < 4) (hk : kb < 5) (m : Bool)
    (Q : FVec F S128x256 .f32 → sProp 𝕄) :
    iprop(Own c A I S ∗ (Own c A I (blkSt I S H jk n kb hj hn hk m) -∗ Q (blkDQ I S H jk n kb hj hn hk m)))
      ⊢ (wp frame (wpE (defs₀ (F := F)) Variants.none (c : Thread nD τ) none) Set.univ) (blk A H jk n kb hj hn hk m) Q := by
  unfold blk
  simp only [Prog.lift, Prog.bind_op, Prog.bind_ret]
  unfold Own blkDQ
  iintro ⟨⟨H4, H5, H6, H7, H8, H9, H10, H11, H12, H13, H14, H15, H16, H17, H18, H19, H20, H21⟩, HK⟩
  iapply (wp_load_owns I.x13 _) $$ H13
  iintro H13
  iapply (wp_load_owns S.x18 _) $$ H18
  iintro H18
  iapply (wp_load_owns S.x21 _) $$ H21
  iintro H21
  iapply (wp_load_owns S.x21 _) $$ H21
  iintro H21
  iapply (wp_store_owns S.x21 _) $$ H21
  iintro H21
  iapply (wp_load_owns S.x20 _) $$ H20
  iintro H20
  iapply (wp_load_owns S.x20 _) $$ H20
  iintro H20
  iapply (wp_store_owns S.x20 _) $$ H20
  iintro H20
  iapply (wp_load_owns S.x19 _) $$ H19
  iintro H19
  iapply (wp_pure' c _ _)
  iapply HK
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem wp_more (A : Args) (I : Ins F) (H : Head F) (jk n : ℕ) (hj : jk < 2) (hn : n < 4) (L : List (Fin 5 × Bool)) :
    ∀ (S : St F) (acc : FVec F S128x256 .f32) (Q : FVec F S128x256 .f32 → sProp 𝕄),
    iprop(Own c A I S ∗ (Own c A I (moreSt I H jk n hj hn L S) -∗ Q (moreDQ I H jk n hj hn L S acc)))
      ⊢ (wp frame (wpE (defs₀ (F := F)) Variants.none (c : Thread nD τ) none) Set.univ) (more A H jk n hj hn L acc) Q := by
  induction L with
  | nil =>
    intro S acc Q
    rw [moreDQ, moreSt, show (more A H jk n hj hn [] acc : Pg F _) = pure acc from rfl]
    iintro ⟨HO, HK⟩
    iapply (wp_pure' c acc Q)
    iapply HK
    iexact HO
  | cons b L ih =>
    intro S acc Q
    rw [moreDQ, moreSt, show (more A H jk n hj hn (b :: L) acc : Pg F _) = (blk A H jk n b.1.val hj hn b.1.isLt b.2 >>= fun d => more A H jk n hj hn L (addf acc d)) from rfl, wp_bind]
    iintro ⟨HO, HK⟩
    iapply (wp_blk c A I S H jk n b.1.val hj hn b.1.isLt b.2 _)
    isplitl [HO]; · iexact HO
    iintro HO
    iapply (ih _ _ Q)
    isplitl [HO]; · iexact HO
    iexact HK

theorem wp_trip (A : Args) (I : Ins F) (S : St F) (h n : ℕ) (hh : h < 28) (hn : n < 4) (oQ oKV : Fin 1 → ℕ) (hQ : ∀ a, oQ a + S1.size a ≤ S840.size a)
    (hKV : ∀ a, oKV a + S1.size a ≤ S120.size a) (jk : ℕ) (hj : jk < 2) (b : Fin 5 × Bool) (L : List (Fin 5 × Bool)) :
    Own c A I S ⊢ (wp frame (wpE (defs₀ (F := F)) Variants.none (c : Thread nD τ) none) Set.univ) (trip A h n hh hn oQ oKV hQ hKV jk hj b L) (fun _ => Own c A I (tripSt I S h n hh hn oQ oKV hQ hKV jk hj b L)) := by
  unfold trip
  simp only [smemLoad, smemLoadElt, Prog.lift, Prog.bind_op, Prog.bind_ret]
  unfold Own
  iintro ⟨H4, H5, H6, H7, H8, H9, H10, H11, H12, H13, H14, H15, H16, H17, H18, H19, H20, H21⟩
  iapply (wp_load_owns I.x9 _) $$ H9
  iintro H9
  iapply (wp_load_owns I.x10 _) $$ H10
  iintro H10
  iapply (wp_load_owns I.x5 _) $$ H5
  iintro H5
  iapply (wp_load_owns I.x11 _) $$ H11
  iintro H11
  iapply (wp_load_owns I.x8 _) $$ H8
  iintro H8
  iapply (wp_load_owns I.x12 _) $$ H12
  iintro H12
  iapply (wp_load_owns I.x7 _) $$ H7
  iintro H7
  iapply (wp_load_owns I.x6 _) $$ H6
  iintro H6
  rw [wp_bind]
  iapply (wp_blk c A I S (headOf I h hh oQ oKV hQ hKV) jk n b.1.val hj hn b.1.isLt b.2 _)
  isplitl [H4 H5 H6 H7 H8 H9 H10 H11 H12 H13 H14 H15 H16 H17 H18 H19 H20 H21]
  · unfold Own
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  iintro HO
  rw [wp_bind]
  iapply (wp_more c A I (headOf I h hh oQ oKV hQ hKV) jk n hj hn L _ _ _)
  isplitl [HO]; · iexact HO
  unfold Own
  iintro ⟨H4, H5, H6, H7, H8, H9, H10, H11, H12, H13, H14, H15, H16, H17, H18, H19, H20, H21⟩
  iapply (wp_load_owns _ _) $$ H15
  iintro H15
  iapply (wp_load_owns _ _) $$ H15
  iintro H15
  iapply (wp_store_owns _ _) $$ H15
  iintro H15
  iapply (wp_pure' c _ _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

end Cert.KernelIdeal.Hand
end
-- ==== Proof.KiTrips.lean ====
/- The twelve printed loop bodies are trips: the trip's head, key head and offsets are the trip number, its seventh and the numbers of the scales. -/
module

public import proofs.«01_k».proof.Proof.KiProg

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- The head number and the key head number of a trip, as the kernel computes them. -/
def hW (k : ℕ) : ℕ := (Scalar.indexCast (Scf.iv 0#32 1#32 k)).toNat
def nWd (w : BitVec 32) : BitVec 32 :=
  Scalar.select (Scalar.andi (Scalar.cmpi .ne (Scalar.subi (Scalar.extui (Scalar.cmpi .sgt w 0#32)) (Scalar.extui (Scalar.cmpi .slt w 0#32))) (Scalar.subi (Scalar.extui (Scalar.cmpi .sgt 7#32 0#32)) (Scalar.extui (Scalar.cmpi .slt 7#32 0#32)))) (Scalar.cmpi .ne (Scalar.remsi w 7#32) 0#32)) (Scalar.subi (Scalar.divsi w 7#32) 1#32) (Scalar.divsi w 7#32)
def nW (k : ℕ) : ℕ := (Scalar.indexCast (nWd (Scf.iv 0#32 1#32 k))).toNat

theorem hW_eq : ∀ k : Fin 28, hW k.val = k.val := by decide
theorem nW_eq : ∀ k : Fin 28, nW k.val = k.val / 7 := by decide

theorem hW_lt (k : Fin 28) : hW k.val < 28 := (hW_eq k).trans_lt k.isLt
theorem nW_lt (k : Fin 28) : nW k.val < 4 := (nW_eq k).trans_lt (by omega)

/-- Where a key head's scales are, as the kernel computes it. -/
def kvWd (i : grid0.Coords) (jk : ℕ) (k : ℕ) : Fin 1 → ℕ :=
  ![(Scalar.indexCast (Scalar.addi (Scalar.muli (Scalar.addi (Scalar.muli (Scalar.addi (Scalar.muli (BitVec.ofNat 32 (i 0).val) 2#32) (BitVec.ofNat 32 jk)) 5#32) (BitVec.ofNat 32 (i 1).val)) 4#32) (nWd (Scf.iv 0#32 1#32 k)))).toNat]

/-- Where the query head's scale and the key head's scales are. -/
def qsOff (i : grid0.Coords) (h : ℕ) : Fin 1 → ℕ := ![280 * (i 0).val + 140 * (i 2).val + 28 * (i 1).val + h]
def kvOff (i : grid0.Coords) (jk n : ℕ) : Fin 1 → ℕ := ![40 * (i 0).val + 20 * jk + 4 * (i 1).val + n]

theorem qsOff_inb (i : grid0.Coords) (h : ℕ) (hh : h < 28) : ∀ a, qsOff i h a + S1.size a ≤ S840.size a := by
  have h0 : (i 0).val < 3 := (i 0).isLt
  have h1 : (i 1).val < 5 := (i 1).isLt
  have h2 : (i 2).val < 2 := (i 2).isLt
  intro a; fin_cases a; simp [qsOff, Shape.size]; omega
theorem kvOff_inb (i : grid0.Coords) (jk n : ℕ) (hj : jk < 2) (hn : n < 4) : ∀ a, kvOff i jk n a + S1.size a ≤ S120.size a := by
  have h0 : (i 0).val < 3 := (i 0).isLt
  have h1 : (i 1).val < 5 := (i 1).isLt
  intro a; fin_cases a; simp [kvOff, Shape.size]; omega

theorem kvWd_eq (i : grid0.Coords) (jk : Fin 2) (k : Fin 28) : kvWd i jk.val k.val = kvOff i jk.val (k.val / 7) := by
  have key : ∀ (x : Fin 3) (y : Fin 5) (jk : Fin 2) (k : Fin 28), (Scalar.indexCast (Scalar.addi (Scalar.muli (Scalar.addi (Scalar.muli (Scalar.addi (Scalar.muli (BitVec.ofNat 32 x.val) 2#32) (BitVec.ofNat 32 jk.val)) 5#32) (BitVec.ofNat 32 y.val)) 4#32) (nWd (Scf.iv 0#32 1#32 k)))).toNat = 40 * x.val + 20 * jk.val + 4 * y.val + k.val / 7 := by
    decide
  funext a; fin_cases a
  exact key (i 0) (i 1) jk k

/-- A trip at the kernel's own numbers. -/
def tripW (A : Args) (i : grid0.Coords) (jk : Fin 2) (b : Fin 5 × Bool) (L : List (Fin 5 × Bool)) (k : Fin 28) : Pg F Unit :=
  trip A (hW k.val) (nW k.val) (hW_lt k) (nW_lt k) (k0_off3 i k) (kvWd i jk.val k.val) (k0_off3_inb i k)
    (by rw [kvWd_eq]; exact kvOff_inb i _ _ jk.isLt (by omega)) jk.val jk.isLt b L

/-- A trip at the trip's number. -/
def tripN (A : Args) (i : grid0.Coords) (jk : Fin 2) (b : Fin 5 × Bool) (L : List (Fin 5 × Bool)) (k : Fin 28) : Pg F Unit :=
  trip A k.val (k.val / 7) k.isLt (by omega) (qsOff i k.val) (kvOff i jk.val (k.val / 7)) (qsOff_inb i _ k.isLt)
    (kvOff_inb i _ _ jk.isLt (by omega)) jk.val jk.isLt b L

theorem trip_congr (A : Args) {h h' n n' : ℕ} (hh : h < 28) (hn : n < 4) (hh' : h' < 28) (hn' : n' < 4) {oQ oQ' oKV oKV' : Fin 1 → ℕ} (hQ : ∀ a, oQ a + S1.size a ≤ S840.size a)
    (hKV : ∀ a, oKV a + S1.size a ≤ S120.size a) (hQ' : ∀ a, oQ' a + S1.size a ≤ S840.size a)
    (hKV' : ∀ a, oKV' a + S1.size a ≤ S120.size a) (jk : ℕ) (hj : jk < 2) (b : Fin 5 × Bool) (L : List (Fin 5 × Bool))
    (e1 : h = h') (e2 : n = n') (e3 : oQ = oQ') (e4 : oKV = oKV') :
    trip (F := F) A h n hh hn oQ oKV hQ hKV jk hj b L = trip A h' n' hh' hn' oQ' oKV' hQ' hKV' jk hj b L := by
  subst e1 e2 e3 e4; rfl

theorem tripW_eq (A : Args) (i : grid0.Coords) (jk : Fin 2) (b : Fin 5 × Bool) (L : List (Fin 5 × Bool)) (k : Fin 28) :
    tripW (F := F) A i jk b L k = tripN A i jk b L k :=
  trip_congr A _ _ _ _ _ _ _ _ _ _ _ _ (hW_eq k) (nW_eq k) (k0_off3_eq i k) (kvWd_eq i jk k)

theorem op_congr {α β : Type} {e e' : TpuEff nD τ sig (Elt F) Λ₀ .tc α} {k k' : α → Pg F β} (h : e = e') (hk : ∀ v, k v = k' v) : (Prog.op e k : Pg F β) = Prog.op e' k' := by
  subst h; exact congrArg _ (funext hk)

theorem t1_body (A : Args) (i : grid0.Coords) (arg0 arg1 arg2 : BitVec 32) (k : Fin k0_t1_loop.trips) (u : Unit) :
    k0_t1_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 k u = tripW A i 0 (0, false) [(1, false), (2, false), (3, false), (4, false)] k := by
  unfold k0_t1_body tripW trip
  simp only [k0_part13_eq_skeleton, k0_part13_skel, more, blk, smemLoad, smemLoadElt, Prog.lift, Prog.bind_op, Prog.bind_ret, Prog.pure_eq_ret]
  repeat (refine op_congr rfl ?_; intro _)
  rfl

theorem t2_body (A : Args) (i : grid0.Coords) (arg0 arg1 arg2 : BitVec 32) (k : Fin k0_t2_loop.trips) (u : Unit) :
    k0_t2_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 k u = tripW A i 0 (0, true) [] k := by
  unfold k0_t2_body tripW trip
  simp only [k0_part14_eq_skeleton, k0_part14_skel, k0_part15_eq_skeleton, k0_part15_skel, k0_part16_eq_skeleton, k0_part16_skel, more, blk, smemLoad, smemLoadElt, Prog.lift, Prog.bind_op, Prog.bind_ret, Prog.pure_eq_ret]
  repeat (refine op_congr rfl ?_; intro _)
  rfl

theorem t3_body (A : Args) (i : grid0.Coords) (arg0 arg1 arg2 : BitVec 32) (k : Fin k0_t3_loop.trips) (u : Unit) :
    k0_t3_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 k u = tripW A i 0 (0, false) [(1, true)] k := by
  unfold k0_t3_body tripW trip
  simp only [k0_part17_eq_skeleton, k0_part17_skel, k0_part18_eq_skeleton, k0_part18_skel, k0_part19_eq_skeleton, k0_part19_skel, k0_part20_eq_skeleton, k0_part20_skel, more, blk, smemLoad, smemLoadElt, Prog.lift, Prog.bind_op, Prog.bind_ret, Prog.pure_eq_ret]
  repeat (refine op_congr rfl ?_; intro _)
  rfl

theorem t4_body (A : Args) (i : grid0.Coords) (arg0 arg1 arg2 arg3 v5 v8 : BitVec 32) (v29 : BitVec 1) (c2_i32 : BitVec 32) (k : Fin k0_t4_loop.trips) (u : Unit) :
    k0_t4_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32 k u = tripW A i 0 (0, false) [(1, false), (2, true)] k := by
  unfold k0_t4_body tripW trip
  simp only [k0_part21_eq_skeleton, k0_part21_skel, k0_part22_eq_skeleton, k0_part22_skel, k0_part23_eq_skeleton, k0_part23_skel, k0_part24_eq_skeleton, k0_part24_skel, k0_part25_eq_skeleton, k0_part25_skel, more, blk, smemLoad, smemLoadElt, Prog.lift, Prog.bind_op, Prog.bind_ret, Prog.pure_eq_ret]
  repeat (refine op_congr rfl ?_; intro _)
  rfl

theorem t5_body (A : Args) (i : grid0.Coords) (arg0 arg1 arg2 arg3 v5 v8 : BitVec 32) (v29 : BitVec 1) (c2_i32 : BitVec 32) (k : Fin k0_t5_loop.trips) (u : Unit) :
    k0_t5_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32 k u = tripW A i 0 (0, false) [(1, false), (2, false), (3, true)] k := by
  unfold k0_t5_body tripW trip
  simp only [k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, more, blk, smemLoad, smemLoadElt, Prog.lift, Prog.bind_op, Prog.bind_ret, Prog.pure_eq_ret]
  repeat (refine op_congr rfl ?_; intro _)
  rfl

theorem t6_body (A : Args) (i : grid0.Coords) (arg0 arg1 arg2 arg3 v5 v8 : BitVec 32) (v29 : BitVec 1) (c2_i32 : BitVec 32) (k : Fin k0_t6_loop.trips) (u : Unit) :
    k0_t6_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32 k u = tripW A i 0 (0, false) [(1, false), (2, false), (3, false), (4, true)] k := by
  unfold k0_t6_body tripW trip
  simp only [k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, more, blk, smemLoad, smemLoadElt, Prog.lift, Prog.bind_op, Prog.bind_ret, Prog.pure_eq_ret]
  repeat (refine op_congr rfl ?_; intro _)
  rfl

theorem t7_body (A : Args) (i : grid0.Coords) (arg0 arg1 arg2 arg3 v5 v8 : BitVec 32) (v29 : BitVec 1) (c2_i32 : BitVec 32) (k : Fin k0_t7_loop.trips) (u : Unit) :
    k0_t7_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32 k u = tripW A i 1 (0, false) [(1, false), (2, false), (3, false), (4, false)] k := by
  unfold k0_t7_body tripW trip
  simp only [k0_part47_eq_skeleton, k0_part47_skel, more, blk, smemLoad, smemLoadElt, Prog.lift, Prog.bind_op, Prog.bind_ret, Prog.pure_eq_ret]
  repeat (refine op_congr rfl ?_; intro _)
  rfl

theorem t8_body (A : Args) (i : grid0.Coords) (arg0 arg1 arg2 arg3 v5 v8 : BitVec 32) (v29 : BitVec 1) (c2_i32 : BitVec 32) (k : Fin k0_t8_loop.trips) (u : Unit) :
    k0_t8_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32 k u = tripW A i 1 (0, true) [] k := by
  unfold k0_t8_body tripW trip
  simp only [k0_part48_eq_skeleton, k0_part48_skel, k0_part49_eq_skeleton, k0_part49_skel, k0_part50_eq_skeleton, k0_part50_skel, more, blk, smemLoad, smemLoadElt, Prog.lift, Prog.bind_op, Prog.bind_ret, Prog.pure_eq_ret]
  repeat (refine op_congr rfl ?_; intro _)
  rfl

theorem t9_body (A : Args) (i : grid0.Coords) (arg0 arg1 arg2 arg3 v5 v8 : BitVec 32) (v29 : BitVec 1) (c2_i32 : BitVec 32) (k : Fin k0_t9_loop.trips) (u : Unit) :
    k0_t9_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32 k u = tripW A i 1 (0, false) [(1, true)] k := by
  unfold k0_t9_body tripW trip
  simp only [k0_part51_eq_skeleton, k0_part51_skel, k0_part52_eq_skeleton, k0_part52_skel, k0_part53_eq_skeleton, k0_part53_skel, k0_part54_eq_skeleton, k0_part54_skel, more, blk, smemLoad, smemLoadElt, Prog.lift, Prog.bind_op, Prog.bind_ret, Prog.pure_eq_ret]
  repeat (refine op_congr rfl ?_; intro _)
  rfl

theorem t10_body (A : Args) (i : grid0.Coords) (arg0 arg1 arg2 arg3 v5 v8 : BitVec 32) (v29 : BitVec 1) (c2_i32 : BitVec 32) (k : Fin k0_t10_loop.trips) (u : Unit) :
    k0_t10_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32 k u = tripW A i 1 (0, false) [(1, false), (2, true)] k := by
  unfold k0_t10_body tripW trip
  simp only [k0_part55_eq_skeleton, k0_part55_skel, k0_part56_eq_skeleton, k0_part56_skel, k0_part57_eq_skeleton, k0_part57_skel, k0_part58_eq_skeleton, k0_part58_skel, k0_part59_eq_skeleton, k0_part59_skel, more, blk, smemLoad, smemLoadElt, Prog.lift, Prog.bind_op, Prog.bind_ret, Prog.pure_eq_ret]
  repeat (refine op_congr rfl ?_; intro _)
  rfl

theorem t11_body (A : Args) (i : grid0.Coords) (arg0 arg1 arg2 : BitVec 32) (k : Fin k0_t11_loop.trips) (u : Unit) :
    k0_t11_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 k u = tripW A i 1 (0, false) [(1, false), (2, false), (3, true)] k := by
  unfold k0_t11_body tripW trip
  simp only [k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, more, blk, smemLoad, smemLoadElt, Prog.lift, Prog.bind_op, Prog.bind_ret, Prog.pure_eq_ret]
  repeat (refine op_congr rfl ?_; intro _)
  rfl

theorem t12_body (A : Args) (i : grid0.Coords) (arg0 arg1 arg2 : BitVec 32) (k : Fin k0_t12_loop.trips) (u : Unit) :
    k0_t12_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 k u = tripW A i 1 (0, false) [(1, false), (2, false), (3, false), (4, true)] k := by
  unfold k0_t12_body tripW trip
  simp only [k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, more, blk, smemLoad, smemLoadElt, Prog.lift, Prog.bind_op, Prog.bind_ret, Prog.pure_eq_ret]
  repeat (refine op_congr rfl ?_; intro _)
  rfl

end Cert.KernelIdeal.Hand
end
-- ==== Proof.KiBody.lean ====
/- The kernel's body as one program: the first point of a ring step fills the scratch, each point clears its rows and runs the trips its conditions select, the last point writes the keys' and values' gradients. -/
module

public import proofs.«01_k».proof.Proof.KiTrips

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- The 28 trips of one loop. -/
def loopN (A : Args) (i : grid0.Coords) (jk : Fin 2) (b : Fin 5 × Bool) (L : List (Fin 5 × Bool)) : Pg F Unit :=
  Scf.Loop.for k0_t1_loop k0_t1_ok ⟨⟩ (fun k _ => tripN A i jk b L k)

theorem t1_loop (A : Args) (i : grid0.Coords) (arg0 arg1 arg2 : BitVec 32) :
    Scf.Loop.for k0_t1_loop k0_t1_ok ⟨⟩ (k0_t1_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2) = loopN A i 0 (0, false) [(1, false), (2, false), (3, false), (4, false)] :=
  congrArg (Scf.Loop.for k0_t1_loop k0_t1_ok ⟨⟩) (funext fun k => funext fun u => (t1_body A i arg0 arg1 arg2 k u).trans (tripW_eq A i _ _ _ k))
theorem t2_loop (A : Args) (i : grid0.Coords) (arg0 arg1 arg2 : BitVec 32) :
    Scf.Loop.for k0_t2_loop k0_t2_ok ⟨⟩ (k0_t2_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2) = loopN A i 0 (0, true) [] :=
  congrArg (Scf.Loop.for k0_t2_loop k0_t2_ok ⟨⟩) (funext fun k => funext fun u => (t2_body A i arg0 arg1 arg2 k u).trans (tripW_eq A i _ _ _ k))
theorem t3_loop (A : Args) (i : grid0.Coords) (arg0 arg1 arg2 : BitVec 32) :
    Scf.Loop.for k0_t3_loop k0_t3_ok ⟨⟩ (k0_t3_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2) = loopN A i 0 (0, false) [(1, true)] :=
  congrArg (Scf.Loop.for k0_t3_loop k0_t3_ok ⟨⟩) (funext fun k => funext fun u => (t3_body A i arg0 arg1 arg2 k u).trans (tripW_eq A i _ _ _ k))
theorem t4_loop (A : Args) (i : grid0.Coords) (arg0 arg1 arg2 arg3 v5 v8 : BitVec 32) (v29 : BitVec 1) (c2_i32 : BitVec 32) :
    Scf.Loop.for k0_t4_loop k0_t4_ok ⟨⟩ (k0_t4_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32) = loopN A i 0 (0, false) [(1, false), (2, true)] :=
  congrArg (Scf.Loop.for k0_t4_loop k0_t4_ok ⟨⟩) (funext fun k => funext fun u => (t4_body A i arg0 arg1 arg2 arg3 v5 v8 v29 c2_i32 k u).trans (tripW_eq A i _ _ _ k))
theorem t5_loop (A : Args) (i : grid0.Coords) (arg0 arg1 arg2 arg3 v5 v8 : BitVec 32) (v29 : BitVec 1) (c2_i32 : BitVec 32) :
    Scf.Loop.for k0_t5_loop k0_t5_ok ⟨⟩ (k0_t5_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32) = loopN A i 0 (0, false) [(1, false), (2, false), (3, true)] :=
  congrArg (Scf.Loop.for k0_t5_loop k0_t5_ok ⟨⟩) (funext fun k => funext fun u => (t5_body A i arg0 arg1 arg2 arg3 v5 v8 v29 c2_i32 k u).trans (tripW_eq A i _ _ _ k))
theorem t6_loop (A : Args) (i : grid0.Coords) (arg0 arg1 arg2 arg3 v5 v8 : BitVec 32) (v29 : BitVec 1) (c2_i32 : BitVec 32) :
    Scf.Loop.for k0_t6_loop k0_t6_ok ⟨⟩ (k0_t6_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32) = loopN A i 0 (0, false) [(1, false), (2, false), (3, false), (4, true)] :=
  congrArg (Scf.Loop.for k0_t6_loop k0_t6_ok ⟨⟩) (funext fun k => funext fun u => (t6_body A i arg0 arg1 arg2 arg3 v5 v8 v29 c2_i32 k u).trans (tripW_eq A i _ _ _ k))
theorem t7_loop (A : Args) (i : grid0.Coords) (arg0 arg1 arg2 arg3 v5 v8 : BitVec 32) (v29 : BitVec 1) (c2_i32 : BitVec 32) :
    Scf.Loop.for k0_t7_loop k0_t7_ok ⟨⟩ (k0_t7_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32) = loopN A i 1 (0, false) [(1, false), (2, false), (3, false), (4, false)] :=
  congrArg (Scf.Loop.for k0_t7_loop k0_t7_ok ⟨⟩) (funext fun k => funext fun u => (t7_body A i arg0 arg1 arg2 arg3 v5 v8 v29 c2_i32 k u).trans (tripW_eq A i _ _ _ k))
theorem t8_loop (A : Args) (i : grid0.Coords) (arg0 arg1 arg2 arg3 v5 v8 : BitVec 32) (v29 : BitVec 1) (c2_i32 : BitVec 32) :
    Scf.Loop.for k0_t8_loop k0_t8_ok ⟨⟩ (k0_t8_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32) = loopN A i 1 (0, true) [] :=
  congrArg (Scf.Loop.for k0_t8_loop k0_t8_ok ⟨⟩) (funext fun k => funext fun u => (t8_body A i arg0 arg1 arg2 arg3 v5 v8 v29 c2_i32 k u).trans (tripW_eq A i _ _ _ k))
theorem t9_loop (A : Args) (i : grid0.Coords) (arg0 arg1 arg2 arg3 v5 v8 : BitVec 32) (v29 : BitVec 1) (c2_i32 : BitVec 32) :
    Scf.Loop.for k0_t9_loop k0_t9_ok ⟨⟩ (k0_t9_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32) = loopN A i 1 (0, false) [(1, true)] :=
  congrArg (Scf.Loop.for k0_t9_loop k0_t9_ok ⟨⟩) (funext fun k => funext fun u => (t9_body A i arg0 arg1 arg2 arg3 v5 v8 v29 c2_i32 k u).trans (tripW_eq A i _ _ _ k))
theorem t10_loop (A : Args) (i : grid0.Coords) (arg0 arg1 arg2 arg3 v5 v8 : BitVec 32) (v29 : BitVec 1) (c2_i32 : BitVec 32) :
    Scf.Loop.for k0_t10_loop k0_t10_ok ⟨⟩ (k0_t10_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32) = loopN A i 1 (0, false) [(1, false), (2, true)] :=
  congrArg (Scf.Loop.for k0_t10_loop k0_t10_ok ⟨⟩) (funext fun k => funext fun u => (t10_body A i arg0 arg1 arg2 arg3 v5 v8 v29 c2_i32 k u).trans (tripW_eq A i _ _ _ k))
theorem t11_loop (A : Args) (i : grid0.Coords) (arg0 arg1 arg2 : BitVec 32) :
    Scf.Loop.for k0_t11_loop k0_t11_ok ⟨⟩ (k0_t11_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2) = loopN A i 1 (0, false) [(1, false), (2, false), (3, true)] :=
  congrArg (Scf.Loop.for k0_t11_loop k0_t11_ok ⟨⟩) (funext fun k => funext fun u => (t11_body A i arg0 arg1 arg2 k u).trans (tripW_eq A i _ _ _ k))
theorem t12_loop (A : Args) (i : grid0.Coords) (arg0 arg1 arg2 : BitVec 32) :
    Scf.Loop.for k0_t12_loop k0_t12_ok ⟨⟩ (k0_t12_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2) = loopN A i 1 (0, false) [(1, false), (2, false), (3, false), (4, true)] :=
  congrArg (Scf.Loop.for k0_t12_loop k0_t12_ok ⟨⟩) (funext fun k => funext fun u => (t12_body A i arg0 arg1 arg2 k u).trans (tripW_eq A i _ _ _ k))

/-- A loop run under a condition. -/
def cl (A : Args) (i : grid0.Coords) (c : BitVec 1) (jk : Fin 2) (b : Fin 5 × Bool) (L : List (Fin 5 × Bool)) : Pg F Unit :=
  if c = 1#1 then loopN A i jk b L else pure ⟨⟩

theorem cl_bind {β : Type} (A : Args) (i : grid0.Coords) (c : BitVec 1) (jk : Fin 2) (b : Fin 5 × Bool) (L : List (Fin 5 × Bool)) (K : Pg F β) :
    (if c = 1#1 then (loopN A i jk b L >>= fun _ => K) else K) = (cl A i c jk b L >>= fun _ => K) := by
  unfold cl; split <;> rfl

/-! ## The first point's filling of the scratch -/

theorem inbI13 (jk n : ℕ) (hj : jk < 2) (hn : n < 4) : ∀ a, (![0, jk, 0, n, 0, 0] : Fin 6 → ℕ) a + S1x1x1x1x1280x128.size a ≤ S1x2x1x4x1280x128.size a := by
  intro a; fin_cases a <;> simp [Shape.size] <;> omega
theorem inbI18 (jk n : ℕ) (hj : jk < 2) (hn : n < 4) : ∀ a, (![jk, n, 0, 0] : Fin 4 → ℕ) a + S1x1x1280x128.size a ≤ S2x4x1280x128.size a := by
  intro a; fin_cases a <;> simp [Shape.size] <;> omega
theorem inbI19 (jk n : ℕ) (hj : jk < 2) (hn : n < 4) : ∀ a, (![jk, n, 0, 0] : Fin 4 → ℕ) a + S1x1x128x1280.size a ≤ S2x4x128x1280.size a := by
  intro a; fin_cases a <;> simp [Shape.size] <;> omega

/-- One key head's keys, and its place in the two scratch layouts. -/
abbrev rI13 (p : Fin 2 × Fin 4) : Rect S1x2x1x4x1280x128 := Rect.unit (s := S1x2x1x4x1280x128) ![0, p.1.val, 0, p.2.val, 0, 0] S1x1x1x1x1280x128.size (inbI13 _ _ p.1.isLt p.2.isLt)
abbrev rI18 (p : Fin 2 × Fin 4) : Rect S2x4x1280x128 := Rect.unit (s := S2x4x1280x128) ![p.1.val, p.2.val, 0, 0] S1x1x1280x128.size (inbI18 _ _ p.1.isLt p.2.isLt)
abbrev rI19 (p : Fin 2 × Fin 4) : Rect S2x4x128x1280 := Rect.unit (s := S2x4x128x1280) ![p.1.val, p.2.val, 0, 0] S1x1x128x1280.size (inbI19 _ _ p.1.isLt p.2.isLt)
abbrev rW20 : Rect S2x4x128x1280 := Rect.unit (s := S2x4x128x1280) ![0, 0, 0, 0] S2x4x128x1280.size inb_S2x4x128x1280_S2x4x128x1280_0_0_0_0
abbrev rW15 : Rect S1x1x1x28x256x128 := Rect.unit (s := S1x1x1x28x256x128) ![0, 0, 0, 0, 0, 0] S1x1x1x28x256x128.size inb_S1x1x1x28x256x128_S1x1x1x28x256x128_0_0_0_0_0_0

theorem packed18 : ∀ p : Fin 2 × Fin 4, (rI18 p).PackedRows (EltTy.packing .bf16) := by decide
theorem packed19 : ∀ p : Fin 2 × Fin 4, (rI19 p).PackedRows (EltTy.packing .bf16) := by decide

def initStep (A : Args) (p : Fin 2 × Fin 4) : Pg F Unit := do
  let v : Vec F S1x1x1x1x1280x128 .fp8e4m3 ← Prog.lift (.load A.a14 (rI13 p).toLoadRect (View.loadsAt_vmem h_S1x1x1x1x1280x128))
  let _ : Vec F S1x1x1280x128 .bf16 ← Prog.lift (.load A.a18 (rI18 p).toLoadRect (View.loadsAt_vmem h_S1x1x1280x128))
  Prog.lift (.store A.a18 (rI18 p) (k0_pay7 v) Finset.univ (View.stores_vmem h_S1x1x1280x128 (A.h18.storeExact_slice rfl _ (packed18 p)) (fun _ => rfl)) (.inl rfl))
  let k : Vec F S1x1x1x1x1280x128 .fp8e4m3 ← Prog.lift (.load A.a13 (rI13 p).toLoadRect (View.loadsAt_vmem h_S1x1x1x1x1280x128))
  let _ : Vec F S1x1x128x1280 .bf16 ← Prog.lift (.load A.a19 (rI19 p).toLoadRect (View.loadsAt_vmem h_S1x1x128x1280))
  Prog.lift (.store A.a19 (rI19 p) (k0_pay8 k) Finset.univ (View.stores_vmem h_S1x1x128x1280 (A.h19.storeExact_slice rfl _ (packed19 p)) (fun _ => rfl)) (.inl rfl))
  pure ⟨⟩
def initL (A : Args) : List (Fin 2 × Fin 4) → Pg F Unit
  | [] => pure ⟨⟩
  | p :: L => initStep A p >>= fun _ => initL A L
def heads : List (Fin 2 × Fin 4) := [(0, 0), (0, 1), (0, 2), (0, 3), (1, 0), (1, 1), (1, 2), (1, 3)]
def initP (A : Args) : Pg F Unit := do
  let _ : Vec F S2x4x128x1280 .f32 ← Prog.lift (.load A.a20 rW20.toLoadRect (View.loadsAt_vmem h_S2x4x128x1280))
  Prog.lift (.store A.a20 rW20 (k0_pay5 (F := F)) Finset.univ (View.stores_vmem_bits_univ h_S2x4x128x1280 rfl) (.inl rfl))
  let _ : Vec F S2x4x128x1280 .f32 ← Prog.lift (.load A.a21 rW20.toLoadRect (View.loadsAt_vmem h_S2x4x128x1280))
  Prog.lift (.store A.a21 rW20 (k0_pay6 (F := F)) Finset.univ (View.stores_vmem_bits_univ h_S2x4x128x1280 rfl) (.inl rfl))
  initL A heads
def initC (A : Args) (c : BitVec 1) : Pg F Unit := if c = 1#1 then initP A else pure ⟨⟩

def zeroP (A : Args) : Pg F Unit := do
  let _ : Vec F S1x1x1x28x256x128 .f32 ← Prog.lift (.load A.a15 rW15.toLoadRect (View.loadsAt_vmem h_S1x1x1x28x256x128))
  Prog.lift (.store A.a15 rW15 (k0_pay353 (F := F)) Finset.univ (View.stores_vmem_bits_univ h_S1x1x1x28x256x128 rfl) (.inl rfl))
  pure ⟨⟩

/-! ## The last point's results -/

def finStep (A : Args) (i : grid0.Coords) (h : k0_cond14 i = 1#1) (p : Fin 2 × Fin 4) : Pg F Unit := do
  let ks : Elt F .f32 ← smemLoad A.a6 (Rect.unit (s := S120) (k0_off170 i (BitVec.ofNat 32 p.1.val) (BitVec.ofNat 32 p.2.val)) S1.size (k0_off170_inb i h p.1 p.2)) numel1_S1 rfl
  let vs : Elt F .f32 ← smemLoad A.a7 (Rect.unit (s := S120) (k0_off170 i (BitVec.ofNat 32 p.1.val) (BitVec.ofNat 32 p.2.val)) S1.size (k0_off170_inb i h p.1 p.2)) numel1_S1 rfl
  let dk : Vec F S1x1x128x1280 .f32 ← Prog.lift (.load A.a20 (rI19 p).toLoadRect (View.loadsAt_vmem h_S1x1x128x1280))
  let _ : Vec F S1x1x1x1x1280x128 .f32 ← Prog.lift (.load A.a16 (rI13 p).toLoadRect (View.loadsAt_vmem h_S1x1x1x1x1280x128))
  Prog.lift (.store A.a16 (rI13 p) (k0_pay323 ks dk) Finset.univ (View.stores_vmem_bits_univ h_S1x1x1x1x1280x128 rfl) (.inl rfl))
  let dv : Vec F S1x1x128x1280 .f32 ← Prog.lift (.load A.a21 (rI19 p).toLoadRect (View.loadsAt_vmem h_S1x1x128x1280))
  let _ : Vec F S1x1x1x1x1280x128 .f32 ← Prog.lift (.load A.a17 (rI13 p).toLoadRect (View.loadsAt_vmem h_S1x1x1x1x1280x128))
  Prog.lift (.store A.a17 (rI13 p) (k0_pay324 ks vs dv) Finset.univ (View.stores_vmem_bits_univ h_S1x1x1x1x1280x128 rfl) (.inl rfl))
  pure ⟨⟩
def finL (A : Args) (i : grid0.Coords) (h : k0_cond14 i = 1#1) : List (Fin 2 × Fin 4) → Pg F Unit
  | [] => pure ⟨⟩
  | p :: L => finStep A i h p >>= fun _ => finL A i h L
def finC (A : Args) (i : grid0.Coords) : Pg F Unit := if h : k0_cond14 i = 1#1 then finL A i h heads else pure ⟨⟩

/-! ## The whole body -/

/-- The ring's block a point reads, the query chunk, and a condition as the kernel computes it. -/
def srcW (i : grid0.Coords) (v1 : BitVec 32) : BitVec 32 := Scalar.remsi (Scalar.addi (Scalar.subi (BitVec.ofNat 32 (i 0).val) (Scalar.remsi v1 3#32)) 6#32) 3#32
def chW (i : grid0.Coords) : BitVec 32 := Scalar.select (Scalar.cmpi .eq (BitVec.ofNat 32 (i 2).val) 0#32) (BitVec.ofNat 32 (i 0).val) (Scalar.subi 5#32 (BitVec.ofNat 32 (i 0).val))
def cN (e : BitVec 1) : BitVec 1 := Scalar.cmpi .ne (Scalar.extui e : BitVec 32) 0#32
def cFull (w : BitVec 32) (i : grid0.Coords) : BitVec 1 := cN (Scalar.cmpi .slt w (chW i))
def cDiag (w : BitVec 32) (i : grid0.Coords) (t : BitVec 32) : BitVec 1 := cN (Scalar.andi (Scalar.cmpi .eq w (chW i)) (Scalar.cmpi .eq (BitVec.ofNat 32 (i 3).val) t))
def cInit (i : grid0.Coords) : BitVec 1 := cN (Scalar.andi (Scalar.cmpi .eq (BitVec.ofNat 32 (i 2).val) 0#32) (Scalar.cmpi .eq (BitVec.ofNat 32 (i 3).val) 0#32))

def ringP (A : Args) (i : grid0.Coords) : Pg F PUnit := do
  let v1 : Elt F .i32 ← smemLoad A.a4 (Rect.unit (s := S5) (k0_off1 i) S1.size (k0_off1_inb i)) numel1_S1 rfl
  initC A (cInit i)
  zeroP A
  cl A i (cFull (srcW i v1) i) 0 (0, false) [(1, false), (2, false), (3, false), (4, false)]
  cl A i (cDiag (srcW i v1) i 0#32) 0 (0, true) []
  cl A i (cDiag (srcW i v1) i 1#32) 0 (0, false) [(1, true)]
  cl A i (cDiag (srcW i v1) i 2#32) 0 (0, false) [(1, false), (2, true)]
  cl A i (cDiag (srcW i v1) i 3#32) 0 (0, false) [(1, false), (2, false), (3, true)]
  cl A i (cDiag (srcW i v1) i 4#32) 0 (0, false) [(1, false), (2, false), (3, false), (4, true)]
  cl A i (cFull (Scalar.subi 5#32 (srcW i v1)) i) 1 (0, false) [(1, false), (2, false), (3, false), (4, false)]
  cl A i (cDiag (Scalar.subi 5#32 (srcW i v1)) i 0#32) 1 (0, true) []
  cl A i (cDiag (Scalar.subi 5#32 (srcW i v1)) i 1#32) 1 (0, false) [(1, true)]
  cl A i (cDiag (Scalar.subi 5#32 (srcW i v1)) i 2#32) 1 (0, false) [(1, false), (2, true)]
  cl A i (cDiag (Scalar.subi 5#32 (srcW i v1)) i 3#32) 1 (0, false) [(1, false), (2, false), (3, true)]
  cl A i (cDiag (Scalar.subi 5#32 (srcW i v1)) i 4#32) 1 (0, false) [(1, false), (2, false), (3, false), (4, true)]
  finC A i
  pure ⟨⟩

theorem initC_bind {β : Type} (A : Args) (c : BitVec 1) (K : Pg F β) :
    (if c = 1#1 then (initP A >>= fun _ => K) else K) = (initC A c >>= fun _ => K) := by
  unfold initC; split <;> rfl
theorem finC_bind {β : Type} (A : Args) (i : grid0.Coords) (K : Pg F β) :
    (if h : k0_cond14 i = 1#1 then (finL A i h heads >>= fun _ => K) else K) = (finC A i >>= fun _ => K) := by
  unfold finC; split <;> rfl

theorem initD_bind {β : Type} (A : Args) (c : BitVec 1) (K : Pg F β) :
    (if _h : c = 1#1 then (initP A >>= fun _ => K) else K) = (initC A c >>= fun _ => K) := by
  unfold initC; split <;> rfl
theorem finC_ret (A : Args) (i : grid0.Coords) :
    (if h : k0_cond14 i = 1#1 then finL (F := F) A i h heads else Prog.ret PUnit.unit) = (finC A i >>= fun _ => Prog.ret PUnit.unit) := by
  unfold finC; split
  · exact (Prog.bind_pure _).symm
  · rfl

theorem bind_congr' {α β : Type} {p p' : Pg F α} {k k' : α → Pg F β} (h : p = p') (hk : ∀ v, k v = k' v) : (p >>= k) = (p' >>= k') := by
  subst h; exact congrArg _ (funext hk)

theorem ite_congr' {α : Type} {c : Prop} [Decidable c] {a a' b b' : α} (h : a = a') (hb : b = b') : (if c then a else b) = if c then a' else b' := by
  rw [h, hb]

theorem fin_eq (A : Args) (i : grid0.Coords) (h : k0_cond14 i = 1#1) (arg0 arg1 : BitVec 32) :
    (do
      let v108 : FVec F S1x1x1x1x1280x128 .f32 ← k0_part74 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 h
      let v136 : FVec F S1280x128 .f32 ← k0_part75 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 h v108
      let ⟨v167, v168⟩ : Σ' (v167 : FVec F S1280x128 .f32), Vec F S1x1x1x1x1280x128 .f32 ← k0_part76 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 h v136
      let v198 : FVec F S1280x128 .f32 ← k0_part77 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 h v167 v168
      let v229 : FVec F S1280x128 .f32 ← k0_part78 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 h v198
      let v260 : FVec F S1280x128 .f32 ← k0_part79 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 h v229
      let v291 : FVec F S1280x128 .f32 ← k0_part80 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 h v260
      let v322 : FVec F S1280x128 .f32 ← k0_part81 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 h v291
      let v323 : Vec F S1x1x1x1x1280x128 .f32 ← Prog.lift (.load A.a17 (Rect.unit (s := S1x2x1x4x1280x128) ![0, 1, 0, 3, 0, 0] S1x1x1x1x1280x128.size inb_S1x2x1x4x1280x128_S1x1x1x1x1280x128_0_1_0_3_0_0).toLoadRect (View.loadsAt_vmem h_S1x1x1x1x1280x128))
      Prog.lift (.store A.a17 (Rect.unit (s := S1x2x1x4x1280x128) ![0, 1, 0, 3, 0, 0] S1x1x1x1x1280x128.size inb_S1x2x1x4x1280x128_S1x1x1x1x1280x128_0_1_0_3_0_0) (k0_pay4 v322) Finset.univ (View.stores_vmem_bits_univ h_S1x1x1x1x1280x128 rfl) (.inl rfl))
      pure ⟨⟩ : Pg F PUnit) = finL A i h heads := by
  simp only [heads, finL, finStep, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, smemLoad, smemLoadElt, Prog.lift, Prog.bind_op, Prog.bind_ret, Prog.pure_eq_ret]
  repeat (refine op_congr rfl ?_; intro _)
  rfl

theorem init_eq {β : Type} (A : Args) (i : grid0.Coords) (K : Pg F β) :
    (do
      k0_part1 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21
      let v124 : FVec F S128x1280 .bf16 ← k0_part2 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21
      let v147 : FVec F S1x1x1280x128 .bf16 ← k0_part3 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 v124
      k0_part4 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 v147
      let v194 : FVec F S128x1280 .bf16 ← k0_part5 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21
      let v195 : Vec F S1x1x128x1280 .bf16 ← Prog.lift (.load A.a19 (Rect.unit (s := S2x4x128x1280) ![1, 3, 0, 0] S1x1x128x1280.size inb_S2x4x128x1280_S1x1x128x1280_1_3_0_0).toLoadRect (View.loadsAt_vmem h_S1x1x128x1280))
      Prog.lift (.store A.a19 (Rect.unit (s := S2x4x128x1280) ![1, 3, 0, 0] S1x1x128x1280.size inb_S2x4x128x1280_S1x1x128x1280_1_3_0_0) (k0_pay352 v194) Finset.univ (View.stores_vmem h_S1x1x128x1280 (A.h19.storeExact_slice rfl _ packedbf16_S2x4x128x1280_S1x1x128x1280_1_3_0_0) (fun _ => rfl)) (.inl rfl))
      K : Pg F β) = (initP A >>= fun _ => K) := by
  simp only [initP, heads, initL, initStep, k0_part1_eq_skeleton, k0_part1_skel, k0_part2_eq_skeleton, k0_part2_skel, k0_part3_eq_skeleton, k0_part3_skel, k0_part4_eq_skeleton, k0_part4_skel, k0_part5_eq_skeleton, k0_part5_skel, smemLoad, smemLoadElt, Prog.lift, Prog.bind_op, Prog.bind_ret, Prog.pure_eq_ret, Prog.bind_assoc]
  repeat (refine op_congr rfl ?_; intro _)
  rfl

set_option maxHeartbeats 1000000 in
theorem body_eq (A : Args) (i : grid0.Coords) :
    cc0_ring_bwd (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 = ringP A i := by
  have e := @fin_eq F _ _
  have e1 := @init_eq F _ _
  simp only [Prog.lift, Prog.bind_op, Prog.bind_ret, Prog.pure_eq_ret] at e e1
  rw [cc0_ring_bwd_eq_skeleton]
  unfold cc0_ring_bwd_skel
  rw [k0_part82_eq_skeleton, k0_part83_eq_skeleton]
  unfold k0_part82_skel k0_part83_skel ringP zeroP
  simp only [t1_loop, t2_loop, t3_loop, t4_loop, t5_loop, t6_loop, t7_loop, t8_loop, t9_loop, t10_loop, t11_loop, t12_loop, smemLoad, smemLoadElt, Prog.lift, Prog.bind_op, Prog.bind_ret, Prog.pure_eq_ret, Prog.bind_assoc, cl_bind, e, e1, initD_bind, finC_ret]
  rfl

end Cert.KernelIdeal.Hand
end
-- ==== Proof.KiRun.lean ====
/- What one grid point leaves in the buffers, as a function of what it finds there. -/
module

public import proofs.«01_k».proof.Proof.KiBody

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- The state after the first `k` trips of a loop. -/
def loopSt (I : Ins F) (i : grid0.Coords) (jk : Fin 2) (b : Fin 5 × Bool) (L : List (Fin 5 × Bool)) (S : St F) : ℕ → St F
  | 0 => S
  | k + 1 => if h : k < 28 then
      tripSt I (loopSt I i jk b L S k) k (k / 7) h (by omega) (qsOff i k) (kvOff i jk.val (k / 7)) (qsOff_inb i _ h) (kvOff_inb i _ _ jk.isLt (by omega)) jk.val jk.isLt b L
    else loopSt I i jk b L S k

def clSt (I : Ins F) (i : grid0.Coords) (c : BitVec 1) (jk : Fin 2) (b : Fin 5 × Bool) (L : List (Fin 5 × Bool)) (S : St F) : St F :=
  if c = 1#1 then loopSt I i jk b L S 28 else S

def initStepSt (I : Ins F) (p : Fin 2 × Fin 4) (S : St F) : St F :=
  { S with
    x18 := upd S.x18 (rI18 p) (k0_pay7 (ld I.x14 (rI13 p)))
    x19 := upd S.x19 (rI19 p) (k0_pay8 (ld I.x13 (rI13 p))) }
def initLSt (I : Ins F) : List (Fin 2 × Fin 4) → St F → St F
  | [], S => S
  | p :: L, S => initLSt I L (initStepSt I p S)
def initCSt (I : Ins F) (c : BitVec 1) (S : St F) : St F :=
  if c = 1#1 then initLSt I heads { S with x20 := upd S.x20 rW20 (k0_pay5 (F := F)), x21 := upd S.x21 rW20 (k0_pay6 (F := F)) } else S

def zeroSt (S : St F) : St F := { S with x15 := upd S.x15 rW15 (k0_pay353 (F := F)) }

theorem kvOffI_eq (i : grid0.Coords) (p : Fin 2 × Fin 4) : k0_off170 i (BitVec.ofNat 32 p.1.val) (BitVec.ofNat 32 p.2.val) = kvOff i p.1.val p.2.val := by
  have key : ∀ (x : Fin 3) (y : Fin 5) (jk : Fin 2) (k : Fin 4), (Scalar.indexCast (Scalar.addi (Scalar.muli (Scalar.addi (Scalar.muli (Scalar.addi (Scalar.muli (BitVec.ofNat 32 x.val) 2#32) (BitVec.ofNat 32 jk.val)) 5#32) (BitVec.ofNat 32 y.val)) 4#32) (BitVec.ofNat 32 k.val))).toNat = 40 * x.val + 20 * jk.val + 4 * y.val + k.val := by
    decide
  funext a; fin_cases a
  exact key (i 0) (i 1) p.1 p.2

/-- The word of a key head's scale. -/
def kvAt (X : S120.Idx → Elt F .f32) (i : grid0.Coords) (p : Fin 2 × Fin 4) : Elt F .f32 :=
  ld1 X (Rect.unit (s := S120) (k0_off170 i (BitVec.ofNat 32 p.1.val) (BitVec.ofNat 32 p.2.val)) S1.size (by rw [kvOffI_eq]; exact kvOff_inb i _ _ p.1.isLt p.2.isLt)) numel1_S1

def finStepSt (I : Ins F) (i : grid0.Coords) (p : Fin 2 × Fin 4) (S : St F) : St F :=
  { S with
    x16 := upd S.x16 (rI13 p) (k0_pay323 (kvAt I.x6 i p) (ld S.x20 (rI19 p)))
    x17 := upd S.x17 (rI13 p) (k0_pay324 (kvAt I.x6 i p) (kvAt I.x7 i p) (ld S.x21 (rI19 p))) }
def finLSt (I : Ins F) (i : grid0.Coords) : List (Fin 2 × Fin 4) → St F → St F
  | [], S => S
  | p :: L, S => finLSt I i L (finStepSt I i p S)
def finCSt (I : Ins F) (i : grid0.Coords) (S : St F) : St F := if k0_cond14 i = 1#1 then finLSt I i heads S else S

/-- The step word of the point's sequence. -/
def stepAt (I : Ins F) (i : grid0.Coords) : BitVec 32 := ld1 I.x4 (Rect.unit (s := S5) (k0_off1 i) S1.size (k0_off1_inb i)) numel1_S1

def trips0 (I : Ins F) (i : grid0.Coords) (w : BitVec 32) (S : St F) : St F :=
  clSt I i (cDiag w i 4#32) 0 (0, false) [(1, false), (2, false), (3, false), (4, true)] (clSt I i (cDiag w i 3#32) 0 (0, false) [(1, false), (2, false), (3, true)] (clSt I i (cDiag w i 2#32) 0 (0, false) [(1, false), (2, true)] (clSt I i (cDiag w i 1#32) 0 (0, false) [(1, true)] (clSt I i (cDiag w i 0#32) 0 (0, true) [] (clSt I i (cFull w i) 0 (0, false) [(1, false), (2, false), (3, false), (4, false)] (S))))))
def trips1 (I : Ins F) (i : grid0.Coords) (w : BitVec 32) (S : St F) : St F :=
  clSt I i (cDiag w i 4#32) 1 (0, false) [(1, false), (2, false), (3, false), (4, true)] (clSt I i (cDiag w i 3#32) 1 (0, false) [(1, false), (2, false), (3, true)] (clSt I i (cDiag w i 2#32) 1 (0, false) [(1, false), (2, true)] (clSt I i (cDiag w i 1#32) 1 (0, false) [(1, true)] (clSt I i (cDiag w i 0#32) 1 (0, true) [] (clSt I i (cFull w i) 1 (0, false) [(1, false), (2, false), (3, false), (4, false)] (S))))))

def ringSt (I : Ins F) (i : grid0.Coords) (S : St F) : St F :=
  finCSt I i (trips1 I i (Scalar.subi 5#32 (srcW i (stepAt I i))) (trips0 I i (srcW i (stepAt I i)) (zeroSt (initCSt I (cInit i) S))))

/-! ## Their triples -/

variable (c : Dev nD)

theorem wp_body (A : Args) (I : Ins F) (S : St F) (i : grid0.Coords) (jk : Fin 2) (b : Fin 5 × Bool) (L : List (Fin 5 × Bool)) (k : Fin 28) (_u : PUnit) :
    Own c A I (loopSt I i jk b L S k.val) ⊢ (wp frame (wpE (defs₀ (F := F)) Variants.none (c : Thread nD τ) none) Set.univ) (tripN A i jk b L k) (fun _ => Own c A I (loopSt I i jk b L S (k.val + 1))) := by
  have hk : k.val < 28 := k.isLt
  rw [show loopSt I i jk b L S (k.val + 1) = tripSt I (loopSt I i jk b L S k.val) k.val (k.val / 7) hk (by omega) (qsOff i k.val) (kvOff i jk.val (k.val / 7)) (qsOff_inb i _ hk) (kvOff_inb i _ _ jk.isLt (by omega)) jk.val jk.isLt b L from dif_pos hk]
  exact wp_trip c A I _ _ _ _ _ _ _ _ _ _ _ _ _

theorem wp_loopN (A : Args) (I : Ins F) (S : St F) (i : grid0.Coords) (jk : Fin 2) (b : Fin 5 × Bool) (L : List (Fin 5 × Bool)) (Q : Unit → sProp 𝕄) :
    iprop(Own c A I S ∗ (Own c A I (loopSt I i jk b L S 28) -∗ Q ⟨⟩)) ⊢ (wp frame (wpE (defs₀ (F := F)) Variants.none (c : Thread nD τ) none) Set.univ) (loopN A i jk b L) Q := by
  unfold loopN
  iintro ⟨HO, HK⟩
  iapply (Scf.wp_for frame (wpE (defs₀ (F := F)) Variants.none (c : Thread nD τ) none) Set.univ k0_t1_loop.lb k0_t1_loop.ub k0_t1_loop.st k0_t1_ok PUnit.unit (fun k _ => tripN A i jk b L k) (fun (k : ℕ) (_ : PUnit) => Own c A I (loopSt I i jk b L S k)) (wp_body c A I S i jk b L))
  isplitl [HO]; · iexact HO
  iintro %_acc HO
  iapply HK
  iexact HO

theorem wp_cl (A : Args) (I : Ins F) (S : St F) (i : grid0.Coords) (e : BitVec 1) (jk : Fin 2) (b : Fin 5 × Bool) (L : List (Fin 5 × Bool)) (Q : Unit → sProp 𝕄) :
    iprop(Own c A I S ∗ (Own c A I (clSt I i e jk b L S) -∗ Q ⟨⟩)) ⊢ (wp frame (wpE (defs₀ (F := F)) Variants.none (c : Thread nD τ) none) Set.univ) (cl A i e jk b L) Q := by
  unfold cl clSt
  split
  · exact wp_loopN c A I S i jk b L Q
  · iintro ⟨HO, HK⟩
    iapply (wp_pure' c _ _)
    iapply HK
    iexact HO

/-- A triple used in the middle of a program. -/
theorem wp_mono_own {α : Type} {P : sProp 𝕄} {p : Pg F α} {R : sProp 𝕄} {Q : α → sProp 𝕄} (h : P ⊢ (wp frame (wpE (defs₀ (F := F)) Variants.none (c : Thread nD τ) none) Set.univ) p (fun _ => R)) :
    iprop(P ∗ (∀ a, R -∗ Q a)) ⊢ (wp frame (wpE (defs₀ (F := F)) Variants.none (c : Thread nD τ) none) Set.univ) p Q := by
  iintro ⟨HP, HK⟩
  iapply (wp_wand_r frame (wpE (defs₀ (F := F)) Variants.none (c : Thread nD τ) none) Set.univ)
  isplitl [HP]
  · iapply h; iexact HP
  · iintro %a HR
    iapply HK
    iexact HR

theorem wp_initStep (A : Args) (I : Ins F) (S : St F) (p : Fin 2 × Fin 4) : Own c A I S ⊢ (wp frame (wpE (defs₀ (F := F)) Variants.none (c : Thread nD τ) none) Set.univ) (initStep A p) (fun _ => Own c A I (initStepSt I p S)) := by
  unfold initStep
  simp only [Prog.lift, Prog.bind_op, Prog.bind_ret]
  unfold Own
  iintro ⟨H4, H5, H6, H7, H8, H9, H10, H11, H12, H13, H14, H15, H16, H17, H18, H19, H20, H21⟩
  iapply (wp_load_owns _ _) $$ H14
  iintro H14
  iapply (wp_load_owns _ _) $$ H18
  iintro H18
  iapply (wp_store_owns _ _) $$ H18
  iintro H18
  iapply (wp_load_owns _ _) $$ H13
  iintro H13
  iapply (wp_load_owns _ _) $$ H19
  iintro H19
  iapply (wp_store_owns _ _) $$ H19
  iintro H19
  iapply (wp_pure' c _ _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem wp_initL (A : Args) (I : Ins F) (L : List (Fin 2 × Fin 4)) : ∀ S : St F, Own c A I S ⊢ (wp frame (wpE (defs₀ (F := F)) Variants.none (c : Thread nD τ) none) Set.univ) (initL A L) (fun _ => Own c A I (initLSt I L S)) := by
  induction L with
  | nil => intro S; exact wp_pure' c _ _
  | cons p L ih =>
    intro S
    rw [initL, wp_bind]
    exact (wp_initStep c A I S p).trans (wp_mono _ _ _ fun _ => ih _)

theorem wp_initC (A : Args) (I : Ins F) (S : St F) (e : BitVec 1) : Own c A I S ⊢ (wp frame (wpE (defs₀ (F := F)) Variants.none (c : Thread nD τ) none) Set.univ) (initC A e) (fun _ => Own c A I (initCSt I e S)) := by
  unfold initC initCSt
  split
  · unfold initP
    simp only [Prog.lift, Prog.bind_op, Prog.bind_ret]
    unfold Own
    iintro ⟨H4, H5, H6, H7, H8, H9, H10, H11, H12, H13, H14, H15, H16, H17, H18, H19, H20, H21⟩
    iapply (wp_load_owns _ _) $$ H20
    iintro H20
    iapply (wp_store_owns _ _) $$ H20
    iintro H20
    iapply (wp_load_owns _ _) $$ H21
    iintro H21
    iapply (wp_store_owns _ _) $$ H21
    iintro H21
    iapply (wp_initL c A I heads { S with x20 := upd S.x20 rW20 (k0_pay5 (F := F)), x21 := upd S.x21 rW20 (k0_pay6 (F := F)) })
    unfold Own
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · exact wp_pure' c _ _

theorem wp_zeroP (A : Args) (I : Ins F) (S : St F) : Own c A I S ⊢ (wp frame (wpE (defs₀ (F := F)) Variants.none (c : Thread nD τ) none) Set.univ) (zeroP A) (fun _ => Own c A I (zeroSt S)) := by
  unfold zeroP zeroSt
  simp only [Prog.lift, Prog.bind_op, Prog.bind_ret]
  unfold Own
  iintro ⟨H4, H5, H6, H7, H8, H9, H10, H11, H12, H13, H14, H15, H16, H17, H18, H19, H20, H21⟩
  iapply (wp_load_owns _ _) $$ H15
  iintro H15
  iapply (wp_store_owns _ _) $$ H15
  iintro H15
  iapply (wp_pure' c _ _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem wp_finStep (A : Args) (I : Ins F) (S : St F) (i : grid0.Coords) (h : k0_cond14 i = 1#1) (p : Fin 2 × Fin 4) : Own c A I S ⊢ (wp frame (wpE (defs₀ (F := F)) Variants.none (c : Thread nD τ) none) Set.univ) (finStep A i h p) (fun _ => Own c A I (finStepSt I i p S)) := by
  unfold finStep
  simp only [smemLoad, smemLoadElt, Prog.lift, Prog.bind_op, Prog.bind_ret]
  unfold Own
  iintro ⟨H4, H5, H6, H7, H8, H9, H10, H11, H12, H13, H14, H15, H16, H17, H18, H19, H20, H21⟩
  iapply (wp_load_owns _ _) $$ H6
  iintro H6
  iapply (wp_load_owns _ _) $$ H7
  iintro H7
  iapply (wp_load_owns _ _) $$ H20
  iintro H20
  iapply (wp_load_owns _ _) $$ H16
  iintro H16
  iapply (wp_store_owns _ _) $$ H16
  iintro H16
  iapply (wp_load_owns _ _) $$ H21
  iintro H21
  iapply (wp_load_owns _ _) $$ H17
  iintro H17
  iapply (wp_store_owns _ _) $$ H17
  iintro H17
  iapply (wp_pure' c _ _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem wp_finL (A : Args) (I : Ins F) (i : grid0.Coords) (h : k0_cond14 i = 1#1) (L : List (Fin 2 × Fin 4)) :
    ∀ S : St F, Own c A I S ⊢ (wp frame (wpE (defs₀ (F := F)) Variants.none (c : Thread nD τ) none) Set.univ) (finL A i h L) (fun _ => Own c A I (finLSt I i L S)) := by
  induction L with
  | nil => intro S; exact wp_pure' c _ _
  | cons p L ih =>
    intro S
    rw [finL, wp_bind]
    exact (wp_finStep c A I S i h p).trans (wp_mono _ _ _ fun _ => ih _)

theorem wp_finC (A : Args) (I : Ins F) (S : St F) (i : grid0.Coords) : Own c A I S ⊢ (wp frame (wpE (defs₀ (F := F)) Variants.none (c : Thread nD τ) none) Set.univ) (finC A i) (fun _ => Own c A I (finCSt I i S)) := by
  unfold finC finCSt
  split
  · next h => exact wp_finL c A I i h heads S
  · exact wp_pure' c _ _

theorem own_eq (A : Args) (I : Ins F) {S S' : St F} (h : S = S') : Own c A I S ⊢ Own c A I S' := by
  rw [h]

theorem wp_load4 {α : Type} (A : Args) (I : Ins F) (S : St F) (r : LoadRect S5) (hl : A.a4.view.LoadsAt r) (k : (r.shape.Idx → Elt F .i32) → Pg F α) (Q : α → sProp 𝕄) :
    iprop(Own c A I S ∗ (Own c A I S -∗ (wp frame (wpE (defs₀ (F := F)) Variants.none (c : Thread nD τ) none) Set.univ) (k (fun j => I.x4 (r.idx j))) Q)) ⊢ (wp frame (wpE (defs₀ (F := F)) Variants.none (c : Thread nD τ) none) Set.univ) (.op (.load A.a4 r hl) k) Q := by
  unfold Own
  iintro ⟨⟨H4, H5, H6, H7, H8, H9, H10, H11, H12, H13, H14, H15, H16, H17, H18, H19, H20, H21⟩, HK⟩
  iapply (wp_load_owns I.x4 _) $$ H4
  iintro H4
  iapply HK
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- One grid point. -/
theorem wp_ringP (A : Args) (I : Ins F) (S : St F) (i : grid0.Coords) : Own c A I S ⊢ (wp frame (wpE (defs₀ (F := F)) Variants.none (c : Thread nD τ) none) Set.univ) (ringP A i) (fun _ => Own c A I (ringSt I i S)) := by
  unfold ringP
  simp only [smemLoad, smemLoadElt, Prog.bind_op, Prog.bind_ret]
  iintro HO
  iapply (wp_load4 c A I S _ _ _ _)
  isplitl [HO]; · iexact HO
  iintro HO
  rw [wp_bind]
  iapply (wp_mono_own c (wp_initC c A I S (cInit i)))
  isplitl [HO]; · iexact HO
  iintro %_ HO
  rw [wp_bind]
  iapply (wp_mono_own c (wp_zeroP c A I _))
  isplitl [HO]; · iexact HO
  iintro %_ HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_mono_own c (wp_finC c A I _ i))
  isplitl [HO]; · iexact HO
  iintro %_ HO
  iapply (wp_pure' c _ _)
  iapply (own_eq c A I (S' := ringSt I i S) ?_) $$ HO
  rfl

end Cert.KernelIdeal.Hand
end
-- ==== Proof.KiState.lean ====
/- The state a grid point leaves does not depend on what it overwrites. -/
module

public import proofs.«01_k».proof.Proof.KiRun
public import Idealize.ShloMosaic.Lib.ValueIdxCore
public import Idealize.ShloMosaic.Lib.ValueIdxRank6

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

open Idealize.ShloMosaic.ValueIdx

/-! ## A rectangle replaced, element by element -/

theorem upd_in {s : Shape} {α : Type} (X : s.Idx → α) {off size : Fin s.rank → ℕ} {inb : ∀ a, off a + size a ≤ s.size a}
    (w : (Rect.unit off size inb).shape.Idx → α) (y : s.Idx) (j : (Rect.unit off size inb).shape.Idx)
    (hy : ∀ a, (y a).val = off a + (j a).val) : upd X (Rect.unit off size inb) w y = w j := by
  have h : (Rect.unit off size inb).emb j = y := funext fun a => Fin.ext (by
    rw [Rect.emb_apply, hy]; show off a + 1 * _ = _; rw [Nat.one_mul])
  rw [← h, upd_emb]

theorem upd_out {s : Shape} {α : Type} (X : s.Idx → α) {off size : Fin s.rank → ℕ} {inb : ∀ a, off a + size a ≤ s.size a}
    (w : (Rect.unit off size inb).shape.Idx → α) (y : s.Idx) (a : Fin s.rank)
    (hy : (y a).val < off a ∨ off a + size a ≤ (y a).val) : upd X (Rect.unit off size inb) w y = X y := by
  refine upd_of_not _ _ _ _ ?_
  rintro ⟨x, rfl⟩
  have h := (x a).isLt
  have e : ((Rect.unit off size inb).emb x a : ℕ) = off a + (x a).val := by
    rw [Rect.emb_apply]; show off a + 1 * _ = _; rw [Nat.one_mul]
  rw [e] at hy
  have h' : (x a).val < size a := h
  omega

/-- Where a load through a unit rectangle reads. -/
theorem ld_at {s : Shape} {α : Type} (X : s.Idx → α) {off size : Fin s.rank → ℕ} {inb : ∀ a, off a + size a ≤ s.size a}
    (j : (Rect.unit off size inb).shape.Idx) (y : s.Idx) (hy : ∀ a, (y a).val = off a + (j a).val) :
    ld X (Rect.unit off size inb) j = X y := by
  refine congrArg X (funext fun a => Fin.ext ?_)
  show off a + 1 * (j a).val = _
  rw [Nat.one_mul, hy]

theorem updW20 {α : Type} (X w : S2x4x128x1280.Idx → α) : upd X rW20 w = w :=
  funext fun y => upd_in X w y y (fun a => by fin_cases a <;> exact (Nat.zero_add _).symm)
theorem updW15 {α : Type} (X w : S1x1x1x28x256x128.Idx → α) : upd X rW15 w = w :=
  funext fun y => upd_in X w y y (fun a => by fin_cases a <;> exact (Nat.zero_add _).symm)

/-! ## One head's rows replaced -/

/-- The key head an element belongs to. -/
def hdV (y : S2x4x1280x128.Idx) : Fin 2 × Fin 4 := (y 0, y 1)
def hdT (y : S2x4x128x1280.Idx) : Fin 2 × Fin 4 := (y 0, y 1)
def hdO (y : S1x2x1x4x1280x128.Idx) : Fin 2 × Fin 4 := (y 1, y 3)

theorem upd18 {α : Type} (X : S2x4x1280x128.Idx → α) (p : Fin 2 × Fin 4) (w : S1x1x1280x128.Idx → α) (y : S2x4x1280x128.Idx) :
    upd X (rI18 p) w y = if (hdV y) = p then w (ix4 0 0 (y 2) (y 3)) else X y := by
  obtain ⟨a, b⟩ := p
  split
  · next h =>
    injection h with h1 h2; subst h1; subst h2
    exact upd_in X w y _ (fun a => by
      fin_cases a
      · rfl
      · rfl
      · exact (Nat.zero_add _).symm
      · exact (Nat.zero_add _).symm)
  · next h =>
    by_cases h0 : y 0 = a
    · have h1 : y 1 ≠ b := fun e => h (Prod.ext h0 e)
      have h1' : (y 1).val ≠ b.val := fun e => h1 (Fin.ext e)
      refine upd_out X w y (1 : Fin 4) ?_
      show (y 1).val < b.val ∨ b.val + 1 ≤ (y 1).val
      omega
    · have h1' : (y 0).val ≠ a.val := fun e => h0 (Fin.ext e)
      refine upd_out X w y (0 : Fin 4) ?_
      show (y 0).val < a.val ∨ a.val + 1 ≤ (y 0).val
      omega

theorem upd19 {α : Type} (X : S2x4x128x1280.Idx → α) (p : Fin 2 × Fin 4) (w : S1x1x128x1280.Idx → α) (y : S2x4x128x1280.Idx) :
    upd X (rI19 p) w y = if (hdT y) = p then w (ix4 0 0 (y 2) (y 3)) else X y := by
  obtain ⟨a, b⟩ := p
  split
  · next h =>
    injection h with h1 h2; subst h1; subst h2
    exact upd_in X w y _ (fun a => by
      fin_cases a
      · rfl
      · rfl
      · exact (Nat.zero_add _).symm
      · exact (Nat.zero_add _).symm)
  · next h =>
    by_cases h0 : y 0 = a
    · have h1 : y 1 ≠ b := fun e => h (Prod.ext h0 e)
      have h1' : (y 1).val ≠ b.val := fun e => h1 (Fin.ext e)
      refine upd_out X w y (1 : Fin 4) ?_
      show (y 1).val < b.val ∨ b.val + 1 ≤ (y 1).val
      omega
    · have h1' : (y 0).val ≠ a.val := fun e => h0 (Fin.ext e)
      refine upd_out X w y (0 : Fin 4) ?_
      show (y 0).val < a.val ∨ a.val + 1 ≤ (y 0).val
      omega

theorem upd13 {α : Type} (X : S1x2x1x4x1280x128.Idx → α) (p : Fin 2 × Fin 4) (w : S1x1x1x1x1280x128.Idx → α) (y : S1x2x1x4x1280x128.Idx) :
    upd X (rI13 p) w y = if (hdO y) = p then w (ix6 0 0 0 0 (y 4) (y 5)) else X y := by
  obtain ⟨a, b⟩ := p
  split
  · next h =>
    injection h with h1 h2; subst h1; subst h2
    exact upd_in X w y _ (fun a => by
      fin_cases a
      · exact Nat.lt_one_iff.mp (y 0).isLt
      · rfl
      · exact Nat.lt_one_iff.mp (y 2).isLt
      · rfl
      · exact (Nat.zero_add _).symm
      · exact (Nat.zero_add _).symm)
  · next h =>
    by_cases h0 : y 1 = a
    · have h1 : y 3 ≠ b := fun e => h (Prod.ext h0 e)
      have h1' : (y 3).val ≠ b.val := fun e => h1 (Fin.ext e)
      refine upd_out X w y (3 : Fin 6) ?_
      show (y 3).val < b.val ∨ b.val + 1 ≤ (y 3).val
      omega
    · have h1' : (y 1).val ≠ a.val := fun e => h0 (Fin.ext e)
      refine upd_out X w y (1 : Fin 6) ?_
      show (y 1).val < a.val ∨ a.val + 1 ≤ (y 1).val
      omega

/-! ## The first and the last point of a group, in closed form -/

/-- The values at the matmul's width, all heads. -/
def V18 (I : Ins F) : S2x4x1280x128.Idx → Elt F .bf16 := fun y => k0_pay7 (ld I.x14 (rI13 (hdV y))) (ix4 0 0 (y 2) (y 3))
/-- The keys transposed. -/
def V19 (I : Ins F) : S2x4x128x1280.Idx → Elt F .bf16 := fun y => k0_pay8 (ld I.x13 (rI13 (hdT y))) (ix4 0 0 (y 2) (y 3))
/-- The two results of a group from the two accumulators. -/
def V16 (I : Ins F) (i : grid0.Coords) (X : S2x4x128x1280.Idx → Elt F .f32) : S1x2x1x4x1280x128.Idx → Elt F .f32 :=
  fun y => k0_pay323 (kvAt I.x6 i (hdO y)) (ld X (rI19 (hdO y))) (ix6 0 0 0 0 (y 4) (y 5))
def V17 (I : Ins F) (i : grid0.Coords) (X : S2x4x128x1280.Idx → Elt F .f32) : S1x2x1x4x1280x128.Idx → Elt F .f32 :=
  fun y => k0_pay324 (kvAt I.x6 i (hdO y)) (kvAt I.x7 i (hdO y)) (ld X (rI19 (hdO y))) (ix6 0 0 0 0 (y 4) (y 5))

theorem initLSt_eq (I : Ins F) (L : List (Fin 2 × Fin 4)) : ∀ S : St F, initLSt I L S =
    { S with
      x18 := fun y => if (hdV y) ∈ L then V18 I y else S.x18 y
      x19 := fun y => if (hdT y) ∈ L then V19 I y else S.x19 y } := by
  induction L with
  | nil => intro S; simp only [initLSt, List.not_mem_nil, if_false]
  | cons p L ih =>
    intro S
    rw [initLSt, ih]
    unfold initStepSt
    congr 1 <;> funext y
    · dsimp only; rw [upd18]
      by_cases h : (hdV y) = p
      · rw [if_pos h, if_pos (List.mem_cons.mpr (Or.inl h))]
        subst h
        split <;> rfl
      · rw [if_neg h]
        by_cases h2 : (hdV y) ∈ L
        · rw [if_pos h2, if_pos (List.mem_cons_of_mem _ h2)]
        · rw [if_neg h2, if_neg (fun e => (List.mem_cons.mp e).elim h h2)]
    · dsimp only; rw [upd19]
      by_cases h : (hdT y) = p
      · rw [if_pos h, if_pos (List.mem_cons.mpr (Or.inl h))]
        subst h
        split <;> rfl
      · rw [if_neg h]
        by_cases h2 : (hdT y) ∈ L
        · rw [if_pos h2, if_pos (List.mem_cons_of_mem _ h2)]
        · rw [if_neg h2, if_neg (fun e => (List.mem_cons.mp e).elim h h2)]

theorem finLSt_eq (I : Ins F) (i : grid0.Coords) (L : List (Fin 2 × Fin 4)) : ∀ S : St F, finLSt I i L S =
    { S with
      x16 := fun y => if (hdO y) ∈ L then V16 I i S.x20 y else S.x16 y
      x17 := fun y => if (hdO y) ∈ L then V17 I i S.x21 y else S.x17 y } := by
  induction L with
  | nil => intro S; simp only [finLSt, List.not_mem_nil, if_false]
  | cons p L ih =>
    intro S
    rw [finLSt, ih]
    unfold finStepSt
    congr 1 <;> funext y
    · dsimp only; rw [upd13]
      by_cases h : (hdO y) = p
      · rw [if_pos h, if_pos (List.mem_cons.mpr (Or.inl h))]
        subst h
        split <;> rfl
      · rw [if_neg h]
        by_cases h2 : (hdO y) ∈ L
        · rw [if_pos h2, if_pos (List.mem_cons_of_mem _ h2)]
        · rw [if_neg h2, if_neg (fun e => (List.mem_cons.mp e).elim h h2)]
    · dsimp only; rw [upd13]
      by_cases h : (hdO y) = p
      · rw [if_pos h, if_pos (List.mem_cons.mpr (Or.inl h))]
        subst h
        split <;> rfl
      · rw [if_neg h]
        by_cases h2 : (hdO y) ∈ L
        · rw [if_pos h2, if_pos (List.mem_cons_of_mem _ h2)]
        · rw [if_neg h2, if_neg (fun e => (List.mem_cons.mp e).elim h h2)]

theorem mem_heads : ∀ p : Fin 2 × Fin 4, p ∈ heads := by decide

/-- The state the trips of a point start from. -/
def startSt (I : Ins F) (i : grid0.Coords) (S : St F) : St F := zeroSt (initCSt I (cInit i) S)

theorem start_init (I : Ins F) (i : grid0.Coords) (S : St F) (h : cInit i = 1#1) :
    startSt I i S = ⟨k0_pay353, S.x16, S.x17, V18 I, V19 I, k0_pay5, k0_pay6⟩ := by
  unfold startSt initCSt
  rw [if_pos h, initLSt_eq]
  simp only [mem_heads, if_true, zeroSt, updW15, updW20]
theorem start_other (I : Ins F) (i : grid0.Coords) (S : St F) (h : cInit i ≠ 1#1) :
    startSt I i S = { S with x15 := k0_pay353 } := by
  unfold startSt initCSt
  rw [if_neg h]
  simp only [zeroSt, updW15]

theorem fin_last (I : Ins F) (i : grid0.Coords) (S : St F) (h : k0_cond14 i = 1#1) :
    finCSt I i S = { S with x16 := V16 I i S.x20, x17 := V17 I i S.x21 } := by
  unfold finCSt
  rw [if_pos h, finLSt_eq]
  simp only [mem_heads, if_true]

/-! ## The trips leave the two results alone -/

def set67 (S : St F) (a b : S1x2x1x4x1280x128.Idx → Elt F .f32) : St F := { S with x16 := a, x17 := b }

theorem moreSt_set (I : Ins F) (H : Head F) (jk n : ℕ) (hj : jk < 2) (hn : n < 4) (a b) (L : List (Fin 5 × Bool)) :
    ∀ S : St F, moreSt I H jk n hj hn L (set67 S a b) = set67 (moreSt I H jk n hj hn L S) a b := by
  induction L with
  | nil => intro S; rfl
  | cons p L ih => intro S; exact ih (blkSt I S H jk n p.1.val hj hn p.1.isLt p.2)
theorem moreDQ_set (I : Ins F) (H : Head F) (jk n : ℕ) (hj : jk < 2) (hn : n < 4) (a b) (L : List (Fin 5 × Bool)) :
    ∀ (S : St F) (acc), moreDQ I H jk n hj hn L (set67 S a b) acc = moreDQ I H jk n hj hn L S acc := by
  induction L with
  | nil => intro S acc; rfl
  | cons p L ih => intro S acc; exact ih (blkSt I S H jk n p.1.val hj hn p.1.isLt p.2) _
theorem tripSt_set (I : Ins F) (S : St F) (h n : ℕ) (hh : h < 28) (hn : n < 4) (oQ oKV : Fin 1 → ℕ) (hQ hKV jk hj b L) (x y) :
    tripSt I (set67 S x y) h n hh hn oQ oKV hQ hKV jk hj b L = set67 (tripSt I S h n hh hn oQ oKV hQ hKV jk hj b L) x y := by
  have e1 := moreSt_set I (headOf I h hh oQ oKV hQ hKV) jk n hj hn x y L (blkSt I S (headOf I h hh oQ oKV hQ hKV) jk n b.1.val hj hn b.1.isLt b.2)
  have e2 := moreDQ_set I (headOf I h hh oQ oKV hQ hKV) jk n hj hn x y L (blkSt I S (headOf I h hh oQ oKV hQ hKV) jk n b.1.val hj hn b.1.isLt b.2)
    (blkDQ I S (headOf I h hh oQ oKV hQ hKV) jk n b.1.val hj hn b.1.isLt b.2)
  have e0 : blkSt I (set67 S x y) (headOf I h hh oQ oKV hQ hKV) jk n b.1.val hj hn b.1.isLt b.2
      = set67 (blkSt I S (headOf I h hh oQ oKV hQ hKV) jk n b.1.val hj hn b.1.isLt b.2) x y := rfl
  have e3 : blkDQ I (set67 S x y) (headOf I h hh oQ oKV hQ hKV) jk n b.1.val hj hn b.1.isLt b.2
      = blkDQ I S (headOf I h hh oQ oKV hQ hKV) jk n b.1.val hj hn b.1.isLt b.2 := rfl
  unfold tripSt
  simp only [e0, e3, e1, e2]
  rfl
theorem loopSt_set (I : Ins F) (i : grid0.Coords) (jk : Fin 2) (b L) (S : St F) (x y) (k : ℕ) :
    loopSt I i jk b L (set67 S x y) k = set67 (loopSt I i jk b L S k) x y := by
  induction k with
  | zero => rfl
  | succ k ih =>
    simp only [loopSt]
    split
    · rw [ih, tripSt_set]
    · exact ih
theorem clSt_set (I : Ins F) (i : grid0.Coords) (e : BitVec 1) (jk : Fin 2) (b L) (S : St F) (x y) :
    clSt I i e jk b L (set67 S x y) = set67 (clSt I i e jk b L S) x y := by
  unfold clSt; split
  · exact loopSt_set I i jk b L S x y 28
  · rfl

/-- All trips of a point. -/
def tripsAll (I : Ins F) (i : grid0.Coords) (S : St F) : St F :=
  trips1 I i (Scalar.subi 5#32 (srcW i (stepAt I i))) (trips0 I i (srcW i (stepAt I i)) S)
theorem tripsAll_set (I : Ins F) (i : grid0.Coords) (S : St F) (x y) : tripsAll I i (set67 S x y) = set67 (tripsAll I i S) x y := by
  unfold tripsAll trips1 trips0
  simp only [clSt_set]

theorem ringSt_eq (I : Ins F) (i : grid0.Coords) (S : St F) : ringSt I i S = finCSt I i (tripsAll I i (startSt I i S)) := rfl

/-- Two states a point cannot tell apart: the same scratch, or a first point of a group. -/
theorem start_agree (I : Ins F) (i : grid0.Coords) (S S' : St F)
    (h : cInit i = 1#1 ∨ (S.x18 = S'.x18 ∧ S.x19 = S'.x19 ∧ S.x20 = S'.x20 ∧ S.x21 = S'.x21)) :
    startSt I i S' = set67 (startSt I i S) S'.x16 S'.x17 := by
  by_cases hc : cInit i = 1#1
  · rw [start_init I i _ hc, start_init I i _ hc]; rfl
  · obtain ⟨h1, h2, h3, h4⟩ := h.resolve_left hc
    rw [start_other I i _ hc, start_other I i _ hc]
    simp only [set67, h1, h2, h3, h4]

theorem ring_agree (I : Ins F) (i : grid0.Coords) (S S' : St F)
    (h : cInit i = 1#1 ∨ (S.x18 = S'.x18 ∧ S.x19 = S'.x19 ∧ S.x20 = S'.x20 ∧ S.x21 = S'.x21)) :
    ringSt I i S' = if k0_cond14 i = 1#1 then ringSt I i S else set67 (ringSt I i S) S'.x16 S'.x17 := by
  rw [ringSt_eq, ringSt_eq, start_agree I i S S' h, tripsAll_set]
  split
  · next hc => rw [fin_last I i _ hc, fin_last I i _ hc]; rfl
  · next hc => unfold finCSt; rw [if_neg hc, if_neg hc]

end Cert.KernelIdeal.Hand

end
-- ==== Proof.KvPay.lean ====
/- What the kernel's block operations hold at an index, over the extended reals. -/
module

public import proofs.«01_k».proof.Proof.KiState
public import Idealize.ShloMosaic.Lib.Pointwise
public import Idealize.ShloMosaic.PureOps.Ideal

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

theorem sle_small (a b : ℕ) (ha : a < 256) (hb : b < 256) {α : Type} (x y : α) :
    Scalar.select (IntOp.cmpi .sle (BitVec.ofNat 32 a) (BitVec.ofNat 32 b)) x y = if a ≤ b then x else y := by
  have h : (BitVec.ofNat 32 a).sle (BitVec.ofNat 32 b) = decide (a ≤ b) := by
    have e : ∀ n : ℕ, n < 256 → (BitVec.ofNat 32 n).toInt = (n : ℤ) := fun n hn => by
      rw [BitVec.toInt_eq_toNat_of_lt (by rw [BitVec.toNat_ofNat]; omega), BitVec.toNat_ofNat]; norm_cast; omega
    show decide _ = _
    rw [e a ha, e b hb]
    exact decide_eq_decide.mpr Int.ofNat_le
  show (if BitVec.ofBool ((BitVec.ofNat 32 a).sle (BitVec.ofNat 32 b)) = 1#1 then x else y) = _
  rw [h]
  by_cases e : a ≤ b
  · rw [if_pos e, decide_eq_true e]; rfl
  · rw [if_neg e, decide_eq_false e]; rfl

theorem pay59_at (X : Vec Ideal S1x1x1x1x256x128 .fp8e4m3) (r : Fin 256) (d : Fin 128) :
    k0_pay59 (F := Ideal) X (ix2 r d) = X (ix6 0 0 0 0 r d) := by pointwise [k0_pay59]
theorem pay60_at (X : Vec Ideal S1x1x1x1x256x128 .bf16) (r : Fin 256) (d : Fin 128) :
    k0_pay60 (F := Ideal) X (ix2 r d) = X (ix6 0 0 0 0 r d) := by pointwise [k0_pay60]
theorem pay61_at (X : Vec Ideal S1x1x1x1x256 .f32) (s : Elt Ideal .f32) (r c : Fin 256) :
    k0_pay61 (F := Ideal) X s (ix2 r c) = (X (ix5 0 0 0 0 r) * (Named.named κ "log2e" 0x3FB8AA3B#32 : Ideal .f32) - s : EReal) := by
  pointwise [k0_pay61]
  exact ite_self _
theorem pay62_at (X : Vec Ideal S1x1x1x1x256 .f32) (s : Elt Ideal .f32) (r c : Fin 256) :
    k0_pay62 (F := Ideal) X s (ix2 r c) = (X (ix5 0 0 0 0 r) * Ideal.div 1 s : EReal) := by
  pointwise [k0_pay62]
  exact ite_self _
theorem pay64_at (X : FVec Ideal S256x128 .fp8e4m3) (s : Elt Ideal .f32) (d : Fin 128) (r : Fin 256) :
    k0_pay64 (F := Ideal) X s (ix2 d r) = (X (ix2 r d) * s : EReal) := by pointwise [k0_pay64]
theorem pay65_at (X : FVec Ideal S256x128 .bf16) (d : Fin 128) (r : Fin 256) :
    k0_pay65 (F := Ideal) X (ix2 d r) = X (ix2 r d) := by pointwise [k0_pay65]
theorem pay66_at (q : FVec Ideal S256x128 .fp8e4m3) (k : Vec Ideal S1x1x1x1x256x128 .fp8e4m3) (r c : Fin 256) :
    k0_pay66 (F := Ideal) q k (ix2 r c) = (∑ d : Fin 128, q (ix2 r d) * k (ix6 0 0 0 0 c d) : EReal) := by pointwise [k0_pay66]
theorem pay80_at (l : FVec Ideal S256x256 .f32) (c1 : Ideal .f32) (s : FVec Ideal S256x256 .f32) (r c : Fin 256) :
    k0_pay80 (F := Ideal) l c1 s (ix2 r c) = Ideal.exp2 (s (ix2 r c) * c1 - l (ix2 r c) : EReal) := by pointwise [k0_pay80]; rfl
theorem pay67_at (l : FVec Ideal S256x256 .f32) (c1 : Ideal .f32) (s : FVec Ideal S256x256 .f32) (r c : Fin 256) :
    k0_pay67 (F := Ideal) l c1 s (ix2 r c) = if c.val ≤ r.val then Ideal.exp2 (s (ix2 r c) * c1 - l (ix2 r c) : EReal) else 0 := by
  pointwise [k0_pay67]
  exact sle_small _ _ c.isLt r.isLt _ _
theorem pay7_at (X : Vec Ideal S1x1x1x1x1280x128 .fp8e4m3) (r : Fin 1280) (d : Fin 128) :
    k0_pay7 (F := Ideal) X (ix4 0 0 r d) = X (ix6 0 0 0 0 r d) := by pointwise [k0_pay7]
theorem pay8_at (X : Vec Ideal S1x1x1x1x1280x128 .fp8e4m3) (r : Fin 1280) (d : Fin 128) :
    k0_pay8 (F := Ideal) X (ix4 0 0 d r) = X (ix6 0 0 0 0 r d) := by pointwise [k0_pay8]
theorem pay323_at (s : Elt Ideal .f32) (X : Vec Ideal S1x1x128x1280 .f32) (r : Fin 1280) (d : Fin 128) :
    k0_pay323 (F := Ideal) s X (ix6 0 0 0 0 r d) = (X (ix4 0 0 d r) * (Ideal.ofBits .f32 0x3DB504F3#32 * Ideal.div 1 s) : EReal) := by pointwise [k0_pay323, k0_pay322]
theorem pay324_at (s u : Elt Ideal .f32) (X : Vec Ideal S1x1x128x1280 .f32) (r : Fin 1280) (d : Fin 128) :
    k0_pay324 (F := Ideal) s u X (ix6 0 0 0 0 r d) = (X (ix4 0 0 d r) * Ideal.div 1 s * Ideal.div 1 u : EReal) := by pointwise [k0_pay324, k0_pay322]
theorem pay353_at (y) : k0_pay353 (F := Ideal) y = (0 : EReal) := by pointwise [k0_pay353]
theorem pay5_at (y) : k0_pay5 (F := Ideal) y = (0 : EReal) := by pointwise [k0_pay5]
theorem pay6_at (y) : k0_pay6 (F := Ideal) y = (0 : EReal) := by pointwise [k0_pay6]

end Cert.KernelIdeal.Hand

end
-- ==== Proof.KvBlk.lean ====
/- One block of one trip, at an index, over the extended reals. -/
module

public import proofs.«01_k».proof.Proof.KvPay

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

/-! ## The block operations at an index -/

theorem bP_at (m : Bool) (H : Head Ideal) (k : Vec Ideal S1x1x1x1x256x128 .fp8e4m3) (r c : Fin 256) :
    bP m H k (ix2 r c) = if (m = true → c.val ≤ r.val) then
      Ideal.exp2 ((∑ d : Fin 128, H.q (ix2 r d) * k (ix6 0 0 0 0 c d)) * H.c1 - H.lse (ix2 r c) : EReal) else 0 := by
  cases m
  · rw [if_pos (fun h => absurd h Bool.false_ne_true)]
    show k0_pay80 H.lse H.c1 (k0_pay66 H.q k) (ix2 r c) = _
    rw [pay80_at, pay66_at]
  · show k0_pay67 H.lse H.c1 (k0_pay66 H.q k) (ix2 r c) = _
    rw [pay67_at, pay66_at]
    simp only [forall_const]

theorem bDS_at (m : Bool) (H : Head Ideal) (k : Vec Ideal S1x1x1x1x256x128 .fp8e4m3) (v : Vec Ideal S1x1x256x128 .bf16) (r c : Fin 256) :
    bDS m H k v (ix2 r c) = (bP m H k (ix2 r c) * ((∑ d : Fin 128, H.d (ix2 r d) * v (ix4 0 0 c d)) - H.dlt (ix2 r c)) : EReal) := by
  pointwise [bDS]

theorem bDV_at (m : Bool) (H : Head Ideal) (k : Vec Ideal S1x1x1x1x256x128 .fp8e4m3) (old : Vec Ideal S1x1x128x256 .f32) (d : Fin 128) (c : Fin 256) :
    bDV m H k old (ix4 0 0 d c) = (old (ix4 0 0 d c) + ∑ r : Fin 256, H.dt (ix2 d r) * bP m H k (ix2 r c) : EReal) := by
  pointwise [bDV]

theorem bDK_at (m : Bool) (H : Head Ideal) (k : Vec Ideal S1x1x1x1x256x128 .fp8e4m3) (v : Vec Ideal S1x1x256x128 .bf16) (old : Vec Ideal S1x1x128x256 .f32) (d : Fin 128) (c : Fin 256) :
    bDK m H k v old (ix4 0 0 d c) = (old (ix4 0 0 d c) + ∑ r : Fin 256, H.qt (ix2 d r) * bDS m H k v (ix2 r c) : EReal) := by
  pointwise [bDK]

theorem bDQ_at (m : Bool) (H : Head Ideal) (k : Vec Ideal S1x1x1x1x256x128 .fp8e4m3) (v : Vec Ideal S1x1x256x128 .bf16) (kt : Vec Ideal S1x1x128x256 .bf16) (d : Fin 128) (r : Fin 256) :
    bDQ m H k v kt (ix2 d r) = (∑ c : Fin 256, kt (ix4 0 0 d c) * bDS m H k v (ix2 r c) : EReal) := by
  pointwise [bDQ]

/-- The scale of the scores. -/
def SM : EReal := Ideal.ofBits .f32 0x3DB504F3#32

theorem tDQ_at (acc : FVec Ideal S128x256 .f32) (old : Vec Ideal S1x1x1x1x256x128 .f32) (r : Fin 256) (d : Fin 128) :
    tDQ acc old (ix6 0 0 0 0 r d) = (old (ix6 0 0 0 0 r d) + acc (ix2 d r) * SM : EReal) := by
  pointwise [tDQ]
  rfl

/-! ## Loads and stores of a block at an index -/

theorem ldK (X : S1x2x1x4x1280x128.Idx → EReal) (jk : Fin 2) (n : Fin 4) (kb : Fin 5) (c : Fin 256) (d : Fin 128) :
    ld X (rK jk.val n.val kb.val jk.isLt n.isLt kb.isLt) (ix6 0 0 0 0 c d) = X (ix6 0 jk 0 n ⟨256 * kb.val + c.val, by omega⟩ d) :=
  ld_at X _ _ (fun a => by
    fin_cases a
    · rfl
    · rfl
    · rfl
    · rfl
    · rfl
    · exact (Nat.zero_add _).symm)
theorem ldV (X : S2x4x1280x128.Idx → EReal) (jk : Fin 2) (n : Fin 4) (kb : Fin 5) (c : Fin 256) (d : Fin 128) :
    ld X (rV jk.val n.val kb.val jk.isLt n.isLt kb.isLt) (ix4 0 0 c d) = X (ix4 jk n ⟨256 * kb.val + c.val, by omega⟩ d) :=
  ld_at X _ _ (fun a => by
    fin_cases a
    · rfl
    · rfl
    · rfl
    · exact (Nat.zero_add _).symm)
theorem ldT (X : S2x4x128x1280.Idx → EReal) (jk : Fin 2) (n : Fin 4) (kb : Fin 5) (c : Fin 256) (d : Fin 128) :
    ld X (rT jk.val n.val kb.val jk.isLt n.isLt kb.isLt) (ix4 0 0 d c) = X (ix4 jk n d ⟨256 * kb.val + c.val, by omega⟩) :=
  ld_at X _ _ (fun a => by
    fin_cases a
    · rfl
    · rfl
    · exact (Nat.zero_add _).symm
    · rfl)
theorem ldQ {α : Type} (X : S1x1x1x28x256x128.Idx → α) (h : Fin 28) (r : Fin 256) (d : Fin 128) :
    ld X (rQ h.val h.isLt) (ix6 0 0 0 0 r d) = X (ix6 0 0 0 h r d) :=
  ld_at X _ _ (fun a => by
    fin_cases a
    · rfl
    · rfl
    · rfl
    · rfl
    · exact (Nat.zero_add _).symm
    · exact (Nat.zero_add _).symm)
theorem ldL {α : Type} (X : S1x1x1x28x256.Idx → α) (h : Fin 28) (r : Fin 256) :
    ld X (rL h.val h.isLt) (ix5 0 0 0 0 r) = X (ix5 0 0 0 h r) :=
  ld_at X _ _ (fun a => by
    fin_cases a
    · rfl
    · rfl
    · rfl
    · rfl
    · exact (Nat.zero_add _).symm)

theorem ext4 {n0 n1 n2 n3 : ℕ} {P : (⟨4, ![n0, n1, n2, n3]⟩ : Shape).Idx → Prop} (h : ∀ a b c d, P (ix4 a b c d)) (y) : P y := by
  have e : y = ix4 (y 0) (y 1) (y 2) (y 3) := by
    funext a; match a with | ⟨0, _⟩ => rfl | ⟨1, _⟩ => rfl | ⟨2, _⟩ => rfl | ⟨3, _⟩ => rfl
  rw [e]; exact h _ _ _ _
theorem ext6 {n0 n1 n2 n3 n4 n5 : ℕ} {P : (⟨6, ![n0, n1, n2, n3, n4, n5]⟩ : Shape).Idx → Prop} (h : ∀ a b c d e f, P (ix6 a b c d e f)) (y) : P y := by
  have e : y = ix6 (y 0) (y 1) (y 2) (y 3) (y 4) (y 5) := by
    funext a; match a with | ⟨0, _⟩ => rfl | ⟨1, _⟩ => rfl | ⟨2, _⟩ => rfl | ⟨3, _⟩ => rfl | ⟨4, _⟩ => rfl | ⟨5, _⟩ => rfl
  rw [e]; exact h _ _ _ _ _ _

theorem updT_in (X : S2x4x128x1280.Idx → EReal) (jk : Fin 2) (n : Fin 4) (kb : Fin 5) (w) (d : Fin 128) (c : Fin 256) (κ : Fin 1280)
    (hκ : κ.val = 256 * kb.val + c.val) :
    upd X (rT jk.val n.val kb.val jk.isLt n.isLt kb.isLt) w (ix4 jk n d κ) = w (ix4 0 0 d c) :=
  upd_in X w _ _ (fun a => by
    fin_cases a
    · rfl
    · rfl
    · exact (Nat.zero_add _).symm
    · exact hκ)
theorem updT_out (X : S2x4x128x1280.Idx → EReal) (jk : Fin 2) (n : Fin 4) (kb : Fin 5) (w) (a : Fin 2) (b : Fin 4) (d : Fin 128) (κ : Fin 1280)
    (h : ¬ (a = jk ∧ b = n ∧ κ.val / 256 = kb.val)) :
    upd X (rT jk.val n.val kb.val jk.isLt n.isLt kb.isLt) w (ix4 a b d κ) = X (ix4 a b d κ) := by
  by_cases h0 : a = jk
  · by_cases h1 : b = n
    · refine upd_out X w _ (3 : Fin 4) ?_
      show κ.val < 256 * kb.val ∨ 256 * kb.val + 256 ≤ κ.val
      have := fun e => h ⟨h0, h1, e⟩
      omega
    · refine upd_out X w _ (1 : Fin 4) ?_
      show b.val < n.val ∨ n.val + 1 ≤ b.val
      have := fun e => h1 (Fin.ext e)
      omega
  · refine upd_out X w _ (0 : Fin 4) ?_
    show a.val < jk.val ∨ jk.val + 1 ≤ a.val
    have := fun e => h0 (Fin.ext e)
    omega
theorem updQ (X : S1x1x1x28x256x128.Idx → EReal) (h : Fin 28) (w) (z0 z1 z2 : Fin 1) (g : Fin 28) (r : Fin 256) (d : Fin 128) :
    upd X (rQ h.val h.isLt) w (ix6 z0 z1 z2 g r d) = if g = h then w (ix6 0 0 0 0 r d) else X (ix6 z0 z1 z2 g r d) := by
  split
  · next e =>
    subst e
    exact upd_in X w _ _ (fun a => by
      fin_cases a
      · exact Nat.lt_one_iff.mp z0.isLt
      · exact Nat.lt_one_iff.mp z1.isLt
      · exact Nat.lt_one_iff.mp z2.isLt
      · rfl
      · exact (Nat.zero_add _).symm
      · exact (Nat.zero_add _).symm)
  · next e =>
    refine upd_out X w _ (3 : Fin 6) ?_
    show g.val < h.val ∨ h.val + 1 ≤ g.val
    have := fun e' => e (Fin.ext e')
    omega

end Cert.KernelIdeal.Hand

end
-- ==== Proof.KvTrip.lean ====
/- One trip of the loop over the heads, and the whole loop, over the extended reals. -/
module

public import proofs.«01_k».proof.Proof.KvBlk

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

/-! ## What the first point of a group stores -/

theorem ldI13 (X : S1x2x1x4x1280x128.Idx → EReal) (jk : Fin 2) (n : Fin 4) (κ : Fin 1280) (d : Fin 128) :
    ld X (rI13 (jk, n)) (ix6 0 0 0 0 κ d) = X (ix6 0 jk 0 n κ d) :=
  ld_at X _ _ (fun a => by
    fin_cases a
    · rfl
    · rfl
    · rfl
    · rfl
    · exact (Nat.zero_add _).symm
    · exact (Nat.zero_add _).symm)
theorem V18_at (I : Ins Ideal) (jk : Fin 2) (n : Fin 4) (κ : Fin 1280) (d : Fin 128) :
    V18 I (ix4 jk n κ d) = I.x14 (ix6 0 jk 0 n κ d) := by
  show k0_pay7 (F := Ideal) (ld I.x14 (rI13 (jk, n))) (ix4 0 0 κ d) = _
  rw [pay7_at, ldI13]
theorem V19_at (I : Ins Ideal) (jk : Fin 2) (n : Fin 4) (κ : Fin 1280) (d : Fin 128) :
    V19 I (ix4 jk n d κ) = I.x13 (ix6 0 jk 0 n κ d) := by
  show k0_pay8 (F := Ideal) (ld I.x13 (rI13 (jk, n))) (ix4 0 0 d κ) = _
  rw [pay8_at, ldI13]

/-! ## Which keys a list of blocks shows -/

/-- Whether a block shows a key to a row: the key lies in it and, on the diagonal, at or left of the row. -/
def visB (p : Fin 5 × Bool) (r : Fin 256) (κ : Fin 1280) : Bool := decide (κ.val / 256 = p.1.val ∧ (p.2 = true → κ.val % 256 ≤ r.val))
def visL (L : List (Fin 5 × Bool)) (r : Fin 256) (κ : Fin 1280) : Bool := L.any (fun p => visB p r κ)

theorem visL_nil (r κ) : visL [] r κ = false := rfl
theorem vis_disj (p : Fin 5 × Bool) (L : List (Fin 5 × Bool)) (h : p.1 ∉ L.map Prod.fst) (r κ) (h1 : visB p r κ = true) : visL L r κ = false := by
  unfold visL
  rw [List.any_eq_false]
  intro q hq hv
  unfold visB at h1 hv
  have e1 := (of_decide_eq_true h1).1
  have e2 := (of_decide_eq_true hv).1
  exact h (List.mem_map.mpr ⟨q, hq, Fin.ext (e2.symm.trans e1)⟩)

theorem sum_vis {ι : Type} [Fintype ι] (a g : ι → EReal) (u v w : ι → Bool) (hw : ∀ x, w x = (u x || v x)) (hd : ∀ x, u x = true → v x = false) :
    (∑ x, a x * (if u x then g x else 0)) + (∑ x, a x * (if v x then g x else 0)) = ∑ x, a x * (if w x then g x else 0) := by
  rw [← Finset.sum_add_distrib]
  refine Finset.sum_congr rfl fun x _ => ?_
  rw [hw]
  cases hu : u x
  · simp
  · rw [hd x hu]; simp

/-- A sum over the keys of one block. -/
theorem sum_block (f : Fin 1280 → EReal) (kb : Fin 5) (h0 : ∀ κ : Fin 1280, κ.val / 256 ≠ kb.val → f κ = 0) :
    (∑ κ, f κ) = ∑ c : Fin 256, f ⟨256 * kb.val + c.val, by omega⟩ := by
  rw [← Equiv.sum_comp (finProdFinEquiv (m := 5) (n := 256)) f, Fintype.sum_prod_type, Finset.sum_eq_single kb]
  · refine Finset.sum_congr rfl fun c _ => congrArg f (Fin.ext ?_)
    show c.val + 256 * kb.val = 256 * kb.val + c.val
    omega
  · intro b _ hb
    refine Finset.sum_eq_zero fun c _ => h0 _ ?_
    show (c.val + 256 * b.val) / 256 ≠ kb.val
    have : b.val ≠ kb.val := fun e => hb (Fin.ext e)
    omega
  · intro h; exact absurd (Finset.mem_univ _) h

/-- The coordinates of an accumulator's element and of a queries' gradient element. -/
def tD (y : S2x4x128x1280.Idx) : Fin 128 := y 2
def tK (y : S2x4x128x1280.Idx) : Fin 1280 := y 3
def qH (y : S1x1x1x28x256x128.Idx) : Fin 28 := y 3
def qR (y : S1x1x1x28x256x128.Idx) : Fin 256 := y 4
def qD (y : S1x1x1x28x256x128.Idx) : Fin 128 := y 5

/-! ## A head's weights and gradients over all keys -/

section
variable (I : Ins Ideal) (H : Head Ideal) (lse dl : Fin 256 → EReal) (jk : Fin 2) (n : Fin 4)

/-- The weight of a key for a row. -/
def wtV (r : Fin 256) (κ : Fin 1280) : EReal :=
  Ideal.exp2 ((∑ d : Fin 128, H.q (ix2 r d) * I.x13 (ix6 0 jk 0 n κ d)) * H.c1 - lse r : EReal)
/-- The gradient of their score. -/
def gdV (r : Fin 256) (κ : Fin 1280) : EReal :=
  wtV I H lse jk n r κ * ((∑ d : Fin 128, H.d (ix2 r d) * I.x14 (ix6 0 jk 0 n κ d)) - dl r)

/-- What blocks showing the keys `vis` add to the two accumulators and to the queries' gradient. -/
def add20 (vis : Fin 256 → Fin 1280 → Bool) (y : S2x4x128x1280.Idx) : EReal :=
  if hdT y = (jk, n) then ∑ r : Fin 256, H.qt (ix2 (tD y) r) * (if vis r (tK y) then gdV I H lse dl jk n r (tK y) else 0) else 0
def add21 (vis : Fin 256 → Fin 1280 → Bool) (y : S2x4x128x1280.Idx) : EReal :=
  if hdT y = (jk, n) then ∑ r : Fin 256, H.dt (ix2 (tD y) r) * (if vis r (tK y) then wtV I H lse jk n r (tK y) else 0) else 0
def addQ (vis : Fin 256 → Fin 1280 → Bool) (d : Fin 128) (r : Fin 256) : EReal :=
  ∑ κ : Fin 1280, I.x13 (ix6 0 jk 0 n κ d) * (if vis r κ then gdV I H lse dl jk n r κ else 0)

variable (hl : ∀ r c, H.lse (ix2 r c) = lse r) (hd : ∀ r c, H.dlt (ix2 r c) = dl r)
include hl

theorem bP_blk (p : Fin 5 × Bool) (r c : Fin 256) :
    bP p.2 H (ld I.x13 (rK jk.val n.val p.1.val jk.isLt n.isLt p.1.isLt)) (ix2 r c)
      = if visB p r ⟨256 * p.1.val + c.val, by omega⟩ then wtV I H lse jk n r ⟨256 * p.1.val + c.val, by omega⟩ else 0 := by
  rw [bP_at]
  have e : visB p r ⟨256 * p.1.val + c.val, by omega⟩ = decide (p.2 = true → c.val ≤ r.val) := by
    unfold visB
    refine decide_eq_decide.mpr ?_
    show (256 * p.1.val + c.val) / 256 = _ ∧ (_ → (256 * p.1.val + c.val) % 256 ≤ _) ↔ _
    have h1 : (256 * p.1.val + c.val) / 256 = p.1.val := by omega
    have h2 : (256 * p.1.val + c.val) % 256 = c.val := by omega
    rw [h1, h2]; simp only [true_and]
  rw [e]
  simp only [decide_eq_true_eq]
  refine if_congr Iff.rfl ?_ rfl
  unfold wtV
  rw [hl]
  exact congrArg (fun z => Ideal.exp2 (z * H.c1 - lse r : EReal)) (Finset.sum_congr rfl fun d _ => congrArg (H.q (ix2 r d) * ·) (ldK I.x13 jk n p.1 c d))

include hd
theorem bDS_blk (p : Fin 5 × Bool) (X18 : S2x4x1280x128.Idx → Elt Ideal .bf16) (h18 : X18 = V18 I) (r c : Fin 256) :
    bDS p.2 H (ld I.x13 (rK jk.val n.val p.1.val jk.isLt n.isLt p.1.isLt)) (ld X18 (rV jk.val n.val p.1.val jk.isLt n.isLt p.1.isLt)) (ix2 r c)
      = if visB p r ⟨256 * p.1.val + c.val, by omega⟩ then gdV I H lse dl jk n r ⟨256 * p.1.val + c.val, by omega⟩ else 0 := by
  subst h18
  rw [bDS_at, bP_blk I H lse jk n hl, hd]
  split
  · unfold gdV
    refine congrArg (_ * ·) (congrArg (· - _) (Finset.sum_congr rfl fun d _ => ?_))
    refine congrArg (_ * ·) ?_
    exact (ldV _ jk n p.1 c d).trans (V18_at I jk n _ d)
  · exact zero_mul _

theorem blkDQ_at (p : Fin 5 × Bool) (S : St Ideal) (h18 : S.x18 = V18 I) (h19 : S.x19 = V19 I) (d : Fin 128) (r : Fin 256) :
    blkDQ I S H jk.val n.val p.1.val jk.isLt n.isLt p.1.isLt p.2 (ix2 d r) = addQ I H lse dl jk n (visB p) d r := by
  unfold blkDQ addQ
  rw [bDQ_at, sum_block _ p.1]
  · refine Finset.sum_congr rfl fun c _ => ?_
    rw [bDS_blk I H lse dl jk n hl hd p S.x18 h18, h19]
    refine congrArg (· * _) ?_
    exact (ldT _ jk n p.1 c d).trans (V19_at I jk n _ d)
  · intro κ hκ
    have e : visB p r κ = false := by unfold visB; exact decide_eq_false fun h => hκ h.1
    rw [e]; exact mul_zero _

theorem blkSt_at (p : Fin 5 × Bool) (S : St Ideal) (h18 : S.x18 = V18 I) :
    blkSt I S H jk.val n.val p.1.val jk.isLt n.isLt p.1.isLt p.2 =
      { S with
        x20 := fun y => S.x20 y + add20 I H lse dl jk n (visB p) y
        x21 := fun y => S.x21 y + add21 I H lse jk n (visB p) y } := by
  unfold blkSt
  congr 1
  · funext y; revert y; refine ext4 fun a b d κ => ?_
    by_cases h : a = jk ∧ b = n ∧ κ.val / 256 = p.1.val
    · obtain ⟨rfl, rfl, h3⟩ := h
      have hκ : κ.val = 256 * p.1.val + κ.val % 256 := by omega
      have hκ' : (⟨256 * p.1.val + κ.val % 256, by omega⟩ : Fin 1280) = κ := Fin.ext hκ.symm
      rw [updT_in _ a b p.1 _ d ⟨κ.val % 256, by omega⟩ κ hκ, bDK_at]
      refine congrArg₂ (· + ·) ((ldT _ a b p.1 ⟨κ.val % 256, by omega⟩ d).trans (congrArg (fun z => S.x20 (ix4 a b d z)) hκ')) ?_
      refine Eq.trans ?_ (if_pos rfl).symm
      refine Finset.sum_congr rfl fun r _ => ?_
      rw [bDS_blk I H lse dl a b hl hd p S.x18 h18]
      show _ * (if visB p r ⟨256 * p.1.val + κ.val % 256, _⟩ = true then gdV I H lse dl a b r ⟨256 * p.1.val + κ.val % 256, _⟩ else 0) = _
      rw [hκ']; rfl
    · rw [updT_out _ jk n p.1 _ a b d κ h]
      have e0 : add20 I H lse dl jk n (visB p) (ix4 a b d κ) = 0 := by
        unfold add20; split
        · next hh =>
          injection hh with h1 h2
          refine Finset.sum_eq_zero fun r _ => ?_
          have e : visB p r κ = false := by unfold visB; exact decide_eq_false fun h' => h ⟨h1, h2, h'.1⟩
          show _ * (if visB p r κ = true then _ else _) = _
          rw [e]; exact mul_zero _
        · rfl
      exact ((congrArg (_ + ·) e0).trans (add_zero _)).symm
  · funext y; revert y; refine ext4 fun a b d κ => ?_
    by_cases h : a = jk ∧ b = n ∧ κ.val / 256 = p.1.val
    · obtain ⟨rfl, rfl, h3⟩ := h
      have hκ : κ.val = 256 * p.1.val + κ.val % 256 := by omega
      have hκ' : (⟨256 * p.1.val + κ.val % 256, by omega⟩ : Fin 1280) = κ := Fin.ext hκ.symm
      rw [updT_in _ a b p.1 _ d ⟨κ.val % 256, by omega⟩ κ hκ, bDV_at]
      refine congrArg₂ (· + ·) ((ldT _ a b p.1 ⟨κ.val % 256, by omega⟩ d).trans (congrArg (fun z => S.x21 (ix4 a b d z)) hκ')) ?_
      refine Eq.trans ?_ (if_pos rfl).symm
      refine Finset.sum_congr rfl fun r _ => ?_
      rw [bP_blk I H lse a b hl p]
      show _ * (if visB p r ⟨256 * p.1.val + κ.val % 256, _⟩ = true then wtV I H lse a b r ⟨256 * p.1.val + κ.val % 256, _⟩ else 0) = _
      rw [hκ']; rfl
    · rw [updT_out _ jk n p.1 _ a b d κ h]
      have e0 : add21 I H lse jk n (visB p) (ix4 a b d κ) = 0 := by
        unfold add21; split
        · next hh =>
          injection hh with h1 h2
          refine Finset.sum_eq_zero fun r _ => ?_
          have e : visB p r κ = false := by unfold visB; exact decide_eq_false fun h' => h ⟨h1, h2, h'.1⟩
          show _ * (if visB p r κ = true then _ else _) = _
          rw [e]; exact mul_zero _
        · rfl
      exact ((congrArg (_ + ·) e0).trans (add_zero _)).symm
omit hl hd

theorem add20_cons (p : Fin 5 × Bool) (L : List (Fin 5 × Bool)) (h : p.1 ∉ L.map Prod.fst) (y) :
    add20 I H lse dl jk n (visB p) y + add20 I H lse dl jk n (visL L) y = add20 I H lse dl jk n (visL (p :: L)) y := by
  unfold add20; split
  · exact sum_vis _ _ _ _ _ (fun r => rfl) (fun r hr => vis_disj p L h r _ hr)
  · exact add_zero _
theorem add21_cons (p : Fin 5 × Bool) (L : List (Fin 5 × Bool)) (h : p.1 ∉ L.map Prod.fst) (y) :
    add21 I H lse jk n (visB p) y + add21 I H lse jk n (visL L) y = add21 I H lse jk n (visL (p :: L)) y := by
  unfold add21; split
  · exact sum_vis _ _ _ _ _ (fun r => rfl) (fun r hr => vis_disj p L h r _ hr)
  · exact add_zero _
theorem addQ_cons (p : Fin 5 × Bool) (L : List (Fin 5 × Bool)) (h : p.1 ∉ L.map Prod.fst) (d r) :
    addQ I H lse dl jk n (visB p) d r + addQ I H lse dl jk n (visL L) d r = addQ I H lse dl jk n (visL (p :: L)) d r :=
  sum_vis _ _ _ _ _ (fun κ => rfl) (fun κ hκ => vis_disj p L h r κ hκ)

theorem add20_none (vis : Fin 256 → Fin 1280 → Bool) (h : ∀ r κ, vis r κ = false) (y) : add20 I H lse dl jk n vis y = 0 := by
  unfold add20; simp only [h, Bool.false_eq_true, if_false, mul_zero, Finset.sum_const_zero, ite_self]
theorem add21_none (vis : Fin 256 → Fin 1280 → Bool) (h : ∀ r κ, vis r κ = false) (y) : add21 I H lse jk n vis y = 0 := by
  unfold add21; simp only [h, Bool.false_eq_true, if_false, mul_zero, Finset.sum_const_zero, ite_self]
theorem addQ_none (vis : Fin 256 → Fin 1280 → Bool) (h : ∀ r κ, vis r κ = false) (d r) : addQ I H lse dl jk n vis d r = 0 := by
  unfold addQ; simp only [h, Bool.false_eq_true, if_false, mul_zero, Finset.sum_const_zero]

include hl hd
theorem moreSt_at (L : List (Fin 5 × Bool)) : ∀ (hL : (L.map Prod.fst).Nodup) (S : St Ideal) (h18 : S.x18 = V18 I),
    moreSt I H jk.val n.val jk.isLt n.isLt L S =
      { S with
        x20 := fun y => S.x20 y + add20 I H lse dl jk n (visL L) y
        x21 := fun y => S.x21 y + add21 I H lse jk n (visL L) y } := by
  induction L with
  | nil =>
    intro _ S _
    simp only [add20_none _ _ _ _ _ _ (visL []) visL_nil, add21_none _ _ _ _ _ (visL []) visL_nil, add_zero]
    rfl
  | cons p L ih =>
    intro hL S h18
    rw [List.map_cons, List.nodup_cons] at hL
    rw [moreSt, blkSt_at I H lse dl jk n hl hd p S h18, ih hL.2]
    · simp only [add_assoc, add20_cons _ _ _ _ _ _ p L hL.1, add21_cons _ _ _ _ _ p L hL.1]
    · exact h18

theorem moreDQ_at (L : List (Fin 5 × Bool)) : ∀ (hL : (L.map Prod.fst).Nodup) (S : St Ideal) (h18 : S.x18 = V18 I) (h19 : S.x19 = V19 I)
    (acc : FVec Ideal S128x256 .f32) (d : Fin 128) (r : Fin 256),
    moreDQ I H jk.val n.val jk.isLt n.isLt L S acc (ix2 d r) = (acc (ix2 d r) + addQ I H lse dl jk n (visL L) d r : EReal) := by
  induction L with
  | nil =>
    intro _ S _ _ acc d r
    rw [addQ_none _ _ _ _ _ _ (visL []) visL_nil, add_zero]
    rfl
  | cons p L ih =>
    intro hL S h18 h19 acc d r
    rw [List.map_cons, List.nodup_cons] at hL
    rw [moreDQ, blkSt_at I H lse dl jk n hl hd p S h18, ih hL.2]
    · rw [← addQ_cons _ _ _ _ _ _ p L hL.1]
      show (acc (ix2 d r) + blkDQ I S H jk.val n.val p.1.val jk.isLt n.isLt p.1.isLt p.2 (ix2 d r) : EReal) + _ = _
      rw [blkDQ_at I H lse dl jk n hl hd p S h18 h19, add_assoc]
    · exact h18
    · exact h19
end

/-! ## A trip and the loop -/

theorem St_ext {S T : St Ideal} (h15 : ∀ y, S.x15 y = T.x15 y) (h16 : S.x16 = T.x16) (h17 : S.x17 = T.x17) (h18 : S.x18 = T.x18) (h19 : S.x19 = T.x19)
    (h20 : ∀ y, S.x20 y = T.x20 y) (h21 : ∀ y, S.x21 y = T.x21 y) : S = T := by
  have e15 := funext h15
  have e20 := funext h20
  have e21 := funext h21
  obtain ⟨a, b, c, d, e, f, g⟩ := S
  obtain ⟨a', b', c', d', e', f', g'⟩ := T
  simp only at e15 h16 h17 h18 h19 e20 e21
  subst e15 h16 h17 h18 h19 e20 e21
  rfl

/-- A head's number among the query scales, and a key head's among the key scales. -/
def qIx (i : grid0.Coords) (h : Fin 28) : Fin 840 :=
  ⟨280 * (i 0).val + 140 * (i 2).val + 28 * (i 1).val + h.val, by
    have h0 : (i 0).val < 3 := (i 0).isLt
    have h1 : (i 1).val < 5 := (i 1).isLt
    have h2 : (i 2).val < 2 := (i 2).isLt
    omega⟩
def kIx (i : grid0.Coords) (jk : Fin 2) (n : Fin 4) : Fin 120 :=
  ⟨40 * (i 0).val + 20 * jk.val + 4 * (i 1).val + n.val, by
    have h0 : (i 0).val < 3 := (i 0).isLt
    have h1 : (i 1).val < 5 := (i 1).isLt
    omega⟩
/-- The key head a query head reads. -/
def kvOf (h : Fin 28) : Fin 4 := ⟨h.val / 7, by omega⟩

def hdOf (I : Ins Ideal) (i : grid0.Coords) (jk : Fin 2) (h : Fin 28) : Head Ideal :=
  headOf I h.val h.isLt (qsOff i h.val) (kvOff i jk.val (h.val / 7)) (qsOff_inb i _ h.isLt) (kvOff_inb i _ _ jk.isLt (by omega))
def lseOf (I : Ins Ideal) (i : grid0.Coords) (jk : Fin 2) (h : Fin 28) (r : Fin 256) : EReal :=
  (I.x11 (ix5 0 0 0 h r) * (Named.named κ "log2e" 0x3FB8AA3B#32 : Ideal .f32) - I.x8 (ix1 (kIx i jk (kvOf h))) : EReal)
def dltOf (I : Ins Ideal) (i : grid0.Coords) (jk : Fin 2) (h : Fin 28) (r : Fin 256) : EReal :=
  (I.x12 (ix5 0 0 0 h r) * Ideal.div 1 (I.x7 (ix1 (kIx i jk (kvOf h)))) : EReal)

theorem first1 (o : Fin 1 → ℕ) {N : ℕ} (inb : ∀ a, o a + S1.size a ≤ (⟨1, ![N]⟩ : Shape).size a) (k : Fin N) (hk : o 0 = k.val) {α : Type} (X : (⟨1, ![N]⟩ : Shape).Idx → α) :
    ld1 X (Rect.unit (s := ⟨1, ![N]⟩) o S1.size inb) numel1_S1 = X (ix1 k) := by
  refine congrArg X (funext fun a => Fin.ext ?_)
  fin_cases a
  show o 0 + 1 * 0 = k.val
  rw [hk]; rfl

theorem hd_lse (I : Ins Ideal) (i : grid0.Coords) (jk : Fin 2) (h : Fin 28) (r c : Fin 256) : (hdOf I i jk h).lse (ix2 r c) = lseOf I i jk h r := by
  show k0_pay61 (F := Ideal) _ _ (ix2 r c) = _
  rw [pay61_at, ldL, first1 _ _ (kIx i jk (kvOf h)) rfl]; rfl
theorem hd_dlt (I : Ins Ideal) (i : grid0.Coords) (jk : Fin 2) (h : Fin 28) (r c : Fin 256) : (hdOf I i jk h).dlt (ix2 r c) = dltOf I i jk h r := by
  show k0_pay62 (F := Ideal) _ _ (ix2 r c) = _
  rw [pay62_at, ldL, first1 _ _ (kIx i jk (kvOf h)) rfl]; rfl
theorem hd_q (I : Ins Ideal) (i : grid0.Coords) (jk : Fin 2) (h : Fin 28) (r : Fin 256) (d : Fin 128) : (hdOf I i jk h).q (ix2 r d) = I.x9 (ix6 0 0 0 h r d) := by
  exact (pay59_at (ld I.x9 (rQ h.val h.isLt)) r d).trans (ldQ I.x9 h r d)
theorem hd_d (I : Ins Ideal) (i : grid0.Coords) (jk : Fin 2) (h : Fin 28) (r : Fin 256) (d : Fin 128) : (hdOf I i jk h).d (ix2 r d) = I.x10 (ix6 0 0 0 h r d) := by
  exact (pay60_at (ld I.x10 (rQ h.val h.isLt)) r d).trans (ldQ I.x10 h r d)
theorem hd_qt (I : Ins Ideal) (i : grid0.Coords) (jk : Fin 2) (h : Fin 28) (r : Fin 256) (d : Fin 128) :
    (hdOf I i jk h).qt (ix2 d r) = (I.x9 (ix6 0 0 0 h r d) * I.x5 (ix1 (qIx i h)) : EReal) := by
  show k0_pay64 (F := Ideal) (k0_pay59 (F := Ideal) _) _ (ix2 d r) = _
  rw [pay64_at, pay59_at, ldQ, first1 _ _ (qIx i h) rfl]
theorem hd_dt (I : Ins Ideal) (i : grid0.Coords) (jk : Fin 2) (h : Fin 28) (r : Fin 256) (d : Fin 128) :
    (hdOf I i jk h).dt (ix2 d r) = I.x10 (ix6 0 0 0 h r d) := by
  exact (pay65_at (k0_pay60 (F := Ideal) (ld I.x10 (rQ h.val h.isLt))) d r).trans ((pay60_at (ld I.x10 (rQ h.val h.isLt)) r d).trans (ldQ I.x10 h r d))
theorem hd_c1 (I : Ins Ideal) (i : grid0.Coords) (jk : Fin 2) (h : Fin 28) :
    (hdOf I i jk h).c1 = k0_pay63 (F := Ideal) (I.x5 (ix1 (qIx i h))) (I.x6 (ix1 (kIx i jk (kvOf h)))) := by
  show k0_pay63 (F := Ideal) _ _ = _
  rw [first1 _ _ (qIx i h) rfl, first1 _ _ (kIx i jk (kvOf h)) rfl]

/-- What a trip adds. -/
def e20 (I : Ins Ideal) (i : grid0.Coords) (jk : Fin 2) (vis : Fin 256 → Fin 1280 → Bool) (h : Fin 28) (y : S2x4x128x1280.Idx) : EReal :=
  add20 I (hdOf I i jk h) (lseOf I i jk h) (dltOf I i jk h) jk (kvOf h) vis y
def e21 (I : Ins Ideal) (i : grid0.Coords) (jk : Fin 2) (vis : Fin 256 → Fin 1280 → Bool) (h : Fin 28) (y : S2x4x128x1280.Idx) : EReal :=
  add21 I (hdOf I i jk h) (lseOf I i jk h) jk (kvOf h) vis y
def eQ (I : Ins Ideal) (i : grid0.Coords) (jk : Fin 2) (vis : Fin 256 → Fin 1280 → Bool) (y : S1x1x1x28x256x128.Idx) : EReal :=
  addQ I (hdOf I i jk (qH y)) (lseOf I i jk (qH y)) (dltOf I i jk (qH y)) jk (kvOf (qH y)) vis (qD y) (qR y) * SM

theorem tripSt_at (I : Ins Ideal) (i : grid0.Coords) (jk : Fin 2) (h : Fin 28) (b : Fin 5 × Bool) (L : List (Fin 5 × Bool))
    (hL : ((b :: L).map Prod.fst).Nodup) (S : St Ideal) (h18 : S.x18 = V18 I) (h19 : S.x19 = V19 I) :
    tripSt I S h.val (h.val / 7) h.isLt (by omega) (qsOff i h.val) (kvOff i jk.val (h.val / 7)) (qsOff_inb i _ h.isLt) (kvOff_inb i _ _ jk.isLt (by omega)) jk.val jk.isLt b L
      = { S with
          x15 := fun y => S.x15 y + if qH y = h then eQ I i jk (visL (b :: L)) y else 0
          x20 := fun y => S.x20 y + e20 I i jk (visL (b :: L)) h y
          x21 := fun y => S.x21 y + e21 I i jk (visL (b :: L)) h y } := by
  have hLc := hL
  rw [List.map_cons, List.nodup_cons] at hLc
  have hb := blkSt_at I (hdOf I i jk h) _ _ jk (kvOf h) (hd_lse I i jk h) (hd_dlt I i jk h) b S h18
  have h18' : (blkSt I S (hdOf I i jk h) jk.val (kvOf h).val b.1.val jk.isLt (kvOf h).isLt b.1.isLt b.2).x18 = V18 I := h18
  have h19' : (blkSt I S (hdOf I i jk h) jk.val (kvOf h).val b.1.val jk.isLt (kvOf h).isLt b.1.isLt b.2).x19 = V19 I := h19
  have hm := moreSt_at I (hdOf I i jk h) _ _ jk (kvOf h) (hd_lse I i jk h) (hd_dlt I i jk h) L hLc.2 _ h18'
  have hq := moreDQ_at I (hdOf I i jk h) _ _ jk (kvOf h) (hd_lse I i jk h) (hd_dlt I i jk h) L hLc.2 _ h18' h19'
    (blkDQ I S (hdOf I i jk h) jk.val (kvOf h).val b.1.val jk.isLt (kvOf h).isLt b.1.isLt b.2)
  have hq0 := blkDQ_at I (hdOf I i jk h) _ _ jk (kvOf h) (hd_lse I i jk h) (hd_dlt I i jk h) b S h18 h19
  have hs : ∀ (M : St Ideal) (D : FVec Ideal S128x256 .f32), M = moreSt I (hdOf I i jk h) jk.val (kvOf h).val jk.isLt (kvOf h).isLt L (blkSt I S (hdOf I i jk h) jk.val (kvOf h).val b.1.val jk.isLt (kvOf h).isLt b.1.isLt b.2) → D = moreDQ I (hdOf I i jk h) jk.val (kvOf h).val jk.isLt (kvOf h).isLt L (blkSt I S (hdOf I i jk h) jk.val (kvOf h).val b.1.val jk.isLt (kvOf h).isLt b.1.isLt b.2) (blkDQ I S (hdOf I i jk h) jk.val (kvOf h).val b.1.val jk.isLt (kvOf h).isLt b.1.isLt b.2) →
      tripSt I S h.val (h.val / 7) h.isLt (by omega) (qsOff i h.val) (kvOff i jk.val (h.val / 7)) (qsOff_inb i _ h.isLt) (kvOff_inb i _ _ jk.isLt (by omega)) jk.val jk.isLt b L
        = { M with x15 := upd M.x15 (rQ h.val h.isLt) (tDQ D (ld M.x15 (rQ h.val h.isLt))) } := by
    rintro M D rfl rfl; rfl
  rw [hs _ _ hm.symm rfl]
  refine St_ext ?_ rfl rfl rfl rfl ?_ ?_
  · refine ext6 fun z0 z1 z2 g r d => ?_
    show upd S.x15 (rQ h.val h.isLt) (tDQ _ (ld S.x15 (rQ h.val h.isLt))) (ix6 z0 z1 z2 g r d)
      = S.x15 (ix6 z0 z1 z2 g r d) + if g = h then eQ I i jk (visL (b :: L)) (ix6 z0 z1 z2 g r d) else 0
    rw [updQ]
    split
    · next e =>
      subst e
      rw [tDQ_at, hq, hq0, addQ_cons _ _ _ _ _ _ b L hLc.1, ldQ]
      obtain rfl : z0 = 0 := Subsingleton.elim _ _
      obtain rfl : z1 = 0 := Subsingleton.elim _ _
      obtain rfl : z2 = 0 := Subsingleton.elim _ _
      rfl
    · exact (add_zero _).symm
  · intro y
    have e := congrFun (congrArg St.x20 hb) y
    refine (congrArg (· + _) e).trans ?_
    show S.x20 y + _ + _ = S.x20 y + _
    rw [add_assoc, add20_cons _ _ _ _ _ _ b L hLc.1]; rfl
  · intro y
    have e := congrFun (congrArg St.x21 hb) y
    refine (congrArg (· + _) e).trans ?_
    show S.x21 y + _ + _ = S.x21 y + _
    rw [add_assoc, add21_cons _ _ _ _ _ b L hLc.1]; rfl

/-- What a whole loop leaves. -/
def lEff (I : Ins Ideal) (i : grid0.Coords) (jk : Fin 2) (vis : Fin 256 → Fin 1280 → Bool) (S : St Ideal) : St Ideal :=
  { S with
    x15 := fun y => S.x15 y + eQ I i jk vis y
    x20 := fun y => S.x20 y + ∑ h : Fin 28, e20 I i jk vis h y
    x21 := fun y => S.x21 y + ∑ h : Fin 28, e21 I i jk vis h y }

theorem loopSt_at (I : Ins Ideal) (i : grid0.Coords) (jk : Fin 2) (b : Fin 5 × Bool) (L : List (Fin 5 × Bool))
    (hL : ((b :: L).map Prod.fst).Nodup) (S : St Ideal) (h18 : S.x18 = V18 I) (h19 : S.x19 = V19 I) (k : ℕ) (hk : k ≤ 28) :
    loopSt I i jk b L S k =
      { S with
        x15 := fun y => S.x15 y + if (qH y).val < k then eQ I i jk (visL (b :: L)) y else 0
        x20 := fun y => S.x20 y + ∑ h ∈ Finset.range k, (if hh : h < 28 then e20 I i jk (visL (b :: L)) ⟨h, hh⟩ y else 0)
        x21 := fun y => S.x21 y + ∑ h ∈ Finset.range k, (if hh : h < 28 then e21 I i jk (visL (b :: L)) ⟨h, hh⟩ y else 0) } := by
  induction k with
  | zero =>
    show S = _
    simp only [Nat.not_lt_zero, if_false, Finset.range_zero, Finset.sum_empty, add_zero]
  | succ k ih =>
    have hk' : k < 28 := hk
    rw [loopSt, dif_pos hk', ih (by omega)]
    refine (tripSt_at I i jk ⟨k, hk'⟩ b L hL _ (by exact h18) (by exact h19)).trans ?_
    refine St_ext ?_ rfl rfl rfl rfl ?_ ?_
    · intro y
      show S.x15 y + _ + _ = S.x15 y + if (qH y).val < k + 1 then _ else _
      rw [add_assoc]
      refine congrArg (_ + ·) ?_
      by_cases h1 : (qH y).val < k
      · have h2 : ¬ qH y = ⟨k, hk'⟩ := fun e => by have := congrArg Fin.val e; simp only at this; omega
        rw [if_pos h1, if_neg h2, add_zero, if_pos (by omega)]
      · by_cases h2 : qH y = ⟨k, hk'⟩
        · have h3 : (qH y).val = k := congrArg Fin.val h2
          rw [if_neg h1, if_pos h2, zero_add, if_pos (by omega)]
        · have h3 : (qH y).val ≠ k := fun e => h2 (Fin.ext e)
          rw [if_neg h1, if_neg h2, zero_add, if_neg (by omega)]
    · intro y
      show S.x20 y + _ + _ = S.x20 y + ∑ h ∈ Finset.range (k + 1), _
      rw [add_assoc, Finset.sum_range_succ, dif_pos hk']
    · intro y
      show S.x21 y + _ + _ = S.x21 y + ∑ h ∈ Finset.range (k + 1), _
      rw [add_assoc, Finset.sum_range_succ, dif_pos hk']

theorem loop28 (I : Ins Ideal) (i : grid0.Coords) (jk : Fin 2) (b : Fin 5 × Bool) (L : List (Fin 5 × Bool))
    (hL : ((b :: L).map Prod.fst).Nodup) (S : St Ideal) (h18 : S.x18 = V18 I) (h19 : S.x19 = V19 I) :
    loopSt I i jk b L S 28 = lEff I i jk (visL (b :: L)) S := by
  rw [loopSt_at I i jk b L hL S h18 h19 28 le_rfl]
  unfold lEff
  refine St_ext ?_ rfl rfl rfl rfl ?_ ?_
  · intro y; show _ + (if (qH y).val < 28 then _ else _) = _; rw [if_pos (qH y).isLt]
  · intro y; refine congrArg (_ + ·) ((Finset.sum_range _).trans (Finset.sum_congr rfl fun h _ => dif_pos h.isLt))
  · intro y; refine congrArg (_ + ·) ((Finset.sum_range _).trans (Finset.sum_congr rfl fun h _ => dif_pos h.isLt))

theorem lEff_none (I : Ins Ideal) (i : grid0.Coords) (jk : Fin 2) (vis : Fin 256 → Fin 1280 → Bool) (h : ∀ r κ, vis r κ = false) (S : St Ideal) :
    lEff I i jk vis S = S := by
  unfold lEff eQ e20 e21
  refine St_ext (fun y => ?_) rfl rfl rfl rfl (fun y => ?_) (fun y => ?_)
  all_goals simp only [add20_none _ _ _ _ _ _ vis h, add21_none _ _ _ _ _ vis h, addQ_none _ _ _ _ _ _ vis h, zero_mul, Finset.sum_const_zero, add_zero]

end Cert.KernelIdeal.Hand

end
-- ==== Proof.KvPoint.lean ====
/- What one point does to the accumulators, over the extended reals. -/
module

public import proofs.«01_k».proof.Proof.KvTrip

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

theorem cN_id : ∀ e : BitVec 1, cN e = e := by decide

/-- The keys a query row of the point sees in a chunk: all of an earlier one, those up to its own position in its own. -/
def visW (w : BitVec 32) (i : grid0.Coords) (r : Fin 256) (κ : Fin 1280) : Bool :=
  decide (w.slt (chW i) = true ∨ (w = chW i ∧ κ.val ≤ 256 * (i 3).val + r.val))

/-- The trips of one chunk of keys. -/
def tripsG (I : Ins Ideal) (i : grid0.Coords) (jk : Fin 2) (w : BitVec 32) (S : St Ideal) : St Ideal :=
  clSt I i (cDiag w i 4#32) jk (0, false) [(1, false), (2, false), (3, false), (4, true)] (clSt I i (cDiag w i 3#32) jk (0, false) [(1, false), (2, false), (3, true)] (clSt I i (cDiag w i 2#32) jk (0, false) [(1, false), (2, true)] (clSt I i (cDiag w i 1#32) jk (0, false) [(1, true)] (clSt I i (cDiag w i 0#32) jk (0, true) [] (clSt I i (cFull w i) jk (0, false) [(1, false), (2, false), (3, false), (4, false)] (S))))))

theorem clSt_no (I : Ins Ideal) (i : grid0.Coords) (c : BitVec 1) (jk : Fin 2) (b L) (S : St Ideal) (h : c = 0#1) : clSt I i c jk b L S = S := by
  subst h; rfl
theorem clSt_yes (I : Ins Ideal) (i : grid0.Coords) (c : BitVec 1) (jk : Fin 2) (b : Fin 5 × Bool) (L : List (Fin 5 × Bool))
    (hL : ((b :: L).map Prod.fst).Nodup) (S : St Ideal) (h18 : S.x18 = V18 I) (h19 : S.x19 = V19 I) (h : c = 1#1) :
    clSt I i c jk b L S = lEff I i jk (visL (b :: L)) S := by
  subst h; exact loop28 I i jk b L hL S h18 h19

theorem cDiag_no (w : BitVec 32) (i : grid0.Coords) (h : w ≠ chW i) (t : BitVec 32) : cDiag w i t = 0#1 := by
  rw [cDiag, cN_id, show Scalar.cmpi .eq w (chW i) = 0#1 from by show BitVec.ofBool (w == chW i) = _; rw [beq_false_of_ne h]; rfl]
  exact BitVec.zero_and
theorem cFull_no (w : BitVec 32) (i : grid0.Coords) (h : ¬ w.slt (chW i) = true) : cFull w i = 0#1 := by
  rw [cFull, cN_id]; show BitVec.ofBool (w.slt (chW i)) = _; rw [Bool.eq_false_iff.mpr h]; rfl
theorem cFull_yes (w : BitVec 32) (i : grid0.Coords) (h : w.slt (chW i) = true) : cFull w i = 1#1 := by
  rw [cFull, cN_id]; show BitVec.ofBool (w.slt (chW i)) = _; rw [h]; rfl
theorem cDiag_eq (w : BitVec 32) (i : grid0.Coords) (h : w = chW i) (t : BitVec 32) :
    cDiag w i t = Scalar.cmpi .eq (BitVec.ofNat 32 (i 3).val) t := by
  rw [cDiag, cN_id, show Scalar.cmpi .eq w (chW i) = 1#1 from by show BitVec.ofBool (w == chW i) = _; rw [h, beq_self_eq_true]; rfl]
  generalize Scalar.cmpi .eq (BitVec.ofNat 32 (i 3).val) t = e
  revert e; decide
theorem slt_irr (w : BitVec 32) : ¬ w.slt w = true := by
  simp [BitVec.slt]

theorem visL5 (r : Fin 256) (κ : Fin 1280) : visL [(0, false), (1, false), (2, false), (3, false), (4, false)] r κ = true := by
  have := κ.isLt
  simp [visL, visB]; omega

theorem tripsG_at (I : Ins Ideal) (i : grid0.Coords) (jk : Fin 2) (w : BitVec 32) (S : St Ideal) (h18 : S.x18 = V18 I) (h19 : S.x19 = V19 I) :
    tripsG I i jk w S = lEff I i jk (visW w i) S := by
  unfold tripsG
  by_cases h1 : w.slt (chW i) = true
  · have hne : w ≠ chW i := fun e => slt_irr w (by rw [← e] at h1; exact h1)
    rw [clSt_no _ _ (cDiag w i 4#32) _ _ _ _ (cDiag_no w i hne _), clSt_no _ _ (cDiag w i 3#32) _ _ _ _ (cDiag_no w i hne _),
      clSt_no _ _ (cDiag w i 2#32) _ _ _ _ (cDiag_no w i hne _), clSt_no _ _ (cDiag w i 1#32) _ _ _ _ (cDiag_no w i hne _),
      clSt_no _ _ (cDiag w i 0#32) _ _ _ _ (cDiag_no w i hne _), clSt_yes I i _ jk _ _ (by decide) S h18 h19 (cFull_yes w i h1)]
    refine congrArg (lEff I i jk · S) (funext fun r => funext fun κ => ?_)
    rw [visL5, visW]
    exact (decide_eq_true (Or.inl h1)).symm
  · rw [clSt_no _ _ (cFull w i) _ _ _ _ (cFull_no w i h1)]
    by_cases h2 : w = chW i
    · have key : ∀ L : List (Fin 5 × Bool), (∀ r κ, visL L r κ = decide (κ.val ≤ 256 * (i 3).val + r.val)) →
          lEff I i jk (visL L) S = lEff I i jk (visW w i) S := by
        intro L hL
        refine congrArg (lEff I i jk · S) (funext fun r => funext fun κ => ?_)
        rw [hL, visW]
        exact decide_eq_decide.mpr ⟨fun h => Or.inr ⟨h2, h⟩, fun h => (h.resolve_left h1).2⟩
      have hd : ∀ n : ℕ, n < 5 → cDiag w i (BitVec.ofNat 32 n) = if (i 3).val = n then 1#1 else 0#1 := by
        intro n hn
        rw [cDiag_eq w i h2]
        have : ∀ a n : Fin 5, Scalar.cmpi .eq (BitVec.ofNat 32 a.val) (BitVec.ofNat 32 n.val) = if a.val = n.val then 1#1 else 0#1 := by decide
        exact this (i 3) ⟨n, hn⟩
      have h3 : (i 3).val = 0 ∨ (i 3).val = 1 ∨ (i 3).val = 2 ∨ (i 3).val = 3 ∨ (i 3).val = 4 := by
        have : (i 3).val < 5 := (i 3).isLt
        omega
      rcases h3 with e | e | e | e | e
      all_goals
        simp only [e] at hd key
        have d0 := hd 0 (by decide)
        have d1 := hd 1 (by decide)
        have d2 := hd 2 (by decide)
        have d3 := hd 3 (by decide)
        have d4 := hd 4 (by decide)
        simp at d0 d1 d2 d3 d4
        simp only [d0, d1, d2, d3, d4]
        first
          | rw [clSt_no _ _ 0#1 _ _ _ _ rfl, clSt_no _ _ 0#1 _ _ _ _ rfl, clSt_no _ _ 0#1 _ _ _ _ rfl, clSt_no _ _ 0#1 _ _ _ _ rfl, clSt_yes I i _ jk _ _ (by decide) S h18 h19 rfl]
          | rw [clSt_yes I i _ jk _ _ (by decide) _ (by simpa only [clSt_no _ _ 0#1 _ _ _ _ rfl] using h18) (by simpa only [clSt_no _ _ 0#1 _ _ _ _ rfl] using h19) rfl]; simp only [clSt_no _ _ 0#1 _ _ _ _ rfl]
        refine key _ fun r κ => ?_
        have hr := r.isLt
        have hk := κ.isLt
        rw [Bool.eq_iff_iff, decide_eq_true_iff]
        simp [visL, visB]
        omega
    · rw [clSt_no _ _ (cDiag w i 4#32) _ _ _ _ (cDiag_no w i h2 _), clSt_no _ _ (cDiag w i 3#32) _ _ _ _ (cDiag_no w i h2 _),
        clSt_no _ _ (cDiag w i 2#32) _ _ _ _ (cDiag_no w i h2 _), clSt_no _ _ (cDiag w i 1#32) _ _ _ _ (cDiag_no w i h2 _),
        clSt_no _ _ (cDiag w i 0#32) _ _ _ _ (cDiag_no w i h2 _)]
      refine (lEff_none I i jk _ (fun r κ => ?_) S).symm
      exact decide_eq_false fun h => h.elim h1 fun h => h2 h.1

/-- The chunk of the keys, in the order of the two halves. -/
def wAt (I : Ins Ideal) (i : grid0.Coords) (jk : Fin 2) : BitVec 32 :=
  if jk = 0 then srcW i (stepAt I i) else Scalar.subi 5#32 (srcW i (stepAt I i))

/-- What the point adds to its accumulators. -/
def p20 (I : Ins Ideal) (i : grid0.Coords) (y : S2x4x128x1280.Idx) : EReal :=
  ∑ jk : Fin 2, ∑ h : Fin 28, e20 I i jk (visW (wAt I i jk) i) h y
def p21 (I : Ins Ideal) (i : grid0.Coords) (y : S2x4x128x1280.Idx) : EReal :=
  ∑ jk : Fin 2, ∑ h : Fin 28, e21 I i jk (visW (wAt I i jk) i) h y
def pQ (I : Ins Ideal) (i : grid0.Coords) (y : S1x1x1x28x256x128.Idx) : EReal :=
  ∑ jk : Fin 2, eQ I i jk (visW (wAt I i jk) i) y

theorem tripsAll_at (I : Ins Ideal) (i : grid0.Coords) (S : St Ideal) (h18 : S.x18 = V18 I) (h19 : S.x19 = V19 I) :
    tripsAll I i S = { S with
      x15 := fun y => S.x15 y + pQ I i y
      x20 := fun y => S.x20 y + p20 I i y
      x21 := fun y => S.x21 y + p21 I i y } := by
  show tripsG I i 1 (wAt I i 1) (tripsG I i 0 (wAt I i 0) S) = _
  rw [tripsG_at I i 0 _ S h18 h19, tripsG_at I i 1 _ (lEff I i 0 (visW (wAt I i 0) i) S) h18 h19]
  refine St_ext (fun y => ?_) rfl rfl rfl rfl (fun y => ?_) (fun y => ?_)
  · show S.x15 y + _ + _ = S.x15 y + pQ I i y
    rw [pQ, Fin.sum_univ_two, add_assoc]
  · show S.x20 y + _ + _ = S.x20 y + p20 I i y
    rw [p20, Fin.sum_univ_two, add_assoc]
  · show S.x21 y + _ + _ = S.x21 y + p21 I i y
    rw [p21, Fin.sum_univ_two, add_assoc]

end Cert.KernelIdeal.Hand

end
-- ==== Proof.KiDat.lean ====
/- The pipeline's proof data and the frame run: every grid point runs, and what it leaves in the buffers. -/
module

public import proofs.«01_k».proof.Proof.KiState
public import proofs.«01_k».proof.Proof.Gen.KernelIdeal.Frame

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

open Idealize.ShloMosaic.Pipeline (Dat Cfg Window BodyObligation BodyObligationLoose)

variable (m : (ℓ : Loc nD τ sig) → Buf (Elt F) ℓ) (ρ : Dev nD → PrngReg)

/-! ## The points -/

theorem cond14_iff : ∀ t : Fin grid0.N, k0_cond14 (grid0.coords t) = 1#1 ↔ t.val % 10 = 9 := by decide +kernel
theorem cInit_iff : ∀ t : Fin grid0.N, cInit (grid0.coords t) = 1#1 ↔ t.val % 10 = 0 := by decide +kernel

/-- The memrefs of the point. -/
def argsAt (t : Fin cfg0.N) : Args where
  a4 := win0_0.stage (cfg0.slots t 0)
  h4 := hstage0_0 ((cfg0.slots t 0).cast nbuf0_0)
  a5 := win0_1.stage (cfg0.slots t 1)
  h5 := hstage0_1 ((cfg0.slots t 1).cast nbuf0_1)
  a6 := win0_2.stage (cfg0.slots t 2)
  h6 := hstage0_2 ((cfg0.slots t 2).cast nbuf0_2)
  a7 := win0_3.stage (cfg0.slots t 3)
  h7 := hstage0_3 ((cfg0.slots t 3).cast nbuf0_3)
  a8 := win0_4.stage (cfg0.slots t 4)
  h8 := hstage0_4 ((cfg0.slots t 4).cast nbuf0_4)
  a9 := win0_5.stage (cfg0.slots t 5)
  h9 := hstage0_5 ((cfg0.slots t 5).cast nbuf0_5)
  a10 := win0_6.stage (cfg0.slots t 6)
  h10 := hstage0_6 ((cfg0.slots t 6).cast nbuf0_6)
  a11 := win0_7.stage (cfg0.slots t 7)
  h11 := hstage0_7 ((cfg0.slots t 7).cast nbuf0_7)
  a12 := win0_8.stage (cfg0.slots t 8)
  h12 := hstage0_8 ((cfg0.slots t 8).cast nbuf0_8)
  a13 := win0_9.stage (cfg0.slots t 9)
  h13 := hstage0_9 ((cfg0.slots t 9).cast nbuf0_9)
  a14 := win0_10.stage (cfg0.slots t 10)
  h14 := hstage0_10 ((cfg0.slots t 10).cast nbuf0_10)
  a15 := win0_11.stage (cfg0.slots t 11)
  h15 := hstage0_11 ((cfg0.slots t 11).cast nbuf0_11)
  a16 := win0_12.stage (cfg0.slots t 12)
  h16 := hstage0_12 ((cfg0.slots t 12).cast nbuf0_12)
  a17 := win0_13.stage (cfg0.slots t 13)
  h17 := hstage0_13 ((cfg0.slots t 13).cast nbuf0_13)
  a18 := Memref.whole cc0_scratch0
  h18 := Memref.isWhole_whole _
  a19 := Memref.whole cc0_scratch1
  h19 := Memref.isWhole_whole _
  a20 := Memref.whole cc0_scratch2
  h20 := Memref.isWhole_whole _
  a21 := Memref.whole cc0_scratch3
  h21 := Memref.isWhole_whole _

/-- The inputs' blocks of the point. -/
def insAt (c : Dev nD) (t : Fin cfg0.N) : Ins F where
  x4 := iblk m c 0 t
  x5 := iblk m c 1 t
  x6 := iblk m c 2 t
  x7 := iblk m c 3 t
  x8 := iblk m c 4 t
  x9 := iblk m c 5 t
  x10 := iblk m c 6 t
  x11 := iblk m c 7 t
  x12 := iblk m c 8 t
  x13 := iblk m c 9 t
  x14 := iblk m c 10 t

/-- What the buffers hold before each point: the start is not named. -/
def scr (c : Dev nD) : ℕ → St F
  | 0 => ⟨fun _ => Scalar.ofBits .f32 0#32, fun _ => Scalar.ofBits .f32 0#32, fun _ => Scalar.ofBits .f32 0#32, fun _ => Scalar.ofBits .bf16 0#16, fun _ => Scalar.ofBits .bf16 0#16, fun _ => Scalar.ofBits .f32 0#32, fun _ => Scalar.ofBits .f32 0#32⟩
  | k + 1 => if h : k < cfg0.N then ringSt (insAt m c ⟨k, h⟩) (grid0.coords ⟨k, h⟩) (scr c k) else scr c k
theorem scr_succ (c : Dev nD) (t : Fin cfg0.N) : scr m c (t.val + 1) = ringSt (insAt m c t) (grid0.coords t) (scr m c t.val) := by
  rw [scr, dif_pos t.isLt]

/-- The four scratch buffers. -/
def Scr (c : Dev nD) (S : St F) : sProp 𝕄 :=
  iprop(owns (c : Thread nD τ) (Memref.whole cc0_scratch0) fullShare S.x18 ∗ owns (c : Thread nD τ) (Memref.whole cc0_scratch1) fullShare S.x19 ∗ owns (c : Thread nD τ) (Memref.whole cc0_scratch2) fullShare S.x20 ∗ owns (c : Thread nD τ) (Memref.whole cc0_scratch3) fullShare S.x21)

/-- The invariant between points. -/
def PhiS (c : Dev nD) : ℕ → sProp 𝕄
  | 0 => Pipeline.ΦA spec0 c
  | n + 1 => iprop(Scr c (scr m c (n + 1)) ∗ ∃ r, prngReg c r)

theorem phi_open (c : Dev nD) (t : Fin cfg0.N) : PhiS m c t.val ⊢ iprop(∃ S : St F, ⌜cInit (grid0.coords t) = 1#1 ∨ ((scr m c t.val).x18 = S.x18 ∧ (scr m c t.val).x19 = S.x19 ∧ (scr m c t.val).x20 = S.x20 ∧ (scr m c t.val).x21 = S.x21)⌝ ∗ Scr c S ∗ ∃ r, prngReg c r) := by
  obtain ⟨n, hn⟩ := t
  cases n with
  | zero =>
    show Pipeline.ΦA spec0 c ⊢ _
    unfold Pipeline.ΦA
    rw [scopedRest0_eq]
    iintro ⟨⟨⟨%f0, H0⟩, ⟨%f1, H1⟩, ⟨%f2, H2⟩, ⟨%f3, H3⟩⟩, Hg⟩
    iexists (⟨(scr m c 0).x15, (scr m c 0).x16, (scr m c 0).x17, f0, f1, f2, f3⟩ : St F)
    isplitr
    · ipureintro; exact Or.inl ((cInit_iff ⟨0, hn⟩).mpr rfl)
    isplitr [Hg]
    · unfold Scr
      simp only [owns_whole]
      isplitl [H0]; · iexact H0
      isplitl [H1]; · iexact H1
      isplitl [H2]; · iexact H2
      iexact H3
    · iexact Hg
  | succ n =>
    show iprop(Scr c (scr m c (n + 1)) ∗ ∃ r, prngReg c r) ⊢ _
    iintro ⟨HS, Hg⟩
    iexists scr m c (n + 1)
    isplitr
    · ipureintro; exact Or.inr ⟨rfl, rfl, rfl, rfl⟩
    isplitl [HS]
    · iexact HS
    · iexact Hg

theorem phi_out (c : Dev nD) (n : ℕ) : PhiS m c (n + 1) ⊢ Pipeline.ΦA spec0 c := by
  show iprop(Scr c (scr m c (n + 1)) ∗ ∃ r, prngReg c r) ⊢ _
  unfold Pipeline.ΦA Scr
  rw [scopedRest0_eq]
  simp only [owns_whole]
  iintro ⟨⟨H0, H1, H2, H3⟩, Hg⟩
  isplitr [Hg]
  · isplitl [H0]; · iexists _; iexact H0
    isplitl [H1]; · iexists _; iexact H1
    isplitl [H2]; · iexists _; iexact H2
    iexists _; iexact H3
  · iexact Hg

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (scr m c (t.val + 1)).x15
    | ⟨12, _⟩ => (scr m c (t.val + 1)).x16
    | ⟨13, _⟩ => (scr m c (t.val + 1)).x17
    | ⟨_ + 14, h⟩ => absurd h (Nat.not_lt.2 (Nat.le_add_left _ _))
  Φ t := PhiS m c t.val
  q _ := fullShare
  owed _ := 0

theorem body_triple (c : Dev nD) (t : Fin cfg0.N) (S : St F) : Own c (argsAt t) (insAt m c t) S ⊢
    wp frame (wpE (defs₀ (F := F)) Variants.none (c : Thread nD τ) none) Set.univ (bodyAt0 t)
      (fun _ => Own c (argsAt t) (insAt m c t) (ringSt (insAt m c t) (grid0.coords t) S)) := by
  have h := wp_ringP c (argsAt t) (insAt m c t) S (grid0.coords t)
  rw [← body_eq] at h
  exact h

theorem row (t : Fin cfg0.N) : defs₀ (F := F) .tc cfg0.body (cfg0.bodyArgs t (cfg0.slots t)) = bodyAt0 t := by
  unfold defs₀; rw [Defs.onTc_tc]

theorem at_castSucc {α : Sort _} {N : ℕ} (S : ℕ → α) (t : Fin N) : S t.castSucc.val = S t.val := rfl
theorem at_succ {α : Sort _} {N : ℕ} (S : ℕ → α) (t : Fin N) : S t.succ.val = S (t.val + 1) := rfl
theorem phi_pre (c : Dev nD) (t : Fin cfg0.N) : (dats m 0 c).Φ t.castSucc = PhiS m c t.val := by
  dsimp only [dats]; exact at_castSucc (PhiS m c) t
theorem phi_post (c : Dev nD) (t : Fin cfg0.N) : (dats m 0 c).Φ t.succ = iprop(Scr c (scr m c (t.val + 1)) ∗ ∃ r, prngReg c r) := by
  dsimp only [dats]; exact at_succ (PhiS m c) t

/-- What a result written at the last point of a group only is left at. -/
def leave (c : Dev nD) (t : Fin cfg0.N) (w : Fin cfg0.W) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem leave_last (c : Dev nD) (t : Fin cfg0.N) (w : Fin cfg0.W) (h : cfg0.idle w (cfg0.grid.coords t) = false) :
    leave m c t w = owns (c : Thread nD τ) ((cfg0.win w).stage (cfg0.slots t w)) fullShare ((dats m 0 c).after w t) := by
  unfold leave; rw [h]
theorem leave_idle (c : Dev nD) (t : Fin cfg0.N) (w : Fin cfg0.W) (h : cfg0.idle w (cfg0.grid.coords t) = true) (h2 : (cfg0.win w).flush t = false) :
    leave m c t w = iprop(∃ d, owns (c : Thread nD τ) ((cfg0.win w).stage (cfg0.slots t w)) fullShare ((dats m 0 c).before w t d)) := by
  unfold leave; rw [h]; dsimp only; rw [h2]

theorem leave12 (c : Dev nD) (t : Fin cfg0.N) (d) : owns (c : Thread nD τ) (st0_12 t) fullShare (if k0_cond14 (grid0.coords t) = 1#1 then (scr m c (t.val + 1)).x16 else (dats m 0 c).before 12 t d) ⊢ leave m c t 12 := by
  by_cases hc : k0_cond14 (grid0.coords t) = 1#1
  · rw [if_pos hc, leave_last m c t 12 (show (!(k0_cond14 (grid0.coords t) == 1#1)) = false by rw [hc]; rfl)]
    exact .rfl
  · rw [if_neg hc, leave_idle m c t 12 (show (!(k0_cond14 (grid0.coords t) == 1#1)) = true by rw [beq_false_of_ne hc]; rfl)
      (Bool.eq_false_iff.mpr fun e => hc ((cond14_iff t).mpr ((flush0_12 t).mp e)))]
    iintro H; iexists d; iexact H
theorem leave13 (c : Dev nD) (t : Fin cfg0.N) (d) : owns (c : Thread nD τ) (st0_13 t) fullShare (if k0_cond14 (grid0.coords t) = 1#1 then (scr m c (t.val + 1)).x17 else (dats m 0 c).before 13 t d) ⊢ leave m c t 13 := by
  by_cases hc : k0_cond14 (grid0.coords t) = 1#1
  · rw [if_pos hc, leave_last m c t 13 (show (!(k0_cond14 (grid0.coords t) == 1#1)) = false by rw [hc]; rfl)]
    exact .rfl
  · rw [if_neg hc, leave_idle m c t 13 (show (!(k0_cond14 (grid0.coords t) == 1#1)) = true by rw [beq_false_of_ne hc]; rfl)
      (Bool.eq_false_iff.mpr fun e => hc ((cond14_iff t).mpr ((flush0_13 t).mp e)))]
    iintro H; iexists d; iexact H

/-- The state after the point, whatever it overwrote. -/
theorem ring_at (c : Dev nD) (t : Fin cfg0.N) (S : St F)
    (h : cInit (grid0.coords t) = 1#1 ∨ ((scr m c t.val).x18 = S.x18 ∧ (scr m c t.val).x19 = S.x19 ∧ (scr m c t.val).x20 = S.x20 ∧ (scr m c t.val).x21 = S.x21)) :
    ringSt (insAt m c t) (grid0.coords t) S = set67 (scr m c (t.val + 1))
      (if k0_cond14 (grid0.coords t) = 1#1 then (scr m c (t.val + 1)).x16 else S.x16)
      (if k0_cond14 (grid0.coords t) = 1#1 then (scr m c (t.val + 1)).x17 else S.x17) := by
  rw [ring_agree (insAt m c t) (grid0.coords t) (scr m c t.val) S h, ← scr_succ]
  split <;> rfl

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)))
def bodyPost (c : Dev nD) (t : Fin cfg0.N) : sProp 𝕄 :=
  iprop((dats m 0 c).Φ t.succ ∗ (dats m 0 c).owesAt () t.castSucc ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ leave m c t 12 ∗ leave m c t 13)

set_option maxHeartbeats 4000000 in
theorem pre_own (c : Dev nD) (t : Fin cfg0.N) : bodyPre m c t ⊢ iprop(∃ S : St F, ⌜cInit (grid0.coords t) = 1#1 ∨ ((scr m c t.val).x18 = S.x18 ∧ (scr m c t.val).x19 = S.x19 ∧ (scr m c t.val).x20 = S.x20 ∧ (scr m c t.val).x21 = S.x21)⌝
      ∗ ⌜∃ d12 d13, S.x16 = (dats m 0 c).before 12 t d12 ∧ S.x17 = (dats m 0 c).before 13 t d13⌝
      ∗ Own c (argsAt t) (insAt m c t) S ∗ (∃ r, prngReg c r) ∗ (dats m 0 c).owesAt () t.castSucc) := by
  unfold bodyPre
  rw [phi_pre]
  refine (sep_mono (phi_open m c t) .rfl).trans ?_
  unfold Scr
  iintro ⟨⟨%S0, %hS, ⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [before0_0_of m (dats m 0 c) rfl (fun _ => rfl) t d0]
  rw [before0_1_of m (dats m 0 c) rfl (fun _ => rfl) t d1]
  rw [before0_2_of m (dats m 0 c) rfl (fun _ => rfl) t d2]
  rw [before0_3_of m (dats m 0 c) rfl (fun _ => rfl) t d3]
  rw [before0_4_of m (dats m 0 c) rfl (fun _ => rfl) t d4]
  rw [before0_5_of m (dats m 0 c) rfl (fun _ => rfl) t d5]
  rw [before0_6_of m (dats m 0 c) rfl (fun _ => rfl) t d6]
  rw [before0_7_of m (dats m 0 c) rfl (fun _ => rfl) t d7]
  rw [before0_8_of m (dats m 0 c) rfl (fun _ => rfl) t d8]
  rw [before0_9_of m (dats m 0 c) rfl (fun _ => rfl) t d9]
  rw [before0_10_of m (dats m 0 c) rfl (fun _ => rfl) t d10]
  iexists (⟨(dats m 0 c).before 11 t d11, (dats m 0 c).before 12 t d12, (dats m 0 c).before 13 t d13, S0.x18, S0.x19, S0.x20, S0.x21⟩ : St F)
  isplitr
  · ipureintro; exact hS
  isplitr
  · ipureintro; exact ⟨d12, d13, rfl, rfl⟩
  isplitr [Hg Ho]
  · unfold Own
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    iexact HS3
  · isplitl [Hg]
    · iexact Hg
    · iexact Ho

theorem own_post (c : Dev nD) (t : Fin cfg0.N) (d12 d13) :
    iprop(Own c (argsAt t) (insAt m c t) (set67 (scr m c (t.val + 1))
      (if k0_cond14 (grid0.coords t) = 1#1 then (scr m c (t.val + 1)).x16 else (dats m 0 c).before 12 t d12)
      (if k0_cond14 (grid0.coords t) = 1#1 then (scr m c (t.val + 1)).x17 else (dats m 0 c).before 13 t d13)) ∗ (∃ r, prngReg c r) ∗ (dats m 0 c).owesAt () t.castSucc) ⊢ bodyPost m c t := by
  unfold bodyPost Own
  rw [phi_post]
  unfold Scr
  iintro ⟨⟨H0, H1, H2, H3, H4, H5, H6, H7, H8, H9, H10, H11, H12, H13, HS0, HS1, HS2, HS3⟩, Hg, Ho⟩
  isplitl [HS0 HS1 HS2 HS3 Hg]
  · isplitr [Hg]
    · isplitl [HS0]; · iexact HS0
      isplitl [HS1]; · iexact HS1
      isplitl [HS2]; · iexact HS2
      iexact HS3
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iapply (leave12 m c t d12); iexact H12
  · iapply (leave13 m c t d13); iexact H13

theorem sound (c : Dev nD) (t : Fin cfg0.N) : bodyPre m c t ⊢
    wp frame (wpE (defs₀ (F := F)) Variants.none (c : Thread nD τ) none) Set.univ (bodyAt0 t) (fun _ => bodyPost m c t) := by
  refine (pre_own m c t).trans ?_
  iintro ⟨%S, %hS, %hb, HO, Hg, Ho⟩
  obtain ⟨d12, d13, h1, h2⟩ := hb
  iapply (wp_mono_own c (body_triple m c t S))
  isplitl [HO]
  · iexact HO
  · iintro %a HR
    rw [ring_at m c t S hS, h1, h2]
    iapply (own_post m c t d12 d13)
    isplitl [HR]; · iexact HR
    isplitl [Hg]; · iexact Hg
    iexact Ho

theorem body_obligation (c : Dev nD) : BodyObligation (dats m 0 c) (defs₀ (F := F)) Variants.none () Set.univ := fun t => by
  rw [bigSep_W0, bigSep_W0, row]
  exact triple_restated (sound m c t) rfl .rfl fun _ => .rfl

theorem hin (c : Dev nD) : Pipeline.ΦA spec0 c ⊢ (dats m 0 c).Φ 0 := .rfl
theorem hout (c : Dev nD) : (dats m 0 c).Φ (Fin.last cfg0.N) ⊢ Pipeline.ΦA spec0 c := by
  rw [show (dats m 0 c).Φ (Fin.last cfg0.N) = PhiS m c (149 + 1) from by dsimp only [dats]; exact congrArg (PhiS m c) N_0]
  exact phi_out m c 149

/-- The run of the whole program, with what the arrays end at. -/
theorem run_frame : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) 0 launch0 defs₀ Variants.none m ρ main
    (hbody := fun c => (body_obligation m c).loose)
    (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hin := hin m) (hout := hout m)

end Cert.KernelIdeal.Hand

end
-- ==== Proof.KvIn.lean ====
/- What a point's blocks hold, in terms of the arguments. -/
module

public import proofs.«01_k».proof.Proof.KvPoint
public import proofs.«01_k».proof.Proof.KiDat
public import Idealize.ShloMosaic.Lib.Pipeline.ValueKit
public import Idealize.ShloMosaic.Lib.StableHlo.ReadAt

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable (m : (ℓ : Loc nD τ sig) → Buf (Elt Ideal) ℓ)

/-! ## Where a point's blocks stand -/

theorem idx0 : ∀ t : Fin grid0.N, win0_0.index t = ![0] := by decide +kernel
theorem idx1 : ∀ t : Fin grid0.N, win0_1.index t = ![0] := by decide +kernel
theorem idx2 : ∀ t : Fin grid0.N, win0_2.index t = ![0] := by decide +kernel
theorem idx3 : ∀ t : Fin grid0.N, win0_3.index t = ![0] := by decide +kernel
theorem idx4 : ∀ t : Fin grid0.N, win0_4.index t = ![0] := by decide +kernel
theorem idx5 : ∀ t : Fin grid0.N, win0_5.index t = ![(grid0.coords t 0).val, (grid0.coords t 2).val, (grid0.coords t 1).val, 0, (grid0.coords t 3).val, 0] := by decide +kernel
theorem idx6 : ∀ t : Fin grid0.N, win0_6.index t = ![(grid0.coords t 0).val, (grid0.coords t 2).val, (grid0.coords t 1).val, 0, (grid0.coords t 3).val, 0] := by decide +kernel
theorem idx7 : ∀ t : Fin grid0.N, win0_7.index t = ![(grid0.coords t 0).val, (grid0.coords t 2).val, (grid0.coords t 1).val, 0, (grid0.coords t 3).val] := by decide +kernel
theorem idx8 : ∀ t : Fin grid0.N, win0_8.index t = ![(grid0.coords t 0).val, (grid0.coords t 2).val, (grid0.coords t 1).val, 0, (grid0.coords t 3).val] := by decide +kernel
theorem idx9 : ∀ t : Fin grid0.N, win0_9.index t = ![(grid0.coords t 0).val, 0, (grid0.coords t 1).val, 0, 0, 0] := by decide +kernel
theorem idx10 : ∀ t : Fin grid0.N, win0_10.index t = ![(grid0.coords t 0).val, 0, (grid0.coords t 1).val, 0, 0, 0] := by decide +kernel
theorem idx11 : ∀ t : Fin grid0.N, win0_11.index t = ![(grid0.coords t 0).val, (grid0.coords t 2).val, (grid0.coords t 1).val, 0, (grid0.coords t 3).val, 0] := by decide +kernel
theorem idx12 : ∀ t : Fin grid0.N, win0_12.index t = ![(grid0.coords t 0).val, 0, (grid0.coords t 1).val, 0, 0, 0] := by decide +kernel
theorem idx13 : ∀ t : Fin grid0.N, win0_13.index t = ![(grid0.coords t 0).val, 0, (grid0.coords t 1).val, 0, 0, 0] := by decide +kernel

/-! ## What the host computes -/

theorem ent (c : Dev nD) (b : Ref sig .tc) : V m c b = StableHlo.after hostOps0 (fun b => m (c, b)) (Proc.devRef .tc b) := by
  show StableHlo.after (List.flatten [hostOps0]) _ _ = _
  rw [List.flatten_cons, List.flatten_nil, List.append_nil]

theorem ent_v16 (c : Dev nD) (r : Fin 3) (j : Fin 2) (b : Fin 5) (h : Fin 28) (p : Fin 1280) (d : Fin 128) :
    (V m c main_v16 : S3x2x5x28x1280x128.Idx → EReal) (ix6 r j b h p d) = (m ((c.tc : Thread nD τ).loc main_arg0) : S3x2x5x1280x28x128.Idx → EReal) (ix6 r j b p h d) := by
  rw [ent]
  unfold hostOps0
  after_reads_at

theorem ent_v17 (c : Dev nD) (r : Fin 3) (j : Fin 2) (b : Fin 5) (h : Fin 28) (p : Fin 1280) (d : Fin 128) :
    (V m c main_v17 : S3x2x5x28x1280x128.Idx → EReal) (ix6 r j b h p d) = (m ((c.tc : Thread nD τ).loc main_arg7) : S3x2x5x1280x28x128.Idx → EReal) (ix6 r j b p h d) := by
  rw [ent]
  unfold hostOps0
  after_reads_at

theorem ent_v18 (c : Dev nD) (r : Fin 3) (j : Fin 2) (b : Fin 5) (h : Fin 4) (p : Fin 1280) (d : Fin 128) :
    (V m c main_v18 : S3x2x5x4x1280x128.Idx → EReal) (ix6 r j b h p d) = (m ((c.tc : Thread nD τ).loc main_arg2) : S3x2x5x1280x4x128.Idx → EReal) (ix6 r j b p h d) := by
  rw [ent]
  unfold hostOps0
  after_reads_at

theorem ent_v19 (c : Dev nD) (r : Fin 3) (j : Fin 2) (b : Fin 5) (h : Fin 4) (p : Fin 1280) (d : Fin 128) :
    (V m c main_v19 : S3x2x5x4x1280x128.Idx → EReal) (ix6 r j b h p d) = (m ((c.tc : Thread nD τ).loc main_arg4) : S3x2x5x1280x4x128.Idx → EReal) (ix6 r j b p h d) := by
  rw [ent]
  unfold hostOps0
  after_reads_at

theorem ent_v0 (c : Dev nD) (k : Fin 840) (r : Fin 3) (j : Fin 2) (b : Fin 5) (h : Fin 28) (hk : k.val = 280 * r.val + 140 * j.val + 28 * b.val + h.val) :
    (V m c main_v0 : S840.Idx → EReal) (ix1 k) = (m ((c.tc : Thread nD τ).loc main_arg1) : S3x2x5x28.Idx → EReal) (ix4 r j b h) := by
  rw [ent]
  unfold hostOps0
  after_reads_at
  blk_ext []

theorem ent_v1 (c : Dev nD) (k : Fin 120) (r : Fin 3) (j : Fin 2) (b : Fin 5) (h : Fin 4) (hk : k.val = 40 * r.val + 20 * j.val + 4 * b.val + h.val) :
    (V m c main_v1 : S120.Idx → EReal) (ix1 k) = (m ((c.tc : Thread nD τ).loc main_arg3) : S3x2x5x4.Idx → EReal) (ix4 r j b h) := by
  rw [ent]
  unfold hostOps0
  after_reads_at
  blk_ext []

theorem ent_v2 (c : Dev nD) (k : Fin 120) (r : Fin 3) (j : Fin 2) (b : Fin 5) (h : Fin 4) (hk : k.val = 40 * r.val + 20 * j.val + 4 * b.val + h.val) :
    (V m c main_v2 : S120.Idx → EReal) (ix1 k) = (m ((c.tc : Thread nD τ).loc main_arg5) : S3x2x5x4.Idx → EReal) (ix4 r j b h) := by
  rw [ent]
  unfold hostOps0
  after_reads_at
  blk_ext []

/-- What the shift of the logarithms is. -/
def shiftOf (k v : EReal) : EReal :=
  Ideal.div (Ideal.log k) (Ideal.log (Ideal.ofBits .f32 0x40000000#32)) + Ideal.div (Ideal.log v) (Ideal.log (Ideal.ofBits .f32 0x40000000#32))
theorem ent_v15 (c : Dev nD) (k : Fin 120) (r : Fin 3) (j : Fin 2) (b : Fin 5) (h : Fin 4) (hk : k.val = 40 * r.val + 20 * j.val + 4 * b.val + h.val) :
    (V m c main_v15 : S120.Idx → EReal) (ix1 k) = shiftOf ((m ((c.tc : Thread nD τ).loc main_arg3) : S3x2x5x4.Idx → EReal) (ix4 r j b h)) ((m ((c.tc : Thread nD τ).loc main_arg5) : S3x2x5x4.Idx → EReal) (ix4 r j b h)) := by
  rw [ent]
  unfold hostOps0 shiftOf
  after_reads_at
  blk_point []
  all_goals rfl

def cR (t : Fin cfg0.N) : Fin 3 := grid0.coords t 0
def cB (t : Fin cfg0.N) : Fin 5 := grid0.coords t 1
def cJ (t : Fin cfg0.N) : Fin 2 := grid0.coords t 2
def cT (t : Fin cfg0.N) : Fin 5 := grid0.coords t 3
/-- The position, in its chunk, of a row of the point's block of queries. -/
def posOf (tt : Fin 5) (row : Fin 256) : Fin 1280 := ⟨256 * tt.val + row.val, by omega⟩

theorem blk0 (c : Dev nD) (t : Fin cfg0.N) (b : Fin 5) :
    (iblk m c 0 t : S5.Idx → BitVec 32) (ix1 b) = (m ((c.tc : Thread nD τ).loc main_arg6) : S5.Idx → BitVec 32) (ix1 b) := by
  have e := idx0 t
  blk_ext! [iblk, V, e]

theorem blk7 (c : Dev nD) (t : Fin cfg0.N) (h : Fin 28) (row : Fin 256) :
    (iblk m c 7 t : S1x1x1x28x256.Idx → EReal) (ix5 0 0 0 h row) = (m ((c.tc : Thread nD τ).loc main_arg8) : S3x2x5x28x1280.Idx → EReal) (ix5 (cR t) (cJ t) (cB t) h (posOf (cT t) row)) := by
  have e := idx7 t
  unfold cR cB cJ cT posOf
  blk_ext! [iblk, V, e]

theorem blk8 (c : Dev nD) (t : Fin cfg0.N) (h : Fin 28) (row : Fin 256) :
    (iblk m c 8 t : S1x1x1x28x256.Idx → EReal) (ix5 0 0 0 h row) = (m ((c.tc : Thread nD τ).loc main_arg9) : S3x2x5x28x1280.Idx → EReal) (ix5 (cR t) (cJ t) (cB t) h (posOf (cT t) row)) := by
  have e := idx8 t
  unfold cR cB cJ cT posOf
  blk_ext! [iblk, V, e]

theorem blk5 (c : Dev nD) (t : Fin cfg0.N) (h : Fin 28) (row : Fin 256) (d : Fin 128) :
    (iblk m c 5 t : S1x1x1x28x256x128.Idx → EReal) (ix6 0 0 0 h row d) = (m ((c.tc : Thread nD τ).loc main_arg0) : S3x2x5x1280x28x128.Idx → EReal) (ix6 (cR t) (cJ t) (cB t) (posOf (cT t) row) h d) := by
  have e := idx5 t
  unfold cR cB cJ cT posOf
  refine Eq.trans ?_ (ent_v16 m c (grid0.coords t 0) (grid0.coords t 2) (grid0.coords t 1) h ⟨256 * (grid0.coords t 3).val + row.val, by have : (grid0.coords t 3).val < 5 := (grid0.coords t 3).isLt; omega⟩ d)
  blk_ext [iblk, e]

theorem blk6 (c : Dev nD) (t : Fin cfg0.N) (h : Fin 28) (row : Fin 256) (d : Fin 128) :
    (iblk m c 6 t : S1x1x1x28x256x128.Idx → EReal) (ix6 0 0 0 h row d) = (m ((c.tc : Thread nD τ).loc main_arg7) : S3x2x5x1280x28x128.Idx → EReal) (ix6 (cR t) (cJ t) (cB t) (posOf (cT t) row) h d) := by
  have e := idx6 t
  unfold cR cB cJ cT posOf
  refine Eq.trans ?_ (ent_v17 m c (grid0.coords t 0) (grid0.coords t 2) (grid0.coords t 1) h ⟨256 * (grid0.coords t 3).val + row.val, by have : (grid0.coords t 3).val < 5 := (grid0.coords t 3).isLt; omega⟩ d)
  blk_ext [iblk, e]

theorem blk9 (c : Dev nD) (t : Fin cfg0.N) (jk : Fin 2) (n : Fin 4) (κ : Fin 1280) (d : Fin 128) :
    (iblk m c 9 t : S1x2x1x4x1280x128.Idx → EReal) (ix6 0 jk 0 n κ d) = (m ((c.tc : Thread nD τ).loc main_arg2) : S3x2x5x1280x4x128.Idx → EReal) (ix6 (cR t) jk (cB t) κ n d) := by
  have e := idx9 t
  unfold cR cB
  refine Eq.trans ?_ (ent_v18 m c (grid0.coords t 0) jk (grid0.coords t 1) n κ d)
  blk_ext [iblk, e]

theorem blk10 (c : Dev nD) (t : Fin cfg0.N) (jk : Fin 2) (n : Fin 4) (κ : Fin 1280) (d : Fin 128) :
    (iblk m c 10 t : S1x2x1x4x1280x128.Idx → EReal) (ix6 0 jk 0 n κ d) = (m ((c.tc : Thread nD τ).loc main_arg4) : S3x2x5x1280x4x128.Idx → EReal) (ix6 (cR t) jk (cB t) κ n d) := by
  have e := idx10 t
  unfold cR cB
  refine Eq.trans ?_ (ent_v19 m c (grid0.coords t 0) jk (grid0.coords t 1) n κ d)
  blk_ext [iblk, e]

theorem blk1 (c : Dev nD) (t : Fin cfg0.N) (h : Fin 28) :
    (iblk m c 1 t : S840.Idx → EReal) (ix1 (qIx (grid0.coords t) h)) = (m ((c.tc : Thread nD τ).loc main_arg1) : S3x2x5x28.Idx → EReal) (ix4 (cR t) (cJ t) (cB t) h) := by
  have e := idx1 t
  refine Eq.trans ?_ (ent_v0 m c (qIx (grid0.coords t) h) (cR t) (cJ t) (cB t) h rfl)
  blk_ext [iblk, e]
theorem blk2 (c : Dev nD) (t : Fin cfg0.N) (jk : Fin 2) (n : Fin 4) :
    (iblk m c 2 t : S120.Idx → EReal) (ix1 (kIx (grid0.coords t) jk n)) = (m ((c.tc : Thread nD τ).loc main_arg3) : S3x2x5x4.Idx → EReal) (ix4 (cR t) jk (cB t) n) := by
  have e := idx2 t
  refine Eq.trans ?_ (ent_v1 m c (kIx (grid0.coords t) jk n) (cR t) jk (cB t) n rfl)
  blk_ext [iblk, e]
theorem blk3 (c : Dev nD) (t : Fin cfg0.N) (jk : Fin 2) (n : Fin 4) :
    (iblk m c 3 t : S120.Idx → EReal) (ix1 (kIx (grid0.coords t) jk n)) = (m ((c.tc : Thread nD τ).loc main_arg5) : S3x2x5x4.Idx → EReal) (ix4 (cR t) jk (cB t) n) := by
  have e := idx3 t
  refine Eq.trans ?_ (ent_v2 m c (kIx (grid0.coords t) jk n) (cR t) jk (cB t) n rfl)
  blk_ext [iblk, e]
theorem blk4 (c : Dev nD) (t : Fin cfg0.N) (jk : Fin 2) (n : Fin 4) :
    (iblk m c 4 t : S120.Idx → EReal) (ix1 (kIx (grid0.coords t) jk n)) =
      shiftOf ((m ((c.tc : Thread nD τ).loc main_arg3) : S3x2x5x4.Idx → EReal) (ix4 (cR t) jk (cB t) n)) ((m ((c.tc : Thread nD τ).loc main_arg5) : S3x2x5x4.Idx → EReal) (ix4 (cR t) jk (cB t) n)) := by
  have e := idx4 t
  refine Eq.trans ?_ (ent_v15 m c (kIx (grid0.coords t) jk n) (cR t) jk (cB t) n rfl)
  blk_ext [iblk, e]

end Cert.KernelIdeal.Hand

end
-- ==== Proof.KvGroup.lean ====
/- What a group of points leaves, in terms of the arguments. -/
module

public import proofs.«01_k».proof.Proof.KvIn
public import proofs.«01_k».proof.Proof.KEq

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

open Cert.Ring

variable (m : (ℓ : Loc nD τ sig) → Buf (Elt Ideal) ℓ)

/-- The operands of the step, as the arguments hold them. -/
def kin (c : Dev nD) : RIn where
  q r j b p h d := (m ((c.tc : Thread nD τ).loc main_arg0) : S3x2x5x1280x28x128.Idx → EReal) (ix6 r j b p h d)
  k r j b p n d := (m ((c.tc : Thread nD τ).loc main_arg2) : S3x2x5x1280x4x128.Idx → EReal) (ix6 r j b p n d)
  v r j b p n d := (m ((c.tc : Thread nD τ).loc main_arg4) : S3x2x5x1280x4x128.Idx → EReal) (ix6 r j b p n d)
  d r j b p h d := (m ((c.tc : Thread nD τ).loc main_arg7) : S3x2x5x1280x28x128.Idx → EReal) (ix6 r j b p h d)
  qs r j b h := (m ((c.tc : Thread nD τ).loc main_arg1) : S3x2x5x28.Idx → EReal) (ix4 r j b h)
  ks r j b n := (m ((c.tc : Thread nD τ).loc main_arg3) : S3x2x5x4.Idx → EReal) (ix4 r j b n)
  vs r j b n := (m ((c.tc : Thread nD τ).loc main_arg5) : S3x2x5x4.Idx → EReal) (ix4 r j b n)
  lse r j b h p := (m ((c.tc : Thread nD τ).loc main_arg8) : S3x2x5x28x1280.Idx → EReal) (ix5 r j b h p)
  dl r j b h p := (m ((c.tc : Thread nD τ).loc main_arg9) : S3x2x5x28x1280.Idx → EReal) (ix5 r j b h p)
  qc r j := if j = 0 then BitVec.ofNat 32 r.val else Scalar.subi 5#32 (BitVec.ofNat 32 r.val)
  kc r b j := if j = 0 then remK r ((m ((c.tc : Thread nD τ).loc main_arg6) : S5.Idx → BitVec 32) (ix1 b))
    else Scalar.subi 5#32 (remK r ((m ((c.tc : Thread nD τ).loc main_arg6) : S5.Idx → BitVec 32) (ix1 b)))

/-! ## One point -/

section
variable (c : Dev nD) (t : Fin cfg0.N)

theorem named_l2 : (Named.named κ "log2e" 0x3FB8AA3B#32 : Ideal .f32) = L2 := rfl
theorem named_sml : (Named.named κ "sm_log2e" 0x3E0293EE#32 : Ideal .f32) = SML := rfl

theorem off1_at : ∀ t : Fin grid0.N, k0_off1 (grid0.coords t) 0 = (grid0.coords t 1).val := by decide +kernel
theorem step_at : stepAt (insAt m c t) (grid0.coords t) = (m ((c.tc : Thread nD τ).loc main_arg6) : S5.Idx → BitVec 32) (ix1 (cB t)) :=
  (first1 _ (k0_off1_inb (grid0.coords t)) (cB t) (off1_at t) (insAt m c t).x4).trans (blk0 m c t (cB t))
theorem ch_at : chW (grid0.coords t) = (kin m c).qc (cR t) (cJ t) := by
  have key : ∀ (r : Fin 3) (j : Fin 2), Scalar.select (Scalar.cmpi .eq (BitVec.ofNat 32 j.val) 0#32) (BitVec.ofNat 32 r.val) (Scalar.subi 5#32 (BitVec.ofNat 32 r.val))
      = if j = 0 then BitVec.ofNat 32 r.val else Scalar.subi 5#32 (BitVec.ofNat 32 r.val) := by decide
  exact key (cR t) (cJ t)
theorem w_at (jk : Fin 2) : wAt (insAt m c t) (grid0.coords t) jk = (kin m c).kc (cR t) (cB t) jk := by
  unfold wAt
  rw [step_at]
  rfl
theorem vis_at (jk : Fin 2) (row : Fin 256) (κ' : Fin 1280) :
    visW (wAt (insAt m c t) (grid0.coords t) jk) (grid0.coords t) row κ' = kVis (kin m c) (cR t) (cB t) (cJ t) (posR (cT t) row) jk κ' := by
  unfold visW kVis
  rw [w_at, ch_at m c t]
  rfl

theorem lse_at (jk : Fin 2) (h : Fin 28) (row : Fin 256) :
    lseOf (insAt m c t) (grid0.coords t) jk h row = ((kin m c).lse (cR t) (cJ t) (cB t) h (posR (cT t) row) * L2
      - shiftR ((kin m c).ks (cR t) jk (cB t) (kvOf h)) ((kin m c).vs (cR t) jk (cB t) (kvOf h)) : EReal) := by
  unfold lseOf
  rw [named_l2, show (insAt m c t).x11 (ix5 0 0 0 h row) = _ from blk7 m c t h row, show (insAt m c t).x8 (ix1 (kIx (grid0.coords t) jk (kvOf h))) = _ from blk4 m c t jk (kvOf h)]
  rfl
theorem dl_at (jk : Fin 2) (h : Fin 28) (row : Fin 256) :
    dltOf (insAt m c t) (grid0.coords t) jk h row = ((kin m c).dl (cR t) (cJ t) (cB t) h (posR (cT t) row)
      * Ideal.div 1 ((kin m c).vs (cR t) jk (cB t) (kvOf h)) : EReal) := by
  unfold dltOf
  rw [show (insAt m c t).x12 (ix5 0 0 0 h row) = _ from blk8 m c t h row, show (insAt m c t).x7 (ix1 (kIx (grid0.coords t) jk (kvOf h))) = _ from blk3 m c t jk (kvOf h)]
  rfl
theorem c1_at (jk : Fin 2) (h : Fin 28) :
    (hdOf (insAt m c t) (grid0.coords t) jk h).c1 = ((kin m c).qs (cR t) (cJ t) (cB t) h * (kin m c).ks (cR t) jk (cB t) (kvOf h) * SML : EReal) := by
  rw [hd_c1, show (insAt m c t).x5 (ix1 (qIx (grid0.coords t) h)) = _ from blk1 m c t h, show (insAt m c t).x6 (ix1 (kIx (grid0.coords t) jk (kvOf h))) = _ from blk2 m c t jk (kvOf h)]
  rfl
theorem wt_at (jk : Fin 2) (h : Fin 28) (row : Fin 256) (κ' : Fin 1280) :
    wtV (insAt m c t) (hdOf (insAt m c t) (grid0.coords t) jk h) (lseOf (insAt m c t) (grid0.coords t) jk h) jk (kvOf h) row κ'
      = kP (kin m c) (cR t) (cB t) (kvOf h) h (cJ t) (posR (cT t) row) jk κ' := by
  unfold wtV kP
  rw [lse_at, c1_at]
  refine congrArg (fun s : EReal => Ideal.exp2 (s * _ - _)) (Finset.sum_congr rfl fun d _ => ?_)
  exact congrArg₂ (fun a b : EReal => a * b) ((hd_q _ _ _ _ _ _).trans (blk5 m c t h row d)) (blk9 m c t jk (kvOf h) κ' d)
theorem gd_at (jk : Fin 2) (h : Fin 28) (row : Fin 256) (κ' : Fin 1280) :
    gdV (insAt m c t) (hdOf (insAt m c t) (grid0.coords t) jk h) (lseOf (insAt m c t) (grid0.coords t) jk h) (dltOf (insAt m c t) (grid0.coords t) jk h) jk (kvOf h) row κ'
      = kDS (kin m c) (cR t) (cB t) (kvOf h) h (cJ t) (posR (cT t) row) jk κ' := by
  unfold gdV kDS
  have e : ∀ d : Fin 128, ((hdOf (insAt m c t) (grid0.coords t) jk h).d (ix2 row d) * (insAt m c t).x14 (ix6 0 jk 0 (kvOf h) κ' d) : EReal)
      = (kin m c).d (cR t) (cJ t) (cB t) (posR (cT t) row) h d * (kin m c).v (cR t) jk (cB t) κ' (kvOf h) d := fun d =>
    congrArg₂ (fun a b : EReal => a * b) ((hd_d _ _ _ _ _ _).trans (blk6 m c t h row d)) (blk10 m c t jk (kvOf h) κ' d)
  rw [wt_at, dl_at, Finset.sum_congr rfl fun d _ => e d]

/-- What the point adds to the first accumulator. -/
theorem p20_at (j : Fin 2) (n : Fin 4) (d : Fin 128) (p : Fin 1280) :
    p20 (insAt m c t) (grid0.coords t) (ix4 j n d p) = ∑ h : Fin 28, if nOf h = n then ∑ row : Fin 256,
      ((kin m c).q (cR t) (cJ t) (cB t) (posR (cT t) row) h d * (kin m c).qs (cR t) (cJ t) (cB t) h)
      * (if kVis (kin m c) (cR t) (cB t) (cJ t) (posR (cT t) row) j p then kDS (kin m c) (cR t) (cB t) n h (cJ t) (posR (cT t) row) j p else 0) else 0 := by
  unfold p20
  rw [Finset.sum_eq_single j]
  · refine Finset.sum_congr rfl fun h _ => ?_
    unfold e20 add20
    by_cases e : nOf h = n
    · subst e
      rw [if_pos rfl, if_pos (show hdT (ix4 j (nOf h) d p) = (j, kvOf h) from rfl)]
      refine Finset.sum_congr rfl fun row _ => ?_
      rw [vis_at, gd_at, show tD (ix4 j (nOf h) d p) = d from rfl, show tK (ix4 j (nOf h) d p) = p from rfl, hd_qt,
        show (insAt m c t).x9 (ix6 0 0 0 h row d) = _ from blk5 m c t h row d, show (insAt m c t).x5 (ix1 (qIx (grid0.coords t) h)) = _ from blk1 m c t h]
      rfl
    · rw [if_neg e, if_neg (fun h' => e (congrArg Prod.snd h').symm)]
  · intro j' _ hj
    refine Finset.sum_eq_zero fun h _ => ?_
    unfold e20 add20
    exact if_neg fun h' => hj (congrArg Prod.fst h').symm
  · intro h; exact absurd (Finset.mem_univ _) h
/-- What it adds to the second. -/
theorem p21_at (j : Fin 2) (n : Fin 4) (d : Fin 128) (p : Fin 1280) :
    p21 (insAt m c t) (grid0.coords t) (ix4 j n d p) = ∑ h : Fin 28, if nOf h = n then ∑ row : Fin 256,
      (kin m c).d (cR t) (cJ t) (cB t) (posR (cT t) row) h d
      * (if kVis (kin m c) (cR t) (cB t) (cJ t) (posR (cT t) row) j p then kP (kin m c) (cR t) (cB t) n h (cJ t) (posR (cT t) row) j p else 0) else 0 := by
  unfold p21
  rw [Finset.sum_eq_single j]
  · refine Finset.sum_congr rfl fun h _ => ?_
    unfold e21 add21
    by_cases e : nOf h = n
    · subst e
      rw [if_pos rfl, if_pos (show hdT (ix4 j (nOf h) d p) = (j, kvOf h) from rfl)]
      refine Finset.sum_congr rfl fun row _ => ?_
      rw [vis_at, wt_at, show tD (ix4 j (nOf h) d p) = d from rfl, show tK (ix4 j (nOf h) d p) = p from rfl, hd_dt,
        show (insAt m c t).x10 (ix6 0 0 0 h row d) = _ from blk6 m c t h row d]
      rfl
    · rw [if_neg e, if_neg (fun h' => e (congrArg Prod.snd h').symm)]
  · intro j' _ hj
    refine Finset.sum_eq_zero fun h _ => ?_
    unfold e21 add21
    exact if_neg fun h' => hj (congrArg Prod.fst h').symm
  · intro h; exact absurd (Finset.mem_univ _) h
/-- The gradient of the point's rows. -/
theorem pQ_at (h : Fin 28) (row : Fin 256) (d : Fin 128) :
    pQ (insAt m c t) (grid0.coords t) (ix6 0 0 0 h row d) = kDQ (kin m c) (cR t) (cJ t) (cB t) (posR (cT t) row) h d := by
  unfold pQ kDQ
  refine Finset.sum_congr rfl fun jk _ => ?_
  unfold eQ addQ
  rw [show qH (ix6 0 0 0 h row d) = h from rfl, show qR (ix6 0 0 0 h row d) = row from rfl, show qD (ix6 0 0 0 h row d) = d from rfl]
  refine congrArg (fun s : EReal => s * _) (Finset.sum_congr rfl fun κ' _ => ?_)
  rw [vis_at, gd_at, show (insAt m c t).x13 (ix6 0 jk 0 (kvOf h) κ' d) = _ from blk9 m c t jk (kvOf h) κ' d]
  rfl

end

/-! ## A group of points -/

theorem coords_val : ∀ t : Fin grid0.N, (grid0.coords t 0).val = t.val / 50 ∧ (grid0.coords t 1).val = t.val / 10 % 5 ∧ (grid0.coords t 2).val = t.val / 5 % 2 ∧ (grid0.coords t 3).val = t.val % 5 := by
  decide +kernel

theorem same_group (n : ℕ) (hn : n + 1 < cfg0.N) (h : (n + 1) % 10 ≠ 0) :
    cR ⟨n + 1, hn⟩ = cR ⟨n, Nat.lt_of_succ_lt hn⟩ ∧ cB ⟨n + 1, hn⟩ = cB ⟨n, Nat.lt_of_succ_lt hn⟩ := by
  have e1 := coords_val ⟨n + 1, hn⟩
  have e2 := coords_val ⟨n, Nat.lt_of_succ_lt hn⟩
  refine ⟨Fin.ext ?_, Fin.ext ?_⟩
  · exact e1.1.trans ((show (n + 1) / 50 = n / 50 by omega).trans e2.1.symm)
  · exact e1.2.1.trans ((show (n + 1) / 10 % 5 = n / 10 % 5 by omega).trans e2.2.1.symm)

theorem V18_same (c : Dev nD) (n : ℕ) (hn : n + 1 < cfg0.N) (h : (n + 1) % 10 ≠ 0) :
    V18 (insAt m c ⟨n, Nat.lt_of_succ_lt hn⟩) = V18 (insAt m c ⟨n + 1, hn⟩) ∧ V19 (insAt m c ⟨n, Nat.lt_of_succ_lt hn⟩) = V19 (insAt m c ⟨n + 1, hn⟩) := by
  obtain ⟨h1, h2⟩ := same_group n hn h
  constructor
  · refine funext (ext4 fun jk k κ' d => ?_)
    rw [V18_at, V18_at]
    have e := blk10 m c ⟨n, Nat.lt_of_succ_lt hn⟩ jk k κ' d
    rw [← h1, ← h2] at e
    exact e.trans (blk10 m c ⟨n + 1, hn⟩ jk k κ' d).symm
  · refine funext (ext4 fun jk k d κ' => ?_)
    rw [V19_at, V19_at]
    have e := blk9 m c ⟨n, Nat.lt_of_succ_lt hn⟩ jk k κ' d
    rw [← h1, ← h2] at e
    exact e.trans (blk9 m c ⟨n + 1, hn⟩ jk k κ' d).symm

theorem fin_keep (I : Ins Ideal) (i : grid0.Coords) (S : St Ideal) :
    (finCSt I i S).x15 = S.x15 ∧ (finCSt I i S).x18 = S.x18 ∧ (finCSt I i S).x19 = S.x19 ∧ (finCSt I i S).x20 = S.x20 ∧ (finCSt I i S).x21 = S.x21 := by
  by_cases h : k0_cond14 i = 1#1
  · rw [fin_last I i S h]; exact ⟨rfl, rfl, rfl, rfl, rfl⟩
  · unfold finCSt; rw [if_neg h]; exact ⟨rfl, rfl, rfl, rfl, rfl⟩

/-- What a point leaves, where the two copies it starts from are the group's. -/
theorem ring_vals (I : Ins Ideal) (i : grid0.Coords) (S : St Ideal) (h18 : (startSt I i S).x18 = V18 I) (h19 : (startSt I i S).x19 = V19 I) :
    (ringSt I i S).x15 = (fun y => (startSt I i S).x15 y + pQ I i y) ∧ (ringSt I i S).x18 = V18 I ∧ (ringSt I i S).x19 = V19 I
    ∧ (ringSt I i S).x20 = (fun y => (startSt I i S).x20 y + p20 I i y) ∧ (ringSt I i S).x21 = (fun y => (startSt I i S).x21 y + p21 I i y) := by
  have k := fin_keep I i (tripsAll I i (startSt I i S))
  have e := tripsAll_at I i (startSt I i S) h18 h19
  rw [ringSt_eq]
  refine ⟨k.1.trans (congrArg St.x15 e), k.2.1.trans ((congrArg St.x18 e).trans h18), k.2.2.1.trans ((congrArg St.x19 e).trans h19),
    k.2.2.2.1.trans (congrArg St.x20 e), k.2.2.2.2.trans (congrArg St.x21 e)⟩

theorem start18 (c : Dev nD) : ∀ (n : ℕ) (hn : n < cfg0.N),
    (startSt (insAt m c ⟨n, hn⟩) (grid0.coords ⟨n, hn⟩) (scr m c n)).x18 = V18 (insAt m c ⟨n, hn⟩)
    ∧ (startSt (insAt m c ⟨n, hn⟩) (grid0.coords ⟨n, hn⟩) (scr m c n)).x19 = V19 (insAt m c ⟨n, hn⟩) := by
  intro n
  induction n with
  | zero =>
    intro hn
    rw [start_init _ _ _ ((cInit_iff ⟨0, hn⟩).mpr rfl)]
    exact ⟨rfl, rfl⟩
  | succ n ih =>
    intro hn
    by_cases h : (n + 1) % 10 = 0
    · rw [start_init _ _ _ ((cInit_iff ⟨n + 1, hn⟩).mpr h)]
      exact ⟨rfl, rfl⟩
    · rw [start_other _ _ _ (fun e => h ((cInit_iff ⟨n + 1, hn⟩).mp e))]
      obtain ⟨a, b⟩ := ih (Nat.lt_of_succ_lt hn)
      have v := ring_vals _ _ _ a b
      have s := scr_succ m c ⟨n, Nat.lt_of_succ_lt hn⟩
      have e := V18_same m c n hn h
      exact ⟨(congrArg St.x18 s).trans (v.2.1.trans e.1), (congrArg St.x19 s).trans (v.2.2.1.trans e.2)⟩

section
variable (c : Dev nD) (t : Fin cfg0.N)

theorem scr_vals : (scr m c (t.val + 1)).x15 = (fun y => (startSt (insAt m c t) (grid0.coords t) (scr m c t.val)).x15 y + pQ (insAt m c t) (grid0.coords t) y)
    ∧ (scr m c (t.val + 1)).x20 = (fun y => (startSt (insAt m c t) (grid0.coords t) (scr m c t.val)).x20 y + p20 (insAt m c t) (grid0.coords t) y)
    ∧ (scr m c (t.val + 1)).x21 = (fun y => (startSt (insAt m c t) (grid0.coords t) (scr m c t.val)).x21 y + p21 (insAt m c t) (grid0.coords t) y) := by
  have v := ring_vals _ _ _ (start18 m c t.val t.isLt).1 (start18 m c t.val t.isLt).2
  rw [scr_succ]
  exact ⟨v.1, v.2.2.2.1, v.2.2.2.2⟩

theorem x15_at (y) : (scr m c (t.val + 1)).x15 y = pQ (insAt m c t) (grid0.coords t) y := by
  rw [(scr_vals m c t).1]
  have e : (startSt (insAt m c t) (grid0.coords t) (scr m c t.val)).x15 y = 0 := by
    by_cases h : cInit (grid0.coords t) = 1#1
    · rw [start_init _ _ _ h]; exact pay353_at y
    · rw [start_other _ _ _ h]; exact pay353_at y
  show _ + _ = _
  rw [e]; exact zero_add _

/-- The points' additions, by number. -/
def T20 (n : ℕ) (y : S2x4x128x1280.Idx) : EReal := if h : n < cfg0.N then p20 (insAt m c ⟨n, h⟩) (grid0.coords ⟨n, h⟩) y else 0
def T21 (n : ℕ) (y : S2x4x128x1280.Idx) : EReal := if h : n < cfg0.N then p21 (insAt m c ⟨n, h⟩) (grid0.coords ⟨n, h⟩) y else 0

theorem x20_sum (y) : (scr m c (t.val + 1)).x20 y = (0 : EReal) + ∑ k ∈ Finset.range (t.val % 10 + 1), T20 m c (10 * (t.val / 10) + k) y := by
  refine Pipeline.eq_sum_of_reset_step_apply (fun n (_ : n < cfg0.N) => ((scr m c (n + 1)).x20 : S2x4x128x1280.Idx → EReal)) 10 (fun _ => 0) (T20 m c) ?_ ?_ t y
  · intro t h y
    show (scr m c (t.val + 1)).x20 y = _
    rw [(scr_vals m c t).2.1, start_init _ _ _ ((cInit_iff t).mpr h)]
    unfold T20
    rw [dif_pos t.isLt]
    exact congrArg (· + _) (pay5_at y)
  · intro t h y
    show (scr m c (t.val + 1)).x20 y = (scr m c (t.val - 1 + 1)).x20 y + _
    have ht : t.val - 1 + 1 = t.val := by have : t.val ≠ 0 := fun e => h (by rw [e]); omega
    rw [(scr_vals m c t).2.1, start_other _ _ _ (fun e => h ((cInit_iff t).mp e)), ht]
    unfold T20
    rw [dif_pos t.isLt]
theorem x21_sum (y) : (scr m c (t.val + 1)).x21 y = (0 : EReal) + ∑ k ∈ Finset.range (t.val % 10 + 1), T21 m c (10 * (t.val / 10) + k) y := by
  refine Pipeline.eq_sum_of_reset_step_apply (fun n (_ : n < cfg0.N) => ((scr m c (n + 1)).x21 : S2x4x128x1280.Idx → EReal)) 10 (fun _ => 0) (T21 m c) ?_ ?_ t y
  · intro t h y
    show (scr m c (t.val + 1)).x21 y = _
    rw [(scr_vals m c t).2.2, start_init _ _ _ ((cInit_iff t).mpr h)]
    unfold T21
    rw [dif_pos t.isLt]
    exact congrArg (· + _) (pay6_at y)
  · intro t h y
    show (scr m c (t.val + 1)).x21 y = (scr m c (t.val - 1 + 1)).x21 y + _
    have ht : t.val - 1 + 1 = t.val := by have : t.val ≠ 0 := fun e => h (by rw [e]); omega
    rw [(scr_vals m c t).2.2, start_other _ _ _ (fun e => h ((cInit_iff t).mp e)), ht]
    unfold T21
    rw [dif_pos t.isLt]

/-- Ten points in order, as two chunks of five blocks. -/
theorem sum_ten (f : ℕ → EReal) : ∑ k ∈ Finset.range 10, f k = ∑ j : Fin 2, ∑ tt : Fin 5, f (5 * j.val + tt.val) := by
  rw [Fin.sum_univ_two]
  simp only [Finset.sum_range_succ, Finset.sum_range_zero, Fin.sum_univ_five]
  simp [add_assoc]

end

section
variable (c : Dev nD) (t : Fin cfg0.N) (ht : t.val % 10 = 9)
include ht

theorem pt_lt (j : Fin 2) (tt : Fin 5) : 10 * (t.val / 10) + (5 * j.val + tt.val) < cfg0.N := by
  have h1 := t.isLt
  have h2 : cfg0.N = 150 := N_0
  omega
theorem pt_coords (j : Fin 2) (tt : Fin 5) : cR ⟨_, pt_lt t ht j tt⟩ = cR t ∧ cB ⟨_, pt_lt t ht j tt⟩ = cB t ∧ cJ ⟨_, pt_lt t ht j tt⟩ = j ∧ cT ⟨_, pt_lt t ht j tt⟩ = tt := by
  have e1 := coords_val ⟨_, pt_lt t ht j tt⟩
  have e2 := coords_val t
  have hj := j.isLt
  have htt := tt.isLt
  refine ⟨Fin.ext ?_, Fin.ext ?_, Fin.ext ?_, Fin.ext ?_⟩
  · exact e1.1.trans ((show (10 * (t.val / 10) + (5 * j.val + tt.val)) / 50 = t.val / 50 by omega).trans e2.1.symm)
  · exact e1.2.1.trans ((show (10 * (t.val / 10) + (5 * j.val + tt.val)) / 10 % 5 = t.val / 10 % 5 by omega).trans e2.2.1.symm)
  · exact e1.2.2.1.trans (show (10 * (t.val / 10) + (5 * j.val + tt.val)) / 5 % 2 = j.val by omega)
  · exact e1.2.2.2.trans (show (10 * (t.val / 10) + (5 * j.val + tt.val)) % 5 = tt.val by omega)

theorem x20_last (j : Fin 2) (n : Fin 4) (d : Fin 128) (p : Fin 1280) :
    (scr m c (t.val + 1)).x20 (ix4 j n d p) = (∑ jq : Fin 2, ∑ tt : Fin 5, ∑ h : Fin 28, if nOf h = n then ∑ row : Fin 256,
      ((kin m c).q (cR t) jq (cB t) (posR tt row) h d * (kin m c).qs (cR t) jq (cB t) h)
      * (if kVis (kin m c) (cR t) (cB t) jq (posR tt row) j p then kDS (kin m c) (cR t) (cB t) n h jq (posR tt row) j p else 0) else 0 : EReal) := by
  rw [x20_sum, ht, zero_add, sum_ten (fun k => T20 m c (10 * (t.val / 10) + k) (ix4 j n d p))]
  refine Finset.sum_congr rfl fun jq _ => Finset.sum_congr rfl fun tt _ => ?_
  unfold T20
  rw [dif_pos (pt_lt t ht jq tt), p20_at]
  obtain ⟨h1, h2, h3, h4⟩ := pt_coords t ht jq tt
  rw [h1, h2, h3, h4]
theorem x21_last (j : Fin 2) (n : Fin 4) (d : Fin 128) (p : Fin 1280) :
    (scr m c (t.val + 1)).x21 (ix4 j n d p) = (∑ jq : Fin 2, ∑ tt : Fin 5, ∑ h : Fin 28, if nOf h = n then ∑ row : Fin 256,
      (kin m c).d (cR t) jq (cB t) (posR tt row) h d
      * (if kVis (kin m c) (cR t) (cB t) jq (posR tt row) j p then kP (kin m c) (cR t) (cB t) n h jq (posR tt row) j p else 0) else 0 : EReal) := by
  rw [x21_sum, ht, zero_add, sum_ten (fun k => T21 m c (10 * (t.val / 10) + k) (ix4 j n d p))]
  refine Finset.sum_congr rfl fun jq _ => Finset.sum_congr rfl fun tt _ => ?_
  unfold T21
  rw [dif_pos (pt_lt t ht jq tt), p21_at]
  obtain ⟨h1, h2, h3, h4⟩ := pt_coords t ht jq tt
  rw [h1, h2, h3, h4]

theorem ldI19 (X : S2x4x128x1280.Idx → EReal) (jk : Fin 2) (n : Fin 4) (κ' : Fin 1280) (d : Fin 128) :
    ld X (rI19 (jk, n)) (ix4 0 0 d κ') = X (ix4 jk n d κ') :=
  ld_at X _ _ (fun a => by
    fin_cases a
    · rfl
    · rfl
    · exact (Nat.zero_add _).symm
    · exact (Nat.zero_add _).symm)
theorem kv_at (X : S120.Idx → Elt Ideal .f32) (i : grid0.Coords) (jk : Fin 2) (n : Fin 4) : kvAt (F := Ideal) X i (jk, n) = X (ix1 (kIx i jk n)) :=
  first1 _ _ (kIx i jk n) (congrFun (kvOffI_eq i (jk, n)) 0) X

/-- The two results of a group. -/
theorem x16_last (j : Fin 2) (n : Fin 4) (p : Fin 1280) (d : Fin 128) :
    (scr m c (t.val + 1)).x16 (ix6 0 j 0 n p d) = kDK (kin m c) (cR t) j (cB t) p n d := by
  have e : (scr m c (t.val + 1)).x16 = V16 (insAt m c t) (grid0.coords t) (scr m c (t.val + 1)).x20 := by
    rw [scr_succ, ringSt_eq, fin_last _ _ _ ((cond14_iff t).mpr ht)]
  rw [e]
  show k0_pay323 (F := Ideal) (kvAt (insAt m c t).x6 (grid0.coords t) (j, n)) (ld (scr m c (t.val + 1)).x20 (rI19 (j, n))) (ix6 0 0 0 0 p d) = _
  rw [pay323_at, ldI19 t ht, kv_at t ht, x20_last m c t ht, show (insAt m c t).x6 (ix1 (kIx (grid0.coords t) j n)) = _ from blk2 m c t j n]
  rfl
theorem x17_last (j : Fin 2) (n : Fin 4) (p : Fin 1280) (d : Fin 128) :
    (scr m c (t.val + 1)).x17 (ix6 0 j 0 n p d) = kDV (kin m c) (cR t) j (cB t) p n d := by
  have e : (scr m c (t.val + 1)).x17 = V17 (insAt m c t) (grid0.coords t) (scr m c (t.val + 1)).x21 := by
    rw [scr_succ, ringSt_eq, fin_last _ _ _ ((cond14_iff t).mpr ht)]
  rw [e]
  show k0_pay324 (F := Ideal) (kvAt (insAt m c t).x6 (grid0.coords t) (j, n)) (kvAt (insAt m c t).x7 (grid0.coords t) (j, n)) (ld (scr m c (t.val + 1)).x21 (rI19 (j, n))) (ix6 0 0 0 0 p d) = _
  rw [pay324_at, ldI19 t ht, kv_at t ht, kv_at t ht, x21_last m c t ht, show (insAt m c t).x6 (ix1 (kIx (grid0.coords t) j n)) = _ from blk2 m c t j n,
    show (insAt m c t).x7 (ix1 (kIx (grid0.coords t) j n)) = _ from blk3 m c t j n]
  rfl

end

end Cert.KernelIdeal.Hand

end
-- ==== Proof.KiFrame.lean ====
/- The frame: the program runs, its arguments end unchanged, and every counter reads zero. -/
module

public import proofs.«01_k».proof.Proof.KiDat
public import Idealize.ShloMosaic.Lib.Claim

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (hbody := fun c => (body_obligation m c).loose)
    (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hin := hin m) (hout := hout m)
    (Q' := fun r => Pipeline.FramePost cfgs (dats m) 0 (Pipeline.afterTail₀ cfgs (dats m) 0 (V0 m) [hostOps1]) r ∧ r.2.sem = fun _ => 0) (hQ' := fun _ h => h)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9))
      ∧ r.2.sem = fun _ => 0) :=
  θ_run_and (frame_of m ρ (dats m) (fun _ _ => rfl) ((θ_run defs _ _).mono (fun _ h => h.1) (run_quiescent m ρ)))
    ((θ_run defs _ _).mono (fun _ h => h.2) (run_quiescent m ρ))

end Cert.KernelIdeal.Hand

end
-- ==== Proof.KvOut.lean ====
/- What the run leaves in the three results, in terms of the arguments. -/
module

public import proofs.«01_k».proof.Proof.KvGroup
public import proofs.«01_k».proof.Proof.KiFrame

@[expose] public section

set_option maxRecDepth 65536

noncomputable section

namespace Cert.KernelIdeal.Hand

open Idealize.ShloMosaic Idealize.ShloMosaic.TcCoe Idealize.ShloMosaic.Tactic
open Idealize.ShloMosaic.Rounds
open Cert.KernelIdeal.Gen
open Idealize.ShloMosaic.Pipeline (Dat Cfg Window)
open Cert.Ring

variable (m : (ℓ : Loc nD τ sig) → Buf (Elt Ideal) ℓ) (c : Dev nD)

/-- The three results, in the order the pipeline writes them. -/
def G11 : S3x2x5x28x1280x128.Idx → EReal := fun y => kDQ (kin m c) (y 0) (y 1) (y 2) (y 4) (y 3) (y 5)
def G12 : S3x2x5x4x1280x128.Idx → EReal := fun y => kDK (kin m c) (y 0) (y 1) (y 2) (y 4) (y 3) (y 5)
def G13 : S3x2x5x4x1280x128.Idx → EReal := fun y => kDV (kin m c) (y 0) (y 1) (y 2) (y 4) (y 3) (y 5)

theorem z1 (a : Fin 1) : a = 0 := Subsingleton.elim _ _

theorem res11 (t : Fin cfg0.N) (y : S1x1x1x28x256x128.Idx) :
    (scr m c (t.val + 1)).x15 y = G11 m c (ix6 (cR t) (cJ t) (cB t) (y 3) (posR (cT t) (y 4)) (y 5)) := by
  refine ext6 (P := fun y => (scr m c (t.val + 1)).x15 y = G11 m c (ix6 (cR t) (cJ t) (cB t) (y 3) (posR (cT t) (y 4)) (y 5))) (fun a b e h row d => ?_) y
  rw [z1 a, z1 b, z1 e]
  exact (x15_at m c t _).trans (pQ_at m c t h row d)

theorem res12 (t : Fin cfg0.N) (ht : t.val % 10 = 9) (y : S1x2x1x4x1280x128.Idx) :
    (scr m c (t.val + 1)).x16 y = G12 m c (ix6 (cR t) (y 1) (cB t) (y 3) (y 4) (y 5)) := by
  refine ext6 (P := fun y => (scr m c (t.val + 1)).x16 y = G12 m c (ix6 (cR t) (y 1) (cB t) (y 3) (y 4) (y 5))) (fun a j e n p d => ?_) y
  rw [z1 a, z1 e]
  exact x16_last m c t ht j n p d

theorem res13 (t : Fin cfg0.N) (ht : t.val % 10 = 9) (y : S1x2x1x4x1280x128.Idx) :
    (scr m c (t.val + 1)).x17 y = G13 m c (ix6 (cR t) (y 1) (cB t) (y 3) (y 4) (y 5)) := by
  refine ext6 (P := fun y => (scr m c (t.val + 1)).x17 y = G13 m c (ix6 (cR t) (y 1) (cB t) (y 3) (y 4) (y 5))) (fun a j e n p d => ?_) y
  rw [z1 a, z1 e]
  exact x17_last m c t ht j n p d

theorem arr11 : (dats m 0 c).arrAt 11 cfg0.N = G11 m c := by
  refine (dats m 0 c).arrAt_eq_of_covers 11 (G11 m c) (by decide +kernel) fun t hf y => ?_
  have e := idx11 t
  refine (res11 m c t y).trans (congrArg (G11 m c) ?_)
  unfold cR cJ cB cT posR
  blk_ext [e]

theorem arr12 : (dats m 0 c).arrAt 12 cfg0.N = G12 m c := by
  refine (dats m 0 c).arrAt_eq_of_covers 12 (G12 m c) (by decide +kernel) fun t hf y => ?_
  have e := idx12 t
  refine (res12 m c t ((flush0_12 t).mp hf) y).trans (congrArg (G12 m c) ?_)
  unfold cR cB
  blk_ext [e]

theorem arr13 : (dats m 0 c).arrAt 13 cfg0.N = G13 m c := by
  refine (dats m 0 c).arrAt_eq_of_covers 13 (G13 m c) (by decide +kernel) fun t hf y => ?_
  have e := idx13 t
  refine (res13 m c t ((flush0_13 t).mp hf) y).trans (congrArg (G13 m c) ?_)
  unfold cR cB
  blk_ext [e]

/-- The results, as the last lines leave them. -/
theorem out_dq (r : Fin 3) (j : Fin 2) (b : Fin 5) (p : Fin 1280) (h : Fin 28) (d : Fin 128) :
    (Pipeline.afterTail₀ cfgs (dats m) 0 (V0 m) [hostOps1] c main_v21 : S3x2x5x1280x28x128.Idx → EReal) (ix6 r j b p h d) = kDQ (kin m c) r j b p h d := by
  have e : (Pipeline.withArrays spec0 c (V0 m c) (fun w => (dats m 0 c).arrAt w cfg0.N) (Proc.devRef .tc main_v20_0) : S3x2x5x28x1280x128.Idx → EReal) = G11 m c :=
    (Pipeline.withArrays_arr spec0 (by decide) c (V0 m c) (fun w => (dats m 0 c).arrAt w cfg0.N) 11).trans (arr11 m c)
  unfold Pipeline.afterTail₀
  rw [List.flatten_cons, List.flatten_nil, List.append_nil]
  after_reads_at
  exact congrFun e (ix6 r j b h p d)

theorem out_dk (r : Fin 3) (j : Fin 2) (b : Fin 5) (p : Fin 1280) (n : Fin 4) (d : Fin 128) :
    (Pipeline.afterTail₀ cfgs (dats m) 0 (V0 m) [hostOps1] c main_v22 : S3x2x5x1280x4x128.Idx → EReal) (ix6 r j b p n d) = kDK (kin m c) r j b p n d := by
  have e : (Pipeline.withArrays spec0 c (V0 m c) (fun w => (dats m 0 c).arrAt w cfg0.N) (Proc.devRef .tc main_v20_1) : S3x2x5x4x1280x128.Idx → EReal) = G12 m c :=
    (Pipeline.withArrays_arr spec0 (by decide) c (V0 m c) (fun w => (dats m 0 c).arrAt w cfg0.N) 12).trans (arr12 m c)
  unfold Pipeline.afterTail₀
  rw [List.flatten_cons, List.flatten_nil, List.append_nil]
  after_reads_at
  exact congrFun e (ix6 r j b n p d)

theorem out_dv (r : Fin 3) (j : Fin 2) (b : Fin 5) (p : Fin 1280) (n : Fin 4) (d : Fin 128) :
    (Pipeline.afterTail₀ cfgs (dats m) 0 (V0 m) [hostOps1] c main_v23 : S3x2x5x1280x4x128.Idx → EReal) (ix6 r j b p n d) = kDV (kin m c) r j b p n d := by
  have e : (Pipeline.withArrays spec0 c (V0 m c) (fun w => (dats m 0 c).arrAt w cfg0.N) (Proc.devRef .tc main_v20_2) : S3x2x5x4x1280x128.Idx → EReal) = G13 m c :=
    (Pipeline.withArrays_arr spec0 (by decide) c (V0 m c) (fun w => (dats m 0 c).arrAt w cfg0.N) 13).trans (arr13 m c)
  unfold Pipeline.afterTail₀
  rw [List.flatten_cons, List.flatten_nil, List.append_nil]
  after_reads_at
  exact congrFun e (ix6 r j b n p d)

end Cert.KernelIdeal.Hand

end
-- ==== Proof.KrOps.lean ====
/- The operands of the plain program. -/
module

public import proofs.«01_k».proof.Proof.Gen.ReferenceIdeal.Frame
public import proofs.«01_k».proof.Proof.KMath
public import Idealize.ShloMosaic.Lib.StableHlo.ReadAt
public import Idealize.ShloMosaic.Lib.Pointwise

@[expose] public section

set_option maxRecDepth 65536

noncomputable section

namespace Cert.ReferenceIdeal.Hand

open Idealize.ShloMosaic Idealize.ShloMosaic.TcCoe Idealize.ShloMosaic.Tactic
open Cert.ReferenceIdeal.Gen

open Cert.Ring
abbrev Uv := Valuation τ sig (Elt Ideal)

/-- The operands, as the arrays of the program hold them. -/
def rin (U : Uv) : RIn where
  q r j b p h d := (U (Proc.devRef .tc main_v0_0) : S3x2x5x1280x28x128.Idx → EReal) (ix6 r j b p h d)
  k r j b p n d := (U (Proc.devRef .tc main_v0_1) : S3x2x5x1280x4x128.Idx → EReal) (ix6 r j b p n d)
  v r j b p n d := (U (Proc.devRef .tc main_v0_2) : S3x2x5x1280x4x128.Idx → EReal) (ix6 r j b p n d)
  d r j b p h d := (U (Proc.devRef .tc main_arg7) : S3x2x5x1280x28x128.Idx → EReal) (ix6 r j b p h d)
  qs r j b h := (U (Proc.devRef .tc main_arg1) : S3x2x5x28.Idx → EReal) (ix4 r j b h)
  ks r j b n := (U (Proc.devRef .tc main_arg3) : S3x2x5x4.Idx → EReal) (ix4 r j b n)
  vs r j b n := (U (Proc.devRef .tc main_arg5) : S3x2x5x4.Idx → EReal) (ix4 r j b n)
  lse r j b h p := (U (Proc.devRef .tc main_arg8) : S3x2x5x28x1280.Idx → EReal) (ix5 r j b h p)
  dl r j b h p := (U (Proc.devRef .tc main_arg9) : S3x2x5x28x1280.Idx → EReal) (ix5 r j b h p)
  qc r j := (U (Proc.devRef .tc main_v6) : S3x2.Idx → BitVec 32) (ix2 r j)
  kc r b j := (U (Proc.devRef .tc main_v17) : S3x5x2.Idx → BitVec 32) (ix3 r b j)

theorem jEq (j : Fin 2) (p : Fin 1280) (h) : (⟨(j.val * 1280 + p.val) / 1280, h⟩ : Fin 2) = j := Fin.ext (by show (j.val * 1280 + p.val) / 1280 = j.val; omega)
theorem pEq (j : Fin 2) (p : Fin 1280) (h) : (⟨(j.val * 1280 + p.val) % 1280, h⟩ : Fin 1280) = p := Fin.ext (by show (j.val * 1280 + p.val) % 1280 = p.val; omega)
theorem pEq' (j : Fin 2) (p : Fin 1280) : (j.val * 1280 + p.val) % 1280 = p.val := by omega
theorem hEq (n : Fin 28) (h) : (⟨n.val / 7 * 7 + n.val % 7, h⟩ : Fin 28) = n := Fin.ext (by show n.val / 7 * 7 + n.val % 7 = n.val; omega)

/-- The operations after the chunks of the keys. -/
def tailOps : List (HloOp τ sig (Elt Ideal)) := hostOps1_2.drop 6 ++ hostOps1_3 ++ hostOps1_4
theorem zero_bits : Ideal.ofBits .f32 0#32 = 0 := by simp [Ideal.ofBits, Ideal.ieee]

end Cert.ReferenceIdeal.Hand

end
-- ==== Proof.KrIn.lean ====
/- What the plain program leaves in its results, in terms of the arguments. -/
module

public import proofs.«01_k».proof.Proof.KrOps
public import proofs.«01_k».proof.Proof.KWord
public import Idealize.ShloMosaic.Lib.Pipeline.ValueKit

@[expose] public section

set_option maxRecDepth 65536

noncomputable section

namespace Cert.ReferenceIdeal.Hand

open Idealize.ShloMosaic Idealize.ShloMosaic.TcCoe Idealize.ShloMosaic.Tactic
open Cert.ReferenceIdeal.Gen
open Idealize.ShloMosaic.Pipeline (Dat Cfg Window)
open Cert.Ring

variable (m : (ℓ : Loc nD τ sig) → Buf (Elt Ideal) ℓ) (c : Dev nD)

/-! ## The widened codes -/

theorem z6 : ∀ a, (![0, 0, 0, 0, 0, 0] : Fin 6 → ℕ) a = 0 := by decide

def A0 : S3x2x5x1280x28x128.Idx → EReal := m ((c.tc : Thread nD τ).loc main_arg0)
theorem cov3 : (cfg0.win 3).Covers := by decide +kernel
theorem idx0 (t : Fin cfg0.N) : (cfg0.win 0).index t = ![0, 0, 0, 0, 0, 0] := by revert t; decide +kernel
theorem idx3 (t : Fin cfg0.N) : (cfg0.win 3).index t = ![0, 0, 0, 0, 0, 0] := by revert t; decide +kernel
theorem blk0 (t : Fin cfg0.N) (y : S3x2x5x1280x28x128.Idx) : (iblk m c 0 t : S3x2x5x1280x28x128.Idx → EReal) y = A0 m c y := by
  have e := idx0 t
  unfold A0
  blk_ext! [iblk, V, e]
theorem out3 (x0 : Vec Ideal S3x2x5x1280x28x128 .fp8e4m3) (x1 x2 : Vec Ideal S3x2x5x1280x4x128 .fp8e4m3) : (out0_3 x0 x1 x2 : S3x2x5x1280x28x128.Idx → EReal) = x0 := by
  unfold out0_3
  rw [View.canon_cons_unit_lit _ _ _ z6, View.ld_unit_lit _ _ z6]
  rfl
theorem val3 (t : Fin cfg0.N) (y : S3x2x5x1280x28x128.Idx) : ((dats m 0 c).after 3 t : S3x2x5x1280x28x128.Idx → EReal) y = A0 m c y :=
  (congrFun ((after0_3 m c t).trans (out3 _ _ _)) y).trans (blk0 m c t y)
theorem arr3 : (dats m 0 c).arrAt 3 cfg0.N = A0 m c := by
  refine (dats m 0 c).arrAt_eq_of_covers 3 (A0 m c) cov3 fun t hf y => ?_
  have e := idx3 t
  refine (val3 m c t y).trans (congrArg (A0 m c) ?_)
  blk_ext [e]

def A1 : S3x2x5x1280x4x128.Idx → EReal := m ((c.tc : Thread nD τ).loc main_arg2)
theorem cov4 : (cfg0.win 4).Covers := by decide +kernel
theorem idx1 (t : Fin cfg0.N) : (cfg0.win 1).index t = ![0, 0, 0, 0, 0, 0] := by revert t; decide +kernel
theorem idx4 (t : Fin cfg0.N) : (cfg0.win 4).index t = ![0, 0, 0, 0, 0, 0] := by revert t; decide +kernel
theorem blk1 (t : Fin cfg0.N) (y : S3x2x5x1280x4x128.Idx) : (iblk m c 1 t : S3x2x5x1280x4x128.Idx → EReal) y = A1 m c y := by
  have e := idx1 t
  unfold A1
  blk_ext! [iblk, V, e]
theorem out4 (x0 : Vec Ideal S3x2x5x1280x28x128 .fp8e4m3) (x1 x2 : Vec Ideal S3x2x5x1280x4x128 .fp8e4m3) : (out0_4 x0 x1 x2 : S3x2x5x1280x4x128.Idx → EReal) = x1 := by
  unfold out0_4
  rw [View.canon_cons_unit_lit _ _ _ z6, View.ld_unit_lit _ _ z6]
  rfl
theorem val4 (t : Fin cfg0.N) (y : S3x2x5x1280x4x128.Idx) : ((dats m 0 c).after 4 t : S3x2x5x1280x4x128.Idx → EReal) y = A1 m c y :=
  (congrFun ((after0_4 m c t).trans (out4 _ _ _)) y).trans (blk1 m c t y)
theorem arr4 : (dats m 0 c).arrAt 4 cfg0.N = A1 m c := by
  refine (dats m 0 c).arrAt_eq_of_covers 4 (A1 m c) cov4 fun t hf y => ?_
  have e := idx4 t
  refine (val4 m c t y).trans (congrArg (A1 m c) ?_)
  blk_ext [e]

def A2 : S3x2x5x1280x4x128.Idx → EReal := m ((c.tc : Thread nD τ).loc main_arg4)
theorem cov5 : (cfg0.win 5).Covers := by decide +kernel
theorem idx2 (t : Fin cfg0.N) : (cfg0.win 2).index t = ![0, 0, 0, 0, 0, 0] := by revert t; decide +kernel
theorem idx5 (t : Fin cfg0.N) : (cfg0.win 5).index t = ![0, 0, 0, 0, 0, 0] := by revert t; decide +kernel
theorem blk2 (t : Fin cfg0.N) (y : S3x2x5x1280x4x128.Idx) : (iblk m c 2 t : S3x2x5x1280x4x128.Idx → EReal) y = A2 m c y := by
  have e := idx2 t
  unfold A2
  blk_ext! [iblk, V, e]
theorem out5 (x0 : Vec Ideal S3x2x5x1280x28x128 .fp8e4m3) (x1 x2 : Vec Ideal S3x2x5x1280x4x128 .fp8e4m3) : (out0_5 x0 x1 x2 : S3x2x5x1280x4x128.Idx → EReal) = x2 := by
  unfold out0_5
  rw [View.canon_cons_unit_lit _ _ _ z6, View.ld_unit_lit _ _ z6]
  rfl
theorem val5 (t : Fin cfg0.N) (y : S3x2x5x1280x4x128.Idx) : ((dats m 0 c).after 5 t : S3x2x5x1280x4x128.Idx → EReal) y = A2 m c y :=
  (congrFun ((after0_5 m c t).trans (out5 _ _ _)) y).trans (blk2 m c t y)
theorem arr5 : (dats m 0 c).arrAt 5 cfg0.N = A2 m c := by
  refine (dats m 0 c).arrAt_eq_of_covers 5 (A2 m c) cov5 fun t hf y => ?_
  have e := idx5 t
  refine (val5 m c t y).trans (congrArg (A2 m c) ?_)
  blk_ext [e]

/-! ## The buffers, stretch by stretch -/

/-- After the codes are widened. -/
def U0 : Uv := Pipeline.withArrays spec0 c (V0 m c) (fun w => (dats m 0 c).arrAt w cfg0.N)
/-- After the chunks of the keys. -/
def U1 : Uv := StableHlo.after (hostOps1_2.take 6) (StableHlo.after hostOps1_1 (StableHlo.after hostOps1 (U0 m c)))

theorem flat6 {α : Type*} (a b s d e : List α) : [a, b, s, d, e].flatten = a ++ (b ++ (s.take 6 ++ (s.drop 6 ++ d ++ e))) := by
  conv_lhs => rw [← List.take_append_drop 6 s]
  simp only [List.flatten_cons, List.flatten_nil, List.append_nil, List.append_assoc]

theorem tail_eq (b : Ref sig .tc) :
    Pipeline.afterTail₀ cfgs (dats m) 0 (V0 m) [hostOps1, hostOps1_1, hostOps1_2, hostOps1_3, hostOps1_4] c b = StableHlo.after tailOps (U1 m c) (Proc.devRef .tc b) := by
  unfold Pipeline.afterTail₀ U1 tailOps
  rw [flat6, StableHlo.after_append, StableHlo.after_append, StableHlo.after_append]
  rfl

theorem take_writes : ((hostOps1_2 : List (HloOp τ sig (Elt Ideal))).take 6).Forall fun op => op.writes ⊆ ((hostOps1_2_W.take 6).map (Proc.devRef (τ := τ) .tc)).toFinset :=
  StableHlo.forall_writes_sub_of_map rfl

theorem U1_keep (b : Ref sig .tc) (h : b ∉ hostOps1_2_W.take 6) (h' : b ∉ hostOps1_1_W) (h'' : b ∉ hostOps1_W) : U1 m c (Proc.devRef .tc b) = U0 m c (Proc.devRef .tc b) := by
  unfold U1
  rw [StableHlo.after_of_writes_sub (r := b) (hostOps1_2.take 6) _ take_writes h, StableHlo.after_of_writes_sub (r := b) hostOps1_1 _ hostOps1_1_writes h',
    StableHlo.after_of_writes_sub (r := b) hostOps1 _ hostOps1_writes h'']

theorem U0_arg (b : Ref sig .tc) (h : ∀ w, Pipeline.arrRef spec0 w ≠ b) : U0 m c (Proc.devRef .tc b) = V0 m c (Proc.devRef .tc b) :=
  Pipeline.withArrays_of_ne _ c (V0 m c) _ b h

theorem U1_arg (b : Ref sig .tc) (h : b ∉ hostOps1_2_W.take 6) (h' : b ∉ hostOps1_1_W) (h'' : b ∉ hostOps1_W) (h₀ : ∀ w, Pipeline.arrRef spec0 w ≠ b) :
    U1 m c (Proc.devRef .tc b) = m ((c.tc : Thread nD τ).loc b) :=
  (U1_keep m c b h h' h'').trans (U0_arg m c b h₀)

theorem U1_q : (U1 m c (Proc.devRef .tc main_v0_0) : S3x2x5x1280x28x128.Idx → EReal) = A0 m c :=
  (U1_keep m c main_v0_0 (by decide +kernel) (by decide +kernel) (by decide +kernel)).trans ((Pipeline.withArrays_arr spec0 (by decide) c (V0 m c) (fun w => (dats m 0 c).arrAt w cfg0.N) 3).trans (arr3 m c))
theorem U1_k : (U1 m c (Proc.devRef .tc main_v0_1) : S3x2x5x1280x4x128.Idx → EReal) = A1 m c :=
  (U1_keep m c main_v0_1 (by decide +kernel) (by decide +kernel) (by decide +kernel)).trans ((Pipeline.withArrays_arr spec0 (by decide) c (V0 m c) (fun w => (dats m 0 c).arrAt w cfg0.N) 4).trans (arr4 m c))
theorem U1_v : (U1 m c (Proc.devRef .tc main_v0_2) : S3x2x5x1280x4x128.Idx → EReal) = A2 m c :=
  (U1_keep m c main_v0_2 (by decide +kernel) (by decide +kernel) (by decide +kernel)).trans ((Pipeline.withArrays_arr spec0 (by decide) c (V0 m c) (fun w => (dats m 0 c).arrAt w cfg0.N) 5).trans (arr5 m c))

/-! ## The chunks -/

theorem v6_0 (U : Uv) (r : Fin 3) : (StableHlo.after hostOps1 U (Proc.devRef .tc main_v6) : S3x2.Idx → BitVec 32) (ix2 r 0) = BitVec.ofNat 32 r.val := by
  unfold hostOps1
  after_reads_at
theorem v6_1 (U : Uv) (r : Fin 3) : (StableHlo.after hostOps1 U (Proc.devRef .tc main_v6) : S3x2.Idx → BitVec 32) (ix2 r 1) = IntOp.subi 5#32 (BitVec.ofNat 32 r.val) := by
  unfold hostOps1
  after_reads_at

theorem v12_at (U : Uv) (r : Fin 3) (b : Fin 5) :
    (StableHlo.after hostOps1_1 (StableHlo.after hostOps1 U) (Proc.devRef .tc main_v12) : S3x5.Idx → BitVec 32) (ix2 r b) = remH r ((U (Proc.devRef .tc main_arg6) : S5.Idx → BitVec 32) (ix1 b)) := by
  rw [← StableHlo.after_append]
  simp only [hostOps1, hostOps1_1, List.cons_append, List.nil_append]
  after_reads_at
  rfl

theorem v17_0 (U : Uv) (r : Fin 3) (b : Fin 5) :
    (StableHlo.after (hostOps1_2.take 6) U (Proc.devRef .tc main_v17) : S3x5x2.Idx → BitVec 32) (ix3 r b 0) = (U (Proc.devRef .tc main_v12) : S3x5.Idx → BitVec 32) (ix2 r b) := by
  simp only [hostOps1_2, List.take_succ_cons, List.take_zero]
  after_reads_at
theorem v17_1 (U : Uv) (r : Fin 3) (b : Fin 5) :
    (StableHlo.after (hostOps1_2.take 6) U (Proc.devRef .tc main_v17) : S3x5x2.Idx → BitVec 32) (ix3 r b 1) = IntOp.subi 5#32 ((U (Proc.devRef .tc main_v12) : S3x5.Idx → BitVec 32) (ix2 r b)) := by
  simp only [hostOps1_2, List.take_succ_cons, List.take_zero]
  after_reads_at

theorem U1_qc (r : Fin 3) (j : Fin 2) : (U1 m c (Proc.devRef .tc main_v6) : S3x2.Idx → BitVec 32) (ix2 r j) = if j = 0 then BitVec.ofNat 32 r.val else IntOp.subi 5#32 (BitVec.ofNat 32 r.val) := by
  unfold U1
  rw [StableHlo.after_of_writes_sub (r := main_v6) (hostOps1_2.take 6) _ take_writes (by decide +kernel), StableHlo.after_of_writes_sub (r := main_v6) hostOps1_1 _ hostOps1_1_writes (by decide +kernel)]
  match j with
  | ⟨0, _⟩ => exact v6_0 _ r
  | ⟨1, _⟩ => exact v6_1 _ r

theorem U1_kc (r : Fin 3) (b : Fin 5) (j : Fin 2) : (U1 m c (Proc.devRef .tc main_v17) : S3x5x2.Idx → BitVec 32) (ix3 r b j)
    = if j = 0 then remH r ((m ((c.tc : Thread nD τ).loc main_arg6) : S5.Idx → BitVec 32) (ix1 b)) else IntOp.subi 5#32 (remH r ((m ((c.tc : Thread nD τ).loc main_arg6) : S5.Idx → BitVec 32) (ix1 b))) := by
  have e : (StableHlo.after hostOps1_1 (StableHlo.after hostOps1 (U0 m c)) (Proc.devRef .tc main_v12) : S3x5.Idx → BitVec 32) (ix2 r b)
      = remH r ((m ((c.tc : Thread nD τ).loc main_arg6) : S5.Idx → BitVec 32) (ix1 b)) :=
    (v12_at (U0 m c) r b).trans (congrArg (fun X : S5.Idx → BitVec 32 => remH r (X (ix1 b))) (U0_arg m c main_arg6 (by decide)))
  unfold U1
  match j with
  | ⟨0, _⟩ => exact (v17_0 _ r b).trans e
  | ⟨1, _⟩ => exact (v17_1 _ r b).trans (congrArg (IntOp.subi 5#32) e)

/-! ## The operands -/

/-- The operands, as the arguments hold them. -/
def rinM : RIn where
  q r j b p h d := (m ((c.tc : Thread nD τ).loc main_arg0) : S3x2x5x1280x28x128.Idx → EReal) (ix6 r j b p h d)
  k r j b p n d := (m ((c.tc : Thread nD τ).loc main_arg2) : S3x2x5x1280x4x128.Idx → EReal) (ix6 r j b p n d)
  v r j b p n d := (m ((c.tc : Thread nD τ).loc main_arg4) : S3x2x5x1280x4x128.Idx → EReal) (ix6 r j b p n d)
  d r j b p h d := (m ((c.tc : Thread nD τ).loc main_arg7) : S3x2x5x1280x28x128.Idx → EReal) (ix6 r j b p h d)
  qs r j b h := (m ((c.tc : Thread nD τ).loc main_arg1) : S3x2x5x28.Idx → EReal) (ix4 r j b h)
  ks r j b n := (m ((c.tc : Thread nD τ).loc main_arg3) : S3x2x5x4.Idx → EReal) (ix4 r j b n)
  vs r j b n := (m ((c.tc : Thread nD τ).loc main_arg5) : S3x2x5x4.Idx → EReal) (ix4 r j b n)
  lse r j b h p := (m ((c.tc : Thread nD τ).loc main_arg8) : S3x2x5x28x1280.Idx → EReal) (ix5 r j b h p)
  dl r j b h p := (m ((c.tc : Thread nD τ).loc main_arg9) : S3x2x5x28x1280.Idx → EReal) (ix5 r j b h p)
  qc r j := if j = 0 then BitVec.ofNat 32 r.val else IntOp.subi 5#32 (BitVec.ofNat 32 r.val)
  kc r b j := if j = 0 then remH r ((m ((c.tc : Thread nD τ).loc main_arg6) : S5.Idx → BitVec 32) (ix1 b)) else IntOp.subi 5#32 (remH r ((m ((c.tc : Thread nD τ).loc main_arg6) : S5.Idx → BitVec 32) (ix1 b)))

theorem rin_ext : ∀ A B : RIn, A.q = B.q → A.k = B.k → A.v = B.v → A.d = B.d → A.qs = B.qs → A.ks = B.ks → A.vs = B.vs → A.lse = B.lse → A.dl = B.dl → A.qc = B.qc → A.kc = B.kc → A = B
  | ⟨_, _, _, _, _, _, _, _, _, _, _⟩, ⟨_, _, _, _, _, _, _, _, _, _, _⟩, rfl, rfl, rfl, rfl, rfl, rfl, rfl, rfl, rfl, rfl, rfl => rfl

theorem rin_eq : rin (U1 m c) = rinM m c := by
  refine rin_ext _ _ ?_ ?_ ?_ ?_ ?_ ?_ ?_ ?_ ?_ ?_ ?_
  · funext r j b p h d; exact congrFun (U1_q m c) _
  · funext r j b p h d; exact congrFun (U1_k m c) _
  · funext r j b p h d; exact congrFun (U1_v m c) _
  · funext r j b p h d; exact congrFun (U1_arg m c main_arg7 (by decide +kernel) (by decide +kernel) (by decide +kernel) (by decide)) _
  · funext r j b h; exact congrFun (U1_arg m c main_arg1 (by decide +kernel) (by decide +kernel) (by decide +kernel) (by decide)) _
  · funext r j b h; exact congrFun (U1_arg m c main_arg3 (by decide +kernel) (by decide +kernel) (by decide +kernel) (by decide)) _
  · funext r j b h; exact congrFun (U1_arg m c main_arg5 (by decide +kernel) (by decide +kernel) (by decide +kernel) (by decide)) _
  · funext r j b h p; exact congrFun (U1_arg m c main_arg8 (by decide +kernel) (by decide +kernel) (by decide +kernel) (by decide)) _
  · funext r j b h p; exact congrFun (U1_arg m c main_arg9 (by decide +kernel) (by decide +kernel) (by decide +kernel) (by decide)) _
  · funext r j; exact U1_qc m c r j
  · funext r b j; exact U1_kc m c r b j

end Cert.ReferenceIdeal.Hand

end
-- ==== Proof.KrDQ.lean ====
/- The queries' gradient of the plain program. -/
module

public import proofs.«01_k».proof.Proof.KrOps

@[expose] public section

set_option maxRecDepth 65536

noncomputable section

namespace Cert.ReferenceIdeal.Hand

open Idealize.ShloMosaic Idealize.ShloMosaic.TcCoe Idealize.ShloMosaic.Tactic
open Cert.ReferenceIdeal.Gen

open Cert.Ring

set_option maxHeartbeats 8000000 in
theorem rd_dq (U : Uv) (r : Fin 3) (j : Fin 2) (b : Fin 5) (p : Fin 1280) (h : Fin 28) (d : Fin 128) :
    (StableHlo.after tailOps U (Proc.devRef .tc main_v108) : S3x2x5x1280x28x128.Idx → EReal) (ix6 r j b p h d) = refDQ (rin U) r j b p h d := by
  simp only [tailOps, hostOps1_2, hostOps1_3, hostOps1_4, List.drop_succ_cons, List.drop_zero, List.cons_append, List.nil_append]
  after_reads_at
  simp only [jEq, pEq, pEq', hEq, zero_bits]
  unfold refDQ refDS refP
  have hz : ((id (constant (F := Ideal) S_ FTy.f32 0#32) ix0) : EReal) = 0 := zero_bits
  simp only [rin, smR, jOf, pOf, nOf, hz]

end Cert.ReferenceIdeal.Hand

end
-- ==== Proof.KrDK.lean ====
/- The keys' gradient of the plain program. -/
module

public import proofs.«01_k».proof.Proof.KrOps

@[expose] public section

set_option maxRecDepth 65536

noncomputable section

namespace Cert.ReferenceIdeal.Hand

open Idealize.ShloMosaic Idealize.ShloMosaic.TcCoe Idealize.ShloMosaic.Tactic
open Cert.ReferenceIdeal.Gen

open Cert.Ring

set_option maxHeartbeats 8000000 in
theorem rd_dk (U : Uv) (r : Fin 3) (j : Fin 2) (b : Fin 5) (p : Fin 1280) (n : Fin 4) (d : Fin 128) :
    (StableHlo.after tailOps U (Proc.devRef .tc main_v110) : S3x2x5x1280x4x128.Idx → EReal) (ix6 r j b p n d) = refDK (rin U) r j b p n d := by
  simp only [tailOps, hostOps1_2, hostOps1_3, hostOps1_4, List.drop_succ_cons, List.drop_zero, List.cons_append, List.nil_append]
  after_reads_at
  simp only [jEq, pEq, pEq', hEq, zero_bits]
  unfold refDK refDS refP
  have hz : ((id (constant (F := Ideal) S_ FTy.f32 0#32) ix0) : EReal) = 0 := zero_bits
  simp only [rin, smR, jOf, pOf, hOf, hz]

end Cert.ReferenceIdeal.Hand

end
-- ==== Proof.KrDV.lean ====
/- The values' gradient of the plain program. -/
module

public import proofs.«01_k».proof.Proof.KrOps

@[expose] public section

set_option maxRecDepth 65536

noncomputable section

namespace Cert.ReferenceIdeal.Hand

open Idealize.ShloMosaic Idealize.ShloMosaic.TcCoe Idealize.ShloMosaic.Tactic
open Cert.ReferenceIdeal.Gen

open Cert.Ring

set_option maxHeartbeats 8000000 in
theorem rd_dv (U : Uv) (r : Fin 3) (j : Fin 2) (b : Fin 5) (p : Fin 1280) (n : Fin 4) (d : Fin 128) :
    (StableHlo.after tailOps U (Proc.devRef .tc main_v112) : S3x2x5x1280x4x128.Idx → EReal) (ix6 r j b p n d) = refDV (rin U) r j b p n d := by
  simp only [tailOps, hostOps1_2, hostOps1_3, hostOps1_4, List.drop_succ_cons, List.drop_zero, List.cons_append, List.nil_append]
  after_reads_at
  simp only [jEq, pEq, pEq', hEq, zero_bits]
  unfold refDV refP
  have hz : ((id (constant (F := Ideal) S_ FTy.f32 0#32) ix0) : EReal) = 0 := zero_bits
  simp only [rin, smR, jOf, pOf, hOf, hz]

end Cert.ReferenceIdeal.Hand

end
-- ==== Proof.KEnd.lean ====
/- The two idealized programs leave the same three results, from arguments that agree and scales that are positive. -/
module

public import proofs.«01_k».proof.Proof.KvGood
public import proofs.«01_k».proof.Proof.KvOut
public import proofs.«01_k».proof.Proof.KrIn
public import proofs.«01_k».proof.Proof.KrDQ
public import proofs.«01_k».proof.Proof.KrDK
public import proofs.«01_k».proof.Proof.KrDV

@[expose] public section

set_option maxRecDepth 65536

noncomputable section

namespace Cert.Claims

open Idealize.ShloMosaic Idealize.ShloMosaic.TcCoe Idealize.SL.Sem
open Cert.Ring
open Cert.KernelIdeal.Hand (kin)
open Cert.ReferenceIdeal.Hand (rinM rin_ext rin_eq U1)

/-- The memories of the two programs. -/
abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- The kernel's buffer of an argument, and the plain program's. -/
abbrev ka (m : KMem) (c : Dev Cert.KernelIdeal.nD) (b : Ref Cert.KernelIdeal.sig .tc) := m ((c.tc : Thread Cert.KernelIdeal.nD Cert.KernelIdeal.τ).loc b)
abbrev ra (m : RMem) (c : Dev Cert.KernelIdeal.nD) (b : Ref Cert.ReferenceIdeal.sig .tc) := m ((c.tc : Thread Cert.ReferenceIdeal.nD Cert.ReferenceIdeal.τ).loc b)

theorem chunk_word : ∀ (j : Fin 2) (x : Fin 3), ∃ a : Fin 6,
    (if j = 0 then BitVec.ofNat 32 x.val else Scalar.subi 5#32 (BitVec.ofNat 32 x.val)) = BitVec.ofNat 32 a.val := by
  decide

section
variable (m : KMem) (hp : Cert.Pre_KernelIdeal_scales_positive m) (c : Dev Cert.KernelIdeal.nD)
include hp

theorem pre_arg (r : Fin 3) (j : Fin 2) (b : Fin 5) (n : Fin 4) :
    ((∃ x : ℝ, 0 < x ∧ (kin m c).ks r j b n = (x : EReal)) ∧ (∃ x : ℝ, 0 < x ∧ (kin m c).vs r j b n = (x : EReal)))
      ∧ 3 - 2 ^ 31 ≤ ((ka m c Cert.KernelIdeal.main_arg6 : Cert.KernelIdeal.S5.Idx → BitVec 32) (ix1 b)).toInt :=
  pre_at _ _ _ _ _ _ _ _ _ _ (hp c) r j b n

theorem good : Good (kin m c) where
  ks r j b n := (pre_arg m hp c r j b n).1.1
  vs r j b n := (pre_arg m hp c r j b n).1.2
  qc r j := chunk_word j r
  kc r b j := by
    have e := (rem_eq r _ (pre_arg m hp c r j b 0).2).2
    change ∃ a : Fin 6, (if j = 0 then remK r ((ka m c Cert.KernelIdeal.main_arg6 : Cert.KernelIdeal.S5.Idx → BitVec 32) (ix1 b))
      else Scalar.subi 5#32 (remK r ((ka m c Cert.KernelIdeal.main_arg6 : Cert.KernelIdeal.S5.Idx → BitVec 32) (ix1 b)))) = BitVec.ofNat 32 a.val
    rcases e with e | e | e <;> rw [e]
    · exact chunk_word j 0
    · exact chunk_word j 1
    · exact chunk_word j 2

end

/-- What it is for the two memories to agree on the arguments of one core. -/
abbrev Agree (m : KMem) (m' : RMem) (c : Dev Cert.KernelIdeal.nD) : Prop :=
  ra m' c Cert.ReferenceIdeal.main_arg0 = ka m c Cert.KernelIdeal.main_arg0
  ∧ ra m' c Cert.ReferenceIdeal.main_arg1 = ka m c Cert.KernelIdeal.main_arg1
  ∧ ra m' c Cert.ReferenceIdeal.main_arg2 = ka m c Cert.KernelIdeal.main_arg2
  ∧ ra m' c Cert.ReferenceIdeal.main_arg3 = ka m c Cert.KernelIdeal.main_arg3
  ∧ ra m' c Cert.ReferenceIdeal.main_arg4 = ka m c Cert.KernelIdeal.main_arg4
  ∧ ra m' c Cert.ReferenceIdeal.main_arg5 = ka m c Cert.KernelIdeal.main_arg5
  ∧ ra m' c Cert.ReferenceIdeal.main_arg6 = ka m c Cert.KernelIdeal.main_arg6
  ∧ ra m' c Cert.ReferenceIdeal.main_arg7 = ka m c Cert.KernelIdeal.main_arg7
  ∧ ra m' c Cert.ReferenceIdeal.main_arg8 = ka m c Cert.KernelIdeal.main_arg8
  ∧ ra m' c Cert.ReferenceIdeal.main_arg9 = ka m c Cert.KernelIdeal.main_arg9

variable (m : KMem) (m' : RMem) (c : Dev Cert.KernelIdeal.nD)

/-- Arguments that agree are the same operands. -/
theorem rin_kin (hp : Cert.Pre_KernelIdeal_scales_positive m) (h : Agree m m' c) : rinM m' c = kin m c := by
  obtain ⟨h0, h1, h2, h3, h4, h5, h6, h7, h8, h9⟩ := h
  refine rin_ext _ _ ?_ ?_ ?_ ?_ ?_ ?_ ?_ ?_ ?_ ?_ ?_
  · funext r j b p h d; exact congrFun h0 _
  · funext r j b p n d; exact congrFun h2 _
  · funext r j b p n d; exact congrFun h4 _
  · funext r j b p h d; exact congrFun h7 _
  · funext r j b h; exact congrFun h1 _
  · funext r j b n; exact congrFun h3 _
  · funext r j b n; exact congrFun h5 _
  · funext r j b h p; exact congrFun h8 _
  · funext r j b h p; exact congrFun h9 _
  · rfl
  · funext r b j
    have e : remH r ((ra m' c Cert.ReferenceIdeal.main_arg6 : Cert.ReferenceIdeal.S5.Idx → BitVec 32) (ix1 b)) = remK r ((ka m c Cert.KernelIdeal.main_arg6 : Cert.KernelIdeal.S5.Idx → BitVec 32) (ix1 b)) :=
      (congrArg (remH r) (congrFun h6 (ix1 b))).trans (rem_eq r _ (pre_arg m hp c r j b 0).2).1
    exact congrArg (fun w : BitVec 32 => if j = 0 then w else Scalar.subi 5#32 w) e

/-- What the kernel leaves in a buffer, and what the plain program leaves. -/
abbrev kend (b : Ref Cert.KernelIdeal.sig .tc) :=
  Pipeline.afterTail₀ Cert.KernelIdeal.cfgs (Cert.KernelIdeal.Hand.dats m) 0 (Cert.KernelIdeal.Gen.V0 m) [Cert.KernelIdeal.Gen.hostOps1] c b
abbrev rend (b : Ref Cert.ReferenceIdeal.sig .tc) :=
  Pipeline.afterTail₀ Cert.ReferenceIdeal.cfgs (Cert.ReferenceIdeal.Gen.dats m') 0 (Cert.ReferenceIdeal.Gen.V0 m')
    [Cert.ReferenceIdeal.Gen.hostOps1, Cert.ReferenceIdeal.Gen.hostOps1_1, Cert.ReferenceIdeal.Gen.hostOps1_2, Cert.ReferenceIdeal.Gen.hostOps1_3, Cert.ReferenceIdeal.Gen.hostOps1_4] c b

section
variable (hp : Cert.Pre_KernelIdeal_scales_positive m) (h : Agree m m' c)
include hp h

theorem same_dq : (rend m' c Cert.ReferenceIdeal.main_v108 : Cert.ReferenceIdeal.S3x2x5x1280x28x128.Idx → EReal) = (kend m c Cert.KernelIdeal.main_v21 : Cert.KernelIdeal.S3x2x5x1280x28x128.Idx → EReal) := by
  funext y
  refine Cert.KernelIdeal.Hand.ext6 (P := fun y => (rend m' c Cert.ReferenceIdeal.main_v108 : Cert.ReferenceIdeal.S3x2x5x1280x28x128.Idx → EReal) y = (kend m c Cert.KernelIdeal.main_v21 : Cert.KernelIdeal.S3x2x5x1280x28x128.Idx → EReal) y) (fun r j b p i d => ?_) y
  refine Eq.trans ?_ ((kDQ_eq (kin m c) (good m hp c) r b i j p d).symm.trans (Cert.KernelIdeal.Hand.out_dq m c r j b p i d).symm)
  refine (congrFun (Cert.ReferenceIdeal.Hand.tail_eq m' c Cert.ReferenceIdeal.main_v108) _).trans ((Cert.ReferenceIdeal.Hand.rd_dq (U1 m' c) r j b p i d).trans ?_)
  rw [rin_eq, rin_kin m m' c hp h]

theorem same_dk : (rend m' c Cert.ReferenceIdeal.main_v110 : Cert.ReferenceIdeal.S3x2x5x1280x4x128.Idx → EReal) = (kend m c Cert.KernelIdeal.main_v22 : Cert.KernelIdeal.S3x2x5x1280x4x128.Idx → EReal) := by
  funext y
  refine Cert.KernelIdeal.Hand.ext6 (P := fun y => (rend m' c Cert.ReferenceIdeal.main_v110 : Cert.ReferenceIdeal.S3x2x5x1280x4x128.Idx → EReal) y = (kend m c Cert.KernelIdeal.main_v22 : Cert.KernelIdeal.S3x2x5x1280x4x128.Idx → EReal) y) (fun r j b p i d => ?_) y
  refine Eq.trans ?_ ((kDK_eq (kin m c) (good m hp c) r b i j p d).symm.trans (Cert.KernelIdeal.Hand.out_dk m c r j b p i d).symm)
  refine (congrFun (Cert.ReferenceIdeal.Hand.tail_eq m' c Cert.ReferenceIdeal.main_v110) _).trans ((Cert.ReferenceIdeal.Hand.rd_dk (U1 m' c) r j b p i d).trans ?_)
  rw [rin_eq, rin_kin m m' c hp h]

theorem same_dv : (rend m' c Cert.ReferenceIdeal.main_v112 : Cert.ReferenceIdeal.S3x2x5x1280x4x128.Idx → EReal) = (kend m c Cert.KernelIdeal.main_v23 : Cert.KernelIdeal.S3x2x5x1280x4x128.Idx → EReal) := by
  funext y
  refine Cert.KernelIdeal.Hand.ext6 (P := fun y => (rend m' c Cert.ReferenceIdeal.main_v112 : Cert.ReferenceIdeal.S3x2x5x1280x4x128.Idx → EReal) y = (kend m c Cert.KernelIdeal.main_v23 : Cert.KernelIdeal.S3x2x5x1280x4x128.Idx → EReal) y) (fun r j b p i d => ?_) y
  refine Eq.trans ?_ ((kDV_eq (kin m c) (good m hp c) r b i j p d).symm.trans (Cert.KernelIdeal.Hand.out_dv m c r j b p i d).symm)
  refine (congrFun (Cert.ReferenceIdeal.Hand.tail_eq m' c Cert.ReferenceIdeal.main_v112) _).trans ((Cert.ReferenceIdeal.Hand.rd_dv (U1 m' c) r j b p i d).trans ?_)
  rw [rin_eq, rin_kin m m' c hp h]

end

theorem algebraic : Cert.algebraic_KernelIdeal_ReferenceIdeal_pre_scales_positive := by
  intro m g m' g' hp ha
  refine ⟨fun c => kend m c Cert.KernelIdeal.main_v21, fun c => kend m c Cert.KernelIdeal.main_v22, fun c => kend m c Cert.KernelIdeal.main_v23, ?_, ?_⟩
  · refine (θ_run Cert.KernelIdeal.defs _ _).mono (fun r hr c => ?_) (θ_run_and (Cert.KernelIdeal.Hand.run_quiescent (F := Ideal) m g) (Cert.KernelIdeal.Hand.frame (F := Ideal) m g))
    exact ⟨(hr.1.1 c).2 Cert.KernelIdeal.main_v21 (Pipeline.mem_restRefs_of Cert.KernelIdeal.main_v21 (by decide) (by decide)),
      (hr.1.1 c).2 Cert.KernelIdeal.main_v22 (Pipeline.mem_restRefs_of Cert.KernelIdeal.main_v22 (by decide) (by decide)),
      (hr.1.1 c).2 Cert.KernelIdeal.main_v23 (Pipeline.mem_restRefs_of Cert.KernelIdeal.main_v23 (by decide) (by decide)), hr.2.1 c⟩
  · refine (θ_run Cert.ReferenceIdeal.defs _ _).mono (fun r hr c => ?_) (θ_run_and (Cert.ReferenceIdeal.Gen.run_main (F := Ideal) m' g') (Cert.ReferenceIdeal.Gen.frame (F := Ideal) m' g'))
    exact ⟨((hr.1 c).2 Cert.ReferenceIdeal.main_v108 (Pipeline.mem_restRefs_of Cert.ReferenceIdeal.main_v108 (by decide) (by decide))).trans (same_dq m m' c hp (ha c)),
      ((hr.1 c).2 Cert.ReferenceIdeal.main_v110 (Pipeline.mem_restRefs_of Cert.ReferenceIdeal.main_v110 (by decide) (by decide))).trans (same_dk m m' c hp (ha c)),
      ((hr.1 c).2 Cert.ReferenceIdeal.main_v112 (Pipeline.mem_restRefs_of Cert.ReferenceIdeal.main_v112 (by decide) (by decide))).trans (same_dv m m' c hp (ha c)), hr.2.1 c⟩

end Cert.Claims

end
-- ==== Proof.KpCore.lean ====
/- The kernel's body as a program over one head and one block of keys: the twelve printed loops are
   instances of the one chunk program below, and its effect on the buffers is stated by pure
   functions of the buffers' contents. -/
module

public import proofs.«01_k».proof.Proof.Gen.Kernel.Frame
public import proofs.«01_k».proof.Proof.Gen.Kernel.Skeleton

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-! ## Loads and stores at contents -/

/-- The contents with a rectangle's elements replaced. -/
def upd {s : Shape} {α : Type} (X : s.Idx → α) (r : Rect s) (w : r.shape.Idx → α) : s.Idx → α :=
  Function.extend r.emb w X

theorem upd_emb {s : Shape} {α : Type} (X : s.Idx → α) (r : Rect s) (w : r.shape.Idx → α) (x : r.shape.Idx) :
    upd X r w (r.emb x) = w x := r.emb.injective.extend_apply w X x

theorem upd_of_not {s : Shape} {α : Type} (X : s.Idx → α) (r : Rect s) (w : r.shape.Idx → α) (y : s.Idx)
    (h : ¬ ∃ x, r.emb x = y) : upd X r w y = X y := Function.extend_apply' w X y h

theorem read_store {κ : Kind} {sp : Space} {s : Shape} {e : EltTy} (v : View sig κ sp s e) (f : v.ty.Contents (Elt F))
    (r : Rect s) (w : r.shape.Idx → Elt F e) :
    v.read (Elt F) ((v.slice r).write (Elt F) f w Finset.univ) = upd (v.read (Elt F) f) r w := by
  funext y
  by_cases h : ∃ x, r.emb x = y
  · obtain ⟨x, rfl⟩ := h
    rw [upd_emb]
    exact View.read_writes_cons_emb v f r w [] x
  · rw [upd_of_not _ _ _ _ h]
    refine View.read_writes_apply_of_forall_not_mem v f y [⟨r, w⟩] fun p hp => ?_
    rw [List.mem_singleton.mp hp]
    exact fun hy => h (r.exists_idx_of_mem hy)

theorem wp_load_owns {c : Thread nD τ} {cs : CoreSpace} {s : Shape} {e : EltTy} {α : Type} {m : Memref sig c.2.kind cs s e} {r : LoadRect s}
    {hl : m.view.LoadsAt r} {k : (r.shape.Idx → Elt F e) → Prog (TpuEff nD τ sig (Elt F) Λ₀ c.2) α}
    {q : PosShare TreeShare} (X : s.Idx → Elt F e) (Q : α → sProp 𝕄) :
    (owns c m q X : sProp 𝕄)
      ⊢ iprop((owns c m q X -∗ wp frame (wpE (defs₀ (F := F)) Variants.none c none) Set.univ (k (fun j => X (r.idx j))) Q)
        -∗ wp frame (wpE (defs₀ (F := F)) Variants.none c none) Set.univ (.op (.load m r hl) k) Q) := by
  unfold owns
  iintro ⟨%f, %hf, H⟩ HK
  iapply (wp_load (defs := defs₀ (F := F)) Variants.none c none Set.univ (hl := hl) (k := k) (Q := Q) (q := q) (S := m.view.set) (f := f) (View.setOn_subset_set m.view r.set)) $$ H
  iintro H
  rw [show (m.view.readAt (Elt F) r f) = fun j => X (r.idx j) from by subst hf; rfl]
  iapply HK
  iexists f
  isplitr
  · ipureintro; exact hf
  · iexact H

theorem wp_store_owns {c : Thread nD τ} {cs : CoreSpace} {s : Shape} {e : EltTy} {α : Type} {m : Memref sig c.2.kind cs s e} {r : Rect s}
    {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ c.2) α}
    (X : s.Idx → Elt F e) (Q : α → sProp 𝕄) :
    (owns c m fullShare X : sProp 𝕄)
      ⊢ iprop((owns c m fullShare (upd X r w) -∗ wp frame (wpE (defs₀ (F := F)) Variants.none c none) Set.univ (k ⟨⟩) Q)
        -∗ wp frame (wpE (defs₀ (F := F)) Variants.none c none) Set.univ (.op (.store m r w Finset.univ hx hm) k) Q) := by
  unfold owns
  iintro ⟨%f, %hf, H⟩ HK
  iapply (wp_store (defs := defs₀ (F := F)) Variants.none c none Set.univ (m := m) (r := r) (w := w) (hx := hx) (hm := hm) (k := k) (Q := Q) (Mk := Finset.univ) (S := m.view.set) (f := f) (m.view.set_slice_subset r)) $$ H
  iintro H
  iapply HK
  iexists ((m.access r).write (Elt F) f w Finset.univ)
  isplitr
  · ipureintro; rw [← hf]; exact read_store m.view f r w
  · iexact H

end Cert.Kernel.Hand
end
-- ==== Proof.KpProg.lean ====
/- One trip of a loop over the query heads, against one chunk of keys, as a program and as a function of the buffers' contents: the twelve printed loops are instances of it. -/
module

public import proofs.«01_k».proof.Proof.KpCore

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-- The memrefs the kernel is called on, each a whole buffer. -/
structure Args where
  a4 : Memref sig .tc .smem S5 .i32
  h4 : a4.IsWhole
  a5 : Memref sig .tc .smem S840 .f32
  h5 : a5.IsWhole
  a6 : Memref sig .tc .smem S120 .f32
  h6 : a6.IsWhole
  a7 : Memref sig .tc .smem S120 .f32
  h7 : a7.IsWhole
  a8 : Memref sig .tc .smem S120 .f32
  h8 : a8.IsWhole
  a9 : Memref sig .tc .vmem S1x1x1x28x256x128 .fp8e4m3
  h9 : a9.IsWhole
  a10 : Memref sig .tc .vmem S1x1x1x28x256x128 .bf16
  h10 : a10.IsWhole
  a11 : Memref sig .tc .vmem S1x1x1x28x256 .f32
  h11 : a11.IsWhole
  a12 : Memref sig .tc .vmem S1x1x1x28x256 .f32
  h12 : a12.IsWhole
  a13 : Memref sig .tc .vmem S1x2x1x4x1280x128 .fp8e4m3
  h13 : a13.IsWhole
  a14 : Memref sig .tc .vmem S1x2x1x4x1280x128 .fp8e4m3
  h14 : a14.IsWhole
  a15 : Memref sig .tc .vmem S1x1x1x28x256x128 .f32
  h15 : a15.IsWhole
  a16 : Memref sig .tc .vmem S1x2x1x4x1280x128 .f32
  h16 : a16.IsWhole
  a17 : Memref sig .tc .vmem S1x2x1x4x1280x128 .f32
  h17 : a17.IsWhole
  a18 : Memref sig .tc .vmem S2x4x1280x128 .bf16
  h18 : a18.IsWhole
  a19 : Memref sig .tc .vmem S2x4x128x1280 .bf16
  h19 : a19.IsWhole
  a20 : Memref sig .tc .vmem S2x4x128x1280 .f32
  h20 : a20.IsWhole
  a21 : Memref sig .tc .vmem S2x4x128x1280 .f32
  h21 : a21.IsWhole

/-- What the input buffers hold. -/
structure Ins (F : FTy → Type) where
  x4 : S5.Idx → Elt F .i32
  x5 : S840.Idx → Elt F .f32
  x6 : S120.Idx → Elt F .f32
  x7 : S120.Idx → Elt F .f32
  x8 : S120.Idx → Elt F .f32
  x9 : S1x1x1x28x256x128.Idx → Elt F .fp8e4m3
  x10 : S1x1x1x28x256x128.Idx → Elt F .bf16
  x11 : S1x1x1x28x256.Idx → Elt F .f32
  x12 : S1x1x1x28x256.Idx → Elt F .f32
  x13 : S1x2x1x4x1280x128.Idx → Elt F .fp8e4m3
  x14 : S1x2x1x4x1280x128.Idx → Elt F .fp8e4m3

/-- What the output and scratch buffers hold. -/
structure St (F : FTy → Type) where
  x15 : S1x1x1x28x256x128.Idx → Elt F .f32
  x16 : S1x2x1x4x1280x128.Idx → Elt F .f32
  x17 : S1x2x1x4x1280x128.Idx → Elt F .f32
  x18 : S2x4x1280x128.Idx → Elt F .bf16
  x19 : S2x4x128x1280.Idx → Elt F .bf16
  x20 : S2x4x128x1280.Idx → Elt F .f32
  x21 : S2x4x128x1280.Idx → Elt F .f32

/-- Every buffer, owned at its contents. -/
def Own (c : Dev nD) (A : Args) (I : Ins F) (S : St F) : sProp 𝕄 :=
  iprop(owns (c : Thread nD τ) A.a4 fullShare I.x4 ∗ owns (c : Thread nD τ) A.a5 fullShare I.x5 ∗ owns (c : Thread nD τ) A.a6 fullShare I.x6 ∗ owns (c : Thread nD τ) A.a7 fullShare I.x7 ∗ owns (c : Thread nD τ) A.a8 fullShare I.x8 ∗ owns (c : Thread nD τ) A.a9 fullShare I.x9 ∗ owns (c : Thread nD τ) A.a10 fullShare I.x10 ∗ owns (c : Thread nD τ) A.a11 fullShare I.x11 ∗ owns (c : Thread nD τ) A.a12 fullShare I.x12 ∗ owns (c : Thread nD τ) A.a13 fullShare I.x13 ∗ owns (c : Thread nD τ) A.a14 fullShare I.x14 ∗ owns (c : Thread nD τ) A.a15 fullShare S.x15 ∗ owns (c : Thread nD τ) A.a16 fullShare S.x16 ∗ owns (c : Thread nD τ) A.a17 fullShare S.x17 ∗ owns (c : Thread nD τ) A.a18 fullShare S.x18 ∗ owns (c : Thread nD τ) A.a19 fullShare S.x19 ∗ owns (c : Thread nD τ) A.a20 fullShare S.x20 ∗ owns (c : Thread nD τ) A.a21 fullShare S.x21)

/-! ## Rectangles -/

theorem inbQ (h : ℕ) (hh : h < 28) : ∀ a, (![0, 0, 0, h, 0, 0] : Fin 6 → ℕ) a + S1x1x1x1x256x128.size a ≤ S1x1x1x28x256x128.size a := by
  intro a; fin_cases a <;> simp [Shape.size] <;> omega
theorem inbL (h : ℕ) (hh : h < 28) : ∀ a, (![0, 0, 0, h, 0] : Fin 5 → ℕ) a + S1x1x1x1x256.size a ≤ S1x1x1x28x256.size a := by
  intro a; fin_cases a <;> simp [Shape.size] <;> omega
theorem inbK (jk n kb : ℕ) (hj : jk < 2) (hn : n < 4) (hk : kb < 5) :
    ∀ a, (![0, jk, 0, n, 256 * kb, 0] : Fin 6 → ℕ) a + S1x1x1x1x256x128.size a ≤ S1x2x1x4x1280x128.size a := by
  intro a; fin_cases a <;> simp [Shape.size] <;> omega
theorem inbV (jk n kb : ℕ) (hj : jk < 2) (hn : n < 4) (hk : kb < 5) :
    ∀ a, (![jk, n, 256 * kb, 0] : Fin 4 → ℕ) a + S1x1x256x128.size a ≤ S2x4x1280x128.size a := by
  intro a; fin_cases a <;> simp [Shape.size] <;> omega
theorem inbT (jk n kb : ℕ) (hj : jk < 2) (hn : n < 4) (hk : kb < 5) :
    ∀ a, (![jk, n, 0, 256 * kb] : Fin 4 → ℕ) a + S1x1x128x256.size a ≤ S2x4x128x1280.size a := by
  intro a; fin_cases a <;> simp [Shape.size] <;> omega

/-- One query head's rows. -/
abbrev rQ (h : ℕ) (hh : h < 28) : Rect S1x1x1x28x256x128 := Rect.unit (s := S1x1x1x28x256x128) ![0, 0, 0, h, 0, 0] S1x1x1x1x256x128.size (inbQ h hh)
abbrev rL (h : ℕ) (hh : h < 28) : Rect S1x1x1x28x256 := Rect.unit (s := S1x1x1x28x256) ![0, 0, 0, h, 0] S1x1x1x1x256.size (inbL h hh)
/-- One block of 256 keys of one key head: in the keys, the values, and their transposes. -/
abbrev rK (jk n kb : ℕ) (hj : jk < 2) (hn : n < 4) (hk : kb < 5) : Rect S1x2x1x4x1280x128 :=
  Rect.unit (s := S1x2x1x4x1280x128) ![0, jk, 0, n, 256 * kb, 0] S1x1x1x1x256x128.size (inbK jk n kb hj hn hk)
abbrev rV (jk n kb : ℕ) (hj : jk < 2) (hn : n < 4) (hk : kb < 5) : Rect S2x4x1280x128 :=
  Rect.unit (s := S2x4x1280x128) ![jk, n, 256 * kb, 0] S1x1x256x128.size (inbV jk n kb hj hn hk)
abbrev rT (jk n kb : ℕ) (hj : jk < 2) (hn : n < 4) (hk : kb < 5) : Rect S2x4x128x1280 :=
  Rect.unit (s := S2x4x128x1280) ![jk, n, 0, 256 * kb] S1x1x128x256.size (inbT jk n kb hj hn hk)

/-- What a load through a rectangle reads. -/
abbrev ld {s : Shape} {α : Type} (X : s.Idx → α) (r : Rect s) : r.shape.Idx → α := fun j => X (r.toLoadRect.idx j)
/-- What a load of one word reads. -/
abbrev ld1 {s : Shape} {α : Type} (X : s.Idx → α) (r : Rect s) (h1 : r.shape.numel = 1) : α :=
  X (r.toLoadRect.idx (Shape.Idx.first (h1.symm ▸ Nat.one_pos)))

/-! ## What one head and one block compute -/

/-- What one trip computes once, before its blocks. -/
structure Head (F : FTy → Type) where
  q : FVec F S256x128 .fp8e4m3
  d : FVec F S256x128 .bf16
  lse : FVec F S256x256 .f32
  dlt : FVec F S256x256 .f32
  c1 : F .f32
  qt : FVec F S128x256 .bf16
  dt : FVec F S128x256 .bf16

/-- One block's weights: below the diagonal all of them, on it those at or left of the row. -/
def bP (m : Bool) (H : Head F) (k : Vec F S1x1x1x1x256x128 .fp8e4m3) : FVec F S256x256 .f32 :=
  match m with
  | true => k0_pay67 H.lse H.c1 (k0_pay66 H.q k)
  | false => k0_pay80 H.lse H.c1 (k0_pay66 H.q k)
/-- One block's gradient of the scores. -/
def bDS (m : Bool) (H : Head F) (k : Vec F S1x1x1x1x256x128 .fp8e4m3) (v : Vec F S1x1x256x128 .bf16) : FVec F S256x256 .bf16 :=
  truncf .bf16 (mulf (bP m H k) (subf (matmul dot_S256x128_S256x128_S256x256_1_1_0_0_n_n none H.d (shapeCast S256x128 v shapeCasts_S1x1x256x128_S256x128) (constant S256x256 .f32 0x00000000#32)) H.dlt)) bitsLt_bf16_f32
/-- The two accumulators' new blocks. -/
def bDV (m : Bool) (H : Head F) (k : Vec F S1x1x1x1x256x128 .fp8e4m3) (old : Vec F S1x1x128x256 .f32) : FVec F S1x1x128x256 .f32 :=
  shapeCast S1x1x128x256 (addf (shapeCast S128x256 old shapeCasts_S1x1x128x256_S128x256) (matmul dot_S128x256_S256x256_S128x256_1_0_0_1_n_n none H.dt (truncf .bf16 (bP m H k) bitsLt_bf16_f32) (constant S128x256 .f32 0x00000000#32))) shapeCasts_S128x256_S1x1x128x256
def bDK (m : Bool) (H : Head F) (k : Vec F S1x1x1x1x256x128 .fp8e4m3) (v : Vec F S1x1x256x128 .bf16) (old : Vec F S1x1x128x256 .f32) : FVec F S1x1x128x256 .f32 :=
  shapeCast S1x1x128x256 (addf (shapeCast S128x256 old shapeCasts_S1x1x128x256_S128x256) (matmul dot_S128x256_S256x256_S128x256_1_0_0_1_n_n none H.qt (bDS m H k v) (constant S128x256 .f32 0x00000000#32))) shapeCasts_S128x256_S1x1x128x256
/-- The block's share of the queries' gradient. -/
def bDQ (m : Bool) (H : Head F) (k : Vec F S1x1x1x1x256x128 .fp8e4m3) (v : Vec F S1x1x256x128 .bf16) (kt : Vec F S1x1x128x256 .bf16) : FVec F S128x256 .f32 :=
  matmul dot_S128x256_S256x256_S128x256_1_1_0_0_n_n none (shapeCast S128x256 kt shapeCasts_S1x1x128x256_S128x256) (bDS m H k v) (constant S128x256 .f32 0x00000000#32)
/-- The queries' gradient with a trip's sum added. -/
def tDQ (acc : FVec F S128x256 .f32) (old : Vec F S1x1x1x1x256x128 .f32) : FVec F S1x1x1x1x256x128 .f32 :=
  shapeCast S1x1x1x1x256x128 (addf (shapeCast S256x128 old shapeCasts_S1x1x1x1x256x128_S256x128) (transpose S256x128 [1, 0] (mulf acc (broadcast S128x256 (Scalar.ofBits .f32 0x3DB504F3#32 : F .f32))) transposes_S128x256_p1_0_S256x128)) shapeCasts_S256x128_S1x1x1x1x256x128

/-! ## The state after a block, a chunk -/

def blkDQ (I : Ins F) (S : St F) (H : Head F) (jk n kb : ℕ) (hj : jk < 2) (hn : n < 4) (hk : kb < 5) (m : Bool) : FVec F S128x256 .f32 :=
  bDQ m H (ld I.x13 (rK jk n kb hj hn hk)) (ld S.x18 (rV jk n kb hj hn hk)) (ld S.x19 (rT jk n kb hj hn hk))
def blkSt (I : Ins F) (S : St F) (H : Head F) (jk n kb : ℕ) (hj : jk < 2) (hn : n < 4) (hk : kb < 5) (m : Bool) : St F :=
  { S with
    x21 := upd S.x21 (rT jk n kb hj hn hk) (bDV m H (ld I.x13 (rK jk n kb hj hn hk)) (ld S.x21 (rT jk n kb hj hn hk)))
    x20 := upd S.x20 (rT jk n kb hj hn hk) (bDK m H (ld I.x13 (rK jk n kb hj hn hk)) (ld S.x18 (rV jk n kb hj hn hk)) (ld S.x20 (rT jk n kb hj hn hk))) }

/-- The later blocks of a chunk: each block's number, and whether it is on the diagonal. -/
def moreDQ (I : Ins F) (H : Head F) (jk n : ℕ) (hj : jk < 2) (hn : n < 4) : List (Fin 5 × Bool) → St F → FVec F S128x256 .f32 → FVec F S128x256 .f32
  | [], _, acc => acc
  | b :: L, S, acc => moreDQ I H jk n hj hn L (blkSt I S H jk n b.1.val hj hn b.1.isLt b.2) (addf acc (blkDQ I S H jk n b.1.val hj hn b.1.isLt b.2))
def moreSt (I : Ins F) (H : Head F) (jk n : ℕ) (hj : jk < 2) (hn : n < 4) : List (Fin 5 × Bool) → St F → St F
  | [], S => S
  | b :: L, S => moreSt I H jk n hj hn L (blkSt I S H jk n b.1.val hj hn b.1.isLt b.2)

/-- The first part of a trip: the head's rows and scales. -/
def headOf (I : Ins F) (h : ℕ) (hh : h < 28) (oQ oKV : Fin 1 → ℕ) (hQ : ∀ a, oQ a + S1.size a ≤ S840.size a) (hKV : ∀ a, oKV a + S1.size a ≤ S120.size a) : Head F :=
  let q := k0_pay59 (ld I.x9 (rQ h hh))
  let d := k0_pay60 (ld I.x10 (rQ h hh))
  let s := ld1 I.x5 (Rect.unit (s := S840) oQ S1.size hQ) numel1_S1
  { q := q, d := d
    lse := k0_pay61 (ld I.x11 (rL h hh)) (ld1 I.x8 (Rect.unit (s := S120) oKV S1.size hKV) numel1_S1)
    dlt := k0_pay62 (ld I.x12 (rL h hh)) (ld1 I.x7 (Rect.unit (s := S120) oKV S1.size hKV) numel1_S1)
    c1 := k0_pay63 s (ld1 I.x6 (Rect.unit (s := S120) oKV S1.size hKV) numel1_S1)
    qt := k0_pay64 q s
    dt := k0_pay65 d }

/-- A whole trip. -/
def tripSt (I : Ins F) (S : St F) (h n : ℕ) (hh : h < 28) (hn : n < 4) (oQ oKV : Fin 1 → ℕ) (hQ : ∀ a, oQ a + S1.size a ≤ S840.size a)
    (hKV : ∀ a, oKV a + S1.size a ≤ S120.size a) (jk : ℕ) (hj : jk < 2) (b : Fin 5 × Bool) (L : List (Fin 5 × Bool)) : St F :=
  let H := headOf I h hh oQ oKV hQ hKV
  let S1 := blkSt I S H jk n b.1.val hj hn b.1.isLt b.2
  let S2 := moreSt I H jk n hj hn L S1
  { S2 with x15 := upd S2.x15 (rQ h hh) (tDQ (moreDQ I H jk n hj hn L S1 (blkDQ I S H jk n b.1.val hj hn b.1.isLt b.2)) (ld S2.x15 (rQ h hh))) }

/-! ## The programs -/

/-- A program of the kernel's body. -/
abbrev Pg (F : FTy → Type) (α : Type) := Prog (TpuEff nD τ sig (Elt F) Λ₀ .tc) α

def blk (A : Args) (H : Head F) (jk n kb : ℕ) (hj : jk < 2) (hn : n < 4) (hk : kb < 5) (m : Bool) : Pg F (FVec F S128x256 .f32) := do
  let k : Vec F S1x1x1x1x256x128 .fp8e4m3 ← Prog.lift (.load A.a13 (rK jk n kb hj hn hk).toLoadRect (View.loadsAt_vmem h_S1x1x1x1x256x128))
  let v : Vec F S1x1x256x128 .bf16 ← Prog.lift (.load A.a18 (rV jk n kb hj hn hk).toLoadRect (View.loadsAt_vmem h_S1x1x256x128))
  let u : Vec F S1x1x128x256 .f32 ← Prog.lift (.load A.a21 (rT jk n kb hj hn hk).toLoadRect (View.loadsAt_vmem h_S1x1x128x256))
  let _u' : Vec F S1x1x128x256 .f32 ← Prog.lift (.load A.a21 (rT jk n kb hj hn hk).toLoadRect (View.loadsAt_vmem h_S1x1x128x256))
  Prog.lift (.store A.a21 (rT jk n kb hj hn hk) (bDV m H k u) Finset.univ (View.stores_vmem_bits_univ h_S1x1x128x256 rfl) (.inl rfl))
  let w : Vec F S1x1x128x256 .f32 ← Prog.lift (.load A.a20 (rT jk n kb hj hn hk).toLoadRect (View.loadsAt_vmem h_S1x1x128x256))
  let _w' : Vec F S1x1x128x256 .f32 ← Prog.lift (.load A.a20 (rT jk n kb hj hn hk).toLoadRect (View.loadsAt_vmem h_S1x1x128x256))
  Prog.lift (.store A.a20 (rT jk n kb hj hn hk) (bDK m H k v w) Finset.univ (View.stores_vmem_bits_univ h_S1x1x128x256 rfl) (.inl rfl))
  let kt : Vec F S1x1x128x256 .bf16 ← Prog.lift (.load A.a19 (rT jk n kb hj hn hk).toLoadRect (View.loadsAt_vmem h_S1x1x128x256))
  pure (bDQ m H k v kt)

def more (A : Args) (H : Head F) (jk n : ℕ) (hj : jk < 2) (hn : n < 4) : List (Fin 5 × Bool) → FVec F S128x256 .f32 → Pg F (FVec F S128x256 .f32)
  | [], acc => pure acc
  | b :: L, acc => do
    let d ← blk A H jk n b.1.val hj hn b.1.isLt b.2
    more A H jk n hj hn L (addf acc d)

def trip (A : Args) (h n : ℕ) (hh : h < 28) (hn : n < 4) (oQ oKV : Fin 1 → ℕ) (hQ : ∀ a, oQ a + S1.size a ≤ S840.size a)
    (hKV : ∀ a, oKV a + S1.size a ≤ S120.size a) (jk : ℕ) (hj : jk < 2) (b : Fin 5 × Bool) (L : List (Fin 5 × Bool)) : Pg F Unit := do
  let v97 : Vec F S1x1x1x1x256x128 .fp8e4m3 ← Prog.lift (.load A.a9 (rQ h hh).toLoadRect (View.loadsAt_vmem h_S1x1x1x1x256x128))
  let v100 : Vec F S1x1x1x1x256x128 .bf16 ← Prog.lift (.load A.a10 (rQ h hh).toLoadRect (View.loadsAt_vmem h_S1x1x1x1x256x128))
  let v115 : Elt F .f32 ← smemLoad A.a5 (Rect.unit (s := S840) oQ S1.size hQ) numel1_S1 rfl
  let v117 : Vec F S1x1x1x1x256 .f32 ← Prog.lift (.load A.a11 (rL h hh).toLoadRect (View.loadsAt_vmem h_S1x1x1x1x256))
  let v122 : Elt F .f32 ← smemLoad A.a8 (Rect.unit (s := S120) oKV S1.size hKV) numel1_S1 rfl
  let v126 : Vec F S1x1x1x1x256 .f32 ← Prog.lift (.load A.a12 (rL h hh).toLoadRect (View.loadsAt_vmem h_S1x1x1x1x256))
  let v129 : Elt F .f32 ← smemLoad A.a7 (Rect.unit (s := S120) oKV S1.size hKV) numel1_S1 rfl
  let v142 : Elt F .f32 ← smemLoad A.a6 (Rect.unit (s := S120) oKV S1.size hKV) numel1_S1 rfl
  let H : Head F := { q := k0_pay59 v97, d := k0_pay60 v100, lse := k0_pay61 v117 v122, dlt := k0_pay62 v126 v129, c1 := k0_pay63 v115 v142,
                      qt := k0_pay64 (k0_pay59 v97) v115, dt := k0_pay65 (k0_pay60 v100) }
  let d ← blk A H jk n b.1.val hj hn b.1.isLt b.2
  let acc ← more A H jk n hj hn L d
  let o : Vec F S1x1x1x1x256x128 .f32 ← Prog.lift (.load A.a15 (rQ h hh).toLoadRect (View.loadsAt_vmem h_S1x1x1x1x256x128))
  let _o' : Vec F S1x1x1x1x256x128 .f32 ← Prog.lift (.load A.a15 (rQ h hh).toLoadRect (View.loadsAt_vmem h_S1x1x1x1x256x128))
  Prog.lift (.store A.a15 (rQ h hh) (tDQ acc o) Finset.univ (View.stores_vmem_bits_univ h_S1x1x1x1x256x128 rfl) (.inl rfl))
  pure ⟨⟩

/-! ## Their effect -/

variable (c : Dev nD)

theorem wp_pure' {α : Type} (a : α) (Q : α → sProp 𝕄) : Q a ⊢ (wp frame (wpE (defs₀ (F := F)) Variants.none (c : Thread nD τ) none) Set.univ) (pure a : Pg F α) Q := by
  rw [show (pure a : Pg F α) = .ret a from rfl, wp_ret]
  iintro H
  imodintro
  iexact H

theorem wp_blk (A : Args) (I : Ins F) (S : St F) (H : Head F) (jk n kb : ℕ) (hj : jk < 2) (hn : n < 4) (hk : kb < 5) (m : Bool)
    (Q : FVec F S128x256 .f32 → sProp 𝕄) :
    iprop(Own c A I S ∗ (Own c A I (blkSt I S H jk n kb hj hn hk m) -∗ Q (blkDQ I S H jk n kb hj hn hk m)))
      ⊢ (wp frame (wpE (defs₀ (F := F)) Variants.none (c : Thread nD τ) none) Set.univ) (blk A H jk n kb hj hn hk m) Q := by
  unfold blk
  simp only [Prog.lift, Prog.bind_op, Prog.bind_ret]
  unfold Own blkDQ
  iintro ⟨⟨H4, H5, H6, H7, H8, H9, H10, H11, H12, H13, H14, H15, H16, H17, H18, H19, H20, H21⟩, HK⟩
  iapply (wp_load_owns I.x13 _) $$ H13
  iintro H13
  iapply (wp_load_owns S.x18 _) $$ H18
  iintro H18
  iapply (wp_load_owns S.x21 _) $$ H21
  iintro H21
  iapply (wp_load_owns S.x21 _) $$ H21
  iintro H21
  iapply (wp_store_owns S.x21 _) $$ H21
  iintro H21
  iapply (wp_load_owns S.x20 _) $$ H20
  iintro H20
  iapply (wp_load_owns S.x20 _) $$ H20
  iintro H20
  iapply (wp_store_owns S.x20 _) $$ H20
  iintro H20
  iapply (wp_load_owns S.x19 _) $$ H19
  iintro H19
  iapply (wp_pure' c _ _)
  iapply HK
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem wp_more (A : Args) (I : Ins F) (H : Head F) (jk n : ℕ) (hj : jk < 2) (hn : n < 4) (L : List (Fin 5 × Bool)) :
    ∀ (S : St F) (acc : FVec F S128x256 .f32) (Q : FVec F S128x256 .f32 → sProp 𝕄),
    iprop(Own c A I S ∗ (Own c A I (moreSt I H jk n hj hn L S) -∗ Q (moreDQ I H jk n hj hn L S acc)))
      ⊢ (wp frame (wpE (defs₀ (F := F)) Variants.none (c : Thread nD τ) none) Set.univ) (more A H jk n hj hn L acc) Q := by
  induction L with
  | nil =>
    intro S acc Q
    rw [moreDQ, moreSt, show (more A H jk n hj hn [] acc : Pg F _) = pure acc from rfl]
    iintro ⟨HO, HK⟩
    iapply (wp_pure' c acc Q)
    iapply HK
    iexact HO
  | cons b L ih =>
    intro S acc Q
    rw [moreDQ, moreSt, show (more A H jk n hj hn (b :: L) acc : Pg F _) = (blk A H jk n b.1.val hj hn b.1.isLt b.2 >>= fun d => more A H jk n hj hn L (addf acc d)) from rfl, wp_bind]
    iintro ⟨HO, HK⟩
    iapply (wp_blk c A I S H jk n b.1.val hj hn b.1.isLt b.2 _)
    isplitl [HO]; · iexact HO
    iintro HO
    iapply (ih _ _ Q)
    isplitl [HO]; · iexact HO
    iexact HK

theorem wp_trip (A : Args) (I : Ins F) (S : St F) (h n : ℕ) (hh : h < 28) (hn : n < 4) (oQ oKV : Fin 1 → ℕ) (hQ : ∀ a, oQ a + S1.size a ≤ S840.size a)
    (hKV : ∀ a, oKV a + S1.size a ≤ S120.size a) (jk : ℕ) (hj : jk < 2) (b : Fin 5 × Bool) (L : List (Fin 5 × Bool)) :
    Own c A I S ⊢ (wp frame (wpE (defs₀ (F := F)) Variants.none (c : Thread nD τ) none) Set.univ) (trip A h n hh hn oQ oKV hQ hKV jk hj b L) (fun _ => Own c A I (tripSt I S h n hh hn oQ oKV hQ hKV jk hj b L)) := by
  unfold trip
  simp only [smemLoad, smemLoadElt, Prog.lift, Prog.bind_op, Prog.bind_ret]
  unfold Own
  iintro ⟨H4, H5, H6, H7, H8, H9, H10, H11, H12, H13, H14, H15, H16, H17, H18, H19, H20, H21⟩
  iapply (wp_load_owns I.x9 _) $$ H9
  iintro H9
  iapply (wp_load_owns I.x10 _) $$ H10
  iintro H10
  iapply (wp_load_owns I.x5 _) $$ H5
  iintro H5
  iapply (wp_load_owns I.x11 _) $$ H11
  iintro H11
  iapply (wp_load_owns I.x8 _) $$ H8
  iintro H8
  iapply (wp_load_owns I.x12 _) $$ H12
  iintro H12
  iapply (wp_load_owns I.x7 _) $$ H7
  iintro H7
  iapply (wp_load_owns I.x6 _) $$ H6
  iintro H6
  rw [wp_bind]
  iapply (wp_blk c A I S (headOf I h hh oQ oKV hQ hKV) jk n b.1.val hj hn b.1.isLt b.2 _)
  isplitl [H4 H5 H6 H7 H8 H9 H10 H11 H12 H13 H14 H15 H16 H17 H18 H19 H20 H21]
  · unfold Own
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  iintro HO
  rw [wp_bind]
  iapply (wp_more c A I (headOf I h hh oQ oKV hQ hKV) jk n hj hn L _ _ _)
  isplitl [HO]; · iexact HO
  unfold Own
  iintro ⟨H4, H5, H6, H7, H8, H9, H10, H11, H12, H13, H14, H15, H16, H17, H18, H19, H20, H21⟩
  iapply (wp_load_owns _ _) $$ H15
  iintro H15
  iapply (wp_load_owns _ _) $$ H15
  iintro H15
  iapply (wp_store_owns _ _) $$ H15
  iintro H15
  iapply (wp_pure' c _ _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

end Cert.Kernel.Hand
end
-- ==== Proof.KpTrips.lean ====
/- The twelve printed loop bodies are trips: the trip's head, key head and offsets are the trip number, its seventh and the numbers of the scales. -/
module

public import proofs.«01_k».proof.Proof.KpProg

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-- The head number and the key head number of a trip, as the kernel computes them. -/
def hW (k : ℕ) : ℕ := (Scalar.indexCast (Scf.iv 0#32 1#32 k)).toNat
def nWd (w : BitVec 32) : BitVec 32 :=
  Scalar.select (Scalar.andi (Scalar.cmpi .ne (Scalar.subi (Scalar.extui (Scalar.cmpi .sgt w 0#32)) (Scalar.extui (Scalar.cmpi .slt w 0#32))) (Scalar.subi (Scalar.extui (Scalar.cmpi .sgt 7#32 0#32)) (Scalar.extui (Scalar.cmpi .slt 7#32 0#32)))) (Scalar.cmpi .ne (Scalar.remsi w 7#32) 0#32)) (Scalar.subi (Scalar.divsi w 7#32) 1#32) (Scalar.divsi w 7#32)
def nW (k : ℕ) : ℕ := (Scalar.indexCast (nWd (Scf.iv 0#32 1#32 k))).toNat

theorem hW_eq : ∀ k : Fin 28, hW k.val = k.val := by decide
theorem nW_eq : ∀ k : Fin 28, nW k.val = k.val / 7 := by decide

theorem hW_lt (k : Fin 28) : hW k.val < 28 := (hW_eq k).trans_lt k.isLt
theorem nW_lt (k : Fin 28) : nW k.val < 4 := (nW_eq k).trans_lt (by omega)

/-- Where a key head's scales are, as the kernel computes it. -/
def kvWd (i : grid0.Coords) (jk : ℕ) (k : ℕ) : Fin 1 → ℕ :=
  ![(Scalar.indexCast (Scalar.addi (Scalar.muli (Scalar.addi (Scalar.muli (Scalar.addi (Scalar.muli (BitVec.ofNat 32 (i 0).val) 2#32) (BitVec.ofNat 32 jk)) 5#32) (BitVec.ofNat 32 (i 1).val)) 4#32) (nWd (Scf.iv 0#32 1#32 k)))).toNat]

/-- Where the query head's scale and the key head's scales are. -/
def qsOff (i : grid0.Coords) (h : ℕ) : Fin 1 → ℕ := ![280 * (i 0).val + 140 * (i 2).val + 28 * (i 1).val + h]
def kvOff (i : grid0.Coords) (jk n : ℕ) : Fin 1 → ℕ := ![40 * (i 0).val + 20 * jk + 4 * (i 1).val + n]

theorem qsOff_inb (i : grid0.Coords) (h : ℕ) (hh : h < 28) : ∀ a, qsOff i h a + S1.size a ≤ S840.size a := by
  have h0 : (i 0).val < 3 := (i 0).isLt
  have h1 : (i 1).val < 5 := (i 1).isLt
  have h2 : (i 2).val < 2 := (i 2).isLt
  intro a; fin_cases a; simp [qsOff, Shape.size]; omega
theorem kvOff_inb (i : grid0.Coords) (jk n : ℕ) (hj : jk < 2) (hn : n < 4) : ∀ a, kvOff i jk n a + S1.size a ≤ S120.size a := by
  have h0 : (i 0).val < 3 := (i 0).isLt
  have h1 : (i 1).val < 5 := (i 1).isLt
  intro a; fin_cases a; simp [kvOff, Shape.size]; omega

theorem kvWd_eq (i : grid0.Coords) (jk : Fin 2) (k : Fin 28) : kvWd i jk.val k.val = kvOff i jk.val (k.val / 7) := by
  have key : ∀ (x : Fin 3) (y : Fin 5) (jk : Fin 2) (k : Fin 28), (Scalar.indexCast (Scalar.addi (Scalar.muli (Scalar.addi (Scalar.muli (Scalar.addi (Scalar.muli (BitVec.ofNat 32 x.val) 2#32) (BitVec.ofNat 32 jk.val)) 5#32) (BitVec.ofNat 32 y.val)) 4#32) (nWd (Scf.iv 0#32 1#32 k)))).toNat = 40 * x.val + 20 * jk.val + 4 * y.val + k.val / 7 := by
    decide
  funext a; fin_cases a
  exact key (i 0) (i 1) jk k

/-- A trip at the kernel's own numbers. -/
def tripW (A : Args) (i : grid0.Coords) (jk : Fin 2) (b : Fin 5 × Bool) (L : List (Fin 5 × Bool)) (k : Fin 28) : Pg F Unit :=
  trip A (hW k.val) (nW k.val) (hW_lt k) (nW_lt k) (k0_off3 i k) (kvWd i jk.val k.val) (k0_off3_inb i k)
    (by rw [kvWd_eq]; exact kvOff_inb i _ _ jk.isLt (by omega)) jk.val jk.isLt b L

/-- A trip at the trip's number. -/
def tripN (A : Args) (i : grid0.Coords) (jk : Fin 2) (b : Fin 5 × Bool) (L : List (Fin 5 × Bool)) (k : Fin 28) : Pg F Unit :=
  trip A k.val (k.val / 7) k.isLt (by omega) (qsOff i k.val) (kvOff i jk.val (k.val / 7)) (qsOff_inb i _ k.isLt)
    (kvOff_inb i _ _ jk.isLt (by omega)) jk.val jk.isLt b L

theorem trip_congr (A : Args) {h h' n n' : ℕ} (hh : h < 28) (hn : n < 4) (hh' : h' < 28) (hn' : n' < 4) {oQ oQ' oKV oKV' : Fin 1 → ℕ} (hQ : ∀ a, oQ a + S1.size a ≤ S840.size a)
    (hKV : ∀ a, oKV a + S1.size a ≤ S120.size a) (hQ' : ∀ a, oQ' a + S1.size a ≤ S840.size a)
    (hKV' : ∀ a, oKV' a + S1.size a ≤ S120.size a) (jk : ℕ) (hj : jk < 2) (b : Fin 5 × Bool) (L : List (Fin 5 × Bool))
    (e1 : h = h') (e2 : n = n') (e3 : oQ = oQ') (e4 : oKV = oKV') :
    trip (F := F) A h n hh hn oQ oKV hQ hKV jk hj b L = trip A h' n' hh' hn' oQ' oKV' hQ' hKV' jk hj b L := by
  subst e1 e2 e3 e4; rfl

theorem tripW_eq (A : Args) (i : grid0.Coords) (jk : Fin 2) (b : Fin 5 × Bool) (L : List (Fin 5 × Bool)) (k : Fin 28) :
    tripW (F := F) A i jk b L k = tripN A i jk b L k :=
  trip_congr A _ _ _ _ _ _ _ _ _ _ _ _ (hW_eq k) (nW_eq k) (k0_off3_eq i k) (kvWd_eq i jk k)

theorem op_congr {α β : Type} {e e' : TpuEff nD τ sig (Elt F) Λ₀ .tc α} {k k' : α → Pg F β} (h : e = e') (hk : ∀ v, k v = k' v) : (Prog.op e k : Pg F β) = Prog.op e' k' := by
  subst h; exact congrArg _ (funext hk)

theorem t1_body (A : Args) (i : grid0.Coords) (arg0 arg1 arg2 : BitVec 32) (k : Fin k0_t1_loop.trips) (u : Unit) :
    k0_t1_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 k u = tripW A i 0 (0, false) [(1, false), (2, false), (3, false), (4, false)] k := by
  unfold k0_t1_body tripW trip
  simp only [k0_part13_eq_skeleton, k0_part13_skel, more, blk, smemLoad, smemLoadElt, Prog.lift, Prog.bind_op, Prog.bind_ret, Prog.pure_eq_ret]
  repeat (refine op_congr rfl ?_; intro _)
  rfl

theorem t2_body (A : Args) (i : grid0.Coords) (arg0 arg1 arg2 : BitVec 32) (k : Fin k0_t2_loop.trips) (u : Unit) :
    k0_t2_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 k u = tripW A i 0 (0, true) [] k := by
  unfold k0_t2_body tripW trip
  simp only [k0_part14_eq_skeleton, k0_part14_skel, k0_part15_eq_skeleton, k0_part15_skel, k0_part16_eq_skeleton, k0_part16_skel, more, blk, smemLoad, smemLoadElt, Prog.lift, Prog.bind_op, Prog.bind_ret, Prog.pure_eq_ret]
  repeat (refine op_congr rfl ?_; intro _)
  rfl

theorem t3_body (A : Args) (i : grid0.Coords) (arg0 arg1 arg2 : BitVec 32) (k : Fin k0_t3_loop.trips) (u : Unit) :
    k0_t3_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 k u = tripW A i 0 (0, false) [(1, true)] k := by
  unfold k0_t3_body tripW trip
  simp only [k0_part17_eq_skeleton, k0_part17_skel, k0_part18_eq_skeleton, k0_part18_skel, k0_part19_eq_skeleton, k0_part19_skel, k0_part20_eq_skeleton, k0_part20_skel, more, blk, smemLoad, smemLoadElt, Prog.lift, Prog.bind_op, Prog.bind_ret, Prog.pure_eq_ret]
  repeat (refine op_congr rfl ?_; intro _)
  rfl

theorem t4_body (A : Args) (i : grid0.Coords) (arg0 arg1 arg2 arg3 v5 v8 : BitVec 32) (v29 : BitVec 1) (c2_i32 : BitVec 32) (k : Fin k0_t4_loop.trips) (u : Unit) :
    k0_t4_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32 k u = tripW A i 0 (0, false) [(1, false), (2, true)] k := by
  unfold k0_t4_body tripW trip
  simp only [k0_part21_eq_skeleton, k0_part21_skel, k0_part22_eq_skeleton, k0_part22_skel, k0_part23_eq_skeleton, k0_part23_skel, k0_part24_eq_skeleton, k0_part24_skel, k0_part25_eq_skeleton, k0_part25_skel, more, blk, smemLoad, smemLoadElt, Prog.lift, Prog.bind_op, Prog.bind_ret, Prog.pure_eq_ret]
  repeat (refine op_congr rfl ?_; intro _)
  rfl

theorem t5_body (A : Args) (i : grid0.Coords) (arg0 arg1 arg2 arg3 v5 v8 : BitVec 32) (v29 : BitVec 1) (c2_i32 : BitVec 32) (k : Fin k0_t5_loop.trips) (u : Unit) :
    k0_t5_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32 k u = tripW A i 0 (0, false) [(1, false), (2, false), (3, true)] k := by
  unfold k0_t5_body tripW trip
  simp only [k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, more, blk, smemLoad, smemLoadElt, Prog.lift, Prog.bind_op, Prog.bind_ret, Prog.pure_eq_ret]
  repeat (refine op_congr rfl ?_; intro _)
  rfl

theorem t6_body (A : Args) (i : grid0.Coords) (arg0 arg1 arg2 arg3 v5 v8 : BitVec 32) (v29 : BitVec 1) (c2_i32 : BitVec 32) (k : Fin k0_t6_loop.trips) (u : Unit) :
    k0_t6_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32 k u = tripW A i 0 (0, false) [(1, false), (2, false), (3, false), (4, true)] k := by
  unfold k0_t6_body tripW trip
  simp only [k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, more, blk, smemLoad, smemLoadElt, Prog.lift, Prog.bind_op, Prog.bind_ret, Prog.pure_eq_ret]
  repeat (refine op_congr rfl ?_; intro _)
  rfl

theorem t7_body (A : Args) (i : grid0.Coords) (arg0 arg1 arg2 arg3 v5 v8 : BitVec 32) (v29 : BitVec 1) (c2_i32 : BitVec 32) (k : Fin k0_t7_loop.trips) (u : Unit) :
    k0_t7_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32 k u = tripW A i 1 (0, false) [(1, false), (2, false), (3, false), (4, false)] k := by
  unfold k0_t7_body tripW trip
  simp only [k0_part47_eq_skeleton, k0_part47_skel, more, blk, smemLoad, smemLoadElt, Prog.lift, Prog.bind_op, Prog.bind_ret, Prog.pure_eq_ret]
  repeat (refine op_congr rfl ?_; intro _)
  rfl

theorem t8_body (A : Args) (i : grid0.Coords) (arg0 arg1 arg2 arg3 v5 v8 : BitVec 32) (v29 : BitVec 1) (c2_i32 : BitVec 32) (k : Fin k0_t8_loop.trips) (u : Unit) :
    k0_t8_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32 k u = tripW A i 1 (0, true) [] k := by
  unfold k0_t8_body tripW trip
  simp only [k0_part48_eq_skeleton, k0_part48_skel, k0_part49_eq_skeleton, k0_part49_skel, k0_part50_eq_skeleton, k0_part50_skel, more, blk, smemLoad, smemLoadElt, Prog.lift, Prog.bind_op, Prog.bind_ret, Prog.pure_eq_ret]
  repeat (refine op_congr rfl ?_; intro _)
  rfl

theorem t9_body (A : Args) (i : grid0.Coords) (arg0 arg1 arg2 arg3 v5 v8 : BitVec 32) (v29 : BitVec 1) (c2_i32 : BitVec 32) (k : Fin k0_t9_loop.trips) (u : Unit) :
    k0_t9_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32 k u = tripW A i 1 (0, false) [(1, true)] k := by
  unfold k0_t9_body tripW trip
  simp only [k0_part51_eq_skeleton, k0_part51_skel, k0_part52_eq_skeleton, k0_part52_skel, k0_part53_eq_skeleton, k0_part53_skel, k0_part54_eq_skeleton, k0_part54_skel, more, blk, smemLoad, smemLoadElt, Prog.lift, Prog.bind_op, Prog.bind_ret, Prog.pure_eq_ret]
  repeat (refine op_congr rfl ?_; intro _)
  rfl

theorem t10_body (A : Args) (i : grid0.Coords) (arg0 arg1 arg2 arg3 v5 v8 : BitVec 32) (v29 : BitVec 1) (c2_i32 : BitVec 32) (k : Fin k0_t10_loop.trips) (u : Unit) :
    k0_t10_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32 k u = tripW A i 1 (0, false) [(1, false), (2, true)] k := by
  unfold k0_t10_body tripW trip
  simp only [k0_part55_eq_skeleton, k0_part55_skel, k0_part56_eq_skeleton, k0_part56_skel, k0_part57_eq_skeleton, k0_part57_skel, k0_part58_eq_skeleton, k0_part58_skel, k0_part59_eq_skeleton, k0_part59_skel, more, blk, smemLoad, smemLoadElt, Prog.lift, Prog.bind_op, Prog.bind_ret, Prog.pure_eq_ret]
  repeat (refine op_congr rfl ?_; intro _)
  rfl

theorem t11_body (A : Args) (i : grid0.Coords) (arg0 arg1 arg2 : BitVec 32) (k : Fin k0_t11_loop.trips) (u : Unit) :
    k0_t11_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 k u = tripW A i 1 (0, false) [(1, false), (2, false), (3, true)] k := by
  unfold k0_t11_body tripW trip
  simp only [k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, more, blk, smemLoad, smemLoadElt, Prog.lift, Prog.bind_op, Prog.bind_ret, Prog.pure_eq_ret]
  repeat (refine op_congr rfl ?_; intro _)
  rfl

theorem t12_body (A : Args) (i : grid0.Coords) (arg0 arg1 arg2 : BitVec 32) (k : Fin k0_t12_loop.trips) (u : Unit) :
    k0_t12_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 k u = tripW A i 1 (0, false) [(1, false), (2, false), (3, false), (4, true)] k := by
  unfold k0_t12_body tripW trip
  simp only [k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, more, blk, smemLoad, smemLoadElt, Prog.lift, Prog.bind_op, Prog.bind_ret, Prog.pure_eq_ret]
  repeat (refine op_congr rfl ?_; intro _)
  rfl

end Cert.Kernel.Hand
end
-- ==== Proof.KpBody.lean ====
/- The kernel's body as one program: the first point of a ring step fills the scratch, each point clears its rows and runs the trips its conditions select, the last point writes the keys' and values' gradients. -/
module

public import proofs.«01_k».proof.Proof.KpTrips

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-- The 28 trips of one loop. -/
def loopN (A : Args) (i : grid0.Coords) (jk : Fin 2) (b : Fin 5 × Bool) (L : List (Fin 5 × Bool)) : Pg F Unit :=
  Scf.Loop.for k0_t1_loop k0_t1_ok ⟨⟩ (fun k _ => tripN A i jk b L k)

theorem t1_loop (A : Args) (i : grid0.Coords) (arg0 arg1 arg2 : BitVec 32) :
    Scf.Loop.for k0_t1_loop k0_t1_ok ⟨⟩ (k0_t1_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2) = loopN A i 0 (0, false) [(1, false), (2, false), (3, false), (4, false)] :=
  congrArg (Scf.Loop.for k0_t1_loop k0_t1_ok ⟨⟩) (funext fun k => funext fun u => (t1_body A i arg0 arg1 arg2 k u).trans (tripW_eq A i _ _ _ k))
theorem t2_loop (A : Args) (i : grid0.Coords) (arg0 arg1 arg2 : BitVec 32) :
    Scf.Loop.for k0_t2_loop k0_t2_ok ⟨⟩ (k0_t2_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2) = loopN A i 0 (0, true) [] :=
  congrArg (Scf.Loop.for k0_t2_loop k0_t2_ok ⟨⟩) (funext fun k => funext fun u => (t2_body A i arg0 arg1 arg2 k u).trans (tripW_eq A i _ _ _ k))
theorem t3_loop (A : Args) (i : grid0.Coords) (arg0 arg1 arg2 : BitVec 32) :
    Scf.Loop.for k0_t3_loop k0_t3_ok ⟨⟩ (k0_t3_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2) = loopN A i 0 (0, false) [(1, true)] :=
  congrArg (Scf.Loop.for k0_t3_loop k0_t3_ok ⟨⟩) (funext fun k => funext fun u => (t3_body A i arg0 arg1 arg2 k u).trans (tripW_eq A i _ _ _ k))
theorem t4_loop (A : Args) (i : grid0.Coords) (arg0 arg1 arg2 arg3 v5 v8 : BitVec 32) (v29 : BitVec 1) (c2_i32 : BitVec 32) :
    Scf.Loop.for k0_t4_loop k0_t4_ok ⟨⟩ (k0_t4_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32) = loopN A i 0 (0, false) [(1, false), (2, true)] :=
  congrArg (Scf.Loop.for k0_t4_loop k0_t4_ok ⟨⟩) (funext fun k => funext fun u => (t4_body A i arg0 arg1 arg2 arg3 v5 v8 v29 c2_i32 k u).trans (tripW_eq A i _ _ _ k))
theorem t5_loop (A : Args) (i : grid0.Coords) (arg0 arg1 arg2 arg3 v5 v8 : BitVec 32) (v29 : BitVec 1) (c2_i32 : BitVec 32) :
    Scf.Loop.for k0_t5_loop k0_t5_ok ⟨⟩ (k0_t5_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32) = loopN A i 0 (0, false) [(1, false), (2, false), (3, true)] :=
  congrArg (Scf.Loop.for k0_t5_loop k0_t5_ok ⟨⟩) (funext fun k => funext fun u => (t5_body A i arg0 arg1 arg2 arg3 v5 v8 v29 c2_i32 k u).trans (tripW_eq A i _ _ _ k))
theorem t6_loop (A : Args) (i : grid0.Coords) (arg0 arg1 arg2 arg3 v5 v8 : BitVec 32) (v29 : BitVec 1) (c2_i32 : BitVec 32) :
    Scf.Loop.for k0_t6_loop k0_t6_ok ⟨⟩ (k0_t6_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32) = loopN A i 0 (0, false) [(1, false), (2, false), (3, false), (4, true)] :=
  congrArg (Scf.Loop.for k0_t6_loop k0_t6_ok ⟨⟩) (funext fun k => funext fun u => (t6_body A i arg0 arg1 arg2 arg3 v5 v8 v29 c2_i32 k u).trans (tripW_eq A i _ _ _ k))
theorem t7_loop (A : Args) (i : grid0.Coords) (arg0 arg1 arg2 arg3 v5 v8 : BitVec 32) (v29 : BitVec 1) (c2_i32 : BitVec 32) :
    Scf.Loop.for k0_t7_loop k0_t7_ok ⟨⟩ (k0_t7_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32) = loopN A i 1 (0, false) [(1, false), (2, false), (3, false), (4, false)] :=
  congrArg (Scf.Loop.for k0_t7_loop k0_t7_ok ⟨⟩) (funext fun k => funext fun u => (t7_body A i arg0 arg1 arg2 arg3 v5 v8 v29 c2_i32 k u).trans (tripW_eq A i _ _ _ k))
theorem t8_loop (A : Args) (i : grid0.Coords) (arg0 arg1 arg2 arg3 v5 v8 : BitVec 32) (v29 : BitVec 1) (c2_i32 : BitVec 32) :
    Scf.Loop.for k0_t8_loop k0_t8_ok ⟨⟩ (k0_t8_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32) = loopN A i 1 (0, true) [] :=
  congrArg (Scf.Loop.for k0_t8_loop k0_t8_ok ⟨⟩) (funext fun k => funext fun u => (t8_body A i arg0 arg1 arg2 arg3 v5 v8 v29 c2_i32 k u).trans (tripW_eq A i _ _ _ k))
theorem t9_loop (A : Args) (i : grid0.Coords) (arg0 arg1 arg2 arg3 v5 v8 : BitVec 32) (v29 : BitVec 1) (c2_i32 : BitVec 32) :
    Scf.Loop.for k0_t9_loop k0_t9_ok ⟨⟩ (k0_t9_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32) = loopN A i 1 (0, false) [(1, true)] :=
  congrArg (Scf.Loop.for k0_t9_loop k0_t9_ok ⟨⟩) (funext fun k => funext fun u => (t9_body A i arg0 arg1 arg2 arg3 v5 v8 v29 c2_i32 k u).trans (tripW_eq A i _ _ _ k))
theorem t10_loop (A : Args) (i : grid0.Coords) (arg0 arg1 arg2 arg3 v5 v8 : BitVec 32) (v29 : BitVec 1) (c2_i32 : BitVec 32) :
    Scf.Loop.for k0_t10_loop k0_t10_ok ⟨⟩ (k0_t10_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2 arg3 v5 v8 v29 c2_i32) = loopN A i 1 (0, false) [(1, false), (2, true)] :=
  congrArg (Scf.Loop.for k0_t10_loop k0_t10_ok ⟨⟩) (funext fun k => funext fun u => (t10_body A i arg0 arg1 arg2 arg3 v5 v8 v29 c2_i32 k u).trans (tripW_eq A i _ _ _ k))
theorem t11_loop (A : Args) (i : grid0.Coords) (arg0 arg1 arg2 : BitVec 32) :
    Scf.Loop.for k0_t11_loop k0_t11_ok ⟨⟩ (k0_t11_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2) = loopN A i 1 (0, false) [(1, false), (2, false), (3, true)] :=
  congrArg (Scf.Loop.for k0_t11_loop k0_t11_ok ⟨⟩) (funext fun k => funext fun u => (t11_body A i arg0 arg1 arg2 k u).trans (tripW_eq A i _ _ _ k))
theorem t12_loop (A : Args) (i : grid0.Coords) (arg0 arg1 arg2 : BitVec 32) :
    Scf.Loop.for k0_t12_loop k0_t12_ok ⟨⟩ (k0_t12_body (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 arg2) = loopN A i 1 (0, false) [(1, false), (2, false), (3, false), (4, true)] :=
  congrArg (Scf.Loop.for k0_t12_loop k0_t12_ok ⟨⟩) (funext fun k => funext fun u => (t12_body A i arg0 arg1 arg2 k u).trans (tripW_eq A i _ _ _ k))

/-- A loop run under a condition. -/
def cl (A : Args) (i : grid0.Coords) (c : BitVec 1) (jk : Fin 2) (b : Fin 5 × Bool) (L : List (Fin 5 × Bool)) : Pg F Unit :=
  if c = 1#1 then loopN A i jk b L else pure ⟨⟩

theorem cl_bind {β : Type} (A : Args) (i : grid0.Coords) (c : BitVec 1) (jk : Fin 2) (b : Fin 5 × Bool) (L : List (Fin 5 × Bool)) (K : Pg F β) :
    (if c = 1#1 then (loopN A i jk b L >>= fun _ => K) else K) = (cl A i c jk b L >>= fun _ => K) := by
  unfold cl; split <;> rfl

/-! ## The first point's filling of the scratch -/

theorem inbI13 (jk n : ℕ) (hj : jk < 2) (hn : n < 4) : ∀ a, (![0, jk, 0, n, 0, 0] : Fin 6 → ℕ) a + S1x1x1x1x1280x128.size a ≤ S1x2x1x4x1280x128.size a := by
  intro a; fin_cases a <;> simp [Shape.size] <;> omega
theorem inbI18 (jk n : ℕ) (hj : jk < 2) (hn : n < 4) : ∀ a, (![jk, n, 0, 0] : Fin 4 → ℕ) a + S1x1x1280x128.size a ≤ S2x4x1280x128.size a := by
  intro a; fin_cases a <;> simp [Shape.size] <;> omega
theorem inbI19 (jk n : ℕ) (hj : jk < 2) (hn : n < 4) : ∀ a, (![jk, n, 0, 0] : Fin 4 → ℕ) a + S1x1x128x1280.size a ≤ S2x4x128x1280.size a := by
  intro a; fin_cases a <;> simp [Shape.size] <;> omega

/-- One key head's keys, and its place in the two scratch layouts. -/
abbrev rI13 (p : Fin 2 × Fin 4) : Rect S1x2x1x4x1280x128 := Rect.unit (s := S1x2x1x4x1280x128) ![0, p.1.val, 0, p.2.val, 0, 0] S1x1x1x1x1280x128.size (inbI13 _ _ p.1.isLt p.2.isLt)
abbrev rI18 (p : Fin 2 × Fin 4) : Rect S2x4x1280x128 := Rect.unit (s := S2x4x1280x128) ![p.1.val, p.2.val, 0, 0] S1x1x1280x128.size (inbI18 _ _ p.1.isLt p.2.isLt)
abbrev rI19 (p : Fin 2 × Fin 4) : Rect S2x4x128x1280 := Rect.unit (s := S2x4x128x1280) ![p.1.val, p.2.val, 0, 0] S1x1x128x1280.size (inbI19 _ _ p.1.isLt p.2.isLt)
abbrev rW20 : Rect S2x4x128x1280 := Rect.unit (s := S2x4x128x1280) ![0, 0, 0, 0] S2x4x128x1280.size inb_S2x4x128x1280_S2x4x128x1280_0_0_0_0
abbrev rW15 : Rect S1x1x1x28x256x128 := Rect.unit (s := S1x1x1x28x256x128) ![0, 0, 0, 0, 0, 0] S1x1x1x28x256x128.size inb_S1x1x1x28x256x128_S1x1x1x28x256x128_0_0_0_0_0_0

theorem packed18 : ∀ p : Fin 2 × Fin 4, (rI18 p).PackedRows (EltTy.packing .bf16) := by decide
theorem packed19 : ∀ p : Fin 2 × Fin 4, (rI19 p).PackedRows (EltTy.packing .bf16) := by decide

def initStep (A : Args) (p : Fin 2 × Fin 4) : Pg F Unit := do
  let v : Vec F S1x1x1x1x1280x128 .fp8e4m3 ← Prog.lift (.load A.a14 (rI13 p).toLoadRect (View.loadsAt_vmem h_S1x1x1x1x1280x128))
  let _ : Vec F S1x1x1280x128 .bf16 ← Prog.lift (.load A.a18 (rI18 p).toLoadRect (View.loadsAt_vmem h_S1x1x1280x128))
  Prog.lift (.store A.a18 (rI18 p) (k0_pay7 v) Finset.univ (View.stores_vmem h_S1x1x1280x128 (A.h18.storeExact_slice rfl _ (packed18 p)) (fun _ => rfl)) (.inl rfl))
  let k : Vec F S1x1x1x1x1280x128 .fp8e4m3 ← Prog.lift (.load A.a13 (rI13 p).toLoadRect (View.loadsAt_vmem h_S1x1x1x1x1280x128))
  let _ : Vec F S1x1x128x1280 .bf16 ← Prog.lift (.load A.a19 (rI19 p).toLoadRect (View.loadsAt_vmem h_S1x1x128x1280))
  Prog.lift (.store A.a19 (rI19 p) (k0_pay8 k) Finset.univ (View.stores_vmem h_S1x1x128x1280 (A.h19.storeExact_slice rfl _ (packed19 p)) (fun _ => rfl)) (.inl rfl))
  pure ⟨⟩
def initL (A : Args) : List (Fin 2 × Fin 4) → Pg F Unit
  | [] => pure ⟨⟩
  | p :: L => initStep A p >>= fun _ => initL A L
def heads : List (Fin 2 × Fin 4) := [(0, 0), (0, 1), (0, 2), (0, 3), (1, 0), (1, 1), (1, 2), (1, 3)]
def initP (A : Args) : Pg F Unit := do
  let _ : Vec F S2x4x128x1280 .f32 ← Prog.lift (.load A.a20 rW20.toLoadRect (View.loadsAt_vmem h_S2x4x128x1280))
  Prog.lift (.store A.a20 rW20 (k0_pay5 (F := F)) Finset.univ (View.stores_vmem_bits_univ h_S2x4x128x1280 rfl) (.inl rfl))
  let _ : Vec F S2x4x128x1280 .f32 ← Prog.lift (.load A.a21 rW20.toLoadRect (View.loadsAt_vmem h_S2x4x128x1280))
  Prog.lift (.store A.a21 rW20 (k0_pay6 (F := F)) Finset.univ (View.stores_vmem_bits_univ h_S2x4x128x1280 rfl) (.inl rfl))
  initL A heads
def initC (A : Args) (c : BitVec 1) : Pg F Unit := if c = 1#1 then initP A else pure ⟨⟩

def zeroP (A : Args) : Pg F Unit := do
  let _ : Vec F S1x1x1x28x256x128 .f32 ← Prog.lift (.load A.a15 rW15.toLoadRect (View.loadsAt_vmem h_S1x1x1x28x256x128))
  Prog.lift (.store A.a15 rW15 (k0_pay353 (F := F)) Finset.univ (View.stores_vmem_bits_univ h_S1x1x1x28x256x128 rfl) (.inl rfl))
  pure ⟨⟩

/-! ## The last point's results -/

def finStep (A : Args) (i : grid0.Coords) (h : k0_cond14 i = 1#1) (p : Fin 2 × Fin 4) : Pg F Unit := do
  let ks : Elt F .f32 ← smemLoad A.a6 (Rect.unit (s := S120) (k0_off170 i (BitVec.ofNat 32 p.1.val) (BitVec.ofNat 32 p.2.val)) S1.size (k0_off170_inb i h p.1 p.2)) numel1_S1 rfl
  let vs : Elt F .f32 ← smemLoad A.a7 (Rect.unit (s := S120) (k0_off170 i (BitVec.ofNat 32 p.1.val) (BitVec.ofNat 32 p.2.val)) S1.size (k0_off170_inb i h p.1 p.2)) numel1_S1 rfl
  let dk : Vec F S1x1x128x1280 .f32 ← Prog.lift (.load A.a20 (rI19 p).toLoadRect (View.loadsAt_vmem h_S1x1x128x1280))
  let _ : Vec F S1x1x1x1x1280x128 .f32 ← Prog.lift (.load A.a16 (rI13 p).toLoadRect (View.loadsAt_vmem h_S1x1x1x1x1280x128))
  Prog.lift (.store A.a16 (rI13 p) (k0_pay323 ks dk) Finset.univ (View.stores_vmem_bits_univ h_S1x1x1x1x1280x128 rfl) (.inl rfl))
  let dv : Vec F S1x1x128x1280 .f32 ← Prog.lift (.load A.a21 (rI19 p).toLoadRect (View.loadsAt_vmem h_S1x1x128x1280))
  let _ : Vec F S1x1x1x1x1280x128 .f32 ← Prog.lift (.load A.a17 (rI13 p).toLoadRect (View.loadsAt_vmem h_S1x1x1x1x1280x128))
  Prog.lift (.store A.a17 (rI13 p) (k0_pay324 ks vs dv) Finset.univ (View.stores_vmem_bits_univ h_S1x1x1x1x1280x128 rfl) (.inl rfl))
  pure ⟨⟩
def finL (A : Args) (i : grid0.Coords) (h : k0_cond14 i = 1#1) : List (Fin 2 × Fin 4) → Pg F Unit
  | [] => pure ⟨⟩
  | p :: L => finStep A i h p >>= fun _ => finL A i h L
def finC (A : Args) (i : grid0.Coords) : Pg F Unit := if h : k0_cond14 i = 1#1 then finL A i h heads else pure ⟨⟩

/-! ## The whole body -/

/-- The ring's block a point reads, the query chunk, and a condition as the kernel computes it. -/
def srcW (i : grid0.Coords) (v1 : BitVec 32) : BitVec 32 := Scalar.remsi (Scalar.addi (Scalar.subi (BitVec.ofNat 32 (i 0).val) (Scalar.remsi v1 3#32)) 6#32) 3#32
def chW (i : grid0.Coords) : BitVec 32 := Scalar.select (Scalar.cmpi .eq (BitVec.ofNat 32 (i 2).val) 0#32) (BitVec.ofNat 32 (i 0).val) (Scalar.subi 5#32 (BitVec.ofNat 32 (i 0).val))
def cN (e : BitVec 1) : BitVec 1 := Scalar.cmpi .ne (Scalar.extui e : BitVec 32) 0#32
def cFull (w : BitVec 32) (i : grid0.Coords) : BitVec 1 := cN (Scalar.cmpi .slt w (chW i))
def cDiag (w : BitVec 32) (i : grid0.Coords) (t : BitVec 32) : BitVec 1 := cN (Scalar.andi (Scalar.cmpi .eq w (chW i)) (Scalar.cmpi .eq (BitVec.ofNat 32 (i 3).val) t))
def cInit (i : grid0.Coords) : BitVec 1 := cN (Scalar.andi (Scalar.cmpi .eq (BitVec.ofNat 32 (i 2).val) 0#32) (Scalar.cmpi .eq (BitVec.ofNat 32 (i 3).val) 0#32))

def ringP (A : Args) (i : grid0.Coords) : Pg F PUnit := do
  let v1 : Elt F .i32 ← smemLoad A.a4 (Rect.unit (s := S5) (k0_off1 i) S1.size (k0_off1_inb i)) numel1_S1 rfl
  initC A (cInit i)
  zeroP A
  cl A i (cFull (srcW i v1) i) 0 (0, false) [(1, false), (2, false), (3, false), (4, false)]
  cl A i (cDiag (srcW i v1) i 0#32) 0 (0, true) []
  cl A i (cDiag (srcW i v1) i 1#32) 0 (0, false) [(1, true)]
  cl A i (cDiag (srcW i v1) i 2#32) 0 (0, false) [(1, false), (2, true)]
  cl A i (cDiag (srcW i v1) i 3#32) 0 (0, false) [(1, false), (2, false), (3, true)]
  cl A i (cDiag (srcW i v1) i 4#32) 0 (0, false) [(1, false), (2, false), (3, false), (4, true)]
  cl A i (cFull (Scalar.subi 5#32 (srcW i v1)) i) 1 (0, false) [(1, false), (2, false), (3, false), (4, false)]
  cl A i (cDiag (Scalar.subi 5#32 (srcW i v1)) i 0#32) 1 (0, true) []
  cl A i (cDiag (Scalar.subi 5#32 (srcW i v1)) i 1#32) 1 (0, false) [(1, true)]
  cl A i (cDiag (Scalar.subi 5#32 (srcW i v1)) i 2#32) 1 (0, false) [(1, false), (2, true)]
  cl A i (cDiag (Scalar.subi 5#32 (srcW i v1)) i 3#32) 1 (0, false) [(1, false), (2, false), (3, true)]
  cl A i (cDiag (Scalar.subi 5#32 (srcW i v1)) i 4#32) 1 (0, false) [(1, false), (2, false), (3, false), (4, true)]
  finC A i
  pure ⟨⟩

theorem initC_bind {β : Type} (A : Args) (c : BitVec 1) (K : Pg F β) :
    (if c = 1#1 then (initP A >>= fun _ => K) else K) = (initC A c >>= fun _ => K) := by
  unfold initC; split <;> rfl
theorem finC_bind {β : Type} (A : Args) (i : grid0.Coords) (K : Pg F β) :
    (if h : k0_cond14 i = 1#1 then (finL A i h heads >>= fun _ => K) else K) = (finC A i >>= fun _ => K) := by
  unfold finC; split <;> rfl

theorem initD_bind {β : Type} (A : Args) (c : BitVec 1) (K : Pg F β) :
    (if _h : c = 1#1 then (initP A >>= fun _ => K) else K) = (initC A c >>= fun _ => K) := by
  unfold initC; split <;> rfl
theorem finC_ret (A : Args) (i : grid0.Coords) :
    (if h : k0_cond14 i = 1#1 then finL (F := F) A i h heads else Prog.ret PUnit.unit) = (finC A i >>= fun _ => Prog.ret PUnit.unit) := by
  unfold finC; split
  · exact (Prog.bind_pure _).symm
  · rfl

theorem bind_congr' {α β : Type} {p p' : Pg F α} {k k' : α → Pg F β} (h : p = p') (hk : ∀ v, k v = k' v) : (p >>= k) = (p' >>= k') := by
  subst h; exact congrArg _ (funext hk)

theorem ite_congr' {α : Type} {c : Prop} [Decidable c] {a a' b b' : α} (h : a = a') (hb : b = b') : (if c then a else b) = if c then a' else b' := by
  rw [h, hb]

theorem fin_eq (A : Args) (i : grid0.Coords) (h : k0_cond14 i = 1#1) (arg0 arg1 : BitVec 32) :
    (do
      let v108 : FVec F S1x1x1x1x1280x128 .f32 ← k0_part74 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 h
      let v136 : FVec F S1280x128 .f32 ← k0_part75 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 h v108
      let ⟨v167, v168⟩ : Σ' (v167 : FVec F S1280x128 .f32), Vec F S1x1x1x1x1280x128 .f32 ← k0_part76 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 h v136
      let v198 : FVec F S1280x128 .f32 ← k0_part77 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 h v167 v168
      let v229 : FVec F S1280x128 .f32 ← k0_part78 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 h v198
      let v260 : FVec F S1280x128 .f32 ← k0_part79 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 h v229
      let v291 : FVec F S1280x128 .f32 ← k0_part80 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 h v260
      let v322 : FVec F S1280x128 .f32 ← k0_part81 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 arg0 arg1 h v291
      let v323 : Vec F S1x1x1x1x1280x128 .f32 ← Prog.lift (.load A.a17 (Rect.unit (s := S1x2x1x4x1280x128) ![0, 1, 0, 3, 0, 0] S1x1x1x1x1280x128.size inb_S1x2x1x4x1280x128_S1x1x1x1x1280x128_0_1_0_3_0_0).toLoadRect (View.loadsAt_vmem h_S1x1x1x1x1280x128))
      Prog.lift (.store A.a17 (Rect.unit (s := S1x2x1x4x1280x128) ![0, 1, 0, 3, 0, 0] S1x1x1x1x1280x128.size inb_S1x2x1x4x1280x128_S1x1x1x1x1280x128_0_1_0_3_0_0) (k0_pay4 v322) Finset.univ (View.stores_vmem_bits_univ h_S1x1x1x1x1280x128 rfl) (.inl rfl))
      pure ⟨⟩ : Pg F PUnit) = finL A i h heads := by
  simp only [heads, finL, finStep, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, smemLoad, smemLoadElt, Prog.lift, Prog.bind_op, Prog.bind_ret, Prog.pure_eq_ret]
  repeat (refine op_congr rfl ?_; intro _)
  rfl

theorem init_eq {β : Type} (A : Args) (i : grid0.Coords) (K : Pg F β) :
    (do
      k0_part1 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21
      let v124 : FVec F S128x1280 .bf16 ← k0_part2 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21
      let v147 : FVec F S1x1x1280x128 .bf16 ← k0_part3 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 v124
      k0_part4 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 v147
      let v194 : FVec F S128x1280 .bf16 ← k0_part5 i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21
      let v195 : Vec F S1x1x128x1280 .bf16 ← Prog.lift (.load A.a19 (Rect.unit (s := S2x4x128x1280) ![1, 3, 0, 0] S1x1x128x1280.size inb_S2x4x128x1280_S1x1x128x1280_1_3_0_0).toLoadRect (View.loadsAt_vmem h_S1x1x128x1280))
      Prog.lift (.store A.a19 (Rect.unit (s := S2x4x128x1280) ![1, 3, 0, 0] S1x1x128x1280.size inb_S2x4x128x1280_S1x1x128x1280_1_3_0_0) (k0_pay352 v194) Finset.univ (View.stores_vmem h_S1x1x128x1280 (A.h19.storeExact_slice rfl _ packedbf16_S2x4x128x1280_S1x1x128x1280_1_3_0_0) (fun _ => rfl)) (.inl rfl))
      K : Pg F β) = (initP A >>= fun _ => K) := by
  simp only [initP, heads, initL, initStep, k0_part1_eq_skeleton, k0_part1_skel, k0_part2_eq_skeleton, k0_part2_skel, k0_part3_eq_skeleton, k0_part3_skel, k0_part4_eq_skeleton, k0_part4_skel, k0_part5_eq_skeleton, k0_part5_skel, smemLoad, smemLoadElt, Prog.lift, Prog.bind_op, Prog.bind_ret, Prog.pure_eq_ret, Prog.bind_assoc]
  repeat (refine op_congr rfl ?_; intro _)
  rfl

set_option maxHeartbeats 1000000 in
theorem body_eq (A : Args) (i : grid0.Coords) :
    cc0_ring_bwd (F := F) i A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 = ringP A i := by
  have e := @fin_eq F _
  have e1 := @init_eq F _
  simp only [Prog.lift, Prog.bind_op, Prog.bind_ret, Prog.pure_eq_ret] at e e1
  rw [cc0_ring_bwd_eq_skeleton]
  unfold cc0_ring_bwd_skel
  rw [k0_part82_eq_skeleton, k0_part83_eq_skeleton]
  unfold k0_part82_skel k0_part83_skel ringP zeroP
  simp only [t1_loop, t2_loop, t3_loop, t4_loop, t5_loop, t6_loop, t7_loop, t8_loop, t9_loop, t10_loop, t11_loop, t12_loop, smemLoad, smemLoadElt, Prog.lift, Prog.bind_op, Prog.bind_ret, Prog.pure_eq_ret, Prog.bind_assoc, cl_bind, e, e1, initD_bind, finC_ret]
  rfl

end Cert.Kernel.Hand
end
-- ==== Proof.KpRun.lean ====
/- What one grid point leaves in the buffers, as a function of what it finds there. -/
module

public import proofs.«01_k».proof.Proof.KpBody

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-- The state after the first `k` trips of a loop. -/
def loopSt (I : Ins F) (i : grid0.Coords) (jk : Fin 2) (b : Fin 5 × Bool) (L : List (Fin 5 × Bool)) (S : St F) : ℕ → St F
  | 0 => S
  | k + 1 => if h : k < 28 then
      tripSt I (loopSt I i jk b L S k) k (k / 7) h (by omega) (qsOff i k) (kvOff i jk.val (k / 7)) (qsOff_inb i _ h) (kvOff_inb i _ _ jk.isLt (by omega)) jk.val jk.isLt b L
    else loopSt I i jk b L S k

def clSt (I : Ins F) (i : grid0.Coords) (c : BitVec 1) (jk : Fin 2) (b : Fin 5 × Bool) (L : List (Fin 5 × Bool)) (S : St F) : St F :=
  if c = 1#1 then loopSt I i jk b L S 28 else S

def initStepSt (I : Ins F) (p : Fin 2 × Fin 4) (S : St F) : St F :=
  { S with
    x18 := upd S.x18 (rI18 p) (k0_pay7 (ld I.x14 (rI13 p)))
    x19 := upd S.x19 (rI19 p) (k0_pay8 (ld I.x13 (rI13 p))) }
def initLSt (I : Ins F) : List (Fin 2 × Fin 4) → St F → St F
  | [], S => S
  | p :: L, S => initLSt I L (initStepSt I p S)
def initCSt (I : Ins F) (c : BitVec 1) (S : St F) : St F :=
  if c = 1#1 then initLSt I heads { S with x20 := upd S.x20 rW20 (k0_pay5 (F := F)), x21 := upd S.x21 rW20 (k0_pay6 (F := F)) } else S

def zeroSt (S : St F) : St F := { S with x15 := upd S.x15 rW15 (k0_pay353 (F := F)) }

theorem kvOffI_eq (i : grid0.Coords) (p : Fin 2 × Fin 4) : k0_off170 i (BitVec.ofNat 32 p.1.val) (BitVec.ofNat 32 p.2.val) = kvOff i p.1.val p.2.val := by
  have key : ∀ (x : Fin 3) (y : Fin 5) (jk : Fin 2) (k : Fin 4), (Scalar.indexCast (Scalar.addi (Scalar.muli (Scalar.addi (Scalar.muli (Scalar.addi (Scalar.muli (BitVec.ofNat 32 x.val) 2#32) (BitVec.ofNat 32 jk.val)) 5#32) (BitVec.ofNat 32 y.val)) 4#32) (BitVec.ofNat 32 k.val))).toNat = 40 * x.val + 20 * jk.val + 4 * y.val + k.val := by
    decide
  funext a; fin_cases a
  exact key (i 0) (i 1) p.1 p.2

/-- The word of a key head's scale. -/
def kvAt (X : S120.Idx → Elt F .f32) (i : grid0.Coords) (p : Fin 2 × Fin 4) : Elt F .f32 :=
  ld1 X (Rect.unit (s := S120) (k0_off170 i (BitVec.ofNat 32 p.1.val) (BitVec.ofNat 32 p.2.val)) S1.size (by rw [kvOffI_eq]; exact kvOff_inb i _ _ p.1.isLt p.2.isLt)) numel1_S1

def finStepSt (I : Ins F) (i : grid0.Coords) (p : Fin 2 × Fin 4) (S : St F) : St F :=
  { S with
    x16 := upd S.x16 (rI13 p) (k0_pay323 (kvAt I.x6 i p) (ld S.x20 (rI19 p)))
    x17 := upd S.x17 (rI13 p) (k0_pay324 (kvAt I.x6 i p) (kvAt I.x7 i p) (ld S.x21 (rI19 p))) }
def finLSt (I : Ins F) (i : grid0.Coords) : List (Fin 2 × Fin 4) → St F → St F
  | [], S => S
  | p :: L, S => finLSt I i L (finStepSt I i p S)
def finCSt (I : Ins F) (i : grid0.Coords) (S : St F) : St F := if k0_cond14 i = 1#1 then finLSt I i heads S else S

/-- The step word of the point's sequence. -/
def stepAt (I : Ins F) (i : grid0.Coords) : BitVec 32 := ld1 I.x4 (Rect.unit (s := S5) (k0_off1 i) S1.size (k0_off1_inb i)) numel1_S1

def trips0 (I : Ins F) (i : grid0.Coords) (w : BitVec 32) (S : St F) : St F :=
  clSt I i (cDiag w i 4#32) 0 (0, false) [(1, false), (2, false), (3, false), (4, true)] (clSt I i (cDiag w i 3#32) 0 (0, false) [(1, false), (2, false), (3, true)] (clSt I i (cDiag w i 2#32) 0 (0, false) [(1, false), (2, true)] (clSt I i (cDiag w i 1#32) 0 (0, false) [(1, true)] (clSt I i (cDiag w i 0#32) 0 (0, true) [] (clSt I i (cFull w i) 0 (0, false) [(1, false), (2, false), (3, false), (4, false)] (S))))))
def trips1 (I : Ins F) (i : grid0.Coords) (w : BitVec 32) (S : St F) : St F :=
  clSt I i (cDiag w i 4#32) 1 (0, false) [(1, false), (2, false), (3, false), (4, true)] (clSt I i (cDiag w i 3#32) 1 (0, false) [(1, false), (2, false), (3, true)] (clSt I i (cDiag w i 2#32) 1 (0, false) [(1, false), (2, true)] (clSt I i (cDiag w i 1#32) 1 (0, false) [(1, true)] (clSt I i (cDiag w i 0#32) 1 (0, true) [] (clSt I i (cFull w i) 1 (0, false) [(1, false), (2, false), (3, false), (4, false)] (S))))))

def ringSt (I : Ins F) (i : grid0.Coords) (S : St F) : St F :=
  finCSt I i (trips1 I i (Scalar.subi 5#32 (srcW i (stepAt I i))) (trips0 I i (srcW i (stepAt I i)) (zeroSt (initCSt I (cInit i) S))))

/-! ## Their triples -/

variable (c : Dev nD)

theorem wp_body (A : Args) (I : Ins F) (S : St F) (i : grid0.Coords) (jk : Fin 2) (b : Fin 5 × Bool) (L : List (Fin 5 × Bool)) (k : Fin 28) (_u : PUnit) :
    Own c A I (loopSt I i jk b L S k.val) ⊢ (wp frame (wpE (defs₀ (F := F)) Variants.none (c : Thread nD τ) none) Set.univ) (tripN A i jk b L k) (fun _ => Own c A I (loopSt I i jk b L S (k.val + 1))) := by
  have hk : k.val < 28 := k.isLt
  rw [show loopSt I i jk b L S (k.val + 1) = tripSt I (loopSt I i jk b L S k.val) k.val (k.val / 7) hk (by omega) (qsOff i k.val) (kvOff i jk.val (k.val / 7)) (qsOff_inb i _ hk) (kvOff_inb i _ _ jk.isLt (by omega)) jk.val jk.isLt b L from dif_pos hk]
  exact wp_trip c A I _ _ _ _ _ _ _ _ _ _ _ _ _

theorem wp_loopN (A : Args) (I : Ins F) (S : St F) (i : grid0.Coords) (jk : Fin 2) (b : Fin 5 × Bool) (L : List (Fin 5 × Bool)) (Q : Unit → sProp 𝕄) :
    iprop(Own c A I S ∗ (Own c A I (loopSt I i jk b L S 28) -∗ Q ⟨⟩)) ⊢ (wp frame (wpE (defs₀ (F := F)) Variants.none (c : Thread nD τ) none) Set.univ) (loopN A i jk b L) Q := by
  unfold loopN
  iintro ⟨HO, HK⟩
  iapply (Scf.wp_for frame (wpE (defs₀ (F := F)) Variants.none (c : Thread nD τ) none) Set.univ k0_t1_loop.lb k0_t1_loop.ub k0_t1_loop.st k0_t1_ok PUnit.unit (fun k _ => tripN A i jk b L k) (fun (k : ℕ) (_ : PUnit) => Own c A I (loopSt I i jk b L S k)) (wp_body c A I S i jk b L))
  isplitl [HO]; · iexact HO
  iintro %_acc HO
  iapply HK
  iexact HO

theorem wp_cl (A : Args) (I : Ins F) (S : St F) (i : grid0.Coords) (e : BitVec 1) (jk : Fin 2) (b : Fin 5 × Bool) (L : List (Fin 5 × Bool)) (Q : Unit → sProp 𝕄) :
    iprop(Own c A I S ∗ (Own c A I (clSt I i e jk b L S) -∗ Q ⟨⟩)) ⊢ (wp frame (wpE (defs₀ (F := F)) Variants.none (c : Thread nD τ) none) Set.univ) (cl A i e jk b L) Q := by
  unfold cl clSt
  split
  · exact wp_loopN c A I S i jk b L Q
  · iintro ⟨HO, HK⟩
    iapply (wp_pure' c _ _)
    iapply HK
    iexact HO

/-- A triple used in the middle of a program. -/
theorem wp_mono_own {α : Type} {P : sProp 𝕄} {p : Pg F α} {R : sProp 𝕄} {Q : α → sProp 𝕄} (h : P ⊢ (wp frame (wpE (defs₀ (F := F)) Variants.none (c : Thread nD τ) none) Set.univ) p (fun _ => R)) :
    iprop(P ∗ (∀ a, R -∗ Q a)) ⊢ (wp frame (wpE (defs₀ (F := F)) Variants.none (c : Thread nD τ) none) Set.univ) p Q := by
  iintro ⟨HP, HK⟩
  iapply (wp_wand_r frame (wpE (defs₀ (F := F)) Variants.none (c : Thread nD τ) none) Set.univ)
  isplitl [HP]
  · iapply h; iexact HP
  · iintro %a HR
    iapply HK
    iexact HR

theorem wp_initStep (A : Args) (I : Ins F) (S : St F) (p : Fin 2 × Fin 4) : Own c A I S ⊢ (wp frame (wpE (defs₀ (F := F)) Variants.none (c : Thread nD τ) none) Set.univ) (initStep A p) (fun _ => Own c A I (initStepSt I p S)) := by
  unfold initStep
  simp only [Prog.lift, Prog.bind_op, Prog.bind_ret]
  unfold Own
  iintro ⟨H4, H5, H6, H7, H8, H9, H10, H11, H12, H13, H14, H15, H16, H17, H18, H19, H20, H21⟩
  iapply (wp_load_owns _ _) $$ H14
  iintro H14
  iapply (wp_load_owns _ _) $$ H18
  iintro H18
  iapply (wp_store_owns _ _) $$ H18
  iintro H18
  iapply (wp_load_owns _ _) $$ H13
  iintro H13
  iapply (wp_load_owns _ _) $$ H19
  iintro H19
  iapply (wp_store_owns _ _) $$ H19
  iintro H19
  iapply (wp_pure' c _ _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem wp_initL (A : Args) (I : Ins F) (L : List (Fin 2 × Fin 4)) : ∀ S : St F, Own c A I S ⊢ (wp frame (wpE (defs₀ (F := F)) Variants.none (c : Thread nD τ) none) Set.univ) (initL A L) (fun _ => Own c A I (initLSt I L S)) := by
  induction L with
  | nil => intro S; exact wp_pure' c _ _
  | cons p L ih =>
    intro S
    rw [initL, wp_bind]
    exact (wp_initStep c A I S p).trans (wp_mono _ _ _ fun _ => ih _)

theorem wp_initC (A : Args) (I : Ins F) (S : St F) (e : BitVec 1) : Own c A I S ⊢ (wp frame (wpE (defs₀ (F := F)) Variants.none (c : Thread nD τ) none) Set.univ) (initC A e) (fun _ => Own c A I (initCSt I e S)) := by
  unfold initC initCSt
  split
  · unfold initP
    simp only [Prog.lift, Prog.bind_op, Prog.bind_ret]
    unfold Own
    iintro ⟨H4, H5, H6, H7, H8, H9, H10, H11, H12, H13, H14, H15, H16, H17, H18, H19, H20, H21⟩
    iapply (wp_load_owns _ _) $$ H20
    iintro H20
    iapply (wp_store_owns _ _) $$ H20
    iintro H20
    iapply (wp_load_owns _ _) $$ H21
    iintro H21
    iapply (wp_store_owns _ _) $$ H21
    iintro H21
    iapply (wp_initL c A I heads { S with x20 := upd S.x20 rW20 (k0_pay5 (F := F)), x21 := upd S.x21 rW20 (k0_pay6 (F := F)) })
    unfold Own
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · exact wp_pure' c _ _

theorem wp_zeroP (A : Args) (I : Ins F) (S : St F) : Own c A I S ⊢ (wp frame (wpE (defs₀ (F := F)) Variants.none (c : Thread nD τ) none) Set.univ) (zeroP A) (fun _ => Own c A I (zeroSt S)) := by
  unfold zeroP zeroSt
  simp only [Prog.lift, Prog.bind_op, Prog.bind_ret]
  unfold Own
  iintro ⟨H4, H5, H6, H7, H8, H9, H10, H11, H12, H13, H14, H15, H16, H17, H18, H19, H20, H21⟩
  iapply (wp_load_owns _ _) $$ H15
  iintro H15
  iapply (wp_store_owns _ _) $$ H15
  iintro H15
  iapply (wp_pure' c _ _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem wp_finStep (A : Args) (I : Ins F) (S : St F) (i : grid0.Coords) (h : k0_cond14 i = 1#1) (p : Fin 2 × Fin 4) : Own c A I S ⊢ (wp frame (wpE (defs₀ (F := F)) Variants.none (c : Thread nD τ) none) Set.univ) (finStep A i h p) (fun _ => Own c A I (finStepSt I i p S)) := by
  unfold finStep
  simp only [smemLoad, smemLoadElt, Prog.lift, Prog.bind_op, Prog.bind_ret]
  unfold Own
  iintro ⟨H4, H5, H6, H7, H8, H9, H10, H11, H12, H13, H14, H15, H16, H17, H18, H19, H20, H21⟩
  iapply (wp_load_owns _ _) $$ H6
  iintro H6
  iapply (wp_load_owns _ _) $$ H7
  iintro H7
  iapply (wp_load_owns _ _) $$ H20
  iintro H20
  iapply (wp_load_owns _ _) $$ H16
  iintro H16
  iapply (wp_store_owns _ _) $$ H16
  iintro H16
  iapply (wp_load_owns _ _) $$ H21
  iintro H21
  iapply (wp_load_owns _ _) $$ H17
  iintro H17
  iapply (wp_store_owns _ _) $$ H17
  iintro H17
  iapply (wp_pure' c _ _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem wp_finL (A : Args) (I : Ins F) (i : grid0.Coords) (h : k0_cond14 i = 1#1) (L : List (Fin 2 × Fin 4)) :
    ∀ S : St F, Own c A I S ⊢ (wp frame (wpE (defs₀ (F := F)) Variants.none (c : Thread nD τ) none) Set.univ) (finL A i h L) (fun _ => Own c A I (finLSt I i L S)) := by
  induction L with
  | nil => intro S; exact wp_pure' c _ _
  | cons p L ih =>
    intro S
    rw [finL, wp_bind]
    exact (wp_finStep c A I S i h p).trans (wp_mono _ _ _ fun _ => ih _)

theorem wp_finC (A : Args) (I : Ins F) (S : St F) (i : grid0.Coords) : Own c A I S ⊢ (wp frame (wpE (defs₀ (F := F)) Variants.none (c : Thread nD τ) none) Set.univ) (finC A i) (fun _ => Own c A I (finCSt I i S)) := by
  unfold finC finCSt
  split
  · next h => exact wp_finL c A I i h heads S
  · exact wp_pure' c _ _

theorem own_eq (A : Args) (I : Ins F) {S S' : St F} (h : S = S') : Own c A I S ⊢ Own c A I S' := by
  rw [h]

theorem wp_load4 {α : Type} (A : Args) (I : Ins F) (S : St F) (r : LoadRect S5) (hl : A.a4.view.LoadsAt r) (k : (r.shape.Idx → Elt F .i32) → Pg F α) (Q : α → sProp 𝕄) :
    iprop(Own c A I S ∗ (Own c A I S -∗ (wp frame (wpE (defs₀ (F := F)) Variants.none (c : Thread nD τ) none) Set.univ) (k (fun j => I.x4 (r.idx j))) Q)) ⊢ (wp frame (wpE (defs₀ (F := F)) Variants.none (c : Thread nD τ) none) Set.univ) (.op (.load A.a4 r hl) k) Q := by
  unfold Own
  iintro ⟨⟨H4, H5, H6, H7, H8, H9, H10, H11, H12, H13, H14, H15, H16, H17, H18, H19, H20, H21⟩, HK⟩
  iapply (wp_load_owns I.x4 _) $$ H4
  iintro H4
  iapply HK
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- One grid point. -/
theorem wp_ringP (A : Args) (I : Ins F) (S : St F) (i : grid0.Coords) : Own c A I S ⊢ (wp frame (wpE (defs₀ (F := F)) Variants.none (c : Thread nD τ) none) Set.univ) (ringP A i) (fun _ => Own c A I (ringSt I i S)) := by
  unfold ringP
  simp only [smemLoad, smemLoadElt, Prog.bind_op, Prog.bind_ret]
  iintro HO
  iapply (wp_load4 c A I S _ _ _ _)
  isplitl [HO]; · iexact HO
  iintro HO
  rw [wp_bind]
  iapply (wp_mono_own c (wp_initC c A I S (cInit i)))
  isplitl [HO]; · iexact HO
  iintro %_ HO
  rw [wp_bind]
  iapply (wp_mono_own c (wp_zeroP c A I _))
  isplitl [HO]; · iexact HO
  iintro %_ HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_cl c A I _ i _ _ _ _ _)
  isplitl [HO]; · iexact HO
  iintro HO
  rw [wp_bind]
  iapply (wp_mono_own c (wp_finC c A I _ i))
  isplitl [HO]; · iexact HO
  iintro %_ HO
  iapply (wp_pure' c _ _)
  iapply (own_eq c A I (S' := ringSt I i S) ?_) $$ HO
  rfl

end Cert.Kernel.Hand
end
-- ==== Proof.KpState.lean ====
/- The state a grid point leaves does not depend on what it overwrites. -/
module

public import proofs.«01_k».proof.Proof.KpRun
public import Idealize.ShloMosaic.Lib.ValueIdxCore
public import Idealize.ShloMosaic.Lib.ValueIdxRank6

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

open Idealize.ShloMosaic.ValueIdx

/-! ## A rectangle replaced, element by element -/

theorem upd_in {s : Shape} {α : Type} (X : s.Idx → α) {off size : Fin s.rank → ℕ} {inb : ∀ a, off a + size a ≤ s.size a}
    (w : (Rect.unit off size inb).shape.Idx → α) (y : s.Idx) (j : (Rect.unit off size inb).shape.Idx)
    (hy : ∀ a, (y a).val = off a + (j a).val) : upd X (Rect.unit off size inb) w y = w j := by
  have h : (Rect.unit off size inb).emb j = y := funext fun a => Fin.ext (by
    rw [Rect.emb_apply, hy]; show off a + 1 * _ = _; rw [Nat.one_mul])
  rw [← h, upd_emb]

theorem upd_out {s : Shape} {α : Type} (X : s.Idx → α) {off size : Fin s.rank → ℕ} {inb : ∀ a, off a + size a ≤ s.size a}
    (w : (Rect.unit off size inb).shape.Idx → α) (y : s.Idx) (a : Fin s.rank)
    (hy : (y a).val < off a ∨ off a + size a ≤ (y a).val) : upd X (Rect.unit off size inb) w y = X y := by
  refine upd_of_not _ _ _ _ ?_
  rintro ⟨x, rfl⟩
  have h := (x a).isLt
  have e : ((Rect.unit off size inb).emb x a : ℕ) = off a + (x a).val := by
    rw [Rect.emb_apply]; show off a + 1 * _ = _; rw [Nat.one_mul]
  rw [e] at hy
  have h' : (x a).val < size a := h
  omega

/-- Where a load through a unit rectangle reads. -/
theorem ld_at {s : Shape} {α : Type} (X : s.Idx → α) {off size : Fin s.rank → ℕ} {inb : ∀ a, off a + size a ≤ s.size a}
    (j : (Rect.unit off size inb).shape.Idx) (y : s.Idx) (hy : ∀ a, (y a).val = off a + (j a).val) :
    ld X (Rect.unit off size inb) j = X y := by
  refine congrArg X (funext fun a => Fin.ext ?_)
  show off a + 1 * (j a).val = _
  rw [Nat.one_mul, hy]

theorem updW20 {α : Type} (X w : S2x4x128x1280.Idx → α) : upd X rW20 w = w :=
  funext fun y => upd_in X w y y (fun a => by fin_cases a <;> exact (Nat.zero_add _).symm)
theorem updW15 {α : Type} (X w : S1x1x1x28x256x128.Idx → α) : upd X rW15 w = w :=
  funext fun y => upd_in X w y y (fun a => by fin_cases a <;> exact (Nat.zero_add _).symm)

/-! ## One head's rows replaced -/

/-- The key head an element belongs to. -/
def hdV (y : S2x4x1280x128.Idx) : Fin 2 × Fin 4 := (y 0, y 1)
def hdT (y : S2x4x128x1280.Idx) : Fin 2 × Fin 4 := (y 0, y 1)
def hdO (y : S1x2x1x4x1280x128.Idx) : Fin 2 × Fin 4 := (y 1, y 3)

theorem upd18 {α : Type} (X : S2x4x1280x128.Idx → α) (p : Fin 2 × Fin 4) (w : S1x1x1280x128.Idx → α) (y : S2x4x1280x128.Idx) :
    upd X (rI18 p) w y = if (hdV y) = p then w (ix4 0 0 (y 2) (y 3)) else X y := by
  obtain ⟨a, b⟩ := p
  split
  · next h =>
    injection h with h1 h2; subst h1; subst h2
    exact upd_in X w y _ (fun a => by
      fin_cases a
      · rfl
      · rfl
      · exact (Nat.zero_add _).symm
      · exact (Nat.zero_add _).symm)
  · next h =>
    by_cases h0 : y 0 = a
    · have h1 : y 1 ≠ b := fun e => h (Prod.ext h0 e)
      have h1' : (y 1).val ≠ b.val := fun e => h1 (Fin.ext e)
      refine upd_out X w y (1 : Fin 4) ?_
      show (y 1).val < b.val ∨ b.val + 1 ≤ (y 1).val
      omega
    · have h1' : (y 0).val ≠ a.val := fun e => h0 (Fin.ext e)
      refine upd_out X w y (0 : Fin 4) ?_
      show (y 0).val < a.val ∨ a.val + 1 ≤ (y 0).val
      omega

theorem upd19 {α : Type} (X : S2x4x128x1280.Idx → α) (p : Fin 2 × Fin 4) (w : S1x1x128x1280.Idx → α) (y : S2x4x128x1280.Idx) :
    upd X (rI19 p) w y = if (hdT y) = p then w (ix4 0 0 (y 2) (y 3)) else X y := by
  obtain ⟨a, b⟩ := p
  split
  · next h =>
    injection h with h1 h2; subst h1; subst h2
    exact upd_in X w y _ (fun a => by
      fin_cases a
      · rfl
      · rfl
      · exact (Nat.zero_add _).symm
      · exact (Nat.zero_add _).symm)
  · next h =>
    by_cases h0 : y 0 = a
    · have h1 : y 1 ≠ b := fun e => h (Prod.ext h0 e)
      have h1' : (y 1).val ≠ b.val := fun e => h1 (Fin.ext e)
      refine upd_out X w y (1 : Fin 4) ?_
      show (y 1).val < b.val ∨ b.val + 1 ≤ (y 1).val
      omega
    · have h1' : (y 0).val ≠ a.val := fun e => h0 (Fin.ext e)
      refine upd_out X w y (0 : Fin 4) ?_
      show (y 0).val < a.val ∨ a.val + 1 ≤ (y 0).val
      omega

theorem upd13 {α : Type} (X : S1x2x1x4x1280x128.Idx → α) (p : Fin 2 × Fin 4) (w : S1x1x1x1x1280x128.Idx → α) (y : S1x2x1x4x1280x128.Idx) :
    upd X (rI13 p) w y = if (hdO y) = p then w (ix6 0 0 0 0 (y 4) (y 5)) else X y := by
  obtain ⟨a, b⟩ := p
  split
  · next h =>
    injection h with h1 h2; subst h1; subst h2
    exact upd_in X w y _ (fun a => by
      fin_cases a
      · exact Nat.lt_one_iff.mp (y 0).isLt
      · rfl
      · exact Nat.lt_one_iff.mp (y 2).isLt
      · rfl
      · exact (Nat.zero_add _).symm
      · exact (Nat.zero_add _).symm)
  · next h =>
    by_cases h0 : y 1 = a
    · have h1 : y 3 ≠ b := fun e => h (Prod.ext h0 e)
      have h1' : (y 3).val ≠ b.val := fun e => h1 (Fin.ext e)
      refine upd_out X w y (3 : Fin 6) ?_
      show (y 3).val < b.val ∨ b.val + 1 ≤ (y 3).val
      omega
    · have h1' : (y 1).val ≠ a.val := fun e => h0 (Fin.ext e)
      refine upd_out X w y (1 : Fin 6) ?_
      show (y 1).val < a.val ∨ a.val + 1 ≤ (y 1).val
      omega

/-! ## The first and the last point of a group, in closed form -/

/-- The values at the matmul's width, all heads. -/
def V18 (I : Ins F) : S2x4x1280x128.Idx → Elt F .bf16 := fun y => k0_pay7 (ld I.x14 (rI13 (hdV y))) (ix4 0 0 (y 2) (y 3))
/-- The keys transposed. -/
def V19 (I : Ins F) : S2x4x128x1280.Idx → Elt F .bf16 := fun y => k0_pay8 (ld I.x13 (rI13 (hdT y))) (ix4 0 0 (y 2) (y 3))
/-- The two results of a group from the two accumulators. -/
def V16 (I : Ins F) (i : grid0.Coords) (X : S2x4x128x1280.Idx → Elt F .f32) : S1x2x1x4x1280x128.Idx → Elt F .f32 :=
  fun y => k0_pay323 (kvAt I.x6 i (hdO y)) (ld X (rI19 (hdO y))) (ix6 0 0 0 0 (y 4) (y 5))
def V17 (I : Ins F) (i : grid0.Coords) (X : S2x4x128x1280.Idx → Elt F .f32) : S1x2x1x4x1280x128.Idx → Elt F .f32 :=
  fun y => k0_pay324 (kvAt I.x6 i (hdO y)) (kvAt I.x7 i (hdO y)) (ld X (rI19 (hdO y))) (ix6 0 0 0 0 (y 4) (y 5))

theorem initLSt_eq (I : Ins F) (L : List (Fin 2 × Fin 4)) : ∀ S : St F, initLSt I L S =
    { S with
      x18 := fun y => if (hdV y) ∈ L then V18 I y else S.x18 y
      x19 := fun y => if (hdT y) ∈ L then V19 I y else S.x19 y } := by
  induction L with
  | nil => intro S; simp only [initLSt, List.not_mem_nil, if_false]
  | cons p L ih =>
    intro S
    rw [initLSt, ih]
    unfold initStepSt
    congr 1 <;> funext y
    · dsimp only; rw [upd18]
      by_cases h : (hdV y) = p
      · rw [if_pos h, if_pos (List.mem_cons.mpr (Or.inl h))]
        subst h
        split <;> rfl
      · rw [if_neg h]
        by_cases h2 : (hdV y) ∈ L
        · rw [if_pos h2, if_pos (List.mem_cons_of_mem _ h2)]
        · rw [if_neg h2, if_neg (fun e => (List.mem_cons.mp e).elim h h2)]
    · dsimp only; rw [upd19]
      by_cases h : (hdT y) = p
      · rw [if_pos h, if_pos (List.mem_cons.mpr (Or.inl h))]
        subst h
        split <;> rfl
      · rw [if_neg h]
        by_cases h2 : (hdT y) ∈ L
        · rw [if_pos h2, if_pos (List.mem_cons_of_mem _ h2)]
        · rw [if_neg h2, if_neg (fun e => (List.mem_cons.mp e).elim h h2)]

theorem finLSt_eq (I : Ins F) (i : grid0.Coords) (L : List (Fin 2 × Fin 4)) : ∀ S : St F, finLSt I i L S =
    { S with
      x16 := fun y => if (hdO y) ∈ L then V16 I i S.x20 y else S.x16 y
      x17 := fun y => if (hdO y) ∈ L then V17 I i S.x21 y else S.x17 y } := by
  induction L with
  | nil => intro S; simp only [finLSt, List.not_mem_nil, if_false]
  | cons p L ih =>
    intro S
    rw [finLSt, ih]
    unfold finStepSt
    congr 1 <;> funext y
    · dsimp only; rw [upd13]
      by_cases h : (hdO y) = p
      · rw [if_pos h, if_pos (List.mem_cons.mpr (Or.inl h))]
        subst h
        split <;> rfl
      · rw [if_neg h]
        by_cases h2 : (hdO y) ∈ L
        · rw [if_pos h2, if_pos (List.mem_cons_of_mem _ h2)]
        · rw [if_neg h2, if_neg (fun e => (List.mem_cons.mp e).elim h h2)]
    · dsimp only; rw [upd13]
      by_cases h : (hdO y) = p
      · rw [if_pos h, if_pos (List.mem_cons.mpr (Or.inl h))]
        subst h
        split <;> rfl
      · rw [if_neg h]
        by_cases h2 : (hdO y) ∈ L
        · rw [if_pos h2, if_pos (List.mem_cons_of_mem _ h2)]
        · rw [if_neg h2, if_neg (fun e => (List.mem_cons.mp e).elim h h2)]

theorem mem_heads : ∀ p : Fin 2 × Fin 4, p ∈ heads := by decide

/-- The state the trips of a point start from. -/
def startSt (I : Ins F) (i : grid0.Coords) (S : St F) : St F := zeroSt (initCSt I (cInit i) S)

theorem start_init (I : Ins F) (i : grid0.Coords) (S : St F) (h : cInit i = 1#1) :
    startSt I i S = ⟨k0_pay353, S.x16, S.x17, V18 I, V19 I, k0_pay5, k0_pay6⟩ := by
  unfold startSt initCSt
  rw [if_pos h, initLSt_eq]
  simp only [mem_heads, if_true, zeroSt, updW15, updW20]
theorem start_other (I : Ins F) (i : grid0.Coords) (S : St F) (h : cInit i ≠ 1#1) :
    startSt I i S = { S with x15 := k0_pay353 } := by
  unfold startSt initCSt
  rw [if_neg h]
  simp only [zeroSt, updW15]

theorem fin_last (I : Ins F) (i : grid0.Coords) (S : St F) (h : k0_cond14 i = 1#1) :
    finCSt I i S = { S with x16 := V16 I i S.x20, x17 := V17 I i S.x21 } := by
  unfold finCSt
  rw [if_pos h, finLSt_eq]
  simp only [mem_heads, if_true]

/-! ## The trips leave the two results alone -/

def set67 (S : St F) (a b : S1x2x1x4x1280x128.Idx → Elt F .f32) : St F := { S with x16 := a, x17 := b }

theorem moreSt_set (I : Ins F) (H : Head F) (jk n : ℕ) (hj : jk < 2) (hn : n < 4) (a b) (L : List (Fin 5 × Bool)) :
    ∀ S : St F, moreSt I H jk n hj hn L (set67 S a b) = set67 (moreSt I H jk n hj hn L S) a b := by
  induction L with
  | nil => intro S; rfl
  | cons p L ih => intro S; exact ih (blkSt I S H jk n p.1.val hj hn p.1.isLt p.2)
theorem moreDQ_set (I : Ins F) (H : Head F) (jk n : ℕ) (hj : jk < 2) (hn : n < 4) (a b) (L : List (Fin 5 × Bool)) :
    ∀ (S : St F) (acc), moreDQ I H jk n hj hn L (set67 S a b) acc = moreDQ I H jk n hj hn L S acc := by
  induction L with
  | nil => intro S acc; rfl
  | cons p L ih => intro S acc; exact ih (blkSt I S H jk n p.1.val hj hn p.1.isLt p.2) _
theorem tripSt_set (I : Ins F) (S : St F) (h n : ℕ) (hh : h < 28) (hn : n < 4) (oQ oKV : Fin 1 → ℕ) (hQ hKV jk hj b L) (x y) :
    tripSt I (set67 S x y) h n hh hn oQ oKV hQ hKV jk hj b L = set67 (tripSt I S h n hh hn oQ oKV hQ hKV jk hj b L) x y := by
  have e1 := moreSt_set I (headOf I h hh oQ oKV hQ hKV) jk n hj hn x y L (blkSt I S (headOf I h hh oQ oKV hQ hKV) jk n b.1.val hj hn b.1.isLt b.2)
  have e2 := moreDQ_set I (headOf I h hh oQ oKV hQ hKV) jk n hj hn x y L (blkSt I S (headOf I h hh oQ oKV hQ hKV) jk n b.1.val hj hn b.1.isLt b.2)
    (blkDQ I S (headOf I h hh oQ oKV hQ hKV) jk n b.1.val hj hn b.1.isLt b.2)
  have e0 : blkSt I (set67 S x y) (headOf I h hh oQ oKV hQ hKV) jk n b.1.val hj hn b.1.isLt b.2
      = set67 (blkSt I S (headOf I h hh oQ oKV hQ hKV) jk n b.1.val hj hn b.1.isLt b.2) x y := rfl
  have e3 : blkDQ I (set67 S x y) (headOf I h hh oQ oKV hQ hKV) jk n b.1.val hj hn b.1.isLt b.2
      = blkDQ I S (headOf I h hh oQ oKV hQ hKV) jk n b.1.val hj hn b.1.isLt b.2 := rfl
  unfold tripSt
  simp only [e0, e3, e1, e2]
  rfl
theorem loopSt_set (I : Ins F) (i : grid0.Coords) (jk : Fin 2) (b L) (S : St F) (x y) (k : ℕ) :
    loopSt I i jk b L (set67 S x y) k = set67 (loopSt I i jk b L S k) x y := by
  induction k with
  | zero => rfl
  | succ k ih =>
    simp only [loopSt]
    split
    · rw [ih, tripSt_set]
    · exact ih
theorem clSt_set (I : Ins F) (i : grid0.Coords) (e : BitVec 1) (jk : Fin 2) (b L) (S : St F) (x y) :
    clSt I i e jk b L (set67 S x y) = set67 (clSt I i e jk b L S) x y := by
  unfold clSt; split
  · exact loopSt_set I i jk b L S x y 28
  · rfl

/-- All trips of a point. -/
def tripsAll (I : Ins F) (i : grid0.Coords) (S : St F) : St F :=
  trips1 I i (Scalar.subi 5#32 (srcW i (stepAt I i))) (trips0 I i (srcW i (stepAt I i)) S)
theorem tripsAll_set (I : Ins F) (i : grid0.Coords) (S : St F) (x y) : tripsAll I i (set67 S x y) = set67 (tripsAll I i S) x y := by
  unfold tripsAll trips1 trips0
  simp only [clSt_set]

theorem ringSt_eq (I : Ins F) (i : grid0.Coords) (S : St F) : ringSt I i S = finCSt I i (tripsAll I i (startSt I i S)) := rfl

/-- Two states a point cannot tell apart: the same scratch, or a first point of a group. -/
theorem start_agree (I : Ins F) (i : grid0.Coords) (S S' : St F)
    (h : cInit i = 1#1 ∨ (S.x18 = S'.x18 ∧ S.x19 = S'.x19 ∧ S.x20 = S'.x20 ∧ S.x21 = S'.x21)) :
    startSt I i S' = set67 (startSt I i S) S'.x16 S'.x17 := by
  by_cases hc : cInit i = 1#1
  · rw [start_init I i _ hc, start_init I i _ hc]; rfl
  · obtain ⟨h1, h2, h3, h4⟩ := h.resolve_left hc
    rw [start_other I i _ hc, start_other I i _ hc]
    simp only [set67, h1, h2, h3, h4]

theorem ring_agree (I : Ins F) (i : grid0.Coords) (S S' : St F)
    (h : cInit i = 1#1 ∨ (S.x18 = S'.x18 ∧ S.x19 = S'.x19 ∧ S.x20 = S'.x20 ∧ S.x21 = S'.x21)) :
    ringSt I i S' = if k0_cond14 i = 1#1 then ringSt I i S else set67 (ringSt I i S) S'.x16 S'.x17 := by
  rw [ringSt_eq, ringSt_eq, start_agree I i S S' h, tripsAll_set]
  split
  · next hc => rw [fin_last I i _ hc, fin_last I i _ hc]; rfl
  · next hc => unfold finCSt; rw [if_neg hc, if_neg hc]

end Cert.Kernel.Hand

end
-- ==== Proof.KpDat.lean ====
/- The pipeline's proof data and the frame run: every grid point runs, and what it leaves in the buffers. -/
module

public import proofs.«01_k».proof.Proof.KpState
public import proofs.«01_k».proof.Proof.Gen.Kernel.Frame

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

open Idealize.ShloMosaic.Pipeline (Dat Cfg Window BodyObligation BodyObligationLoose)

variable (m : (ℓ : Loc nD τ sig) → Buf (Elt F) ℓ) (ρ : Dev nD → PrngReg)

/-! ## The points -/

theorem cond14_iff : ∀ t : Fin grid0.N, k0_cond14 (grid0.coords t) = 1#1 ↔ t.val % 10 = 9 := by decide +kernel
theorem cInit_iff : ∀ t : Fin grid0.N, cInit (grid0.coords t) = 1#1 ↔ t.val % 10 = 0 := by decide +kernel

/-- The memrefs of the point. -/
def argsAt (t : Fin cfg0.N) : Args where
  a4 := win0_0.stage (cfg0.slots t 0)
  h4 := hstage0_0 ((cfg0.slots t 0).cast nbuf0_0)
  a5 := win0_1.stage (cfg0.slots t 1)
  h5 := hstage0_1 ((cfg0.slots t 1).cast nbuf0_1)
  a6 := win0_2.stage (cfg0.slots t 2)
  h6 := hstage0_2 ((cfg0.slots t 2).cast nbuf0_2)
  a7 := win0_3.stage (cfg0.slots t 3)
  h7 := hstage0_3 ((cfg0.slots t 3).cast nbuf0_3)
  a8 := win0_4.stage (cfg0.slots t 4)
  h8 := hstage0_4 ((cfg0.slots t 4).cast nbuf0_4)
  a9 := win0_5.stage (cfg0.slots t 5)
  h9 := hstage0_5 ((cfg0.slots t 5).cast nbuf0_5)
  a10 := win0_6.stage (cfg0.slots t 6)
  h10 := hstage0_6 ((cfg0.slots t 6).cast nbuf0_6)
  a11 := win0_7.stage (cfg0.slots t 7)
  h11 := hstage0_7 ((cfg0.slots t 7).cast nbuf0_7)
  a12 := win0_8.stage (cfg0.slots t 8)
  h12 := hstage0_8 ((cfg0.slots t 8).cast nbuf0_8)
  a13 := win0_9.stage (cfg0.slots t 9)
  h13 := hstage0_9 ((cfg0.slots t 9).cast nbuf0_9)
  a14 := win0_10.stage (cfg0.slots t 10)
  h14 := hstage0_10 ((cfg0.slots t 10).cast nbuf0_10)
  a15 := win0_11.stage (cfg0.slots t 11)
  h15 := hstage0_11 ((cfg0.slots t 11).cast nbuf0_11)
  a16 := win0_12.stage (cfg0.slots t 12)
  h16 := hstage0_12 ((cfg0.slots t 12).cast nbuf0_12)
  a17 := win0_13.stage (cfg0.slots t 13)
  h17 := hstage0_13 ((cfg0.slots t 13).cast nbuf0_13)
  a18 := Memref.whole cc0_scratch0
  h18 := Memref.isWhole_whole _
  a19 := Memref.whole cc0_scratch1
  h19 := Memref.isWhole_whole _
  a20 := Memref.whole cc0_scratch2
  h20 := Memref.isWhole_whole _
  a21 := Memref.whole cc0_scratch3
  h21 := Memref.isWhole_whole _

/-- The inputs' blocks of the point. -/
def insAt (c : Dev nD) (t : Fin cfg0.N) : Ins F where
  x4 := iblk m c 0 t
  x5 := iblk m c 1 t
  x6 := iblk m c 2 t
  x7 := iblk m c 3 t
  x8 := iblk m c 4 t
  x9 := iblk m c 5 t
  x10 := iblk m c 6 t
  x11 := iblk m c 7 t
  x12 := iblk m c 8 t
  x13 := iblk m c 9 t
  x14 := iblk m c 10 t

/-- What the buffers hold before each point: the start is not named. -/
def scr (c : Dev nD) : ℕ → St F
  | 0 => ⟨fun _ => Scalar.ofBits .f32 0#32, fun _ => Scalar.ofBits .f32 0#32, fun _ => Scalar.ofBits .f32 0#32, fun _ => Scalar.ofBits .bf16 0#16, fun _ => Scalar.ofBits .bf16 0#16, fun _ => Scalar.ofBits .f32 0#32, fun _ => Scalar.ofBits .f32 0#32⟩
  | k + 1 => if h : k < cfg0.N then ringSt (insAt m c ⟨k, h⟩) (grid0.coords ⟨k, h⟩) (scr c k) else scr c k
theorem scr_succ (c : Dev nD) (t : Fin cfg0.N) : scr m c (t.val + 1) = ringSt (insAt m c t) (grid0.coords t) (scr m c t.val) := by
  rw [scr, dif_pos t.isLt]

/-- The four scratch buffers. -/
def Scr (c : Dev nD) (S : St F) : sProp 𝕄 :=
  iprop(owns (c : Thread nD τ) (Memref.whole cc0_scratch0) fullShare S.x18 ∗ owns (c : Thread nD τ) (Memref.whole cc0_scratch1) fullShare S.x19 ∗ owns (c : Thread nD τ) (Memref.whole cc0_scratch2) fullShare S.x20 ∗ owns (c : Thread nD τ) (Memref.whole cc0_scratch3) fullShare S.x21)

/-- The invariant between points. -/
def PhiS (c : Dev nD) : ℕ → sProp 𝕄
  | 0 => Pipeline.ΦA spec0 c
  | n + 1 => iprop(Scr c (scr m c (n + 1)) ∗ ∃ r, prngReg c r)

theorem phi_open (c : Dev nD) (t : Fin cfg0.N) : PhiS m c t.val ⊢ iprop(∃ S : St F, ⌜cInit (grid0.coords t) = 1#1 ∨ ((scr m c t.val).x18 = S.x18 ∧ (scr m c t.val).x19 = S.x19 ∧ (scr m c t.val).x20 = S.x20 ∧ (scr m c t.val).x21 = S.x21)⌝ ∗ Scr c S ∗ ∃ r, prngReg c r) := by
  obtain ⟨n, hn⟩ := t
  cases n with
  | zero =>
    show Pipeline.ΦA spec0 c ⊢ _
    unfold Pipeline.ΦA
    rw [scopedRest0_eq]
    iintro ⟨⟨⟨%f0, H0⟩, ⟨%f1, H1⟩, ⟨%f2, H2⟩, ⟨%f3, H3⟩⟩, Hg⟩
    iexists (⟨(scr m c 0).x15, (scr m c 0).x16, (scr m c 0).x17, f0, f1, f2, f3⟩ : St F)
    isplitr
    · ipureintro; exact Or.inl ((cInit_iff ⟨0, hn⟩).mpr rfl)
    isplitr [Hg]
    · unfold Scr
      simp only [owns_whole]
      isplitl [H0]; · iexact H0
      isplitl [H1]; · iexact H1
      isplitl [H2]; · iexact H2
      iexact H3
    · iexact Hg
  | succ n =>
    show iprop(Scr c (scr m c (n + 1)) ∗ ∃ r, prngReg c r) ⊢ _
    iintro ⟨HS, Hg⟩
    iexists scr m c (n + 1)
    isplitr
    · ipureintro; exact Or.inr ⟨rfl, rfl, rfl, rfl⟩
    isplitl [HS]
    · iexact HS
    · iexact Hg

theorem phi_out (c : Dev nD) (n : ℕ) : PhiS m c (n + 1) ⊢ Pipeline.ΦA spec0 c := by
  show iprop(Scr c (scr m c (n + 1)) ∗ ∃ r, prngReg c r) ⊢ _
  unfold Pipeline.ΦA Scr
  rw [scopedRest0_eq]
  simp only [owns_whole]
  iintro ⟨⟨H0, H1, H2, H3⟩, Hg⟩
  isplitr [Hg]
  · isplitl [H0]; · iexists _; iexact H0
    isplitl [H1]; · iexists _; iexact H1
    isplitl [H2]; · iexists _; iexact H2
    iexists _; iexact H3
  · iexact Hg

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (scr m c (t.val + 1)).x15
    | ⟨12, _⟩ => (scr m c (t.val + 1)).x16
    | ⟨13, _⟩ => (scr m c (t.val + 1)).x17
    | ⟨_ + 14, h⟩ => absurd h (Nat.not_lt.2 (Nat.le_add_left _ _))
  Φ t := PhiS m c t.val
  q _ := fullShare
  owed _ := 0

theorem body_triple (c : Dev nD) (t : Fin cfg0.N) (S : St F) : Own c (argsAt t) (insAt m c t) S ⊢
    wp frame (wpE (defs₀ (F := F)) Variants.none (c : Thread nD τ) none) Set.univ (bodyAt0 t)
      (fun _ => Own c (argsAt t) (insAt m c t) (ringSt (insAt m c t) (grid0.coords t) S)) := by
  have h := wp_ringP c (argsAt t) (insAt m c t) S (grid0.coords t)
  rw [← body_eq] at h
  exact h

theorem row (t : Fin cfg0.N) : defs₀ (F := F) .tc cfg0.body (cfg0.bodyArgs t (cfg0.slots t)) = bodyAt0 t := by
  unfold defs₀; rw [Defs.onTc_tc]

theorem at_castSucc {α : Sort _} {N : ℕ} (S : ℕ → α) (t : Fin N) : S t.castSucc.val = S t.val := rfl
theorem at_succ {α : Sort _} {N : ℕ} (S : ℕ → α) (t : Fin N) : S t.succ.val = S (t.val + 1) := rfl
theorem phi_pre (c : Dev nD) (t : Fin cfg0.N) : (dats m 0 c).Φ t.castSucc = PhiS m c t.val := by
  dsimp only [dats]; exact at_castSucc (PhiS m c) t
theorem phi_post (c : Dev nD) (t : Fin cfg0.N) : (dats m 0 c).Φ t.succ = iprop(Scr c (scr m c (t.val + 1)) ∗ ∃ r, prngReg c r) := by
  dsimp only [dats]; exact at_succ (PhiS m c) t

/-- What a result written at the last point of a group only is left at. -/
def leave (c : Dev nD) (t : Fin cfg0.N) (w : Fin cfg0.W) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem leave_last (c : Dev nD) (t : Fin cfg0.N) (w : Fin cfg0.W) (h : cfg0.idle w (cfg0.grid.coords t) = false) :
    leave m c t w = owns (c : Thread nD τ) ((cfg0.win w).stage (cfg0.slots t w)) fullShare ((dats m 0 c).after w t) := by
  unfold leave; rw [h]
theorem leave_idle (c : Dev nD) (t : Fin cfg0.N) (w : Fin cfg0.W) (h : cfg0.idle w (cfg0.grid.coords t) = true) (h2 : (cfg0.win w).flush t = false) :
    leave m c t w = iprop(∃ d, owns (c : Thread nD τ) ((cfg0.win w).stage (cfg0.slots t w)) fullShare ((dats m 0 c).before w t d)) := by
  unfold leave; rw [h]; dsimp only; rw [h2]

theorem leave12 (c : Dev nD) (t : Fin cfg0.N) (d) : owns (c : Thread nD τ) (st0_12 t) fullShare (if k0_cond14 (grid0.coords t) = 1#1 then (scr m c (t.val + 1)).x16 else (dats m 0 c).before 12 t d) ⊢ leave m c t 12 := by
  by_cases hc : k0_cond14 (grid0.coords t) = 1#1
  · rw [if_pos hc, leave_last m c t 12 (show (!(k0_cond14 (grid0.coords t) == 1#1)) = false by rw [hc]; rfl)]
    exact .rfl
  · rw [if_neg hc, leave_idle m c t 12 (show (!(k0_cond14 (grid0.coords t) == 1#1)) = true by rw [beq_false_of_ne hc]; rfl)
      (Bool.eq_false_iff.mpr fun e => hc ((cond14_iff t).mpr ((flush0_12 t).mp e)))]
    iintro H; iexists d; iexact H
theorem leave13 (c : Dev nD) (t : Fin cfg0.N) (d) : owns (c : Thread nD τ) (st0_13 t) fullShare (if k0_cond14 (grid0.coords t) = 1#1 then (scr m c (t.val + 1)).x17 else (dats m 0 c).before 13 t d) ⊢ leave m c t 13 := by
  by_cases hc : k0_cond14 (grid0.coords t) = 1#1
  · rw [if_pos hc, leave_last m c t 13 (show (!(k0_cond14 (grid0.coords t) == 1#1)) = false by rw [hc]; rfl)]
    exact .rfl
  · rw [if_neg hc, leave_idle m c t 13 (show (!(k0_cond14 (grid0.coords t) == 1#1)) = true by rw [beq_false_of_ne hc]; rfl)
      (Bool.eq_false_iff.mpr fun e => hc ((cond14_iff t).mpr ((flush0_13 t).mp e)))]
    iintro H; iexists d; iexact H

/-- The state after the point, whatever it overwrote. -/
theorem ring_at (c : Dev nD) (t : Fin cfg0.N) (S : St F)
    (h : cInit (grid0.coords t) = 1#1 ∨ ((scr m c t.val).x18 = S.x18 ∧ (scr m c t.val).x19 = S.x19 ∧ (scr m c t.val).x20 = S.x20 ∧ (scr m c t.val).x21 = S.x21)) :
    ringSt (insAt m c t) (grid0.coords t) S = set67 (scr m c (t.val + 1))
      (if k0_cond14 (grid0.coords t) = 1#1 then (scr m c (t.val + 1)).x16 else S.x16)
      (if k0_cond14 (grid0.coords t) = 1#1 then (scr m c (t.val + 1)).x17 else S.x17) := by
  rw [ring_agree (insAt m c t) (grid0.coords t) (scr m c t.val) S h, ← scr_succ]
  split <;> rfl

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)))
def bodyPost (c : Dev nD) (t : Fin cfg0.N) : sProp 𝕄 :=
  iprop((dats m 0 c).Φ t.succ ∗ (dats m 0 c).owesAt () t.castSucc ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ leave m c t 12 ∗ leave m c t 13)

set_option maxHeartbeats 4000000 in
theorem pre_own (c : Dev nD) (t : Fin cfg0.N) : bodyPre m c t ⊢ iprop(∃ S : St F, ⌜cInit (grid0.coords t) = 1#1 ∨ ((scr m c t.val).x18 = S.x18 ∧ (scr m c t.val).x19 = S.x19 ∧ (scr m c t.val).x20 = S.x20 ∧ (scr m c t.val).x21 = S.x21)⌝
      ∗ ⌜∃ d12 d13, S.x16 = (dats m 0 c).before 12 t d12 ∧ S.x17 = (dats m 0 c).before 13 t d13⌝
      ∗ Own c (argsAt t) (insAt m c t) S ∗ (∃ r, prngReg c r) ∗ (dats m 0 c).owesAt () t.castSucc) := by
  unfold bodyPre
  rw [phi_pre]
  refine (sep_mono (phi_open m c t) .rfl).trans ?_
  unfold Scr
  iintro ⟨⟨%S0, %hS, ⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [before0_0_of m (dats m 0 c) rfl (fun _ => rfl) t d0]
  rw [before0_1_of m (dats m 0 c) rfl (fun _ => rfl) t d1]
  rw [before0_2_of m (dats m 0 c) rfl (fun _ => rfl) t d2]
  rw [before0_3_of m (dats m 0 c) rfl (fun _ => rfl) t d3]
  rw [before0_4_of m (dats m 0 c) rfl (fun _ => rfl) t d4]
  rw [before0_5_of m (dats m 0 c) rfl (fun _ => rfl) t d5]
  rw [before0_6_of m (dats m 0 c) rfl (fun _ => rfl) t d6]
  rw [before0_7_of m (dats m 0 c) rfl (fun _ => rfl) t d7]
  rw [before0_8_of m (dats m 0 c) rfl (fun _ => rfl) t d8]
  rw [before0_9_of m (dats m 0 c) rfl (fun _ => rfl) t d9]
  rw [before0_10_of m (dats m 0 c) rfl (fun _ => rfl) t d10]
  iexists (⟨(dats m 0 c).before 11 t d11, (dats m 0 c).before 12 t d12, (dats m 0 c).before 13 t d13, S0.x18, S0.x19, S0.x20, S0.x21⟩ : St F)
  isplitr
  · ipureintro; exact hS
  isplitr
  · ipureintro; exact ⟨d12, d13, rfl, rfl⟩
  isplitr [Hg Ho]
  · unfold Own
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    iexact HS3
  · isplitl [Hg]
    · iexact Hg
    · iexact Ho

theorem own_post (c : Dev nD) (t : Fin cfg0.N) (d12 d13) :
    iprop(Own c (argsAt t) (insAt m c t) (set67 (scr m c (t.val + 1))
      (if k0_cond14 (grid0.coords t) = 1#1 then (scr m c (t.val + 1)).x16 else (dats m 0 c).before 12 t d12)
      (if k0_cond14 (grid0.coords t) = 1#1 then (scr m c (t.val + 1)).x17 else (dats m 0 c).before 13 t d13)) ∗ (∃ r, prngReg c r) ∗ (dats m 0 c).owesAt () t.castSucc) ⊢ bodyPost m c t := by
  unfold bodyPost Own
  rw [phi_post]
  unfold Scr
  iintro ⟨⟨H0, H1, H2, H3, H4, H5, H6, H7, H8, H9, H10, H11, H12, H13, HS0, HS1, HS2, HS3⟩, Hg, Ho⟩
  isplitl [HS0 HS1 HS2 HS3 Hg]
  · isplitr [Hg]
    · isplitl [HS0]; · iexact HS0
      isplitl [HS1]; · iexact HS1
      isplitl [HS2]; · iexact HS2
      iexact HS3
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iapply (leave12 m c t d12); iexact H12
  · iapply (leave13 m c t d13); iexact H13

theorem sound (c : Dev nD) (t : Fin cfg0.N) : bodyPre m c t ⊢
    wp frame (wpE (defs₀ (F := F)) Variants.none (c : Thread nD τ) none) Set.univ (bodyAt0 t) (fun _ => bodyPost m c t) := by
  refine (pre_own m c t).trans ?_
  iintro ⟨%S, %hS, %hb, HO, Hg, Ho⟩
  obtain ⟨d12, d13, h1, h2⟩ := hb
  iapply (wp_mono_own c (body_triple m c t S))
  isplitl [HO]
  · iexact HO
  · iintro %a HR
    rw [ring_at m c t S hS, h1, h2]
    iapply (own_post m c t d12 d13)
    isplitl [HR]; · iexact HR
    isplitl [Hg]; · iexact Hg
    iexact Ho

theorem body_obligation (c : Dev nD) : BodyObligation (dats m 0 c) (defs₀ (F := F)) Variants.none () Set.univ := fun t => by
  rw [bigSep_W0, bigSep_W0, row]
  exact triple_restated (sound m c t) rfl .rfl fun _ => .rfl

theorem hin (c : Dev nD) : Pipeline.ΦA spec0 c ⊢ (dats m 0 c).Φ 0 := .rfl
theorem hout (c : Dev nD) : (dats m 0 c).Φ (Fin.last cfg0.N) ⊢ Pipeline.ΦA spec0 c := by
  rw [show (dats m 0 c).Φ (Fin.last cfg0.N) = PhiS m c (149 + 1) from by dsimp only [dats]; exact congrArg (PhiS m c) N_0]
  exact phi_out m c 149

/-- The run of the whole program, with what the arrays end at. -/
theorem run_frame : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) 0 launch0 defs₀ Variants.none m ρ main
    (hbody := fun c => (body_obligation m c).loose)
    (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hin := hin m) (hout := hout m)

end Cert.Kernel.Hand

end
-- ==== Proof.KpFrame.lean ====
/- The frame: the program runs, its arguments end unchanged, and every counter reads zero. -/
module

public import proofs.«01_k».proof.Proof.KpDat
public import Idealize.ShloMosaic.Lib.Claim

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (hbody := fun c => (body_obligation m c).loose)
    (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hin := hin m) (hout := hout m)
    (Q' := fun r => Pipeline.FramePost cfgs (dats m) 0 (Pipeline.afterTail₀ cfgs (dats m) 0 (V0 m) [hostOps1]) r ∧ r.2.sem = fun _ => 0) (hQ' := fun _ h => h)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9))
      ∧ r.2.sem = fun _ => 0) :=
  θ_run_and (frame_of m ρ (dats m) (fun _ _ => rfl) ((θ_run defs _ _).mono (fun _ h => h.1) (run_quiescent m ρ)))
    ((θ_run defs _ _).mono (fun _ h => h.2) (run_quiescent m ρ))

end Cert.Kernel.Hand

end
-- ==== Proof.Claims.lean ====
/- The claims beside the values (those are in KEnd.lean): each program runs to its end with its arguments unchanged and every counter at zero,
   and each constant the idealized kernel names is the printed one up to rounding. -/
module

public import proofs.«01_k».proof.Defs
public import proofs.«01_k».proof.Proof.KEnd
public import proofs.«01_k».proof.Proof.KiFrame
public import proofs.«01_k».proof.Proof.KpFrame
public import proofs.«01_k».proof.Proof.Gen.ReferenceIdeal.Frame

@[expose] public section

noncomputable section

namespace Cert.Claims

open Idealize.ShloMosaic Idealize.SL.Sem

theorem frame_p : Cert.quiescent_Kernel := fun m g _ => Cert.Kernel.Hand.frame m g

theorem frame_pi : Cert.quiescent_KernelIdeal := fun m g _ => Cert.KernelIdeal.Hand.frame m g

theorem frame_ri : Cert.quiescent_ReferenceIdeal := fun m g _ => Cert.ReferenceIdeal.Gen.frame m g

theorem frame_pi_pre : Cert.quiescent_KernelIdeal_pre_scales_positive := fun m g _ => Cert.KernelIdeal.Hand.frame m g

theorem frame_ri_pre : Cert.quiescent_ReferenceIdeal_pre_scales_positive := fun m g _ => Cert.ReferenceIdeal.Gen.frame m g

theorem preserves : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "sm_log2e" .f32 0x3E0293EE#32
     (((11863283 / 134217728) * (Real.log 2)⁻¹ : ℝ) : EReal) rfl⟩

end Cert.Claims

end
-- ==== Proof.lean ====
module

public import proofs.«01_k».proof.Defs
public import proofs.«01_k».proof.Proof.Claims

@[expose] public section

noncomputable section

namespace Cert.Proof

theorem claim : Cert.Claim :=
  ⟨Cert.Kernel.Gen.facts, Cert.KernelIdeal.Gen.facts, Cert.ReferenceIdeal.Gen.facts, Cert.Ring.preFacts,
    Cert.Claims.frame_p, Cert.Claims.frame_pi, Cert.Claims.frame_pi_pre, Cert.Claims.frame_ri, Cert.Claims.frame_ri_pre,
    Cert.Claims.preserves, Cert.Claims.algebraic⟩

end Cert.Proof

end
